-- ==== Defs.lean ====
def Pre_WgUp (m : (ℓ : Loc Cert.WgUp.nD Cert.WgUp.τ Cert.WgUp.sig) → Buf (Elt Bits) ℓ) : Prop :=
  True

def Pre_WgUpIdeal (m : (ℓ : Loc Cert.WgUpIdeal.nD Cert.WgUpIdeal.τ Cert.WgUpIdeal.sig) → Buf (Elt Ideal) ℓ) : Prop :=
  True

def Pre_WgUpRefIdeal (m : (ℓ : Loc Cert.WgUpRefIdeal.nD Cert.WgUpRefIdeal.τ Cert.WgUpRefIdeal.sig) → Buf (Elt Ideal) ℓ) : Prop :=
  True

def Pre_DgUp (m : (ℓ : Loc Cert.DgUp.nD Cert.DgUp.τ Cert.DgUp.sig) → Buf (Elt Bits) ℓ) : Prop :=
  True

def Pre_DgUpIdeal (m : (ℓ : Loc Cert.DgUpIdeal.nD Cert.DgUpIdeal.τ Cert.DgUpIdeal.sig) → Buf (Elt Ideal) ℓ) : Prop :=
  True

def Pre_DgUpRefIdeal (m : (ℓ : Loc Cert.DgUpRefIdeal.nD Cert.DgUpRefIdeal.τ Cert.DgUpRefIdeal.sig) → Buf (Elt Ideal) ℓ) : Prop :=
  True

def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownRefIdeal (m : (ℓ : Loc Cert.WgDownRefIdeal.nD Cert.WgDownRefIdeal.τ Cert.WgDownRefIdeal.sig) → Buf (Elt Ideal) ℓ) : Prop :=
  True

def Pre_DgDown (m : (ℓ : Loc Cert.DgDown.nD Cert.DgDown.τ Cert.DgDown.sig) → Buf (Elt Bits) ℓ) : Prop :=
  True

def Pre_DgDownIdeal (m : (ℓ : Loc Cert.DgDownIdeal.nD Cert.DgDownIdeal.τ Cert.DgDownIdeal.sig) → Buf (Elt Ideal) ℓ) : Prop :=
  True

def Pre_DgDownRefIdeal (m : (ℓ : Loc Cert.DgDownRefIdeal.nD Cert.DgDownRefIdeal.τ Cert.DgDownRefIdeal.sig) → Buf (Elt Ideal) ℓ) : Prop :=
  True

def Pre_WgIn (m : (ℓ : Loc Cert.WgIn.nD Cert.WgIn.τ Cert.WgIn.sig) → Buf (Elt Bits) ℓ) : Prop :=
  True

def Pre_WgInIdeal (m : (ℓ : Loc Cert.WgInIdeal.nD Cert.WgInIdeal.τ Cert.WgInIdeal.sig) → Buf (Elt Ideal) ℓ) : Prop :=
  True

def Pre_WgInRefIdeal (m : (ℓ : Loc Cert.WgInRefIdeal.nD Cert.WgInRefIdeal.τ Cert.WgInRefIdeal.sig) → Buf (Elt Ideal) ℓ) : Prop :=
  True

def Pre_DgIn (m : (ℓ : Loc Cert.DgIn.nD Cert.DgIn.τ Cert.DgIn.sig) → Buf (Elt Bits) ℓ) : Prop :=
  True

def Pre_DgInIdeal (m : (ℓ : Loc Cert.DgInIdeal.nD Cert.DgInIdeal.τ Cert.DgInIdeal.sig) → Buf (Elt Ideal) ℓ) : Prop :=
  True

def Pre_DgInRefIdeal (m : (ℓ : Loc Cert.DgInRefIdeal.nD Cert.DgInRefIdeal.τ Cert.DgInRefIdeal.sig) → Buf (Elt Ideal) ℓ) : Prop :=
  True

def Pre_WgOut (m : (ℓ : Loc Cert.WgOut.nD Cert.WgOut.τ Cert.WgOut.sig) → Buf (Elt Bits) ℓ) : Prop :=
  True

def Pre_WgOutIdeal (m : (ℓ : Loc Cert.WgOutIdeal.nD Cert.WgOutIdeal.τ Cert.WgOutIdeal.sig) → Buf (Elt Ideal) ℓ) : Prop :=
  True

def Pre_WgOutRefIdeal (m : (ℓ : Loc Cert.WgOutRefIdeal.nD Cert.WgOutRefIdeal.τ Cert.WgOutRefIdeal.sig) → Buf (Elt Ideal) ℓ) : Prop :=
  True

def Pre_DgOut (m : (ℓ : Loc Cert.DgOut.nD Cert.DgOut.τ Cert.DgOut.sig) → Buf (Elt Bits) ℓ) : Prop :=
  True

def Pre_DgOutIdeal (m : (ℓ : Loc Cert.DgOutIdeal.nD Cert.DgOutIdeal.τ Cert.DgOutIdeal.sig) → Buf (Elt Ideal) ℓ) : Prop :=
  True

def Pre_DgOutRefIdeal (m : (ℓ : Loc Cert.DgOutRefIdeal.nD Cert.DgOutRefIdeal.τ Cert.DgOutRefIdeal.sig) → Buf (Elt Ideal) ℓ) : Prop :=
  True

def Pre_WgGate (m : (ℓ : Loc Cert.WgGate.nD Cert.WgGate.τ Cert.WgGate.sig) → Buf (Elt Bits) ℓ) : Prop :=
  True

def Pre_WgGateIdeal (m : (ℓ : Loc Cert.WgGateIdeal.nD Cert.WgGateIdeal.τ Cert.WgGateIdeal.sig) → Buf (Elt Ideal) ℓ) : Prop :=
  True

def Pre_WgGateRefIdeal (m : (ℓ : Loc Cert.WgGateRefIdeal.nD Cert.WgGateRefIdeal.τ Cert.WgGateRefIdeal.sig) → Buf (Elt Ideal) ℓ) : Prop :=
  True

def Pre_DgGate (m : (ℓ : Loc Cert.DgGate.nD Cert.DgGate.τ Cert.DgGate.sig) → Buf (Elt Bits) ℓ) : Prop :=
  True

def Pre_DgGateIdeal (m : (ℓ : Loc Cert.DgGateIdeal.nD Cert.DgGateIdeal.τ Cert.DgGateIdeal.sig) → Buf (Elt Ideal) ℓ) : Prop :=
  True

def Pre_DgGateRefIdeal (m : (ℓ : Loc Cert.DgGateRefIdeal.nD Cert.DgGateRefIdeal.τ Cert.DgGateRefIdeal.sig) → Buf (Elt Ideal) ℓ) : Prop :=
  True

def Pre_WgProj (m : (ℓ : Loc Cert.WgProj.nD Cert.WgProj.τ Cert.WgProj.sig) → Buf (Elt Bits) ℓ) : Prop :=
  True

def Pre_WgProjIdeal (m : (ℓ : Loc Cert.WgProjIdeal.nD Cert.WgProjIdeal.τ Cert.WgProjIdeal.sig) → Buf (Elt Ideal) ℓ) : Prop :=
  True

def Pre_WgProjRefIdeal (m : (ℓ : Loc Cert.WgProjRefIdeal.nD Cert.WgProjRefIdeal.τ Cert.WgProjRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateRefIdeal (m : (ℓ : Loc Cert.MmGateRefIdeal.nD Cert.MmGateRefIdeal.τ Cert.MmGateRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2Ideal_ln2_cotangent_finite [hPre_ln2_cotangent_finite : Cert.Pre_ln2_cotangent_finite.Facts] (m : (ℓ : Loc Cert.Ln2Ideal.nD Cert.Ln2Ideal.τ Cert.Ln2Ideal.sig) → Buf (Elt Ideal) ℓ) : Prop :=
  ∀ c : Dev Cert.Ln2Ideal.nD,
    (Cert.Pre_ln2_cotangent_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5))) = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_ln2_cotangent_finite [hPre_ln2_cotangent_finite : Cert.Pre_ln2_cotangent_finite.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_ln2_cotangent_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5))) = (fun _ => 1#1)

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1Ideal_ln1_cotangent_finite [hPre_ln1_cotangent_finite : Cert.Pre_ln1_cotangent_finite.Facts] (m : (ℓ : Loc Cert.Ln1Ideal.nD Cert.Ln1Ideal.τ Cert.Ln1Ideal.sig) → Buf (Elt Ideal) ℓ) : Prop :=
  ∀ c : Dev Cert.Ln1Ideal.nD,
    (Cert.Pre_ln1_cotangent_finite.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3))) = (fun _ => 1#1)

def Pre_Ln1RefIdeal (m : (ℓ : Loc Cert.Ln1RefIdeal.nD Cert.Ln1RefIdeal.τ Cert.Ln1RefIdeal.sig) → Buf (Elt Ideal) ℓ) : Prop :=
  True

def Pre_Ln1RefIdeal_ln1_cotangent_finite [hPre_ln1_cotangent_finite : Cert.Pre_ln1_cotangent_finite.Facts] (m : (ℓ : Loc Cert.Ln1RefIdeal.nD Cert.Ln1RefIdeal.τ Cert.Ln1RefIdeal.sig) → Buf (Elt Ideal) ℓ) : Prop :=
  ∀ c : Dev Cert.Ln1RefIdeal.nD,
    (Cert.Pre_ln1_cotangent_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3))) = (fun _ => 1#1)

def Pre_OutLn1 (m : (ℓ : Loc Cert.OutLn1.nD Cert.OutLn1.τ Cert.OutLn1.sig) → Buf (Elt Bits) ℓ) : Prop :=
  True

def Pre_OutLn1Ideal (m : (ℓ : Loc Cert.OutLn1Ideal.nD Cert.OutLn1Ideal.τ Cert.OutLn1Ideal.sig) → Buf (Elt Ideal) ℓ) : Prop :=
  True

def Pre_OutLn1RefIdeal (m : (ℓ : Loc Cert.OutLn1RefIdeal.nD Cert.OutLn1RefIdeal.τ Cert.OutLn1RefIdeal.sig) → Buf (Elt Ideal) ℓ) : Prop :=
  True

def Pre_DownLn2 (m : (ℓ : Loc Cert.DownLn2.nD Cert.DownLn2.τ Cert.DownLn2.sig) → Buf (Elt Bits) ℓ) : Prop :=
  True

def Pre_DownLn2Ideal (m : (ℓ : Loc Cert.DownLn2Ideal.nD Cert.DownLn2Ideal.τ Cert.DownLn2Ideal.sig) → Buf (Elt Ideal) ℓ) : Prop :=
  True

def Pre_DownLn2RefIdeal (m : (ℓ : Loc Cert.DownLn2RefIdeal.nD Cert.DownLn2RefIdeal.τ Cert.DownLn2RefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_cotangent_finite [hPre_glu_cotangent_finite : Cert.Pre_glu_cotangent_finite.Facts] (m : (ℓ : Loc Cert.GluIdeal.nD Cert.GluIdeal.τ Cert.GluIdeal.sig) → Buf (Elt Ideal) ℓ) : Prop :=
  ∀ c : Dev Cert.GluIdeal.nD,
    (Cert.Pre_glu_cotangent_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))) = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_cotangent_finite [hPre_glu_cotangent_finite : Cert.Pre_glu_cotangent_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_cotangent_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumProj (m : (ℓ : Loc Cert.SumProj.nD Cert.SumProj.τ Cert.SumProj.sig) → Buf (Elt Bits) ℓ) : Prop :=
  True

def Pre_SumProjIdeal (m : (ℓ : Loc Cert.SumProjIdeal.nD Cert.SumProjIdeal.τ Cert.SumProjIdeal.sig) → Buf (Elt Ideal) ℓ) : Prop :=
  True

def Pre_SumProjRefIdeal (m : (ℓ : Loc Cert.SumProjRefIdeal.nD Cert.SumProjRefIdeal.τ Cert.SumProjRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def quiescent_WgUp [hWgUp : Cert.WgUp.Facts] : Prop :=
  ∀ (m : (ℓ : Loc Cert.WgUp.nD Cert.WgUp.τ Cert.WgUp.sig) → Buf (Elt Bits) ℓ) (g : Dev Cert.WgUp.nD → PrngReg), Pre_WgUp m →
    θ_run (Cert.WgUp.defs (F := Bits)) (onTc (τ := Cert.WgUp.τ) (Cert.WgUp.main (F := Bits))) ⟨m, fun _ => 0, g⟩ (fun r => (∀ c : Dev Cert.WgUp.nD,
      r.2.mem ((c.tc : Thread Cert.WgUp.nD Cert.WgUp.τ).loc Cert.WgUp.main_arg0) = m ((c.tc : Thread Cert.WgUp.nD Cert.WgUp.τ).loc Cert.WgUp.main_arg0)
      ∧ r.2.mem ((c.tc : Thread Cert.WgUp.nD Cert.WgUp.τ).loc Cert.WgUp.main_arg1) = m ((c.tc : Thread Cert.WgUp.nD Cert.WgUp.τ).loc Cert.WgUp.main_arg1))
      ∧ r.2.sem = fun _ => 0)

def quiescent_WgUpIdeal [hWgUpIdeal : Cert.WgUpIdeal.Facts] : Prop :=
  ∀ (m : (ℓ : Loc Cert.WgUpIdeal.nD Cert.WgUpIdeal.τ Cert.WgUpIdeal.sig) → Buf (Elt Ideal) ℓ) (g : Dev Cert.WgUpIdeal.nD → PrngReg), Pre_WgUpIdeal m →
    θ_run (Cert.WgUpIdeal.defs (F := Ideal)) (onTc (τ := Cert.WgUpIdeal.τ) (Cert.WgUpIdeal.main (F := Ideal))) ⟨m, fun _ => 0, g⟩ (fun r => (∀ c : Dev Cert.WgUpIdeal.nD,
      r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
      ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ r.2.sem = fun _ => 0)

def quiescent_WgUpRefIdeal [hWgUpRefIdeal : Cert.WgUpRefIdeal.Facts] : Prop :=
  ∀ (m : (ℓ : Loc Cert.WgUpRefIdeal.nD Cert.WgUpRefIdeal.τ Cert.WgUpRefIdeal.sig) → Buf (Elt Ideal) ℓ) (g : Dev Cert.WgUpRefIdeal.nD → PrngReg), Pre_WgUpRefIdeal m →
    θ_run (Cert.WgUpRefIdeal.defs (F := Ideal)) (onTc (τ := Cert.WgUpRefIdeal.τ) (Cert.WgUpRefIdeal.main (F := Ideal))) ⟨m, fun _ => 0, g⟩ (fun r => (∀ c : Dev Cert.WgUpRefIdeal.nD,
      r.2.mem ((c.tc : Thread Cert.WgUpRefIdeal.nD Cert.WgUpRefIdeal.τ).loc Cert.WgUpRefIdeal.main_arg0) = m ((c.tc : Thread Cert.WgUpRefIdeal.nD Cert.WgUpRefIdeal.τ).loc Cert.WgUpRefIdeal.main_arg0)
      ∧ r.2.mem ((c.tc : Thread Cert.WgUpRefIdeal.nD Cert.WgUpRefIdeal.τ).loc Cert.WgUpRefIdeal.main_arg1) = m ((c.tc : Thread Cert.WgUpRefIdeal.nD Cert.WgUpRefIdeal.τ).loc Cert.WgUpRefIdeal.main_arg1))
      ∧ r.2.sem = fun _ => 0)

def quiescent_DgUp [hDgUp : Cert.DgUp.Facts] : Prop :=
  ∀ (m : (ℓ : Loc Cert.DgUp.nD Cert.DgUp.τ Cert.DgUp.sig) → Buf (Elt Bits) ℓ) (g : Dev Cert.DgUp.nD → PrngReg), Pre_DgUp m →
    θ_run (Cert.DgUp.defs (F := Bits)) (onTc (τ := Cert.DgUp.τ) (Cert.DgUp.main (F := Bits))) ⟨m, fun _ => 0, g⟩ (fun r => (∀ c : Dev Cert.DgUp.nD,
      r.2.mem ((c.tc : Thread Cert.DgUp.nD Cert.DgUp.τ).loc Cert.DgUp.main_arg0) = m ((c.tc : Thread Cert.DgUp.nD Cert.DgUp.τ).loc Cert.DgUp.main_arg0)
      ∧ r.2.mem ((c.tc : Thread Cert.DgUp.nD Cert.DgUp.τ).loc Cert.DgUp.main_arg1) = m ((c.tc : Thread Cert.DgUp.nD Cert.DgUp.τ).loc Cert.DgUp.main_arg1)
      ∧ r.2.mem ((c.tc : Thread Cert.DgUp.nD Cert.DgUp.τ).loc Cert.DgUp.main_arg2) = m ((c.tc : Thread Cert.DgUp.nD Cert.DgUp.τ).loc Cert.DgUp.main_arg2))
      ∧ r.2.sem = fun _ => 0)

def quiescent_DgUpIdeal [hDgUpIdeal : Cert.DgUpIdeal.Facts] : Prop :=
  ∀ (m : (ℓ : Loc Cert.DgUpIdeal.nD Cert.DgUpIdeal.τ Cert.DgUpIdeal.sig) → Buf (Elt Ideal) ℓ) (g : Dev Cert.DgUpIdeal.nD → PrngReg), Pre_DgUpIdeal m →
    θ_run (Cert.DgUpIdeal.defs (F := Ideal)) (onTc (τ := Cert.DgUpIdeal.τ) (Cert.DgUpIdeal.main (F := Ideal))) ⟨m, fun _ => 0, g⟩ (fun r => (∀ c : Dev Cert.DgUpIdeal.nD,
      r.2.mem ((c.tc : Thread Cert.DgUpIdeal.nD Cert.DgUpIdeal.τ).loc Cert.DgUpIdeal.main_arg0) = m ((c.tc : Thread Cert.DgUpIdeal.nD Cert.DgUpIdeal.τ).loc Cert.DgUpIdeal.main_arg0)
      ∧ r.2.mem ((c.tc : Thread Cert.DgUpIdeal.nD Cert.DgUpIdeal.τ).loc Cert.DgUpIdeal.main_arg1) = m ((c.tc : Thread Cert.DgUpIdeal.nD Cert.DgUpIdeal.τ).loc Cert.DgUpIdeal.main_arg1)
      ∧ r.2.mem ((c.tc : Thread Cert.DgUpIdeal.nD Cert.DgUpIdeal.τ).loc Cert.DgUpIdeal.main_arg2) = m ((c.tc : Thread Cert.DgUpIdeal.nD Cert.DgUpIdeal.τ).loc Cert.DgUpIdeal.main_arg2))
      ∧ r.2.sem = fun _ => 0)

def quiescent_DgUpRefIdeal [hDgUpRefIdeal : Cert.DgUpRefIdeal.Facts] : Prop :=
  ∀ (m : (ℓ : Loc Cert.DgUpRefIdeal.nD Cert.DgUpRefIdeal.τ Cert.DgUpRefIdeal.sig) → Buf (Elt Ideal) ℓ) (g : Dev Cert.DgUpRefIdeal.nD → PrngReg), Pre_DgUpRefIdeal m →
    θ_run (Cert.DgUpRefIdeal.defs (F := Ideal)) (onTc (τ := Cert.DgUpRefIdeal.τ) (Cert.DgUpRefIdeal.main (F := Ideal))) ⟨m, fun _ => 0, g⟩ (fun r => (∀ c : Dev Cert.DgUpRefIdeal.nD,
      r.2.mem ((c.tc : Thread Cert.DgUpRefIdeal.nD Cert.DgUpRefIdeal.τ).loc Cert.DgUpRefIdeal.main_arg0) = m ((c.tc : Thread Cert.DgUpRefIdeal.nD Cert.DgUpRefIdeal.τ).loc Cert.DgUpRefIdeal.main_arg0)
      ∧ r.2.mem ((c.tc : Thread Cert.DgUpRefIdeal.nD Cert.DgUpRefIdeal.τ).loc Cert.DgUpRefIdeal.main_arg1) = m ((c.tc : Thread Cert.DgUpRefIdeal.nD Cert.DgUpRefIdeal.τ).loc Cert.DgUpRefIdeal.main_arg1)
      ∧ r.2.mem ((c.tc : Thread Cert.DgUpRefIdeal.nD Cert.DgUpRefIdeal.τ).loc Cert.DgUpRefIdeal.main_arg2) = m ((c.tc : Thread Cert.DgUpRefIdeal.nD Cert.DgUpRefIdeal.τ).loc Cert.DgUpRefIdeal.main_arg2))
      ∧ r.2.sem = fun _ => 0)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ r.2.sem = fun _ => 0)

def quiescent_WgDownRefIdeal [hWgDownRefIdeal : Cert.WgDownRefIdeal.Facts] : Prop :=
  ∀ (m : (ℓ : Loc Cert.WgDownRefIdeal.nD Cert.WgDownRefIdeal.τ Cert.WgDownRefIdeal.sig) → Buf (Elt Ideal) ℓ) (g : Dev Cert.WgDownRefIdeal.nD → PrngReg), Pre_WgDownRefIdeal m →
    θ_run (Cert.WgDownRefIdeal.defs (F := Ideal)) (onTc (τ := Cert.WgDownRefIdeal.τ) (Cert.WgDownRefIdeal.main (F := Ideal))) ⟨m, fun _ => 0, g⟩ (fun r => (∀ c : Dev Cert.WgDownRefIdeal.nD,
      r.2.mem ((c.tc : Thread Cert.WgDownRefIdeal.nD Cert.WgDownRefIdeal.τ).loc Cert.WgDownRefIdeal.main_arg0) = m ((c.tc : Thread Cert.WgDownRefIdeal.nD Cert.WgDownRefIdeal.τ).loc Cert.WgDownRefIdeal.main_arg0)
      ∧ r.2.mem ((c.tc : Thread Cert.WgDownRefIdeal.nD Cert.WgDownRefIdeal.τ).loc Cert.WgDownRefIdeal.main_arg1) = m ((c.tc : Thread Cert.WgDownRefIdeal.nD Cert.WgDownRefIdeal.τ).loc Cert.WgDownRefIdeal.main_arg1))
      ∧ r.2.sem = fun _ => 0)

def quiescent_DgDown [hDgDown : Cert.DgDown.Facts] : Prop :=
  ∀ (m : (ℓ : Loc Cert.DgDown.nD Cert.DgDown.τ Cert.DgDown.sig) → Buf (Elt Bits) ℓ) (g : Dev Cert.DgDown.nD → PrngReg), Pre_DgDown m →
    θ_run (Cert.DgDown.defs (F := Bits)) (onTc (τ := Cert.DgDown.τ) (Cert.DgDown.main (F := Bits))) ⟨m, fun _ => 0, g⟩ (fun r => (∀ c : Dev Cert.DgDown.nD,
      r.2.mem ((c.tc : Thread Cert.DgDown.nD Cert.DgDown.τ).loc Cert.DgDown.main_arg0) = m ((c.tc : Thread Cert.DgDown.nD Cert.DgDown.τ).loc Cert.DgDown.main_arg0)
      ∧ r.2.mem ((c.tc : Thread Cert.DgDown.nD Cert.DgDown.τ).loc Cert.DgDown.main_arg1) = m ((c.tc : Thread Cert.DgDown.nD Cert.DgDown.τ).loc Cert.DgDown.main_arg1))
      ∧ r.2.sem = fun _ => 0)

def quiescent_DgDownIdeal [hDgDownIdeal : Cert.DgDownIdeal.Facts] : Prop :=
  ∀ (m : (ℓ : Loc Cert.DgDownIdeal.nD Cert.DgDownIdeal.τ Cert.DgDownIdeal.sig) → Buf (Elt Ideal) ℓ) (g : Dev Cert.DgDownIdeal.nD → PrngReg), Pre_DgDownIdeal m →
    θ_run (Cert.DgDownIdeal.defs (F := Ideal)) (onTc (τ := Cert.DgDownIdeal.τ) (Cert.DgDownIdeal.main (F := Ideal))) ⟨m, fun _ => 0, g⟩ (fun r => (∀ c : Dev Cert.DgDownIdeal.nD,
      r.2.mem ((c.tc : Thread Cert.DgDownIdeal.nD Cert.DgDownIdeal.τ).loc Cert.DgDownIdeal.main_arg0) = m ((c.tc : Thread Cert.DgDownIdeal.nD Cert.DgDownIdeal.τ).loc Cert.DgDownIdeal.main_arg0)
      ∧ r.2.mem ((c.tc : Thread Cert.DgDownIdeal.nD Cert.DgDownIdeal.τ).loc Cert.DgDownIdeal.main_arg1) = m ((c.tc : Thread Cert.DgDownIdeal.nD Cert.DgDownIdeal.τ).loc Cert.DgDownIdeal.main_arg1))
      ∧ r.2.sem = fun _ => 0)

def quiescent_DgDownRefIdeal [hDgDownRefIdeal : Cert.DgDownRefIdeal.Facts] : Prop :=
  ∀ (m : (ℓ : Loc Cert.DgDownRefIdeal.nD Cert.DgDownRefIdeal.τ Cert.DgDownRefIdeal.sig) → Buf (Elt Ideal) ℓ) (g : Dev Cert.DgDownRefIdeal.nD → PrngReg), Pre_DgDownRefIdeal m →
    θ_run (Cert.DgDownRefIdeal.defs (F := Ideal)) (onTc (τ := Cert.DgDownRefIdeal.τ) (Cert.DgDownRefIdeal.main (F := Ideal))) ⟨m, fun _ => 0, g⟩ (fun r => (∀ c : Dev Cert.DgDownRefIdeal.nD,
      r.2.mem ((c.tc : Thread Cert.DgDownRefIdeal.nD Cert.DgDownRefIdeal.τ).loc Cert.DgDownRefIdeal.main_arg0) = m ((c.tc : Thread Cert.DgDownRefIdeal.nD Cert.DgDownRefIdeal.τ).loc Cert.DgDownRefIdeal.main_arg0)
      ∧ r.2.mem ((c.tc : Thread Cert.DgDownRefIdeal.nD Cert.DgDownRefIdeal.τ).loc Cert.DgDownRefIdeal.main_arg1) = m ((c.tc : Thread Cert.DgDownRefIdeal.nD Cert.DgDownRefIdeal.τ).loc Cert.DgDownRefIdeal.main_arg1))
      ∧ r.2.sem = fun _ => 0)

def quiescent_WgIn [hWgIn : Cert.WgIn.Facts] : Prop :=
  ∀ (m : (ℓ : Loc Cert.WgIn.nD Cert.WgIn.τ Cert.WgIn.sig) → Buf (Elt Bits) ℓ) (g : Dev Cert.WgIn.nD → PrngReg), Pre_WgIn m →
    θ_run (Cert.WgIn.defs (F := Bits)) (onTc (τ := Cert.WgIn.τ) (Cert.WgIn.main (F := Bits))) ⟨m, fun _ => 0, g⟩ (fun r => (∀ c : Dev Cert.WgIn.nD,
      r.2.mem ((c.tc : Thread Cert.WgIn.nD Cert.WgIn.τ).loc Cert.WgIn.main_arg0) = m ((c.tc : Thread Cert.WgIn.nD Cert.WgIn.τ).loc Cert.WgIn.main_arg0)
      ∧ r.2.mem ((c.tc : Thread Cert.WgIn.nD Cert.WgIn.τ).loc Cert.WgIn.main_arg1) = m ((c.tc : Thread Cert.WgIn.nD Cert.WgIn.τ).loc Cert.WgIn.main_arg1))
      ∧ r.2.sem = fun _ => 0)

def quiescent_WgInIdeal [hWgInIdeal : Cert.WgInIdeal.Facts] : Prop :=
  ∀ (m : (ℓ : Loc Cert.WgInIdeal.nD Cert.WgInIdeal.τ Cert.WgInIdeal.sig) → Buf (Elt Ideal) ℓ) (g : Dev Cert.WgInIdeal.nD → PrngReg), Pre_WgInIdeal m →
    θ_run (Cert.WgInIdeal.defs (F := Ideal)) (onTc (τ := Cert.WgInIdeal.τ) (Cert.WgInIdeal.main (F := Ideal))) ⟨m, fun _ => 0, g⟩ (fun r => (∀ c : Dev Cert.WgInIdeal.nD,
      r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
      ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ r.2.sem = fun _ => 0)

def quiescent_WgInRefIdeal [hWgInRefIdeal : Cert.WgInRefIdeal.Facts] : Prop :=
  ∀ (m : (ℓ : Loc Cert.WgInRefIdeal.nD Cert.WgInRefIdeal.τ Cert.WgInRefIdeal.sig) → Buf (Elt Ideal) ℓ) (g : Dev Cert.WgInRefIdeal.nD → PrngReg), Pre_WgInRefIdeal m →
    θ_run (Cert.WgInRefIdeal.defs (F := Ideal)) (onTc (τ := Cert.WgInRefIdeal.τ) (Cert.WgInRefIdeal.main (F := Ideal))) ⟨m, fun _ => 0, g⟩ (fun r => (∀ c : Dev Cert.WgInRefIdeal.nD,
      r.2.mem ((c.tc : Thread Cert.WgInRefIdeal.nD Cert.WgInRefIdeal.τ).loc Cert.WgInRefIdeal.main_arg0) = m ((c.tc : Thread Cert.WgInRefIdeal.nD Cert.WgInRefIdeal.τ).loc Cert.WgInRefIdeal.main_arg0)
      ∧ r.2.mem ((c.tc : Thread Cert.WgInRefIdeal.nD Cert.WgInRefIdeal.τ).loc Cert.WgInRefIdeal.main_arg1) = m ((c.tc : Thread Cert.WgInRefIdeal.nD Cert.WgInRefIdeal.τ).loc Cert.WgInRefIdeal.main_arg1))
      ∧ r.2.sem = fun _ => 0)

def quiescent_DgIn [hDgIn : Cert.DgIn.Facts] : Prop :=
  ∀ (m : (ℓ : Loc Cert.DgIn.nD Cert.DgIn.τ Cert.DgIn.sig) → Buf (Elt Bits) ℓ) (g : Dev Cert.DgIn.nD → PrngReg), Pre_DgIn m →
    θ_run (Cert.DgIn.defs (F := Bits)) (onTc (τ := Cert.DgIn.τ) (Cert.DgIn.main (F := Bits))) ⟨m, fun _ => 0, g⟩ (fun r => (∀ c : Dev Cert.DgIn.nD,
      r.2.mem ((c.tc : Thread Cert.DgIn.nD Cert.DgIn.τ).loc Cert.DgIn.main_arg0) = m ((c.tc : Thread Cert.DgIn.nD Cert.DgIn.τ).loc Cert.DgIn.main_arg0)
      ∧ r.2.mem ((c.tc : Thread Cert.DgIn.nD Cert.DgIn.τ).loc Cert.DgIn.main_arg1) = m ((c.tc : Thread Cert.DgIn.nD Cert.DgIn.τ).loc Cert.DgIn.main_arg1)
      ∧ r.2.mem ((c.tc : Thread Cert.DgIn.nD Cert.DgIn.τ).loc Cert.DgIn.main_arg2) = m ((c.tc : Thread Cert.DgIn.nD Cert.DgIn.τ).loc Cert.DgIn.main_arg2))
      ∧ r.2.sem = fun _ => 0)

def quiescent_DgInIdeal [hDgInIdeal : Cert.DgInIdeal.Facts] : Prop :=
  ∀ (m : (ℓ : Loc Cert.DgInIdeal.nD Cert.DgInIdeal.τ Cert.DgInIdeal.sig) → Buf (Elt Ideal) ℓ) (g : Dev Cert.DgInIdeal.nD → PrngReg), Pre_DgInIdeal m →
    θ_run (Cert.DgInIdeal.defs (F := Ideal)) (onTc (τ := Cert.DgInIdeal.τ) (Cert.DgInIdeal.main (F := Ideal))) ⟨m, fun _ => 0, g⟩ (fun r => (∀ c : Dev Cert.DgInIdeal.nD,
      r.2.mem ((c.tc : Thread Cert.DgInIdeal.nD Cert.DgInIdeal.τ).loc Cert.DgInIdeal.main_arg0) = m ((c.tc : Thread Cert.DgInIdeal.nD Cert.DgInIdeal.τ).loc Cert.DgInIdeal.main_arg0)
      ∧ r.2.mem ((c.tc : Thread Cert.DgInIdeal.nD Cert.DgInIdeal.τ).loc Cert.DgInIdeal.main_arg1) = m ((c.tc : Thread Cert.DgInIdeal.nD Cert.DgInIdeal.τ).loc Cert.DgInIdeal.main_arg1)
      ∧ r.2.mem ((c.tc : Thread Cert.DgInIdeal.nD Cert.DgInIdeal.τ).loc Cert.DgInIdeal.main_arg2) = m ((c.tc : Thread Cert.DgInIdeal.nD Cert.DgInIdeal.τ).loc Cert.DgInIdeal.main_arg2))
      ∧ r.2.sem = fun _ => 0)

def quiescent_DgInRefIdeal [hDgInRefIdeal : Cert.DgInRefIdeal.Facts] : Prop :=
  ∀ (m : (ℓ : Loc Cert.DgInRefIdeal.nD Cert.DgInRefIdeal.τ Cert.DgInRefIdeal.sig) → Buf (Elt Ideal) ℓ) (g : Dev Cert.DgInRefIdeal.nD → PrngReg), Pre_DgInRefIdeal m →
    θ_run (Cert.DgInRefIdeal.defs (F := Ideal)) (onTc (τ := Cert.DgInRefIdeal.τ) (Cert.DgInRefIdeal.main (F := Ideal))) ⟨m, fun _ => 0, g⟩ (fun r => (∀ c : Dev Cert.DgInRefIdeal.nD,
      r.2.mem ((c.tc : Thread Cert.DgInRefIdeal.nD Cert.DgInRefIdeal.τ).loc Cert.DgInRefIdeal.main_arg0) = m ((c.tc : Thread Cert.DgInRefIdeal.nD Cert.DgInRefIdeal.τ).loc Cert.DgInRefIdeal.main_arg0)
      ∧ r.2.mem ((c.tc : Thread Cert.DgInRefIdeal.nD Cert.DgInRefIdeal.τ).loc Cert.DgInRefIdeal.main_arg1) = m ((c.tc : Thread Cert.DgInRefIdeal.nD Cert.DgInRefIdeal.τ).loc Cert.DgInRefIdeal.main_arg1)
      ∧ r.2.mem ((c.tc : Thread Cert.DgInRefIdeal.nD Cert.DgInRefIdeal.τ).loc Cert.DgInRefIdeal.main_arg2) = m ((c.tc : Thread Cert.DgInRefIdeal.nD Cert.DgInRefIdeal.τ).loc Cert.DgInRefIdeal.main_arg2))
      ∧ r.2.sem = fun _ => 0)

def quiescent_WgOut [hWgOut : Cert.WgOut.Facts] : Prop :=
  ∀ (m : (ℓ : Loc Cert.WgOut.nD Cert.WgOut.τ Cert.WgOut.sig) → Buf (Elt Bits) ℓ) (g : Dev Cert.WgOut.nD → PrngReg), Pre_WgOut m →
    θ_run (Cert.WgOut.defs (F := Bits)) (onTc (τ := Cert.WgOut.τ) (Cert.WgOut.main (F := Bits))) ⟨m, fun _ => 0, g⟩ (fun r => (∀ c : Dev Cert.WgOut.nD,
      r.2.mem ((c.tc : Thread Cert.WgOut.nD Cert.WgOut.τ).loc Cert.WgOut.main_arg0) = m ((c.tc : Thread Cert.WgOut.nD Cert.WgOut.τ).loc Cert.WgOut.main_arg0)
      ∧ r.2.mem ((c.tc : Thread Cert.WgOut.nD Cert.WgOut.τ).loc Cert.WgOut.main_arg1) = m ((c.tc : Thread Cert.WgOut.nD Cert.WgOut.τ).loc Cert.WgOut.main_arg1))
      ∧ r.2.sem = fun _ => 0)

def quiescent_WgOutIdeal [hWgOutIdeal : Cert.WgOutIdeal.Facts] : Prop :=
  ∀ (m : (ℓ : Loc Cert.WgOutIdeal.nD Cert.WgOutIdeal.τ Cert.WgOutIdeal.sig) → Buf (Elt Ideal) ℓ) (g : Dev Cert.WgOutIdeal.nD → PrngReg), Pre_WgOutIdeal m →
    θ_run (Cert.WgOutIdeal.defs (F := Ideal)) (onTc (τ := Cert.WgOutIdeal.τ) (Cert.WgOutIdeal.main (F := Ideal))) ⟨m, fun _ => 0, g⟩ (fun r => (∀ c : Dev Cert.WgOutIdeal.nD,
      r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
      ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ r.2.sem = fun _ => 0)

def quiescent_WgOutRefIdeal [hWgOutRefIdeal : Cert.WgOutRefIdeal.Facts] : Prop :=
  ∀ (m : (ℓ : Loc Cert.WgOutRefIdeal.nD Cert.WgOutRefIdeal.τ Cert.WgOutRefIdeal.sig) → Buf (Elt Ideal) ℓ) (g : Dev Cert.WgOutRefIdeal.nD → PrngReg), Pre_WgOutRefIdeal m →
    θ_run (Cert.WgOutRefIdeal.defs (F := Ideal)) (onTc (τ := Cert.WgOutRefIdeal.τ) (Cert.WgOutRefIdeal.main (F := Ideal))) ⟨m, fun _ => 0, g⟩ (fun r => (∀ c : Dev Cert.WgOutRefIdeal.nD,
      r.2.mem ((c.tc : Thread Cert.WgOutRefIdeal.nD Cert.WgOutRefIdeal.τ).loc Cert.WgOutRefIdeal.main_arg0) = m ((c.tc : Thread Cert.WgOutRefIdeal.nD Cert.WgOutRefIdeal.τ).loc Cert.WgOutRefIdeal.main_arg0)
      ∧ r.2.mem ((c.tc : Thread Cert.WgOutRefIdeal.nD Cert.WgOutRefIdeal.τ).loc Cert.WgOutRefIdeal.main_arg1) = m ((c.tc : Thread Cert.WgOutRefIdeal.nD Cert.WgOutRefIdeal.τ).loc Cert.WgOutRefIdeal.main_arg1))
      ∧ r.2.sem = fun _ => 0)

def quiescent_DgOut [hDgOut : Cert.DgOut.Facts] : Prop :=
  ∀ (m : (ℓ : Loc Cert.DgOut.nD Cert.DgOut.τ Cert.DgOut.sig) → Buf (Elt Bits) ℓ) (g : Dev Cert.DgOut.nD → PrngReg), Pre_DgOut m →
    θ_run (Cert.DgOut.defs (F := Bits)) (onTc (τ := Cert.DgOut.τ) (Cert.DgOut.main (F := Bits))) ⟨m, fun _ => 0, g⟩ (fun r => (∀ c : Dev Cert.DgOut.nD,
      r.2.mem ((c.tc : Thread Cert.DgOut.nD Cert.DgOut.τ).loc Cert.DgOut.main_arg0) = m ((c.tc : Thread Cert.DgOut.nD Cert.DgOut.τ).loc Cert.DgOut.main_arg0)
      ∧ r.2.mem ((c.tc : Thread Cert.DgOut.nD Cert.DgOut.τ).loc Cert.DgOut.main_arg1) = m ((c.tc : Thread Cert.DgOut.nD Cert.DgOut.τ).loc Cert.DgOut.main_arg1))
      ∧ r.2.sem = fun _ => 0)

def quiescent_DgOutIdeal [hDgOutIdeal : Cert.DgOutIdeal.Facts] : Prop :=
  ∀ (m : (ℓ : Loc Cert.DgOutIdeal.nD Cert.DgOutIdeal.τ Cert.DgOutIdeal.sig) → Buf (Elt Ideal) ℓ) (g : Dev Cert.DgOutIdeal.nD → PrngReg), Pre_DgOutIdeal m →
    θ_run (Cert.DgOutIdeal.defs (F := Ideal)) (onTc (τ := Cert.DgOutIdeal.τ) (Cert.DgOutIdeal.main (F := Ideal))) ⟨m, fun _ => 0, g⟩ (fun r => (∀ c : Dev Cert.DgOutIdeal.nD,
      r.2.mem ((c.tc : Thread Cert.DgOutIdeal.nD Cert.DgOutIdeal.τ).loc Cert.DgOutIdeal.main_arg0) = m ((c.tc : Thread Cert.DgOutIdeal.nD Cert.DgOutIdeal.τ).loc Cert.DgOutIdeal.main_arg0)
      ∧ r.2.mem ((c.tc : Thread Cert.DgOutIdeal.nD Cert.DgOutIdeal.τ).loc Cert.DgOutIdeal.main_arg1) = m ((c.tc : Thread Cert.DgOutIdeal.nD Cert.DgOutIdeal.τ).loc Cert.DgOutIdeal.main_arg1))
      ∧ r.2.sem = fun _ => 0)

def quiescent_DgOutRefIdeal [hDgOutRefIdeal : Cert.DgOutRefIdeal.Facts] : Prop :=
  ∀ (m : (ℓ : Loc Cert.DgOutRefIdeal.nD Cert.DgOutRefIdeal.τ Cert.DgOutRefIdeal.sig) → Buf (Elt Ideal) ℓ) (g : Dev Cert.DgOutRefIdeal.nD → PrngReg), Pre_DgOutRefIdeal m →
    θ_run (Cert.DgOutRefIdeal.defs (F := Ideal)) (onTc (τ := Cert.DgOutRefIdeal.τ) (Cert.DgOutRefIdeal.main (F := Ideal))) ⟨m, fun _ => 0, g⟩ (fun r => (∀ c : Dev Cert.DgOutRefIdeal.nD,
      r.2.mem ((c.tc : Thread Cert.DgOutRefIdeal.nD Cert.DgOutRefIdeal.τ).loc Cert.DgOutRefIdeal.main_arg0) = m ((c.tc : Thread Cert.DgOutRefIdeal.nD Cert.DgOutRefIdeal.τ).loc Cert.DgOutRefIdeal.main_arg0)
      ∧ r.2.mem ((c.tc : Thread Cert.DgOutRefIdeal.nD Cert.DgOutRefIdeal.τ).loc Cert.DgOutRefIdeal.main_arg1) = m ((c.tc : Thread Cert.DgOutRefIdeal.nD Cert.DgOutRefIdeal.τ).loc Cert.DgOutRefIdeal.main_arg1))
      ∧ r.2.sem = fun _ => 0)

def quiescent_WgGate [hWgGate : Cert.WgGate.Facts] : Prop :=
  ∀ (m : (ℓ : Loc Cert.WgGate.nD Cert.WgGate.τ Cert.WgGate.sig) → Buf (Elt Bits) ℓ) (g : Dev Cert.WgGate.nD → PrngReg), Pre_WgGate m →
    θ_run (Cert.WgGate.defs (F := Bits)) (onTc (τ := Cert.WgGate.τ) (Cert.WgGate.main (F := Bits))) ⟨m, fun _ => 0, g⟩ (fun r => (∀ c : Dev Cert.WgGate.nD,
      r.2.mem ((c.tc : Thread Cert.WgGate.nD Cert.WgGate.τ).loc Cert.WgGate.main_arg0) = m ((c.tc : Thread Cert.WgGate.nD Cert.WgGate.τ).loc Cert.WgGate.main_arg0)
      ∧ r.2.mem ((c.tc : Thread Cert.WgGate.nD Cert.WgGate.τ).loc Cert.WgGate.main_arg1) = m ((c.tc : Thread Cert.WgGate.nD Cert.WgGate.τ).loc Cert.WgGate.main_arg1))
      ∧ r.2.sem = fun _ => 0)

def quiescent_WgGateIdeal [hWgGateIdeal : Cert.WgGateIdeal.Facts] : Prop :=
  ∀ (m : (ℓ : Loc Cert.WgGateIdeal.nD Cert.WgGateIdeal.τ Cert.WgGateIdeal.sig) → Buf (Elt Ideal) ℓ) (g : Dev Cert.WgGateIdeal.nD → PrngReg), Pre_WgGateIdeal m →
    θ_run (Cert.WgGateIdeal.defs (F := Ideal)) (onTc (τ := Cert.WgGateIdeal.τ) (Cert.WgGateIdeal.main (F := Ideal))) ⟨m, fun _ => 0, g⟩ (fun r => (∀ c : Dev Cert.WgGateIdeal.nD,
      r.2.mem ((c.tc : Thread Cert.WgGateIdeal.nD Cert.WgGateIdeal.τ).loc Cert.WgGateIdeal.main_arg0) = m ((c.tc : Thread Cert.WgGateIdeal.nD Cert.WgGateIdeal.τ).loc Cert.WgGateIdeal.main_arg0)
      ∧ r.2.mem ((c.tc : Thread Cert.WgGateIdeal.nD Cert.WgGateIdeal.τ).loc Cert.WgGateIdeal.main_arg1) = m ((c.tc : Thread Cert.WgGateIdeal.nD Cert.WgGateIdeal.τ).loc Cert.WgGateIdeal.main_arg1))
      ∧ r.2.sem = fun _ => 0)

def quiescent_WgGateRefIdeal [hWgGateRefIdeal : Cert.WgGateRefIdeal.Facts] : Prop :=
  ∀ (m : (ℓ : Loc Cert.WgGateRefIdeal.nD Cert.WgGateRefIdeal.τ Cert.WgGateRefIdeal.sig) → Buf (Elt Ideal) ℓ) (g : Dev Cert.WgGateRefIdeal.nD → PrngReg), Pre_WgGateRefIdeal m →
    θ_run (Cert.WgGateRefIdeal.defs (F := Ideal)) (onTc (τ := Cert.WgGateRefIdeal.τ) (Cert.WgGateRefIdeal.main (F := Ideal))) ⟨m, fun _ => 0, g⟩ (fun r => (∀ c : Dev Cert.WgGateRefIdeal.nD,
      r.2.mem ((c.tc : Thread Cert.WgGateRefIdeal.nD Cert.WgGateRefIdeal.τ).loc Cert.WgGateRefIdeal.main_arg0) = m ((c.tc : Thread Cert.WgGateRefIdeal.nD Cert.WgGateRefIdeal.τ).loc Cert.WgGateRefIdeal.main_arg0)
      ∧ r.2.mem ((c.tc : Thread Cert.WgGateRefIdeal.nD Cert.WgGateRefIdeal.τ).loc Cert.WgGateRefIdeal.main_arg1) = m ((c.tc : Thread Cert.WgGateRefIdeal.nD Cert.WgGateRefIdeal.τ).loc Cert.WgGateRefIdeal.main_arg1))
      ∧ r.2.sem = fun _ => 0)

def quiescent_DgGate [hDgGate : Cert.DgGate.Facts] : Prop :=
  ∀ (m : (ℓ : Loc Cert.DgGate.nD Cert.DgGate.τ Cert.DgGate.sig) → Buf (Elt Bits) ℓ) (g : Dev Cert.DgGate.nD → PrngReg), Pre_DgGate m →
    θ_run (Cert.DgGate.defs (F := Bits)) (onTc (τ := Cert.DgGate.τ) (Cert.DgGate.main (F := Bits))) ⟨m, fun _ => 0, g⟩ (fun r => (∀ c : Dev Cert.DgGate.nD,
      r.2.mem ((c.tc : Thread Cert.DgGate.nD Cert.DgGate.τ).loc Cert.DgGate.main_arg0) = m ((c.tc : Thread Cert.DgGate.nD Cert.DgGate.τ).loc Cert.DgGate.main_arg0)
      ∧ r.2.mem ((c.tc : Thread Cert.DgGate.nD Cert.DgGate.τ).loc Cert.DgGate.main_arg1) = m ((c.tc : Thread Cert.DgGate.nD Cert.DgGate.τ).loc Cert.DgGate.main_arg1)
      ∧ r.2.mem ((c.tc : Thread Cert.DgGate.nD Cert.DgGate.τ).loc Cert.DgGate.main_arg2) = m ((c.tc : Thread Cert.DgGate.nD Cert.DgGate.τ).loc Cert.DgGate.main_arg2))
      ∧ r.2.sem = fun _ => 0)

def quiescent_DgGateIdeal [hDgGateIdeal : Cert.DgGateIdeal.Facts] : Prop :=
  ∀ (m : (ℓ : Loc Cert.DgGateIdeal.nD Cert.DgGateIdeal.τ Cert.DgGateIdeal.sig) → Buf (Elt Ideal) ℓ) (g : Dev Cert.DgGateIdeal.nD → PrngReg), Pre_DgGateIdeal m →
    θ_run (Cert.DgGateIdeal.defs (F := Ideal)) (onTc (τ := Cert.DgGateIdeal.τ) (Cert.DgGateIdeal.main (F := Ideal))) ⟨m, fun _ => 0, g⟩ (fun r => (∀ c : Dev Cert.DgGateIdeal.nD,
      r.2.mem ((c.tc : Thread Cert.DgGateIdeal.nD Cert.DgGateIdeal.τ).loc Cert.DgGateIdeal.main_arg0) = m ((c.tc : Thread Cert.DgGateIdeal.nD Cert.DgGateIdeal.τ).loc Cert.DgGateIdeal.main_arg0)
      ∧ r.2.mem ((c.tc : Thread Cert.DgGateIdeal.nD Cert.DgGateIdeal.τ).loc Cert.DgGateIdeal.main_arg1) = m ((c.tc : Thread Cert.DgGateIdeal.nD Cert.DgGateIdeal.τ).loc Cert.DgGateIdeal.main_arg1)
      ∧ r.2.mem ((c.tc : Thread Cert.DgGateIdeal.nD Cert.DgGateIdeal.τ).loc Cert.DgGateIdeal.main_arg2) = m ((c.tc : Thread Cert.DgGateIdeal.nD Cert.DgGateIdeal.τ).loc Cert.DgGateIdeal.main_arg2))
      ∧ r.2.sem = fun _ => 0)

def quiescent_DgGateRefIdeal [hDgGateRefIdeal : Cert.DgGateRefIdeal.Facts] : Prop :=
  ∀ (m : (ℓ : Loc Cert.DgGateRefIdeal.nD Cert.DgGateRefIdeal.τ Cert.DgGateRefIdeal.sig) → Buf (Elt Ideal) ℓ) (g : Dev Cert.DgGateRefIdeal.nD → PrngReg), Pre_DgGateRefIdeal m →
    θ_run (Cert.DgGateRefIdeal.defs (F := Ideal)) (onTc (τ := Cert.DgGateRefIdeal.τ) (Cert.DgGateRefIdeal.main (F := Ideal))) ⟨m, fun _ => 0, g⟩ (fun r => (∀ c : Dev Cert.DgGateRefIdeal.nD,
      r.2.mem ((c.tc : Thread Cert.DgGateRefIdeal.nD Cert.DgGateRefIdeal.τ).loc Cert.DgGateRefIdeal.main_arg0) = m ((c.tc : Thread Cert.DgGateRefIdeal.nD Cert.DgGateRefIdeal.τ).loc Cert.DgGateRefIdeal.main_arg0)
      ∧ r.2.mem ((c.tc : Thread Cert.DgGateRefIdeal.nD Cert.DgGateRefIdeal.τ).loc Cert.DgGateRefIdeal.main_arg1) = m ((c.tc : Thread Cert.DgGateRefIdeal.nD Cert.DgGateRefIdeal.τ).loc Cert.DgGateRefIdeal.main_arg1)
      ∧ r.2.mem ((c.tc : Thread Cert.DgGateRefIdeal.nD Cert.DgGateRefIdeal.τ).loc Cert.DgGateRefIdeal.main_arg2) = m ((c.tc : Thread Cert.DgGateRefIdeal.nD Cert.DgGateRefIdeal.τ).loc Cert.DgGateRefIdeal.main_arg2))
      ∧ r.2.sem = fun _ => 0)

def quiescent_WgProj [hWgProj : Cert.WgProj.Facts] : Prop :=
  ∀ (m : (ℓ : Loc Cert.WgProj.nD Cert.WgProj.τ Cert.WgProj.sig) → Buf (Elt Bits) ℓ) (g : Dev Cert.WgProj.nD → PrngReg), Pre_WgProj m →
    θ_run (Cert.WgProj.defs (F := Bits)) (onTc (τ := Cert.WgProj.τ) (Cert.WgProj.main (F := Bits))) ⟨m, fun _ => 0, g⟩ (fun r => (∀ c : Dev Cert.WgProj.nD,
      r.2.mem ((c.tc : Thread Cert.WgProj.nD Cert.WgProj.τ).loc Cert.WgProj.main_arg0) = m ((c.tc : Thread Cert.WgProj.nD Cert.WgProj.τ).loc Cert.WgProj.main_arg0)
      ∧ r.2.mem ((c.tc : Thread Cert.WgProj.nD Cert.WgProj.τ).loc Cert.WgProj.main_arg1) = m ((c.tc : Thread Cert.WgProj.nD Cert.WgProj.τ).loc Cert.WgProj.main_arg1))
      ∧ r.2.sem = fun _ => 0)

def quiescent_WgProjIdeal [hWgProjIdeal : Cert.WgProjIdeal.Facts] : Prop :=
  ∀ (m : (ℓ : Loc Cert.WgProjIdeal.nD Cert.WgProjIdeal.τ Cert.WgProjIdeal.sig) → Buf (Elt Ideal) ℓ) (g : Dev Cert.WgProjIdeal.nD → PrngReg), Pre_WgProjIdeal m →
    θ_run (Cert.WgProjIdeal.defs (F := Ideal)) (onTc (τ := Cert.WgProjIdeal.τ) (Cert.WgProjIdeal.main (F := Ideal))) ⟨m, fun _ => 0, g⟩ (fun r => (∀ c : Dev Cert.WgProjIdeal.nD,
      r.2.mem ((c.tc : Thread Cert.WgProjIdeal.nD Cert.WgProjIdeal.τ).loc Cert.WgProjIdeal.main_arg0) = m ((c.tc : Thread Cert.WgProjIdeal.nD Cert.WgProjIdeal.τ).loc Cert.WgProjIdeal.main_arg0)
      ∧ r.2.mem ((c.tc : Thread Cert.WgProjIdeal.nD Cert.WgProjIdeal.τ).loc Cert.WgProjIdeal.main_arg1) = m ((c.tc : Thread Cert.WgProjIdeal.nD Cert.WgProjIdeal.τ).loc Cert.WgProjIdeal.main_arg1))
      ∧ r.2.sem = fun _ => 0)

def quiescent_WgProjRefIdeal [hWgProjRefIdeal : Cert.WgProjRefIdeal.Facts] : Prop :=
  ∀ (m : (ℓ : Loc Cert.WgProjRefIdeal.nD Cert.WgProjRefIdeal.τ Cert.WgProjRefIdeal.sig) → Buf (Elt Ideal) ℓ) (g : Dev Cert.WgProjRefIdeal.nD → PrngReg), Pre_WgProjRefIdeal m →
    θ_run (Cert.WgProjRefIdeal.defs (F := Ideal)) (onTc (τ := Cert.WgProjRefIdeal.τ) (Cert.WgProjRefIdeal.main (F := Ideal))) ⟨m, fun _ => 0, g⟩ (fun r => (∀ c : Dev Cert.WgProjRefIdeal.nD,
      r.2.mem ((c.tc : Thread Cert.WgProjRefIdeal.nD Cert.WgProjRefIdeal.τ).loc Cert.WgProjRefIdeal.main_arg0) = m ((c.tc : Thread Cert.WgProjRefIdeal.nD Cert.WgProjRefIdeal.τ).loc Cert.WgProjRefIdeal.main_arg0)
      ∧ r.2.mem ((c.tc : Thread Cert.WgProjRefIdeal.nD Cert.WgProjRefIdeal.τ).loc Cert.WgProjRefIdeal.main_arg1) = m ((c.tc : Thread Cert.WgProjRefIdeal.nD Cert.WgProjRefIdeal.τ).loc Cert.WgProjRefIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ r.2.sem = fun _ => 0)

def quiescent_MmGateRefIdeal [hMmGateRefIdeal : Cert.MmGateRefIdeal.Facts] : Prop :=
  ∀ (m : (ℓ : Loc Cert.MmGateRefIdeal.nD Cert.MmGateRefIdeal.τ Cert.MmGateRefIdeal.sig) → Buf (Elt Ideal) ℓ) (g : Dev Cert.MmGateRefIdeal.nD → PrngReg), Pre_MmGateRefIdeal m →
    θ_run (Cert.MmGateRefIdeal.defs (F := Ideal)) (onTc (τ := Cert.MmGateRefIdeal.τ) (Cert.MmGateRefIdeal.main (F := Ideal))) ⟨m, fun _ => 0, g⟩ (fun r => (∀ c : Dev Cert.MmGateRefIdeal.nD,
      r.2.mem ((c.tc : Thread Cert.MmGateRefIdeal.nD Cert.MmGateRefIdeal.τ).loc Cert.MmGateRefIdeal.main_arg0) = m ((c.tc : Thread Cert.MmGateRefIdeal.nD Cert.MmGateRefIdeal.τ).loc Cert.MmGateRefIdeal.main_arg0)
      ∧ r.2.mem ((c.tc : Thread Cert.MmGateRefIdeal.nD Cert.MmGateRefIdeal.τ).loc Cert.MmGateRefIdeal.main_arg1) = m ((c.tc : Thread Cert.MmGateRefIdeal.nD Cert.MmGateRefIdeal.τ).loc Cert.MmGateRefIdeal.main_arg1))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ r.2.sem = fun _ => 0)

def quiescent_Ln2Ideal_pre_ln2_cotangent_finite [hLn2Ideal : Cert.Ln2Ideal.Facts] [hPre_ln2_cotangent_finite : Cert.Pre_ln2_cotangent_finite.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal_ln2_cotangent_finite m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5))
      ∧ r.2.sem = fun _ => 0)

def quiescent_Ln2RefIdeal_pre_ln2_cotangent_finite [hLn2RefIdeal : Cert.Ln2RefIdeal.Facts] [hPre_ln2_cotangent_finite : Cert.Pre_ln2_cotangent_finite.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_ln2_cotangent_finite m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3))
      ∧ r.2.sem = fun _ => 0)

def quiescent_Ln1Ideal_pre_ln1_cotangent_finite [hLn1Ideal : Cert.Ln1Ideal.Facts] [hPre_ln1_cotangent_finite : Cert.Pre_ln1_cotangent_finite.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal_ln1_cotangent_finite m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3))
      ∧ r.2.sem = fun _ => 0)

def quiescent_Ln1RefIdeal_pre_ln1_cotangent_finite [hLn1RefIdeal : Cert.Ln1RefIdeal.Facts] [hPre_ln1_cotangent_finite : Cert.Pre_ln1_cotangent_finite.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal_ln1_cotangent_finite m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3))
      ∧ r.2.sem = fun _ => 0)

def quiescent_OutLn1 [hOutLn1 : Cert.OutLn1.Facts] : Prop :=
  ∀ (m : (ℓ : Loc Cert.OutLn1.nD Cert.OutLn1.τ Cert.OutLn1.sig) → Buf (Elt Bits) ℓ) (g : Dev Cert.OutLn1.nD → PrngReg), Pre_OutLn1 m →
    θ_run (Cert.OutLn1.defs (F := Bits)) (onTc (τ := Cert.OutLn1.τ) (Cert.OutLn1.main (F := Bits))) ⟨m, fun _ => 0, g⟩ (fun r => (∀ c : Dev Cert.OutLn1.nD,
      r.2.mem ((c.tc : Thread Cert.OutLn1.nD Cert.OutLn1.τ).loc Cert.OutLn1.main_arg0) = m ((c.tc : Thread Cert.OutLn1.nD Cert.OutLn1.τ).loc Cert.OutLn1.main_arg0)
      ∧ r.2.mem ((c.tc : Thread Cert.OutLn1.nD Cert.OutLn1.τ).loc Cert.OutLn1.main_arg1) = m ((c.tc : Thread Cert.OutLn1.nD Cert.OutLn1.τ).loc Cert.OutLn1.main_arg1)
      ∧ r.2.mem ((c.tc : Thread Cert.OutLn1.nD Cert.OutLn1.τ).loc Cert.OutLn1.main_arg2) = m ((c.tc : Thread Cert.OutLn1.nD Cert.OutLn1.τ).loc Cert.OutLn1.main_arg2)
      ∧ r.2.mem ((c.tc : Thread Cert.OutLn1.nD Cert.OutLn1.τ).loc Cert.OutLn1.main_arg3) = m ((c.tc : Thread Cert.OutLn1.nD Cert.OutLn1.τ).loc Cert.OutLn1.main_arg3)
      ∧ r.2.mem ((c.tc : Thread Cert.OutLn1.nD Cert.OutLn1.τ).loc Cert.OutLn1.main_arg4) = m ((c.tc : Thread Cert.OutLn1.nD Cert.OutLn1.τ).loc Cert.OutLn1.main_arg4))
      ∧ r.2.sem = fun _ => 0)

def quiescent_OutLn1Ideal [hOutLn1Ideal : Cert.OutLn1Ideal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg), Pre_OutLn1Ideal m →
    θ_run (Cert.OutLn1Ideal.defs (F := Ideal)) (onTc (τ := Cert.OutLn1Ideal.τ) (Cert.OutLn1Ideal.main (F := Ideal))) ⟨m, fun _ => 0, g⟩ (fun r => (∀ c : Dev Cert.OutLn1Ideal.nD,
      r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
      ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
      ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
      ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
      ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4))
      ∧ r.2.sem = fun _ => 0)

def quiescent_OutLn1RefIdeal [hOutLn1RefIdeal : Cert.OutLn1RefIdeal.Facts] : Prop :=
  ∀ (m : (ℓ : Loc Cert.OutLn1RefIdeal.nD Cert.OutLn1RefIdeal.τ Cert.OutLn1RefIdeal.sig) → Buf (Elt Ideal) ℓ) (g : Dev Cert.OutLn1RefIdeal.nD → PrngReg), Pre_OutLn1RefIdeal m →
    θ_run (Cert.OutLn1RefIdeal.defs (F := Ideal)) (onTc (τ := Cert.OutLn1RefIdeal.τ) (Cert.OutLn1RefIdeal.main (F := Ideal))) ⟨m, fun _ => 0, g⟩ (fun r => (∀ c : Dev Cert.OutLn1RefIdeal.nD,
      r.2.mem ((c.tc : Thread Cert.OutLn1RefIdeal.nD Cert.OutLn1RefIdeal.τ).loc Cert.OutLn1RefIdeal.main_arg0) = m ((c.tc : Thread Cert.OutLn1RefIdeal.nD Cert.OutLn1RefIdeal.τ).loc Cert.OutLn1RefIdeal.main_arg0)
      ∧ r.2.mem ((c.tc : Thread Cert.OutLn1RefIdeal.nD Cert.OutLn1RefIdeal.τ).loc Cert.OutLn1RefIdeal.main_arg1) = m ((c.tc : Thread Cert.OutLn1RefIdeal.nD Cert.OutLn1RefIdeal.τ).loc Cert.OutLn1RefIdeal.main_arg1)
      ∧ r.2.mem ((c.tc : Thread Cert.OutLn1RefIdeal.nD Cert.OutLn1RefIdeal.τ).loc Cert.OutLn1RefIdeal.main_arg2) = m ((c.tc : Thread Cert.OutLn1RefIdeal.nD Cert.OutLn1RefIdeal.τ).loc Cert.OutLn1RefIdeal.main_arg2)
      ∧ r.2.mem ((c.tc : Thread Cert.OutLn1RefIdeal.nD Cert.OutLn1RefIdeal.τ).loc Cert.OutLn1RefIdeal.main_arg3) = m ((c.tc : Thread Cert.OutLn1RefIdeal.nD Cert.OutLn1RefIdeal.τ).loc Cert.OutLn1RefIdeal.main_arg3)
      ∧ r.2.mem ((c.tc : Thread Cert.OutLn1RefIdeal.nD Cert.OutLn1RefIdeal.τ).loc Cert.OutLn1RefIdeal.main_arg4) = m ((c.tc : Thread Cert.OutLn1RefIdeal.nD Cert.OutLn1RefIdeal.τ).loc Cert.OutLn1RefIdeal.main_arg4))
      ∧ r.2.sem = fun _ => 0)

def quiescent_DownLn2 [hDownLn2 : Cert.DownLn2.Facts] : Prop :=
  ∀ (m : (ℓ : Loc Cert.DownLn2.nD Cert.DownLn2.τ Cert.DownLn2.sig) → Buf (Elt Bits) ℓ) (g : Dev Cert.DownLn2.nD → PrngReg), Pre_DownLn2 m →
    θ_run (Cert.DownLn2.defs (F := Bits)) (onTc (τ := Cert.DownLn2.τ) (Cert.DownLn2.main (F := Bits))) ⟨m, fun _ => 0, g⟩ (fun r => (∀ c : Dev Cert.DownLn2.nD,
      r.2.mem ((c.tc : Thread Cert.DownLn2.nD Cert.DownLn2.τ).loc Cert.DownLn2.main_arg0) = m ((c.tc : Thread Cert.DownLn2.nD Cert.DownLn2.τ).loc Cert.DownLn2.main_arg0)
      ∧ r.2.mem ((c.tc : Thread Cert.DownLn2.nD Cert.DownLn2.τ).loc Cert.DownLn2.main_arg1) = m ((c.tc : Thread Cert.DownLn2.nD Cert.DownLn2.τ).loc Cert.DownLn2.main_arg1)
      ∧ r.2.mem ((c.tc : Thread Cert.DownLn2.nD Cert.DownLn2.τ).loc Cert.DownLn2.main_arg2) = m ((c.tc : Thread Cert.DownLn2.nD Cert.DownLn2.τ).loc Cert.DownLn2.main_arg2)
      ∧ r.2.mem ((c.tc : Thread Cert.DownLn2.nD Cert.DownLn2.τ).loc Cert.DownLn2.main_arg3) = m ((c.tc : Thread Cert.DownLn2.nD Cert.DownLn2.τ).loc Cert.DownLn2.main_arg3)
      ∧ r.2.mem ((c.tc : Thread Cert.DownLn2.nD Cert.DownLn2.τ).loc Cert.DownLn2.main_arg4) = m ((c.tc : Thread Cert.DownLn2.nD Cert.DownLn2.τ).loc Cert.DownLn2.main_arg4)
      ∧ r.2.mem ((c.tc : Thread Cert.DownLn2.nD Cert.DownLn2.τ).loc Cert.DownLn2.main_arg5) = m ((c.tc : Thread Cert.DownLn2.nD Cert.DownLn2.τ).loc Cert.DownLn2.main_arg5)
      ∧ r.2.mem ((c.tc : Thread Cert.DownLn2.nD Cert.DownLn2.τ).loc Cert.DownLn2.main_arg6) = m ((c.tc : Thread Cert.DownLn2.nD Cert.DownLn2.τ).loc Cert.DownLn2.main_arg6))
      ∧ r.2.sem = fun _ => 0)

def quiescent_DownLn2Ideal [hDownLn2Ideal : Cert.DownLn2Ideal.Facts] : Prop :=
  ∀ (m : (ℓ : Loc Cert.DownLn2Ideal.nD Cert.DownLn2Ideal.τ Cert.DownLn2Ideal.sig) → Buf (Elt Ideal) ℓ) (g : Dev Cert.DownLn2Ideal.nD → PrngReg), Pre_DownLn2Ideal m →
    θ_run (Cert.DownLn2Ideal.defs (F := Ideal)) (onTc (τ := Cert.DownLn2Ideal.τ) (Cert.DownLn2Ideal.main (F := Ideal))) ⟨m, fun _ => 0, g⟩ (fun r => (∀ c : Dev Cert.DownLn2Ideal.nD,
      r.2.mem ((c.tc : Thread Cert.DownLn2Ideal.nD Cert.DownLn2Ideal.τ).loc Cert.DownLn2Ideal.main_arg0) = m ((c.tc : Thread Cert.DownLn2Ideal.nD Cert.DownLn2Ideal.τ).loc Cert.DownLn2Ideal.main_arg0)
      ∧ r.2.mem ((c.tc : Thread Cert.DownLn2Ideal.nD Cert.DownLn2Ideal.τ).loc Cert.DownLn2Ideal.main_arg1) = m ((c.tc : Thread Cert.DownLn2Ideal.nD Cert.DownLn2Ideal.τ).loc Cert.DownLn2Ideal.main_arg1)
      ∧ r.2.mem ((c.tc : Thread Cert.DownLn2Ideal.nD Cert.DownLn2Ideal.τ).loc Cert.DownLn2Ideal.main_arg2) = m ((c.tc : Thread Cert.DownLn2Ideal.nD Cert.DownLn2Ideal.τ).loc Cert.DownLn2Ideal.main_arg2)
      ∧ r.2.mem ((c.tc : Thread Cert.DownLn2Ideal.nD Cert.DownLn2Ideal.τ).loc Cert.DownLn2Ideal.main_arg3) = m ((c.tc : Thread Cert.DownLn2Ideal.nD Cert.DownLn2Ideal.τ).loc Cert.DownLn2Ideal.main_arg3)
      ∧ r.2.mem ((c.tc : Thread Cert.DownLn2Ideal.nD Cert.DownLn2Ideal.τ).loc Cert.DownLn2Ideal.main_arg4) = m ((c.tc : Thread Cert.DownLn2Ideal.nD Cert.DownLn2Ideal.τ).loc Cert.DownLn2Ideal.main_arg4)
      ∧ r.2.mem ((c.tc : Thread Cert.DownLn2Ideal.nD Cert.DownLn2Ideal.τ).loc Cert.DownLn2Ideal.main_arg5) = m ((c.tc : Thread Cert.DownLn2Ideal.nD Cert.DownLn2Ideal.τ).loc Cert.DownLn2Ideal.main_arg5)
      ∧ r.2.mem ((c.tc : Thread Cert.DownLn2Ideal.nD Cert.DownLn2Ideal.τ).loc Cert.DownLn2Ideal.main_arg6) = m ((c.tc : Thread Cert.DownLn2Ideal.nD Cert.DownLn2Ideal.τ).loc Cert.DownLn2Ideal.main_arg6))
      ∧ r.2.sem = fun _ => 0)

def quiescent_DownLn2RefIdeal [hDownLn2RefIdeal : Cert.DownLn2RefIdeal.Facts] : Prop :=
  ∀ (m : (ℓ : Loc Cert.DownLn2RefIdeal.nD Cert.DownLn2RefIdeal.τ Cert.DownLn2RefIdeal.sig) → Buf (Elt Ideal) ℓ) (g : Dev Cert.DownLn2RefIdeal.nD → PrngReg), Pre_DownLn2RefIdeal m →
    θ_run (Cert.DownLn2RefIdeal.defs (F := Ideal)) (onTc (τ := Cert.DownLn2RefIdeal.τ) (Cert.DownLn2RefIdeal.main (F := Ideal))) ⟨m, fun _ => 0, g⟩ (fun r => (∀ c : Dev Cert.DownLn2RefIdeal.nD,
      r.2.mem ((c.tc : Thread Cert.DownLn2RefIdeal.nD Cert.DownLn2RefIdeal.τ).loc Cert.DownLn2RefIdeal.main_arg0) = m ((c.tc : Thread Cert.DownLn2RefIdeal.nD Cert.DownLn2RefIdeal.τ).loc Cert.DownLn2RefIdeal.main_arg0)
      ∧ r.2.mem ((c.tc : Thread Cert.DownLn2RefIdeal.nD Cert.DownLn2RefIdeal.τ).loc Cert.DownLn2RefIdeal.main_arg1) = m ((c.tc : Thread Cert.DownLn2RefIdeal.nD Cert.DownLn2RefIdeal.τ).loc Cert.DownLn2RefIdeal.main_arg1)
      ∧ r.2.mem ((c.tc : Thread Cert.DownLn2RefIdeal.nD Cert.DownLn2RefIdeal.τ).loc Cert.DownLn2RefIdeal.main_arg2) = m ((c.tc : Thread Cert.DownLn2RefIdeal.nD Cert.DownLn2RefIdeal.τ).loc Cert.DownLn2RefIdeal.main_arg2)
      ∧ r.2.mem ((c.tc : Thread Cert.DownLn2RefIdeal.nD Cert.DownLn2RefIdeal.τ).loc Cert.DownLn2RefIdeal.main_arg3) = m ((c.tc : Thread Cert.DownLn2RefIdeal.nD Cert.DownLn2RefIdeal.τ).loc Cert.DownLn2RefIdeal.main_arg3)
      ∧ r.2.mem ((c.tc : Thread Cert.DownLn2RefIdeal.nD Cert.DownLn2RefIdeal.τ).loc Cert.DownLn2RefIdeal.main_arg4) = m ((c.tc : Thread Cert.DownLn2RefIdeal.nD Cert.DownLn2RefIdeal.τ).loc Cert.DownLn2RefIdeal.main_arg4)
      ∧ r.2.mem ((c.tc : Thread Cert.DownLn2RefIdeal.nD Cert.DownLn2RefIdeal.τ).loc Cert.DownLn2RefIdeal.main_arg5) = m ((c.tc : Thread Cert.DownLn2RefIdeal.nD Cert.DownLn2RefIdeal.τ).loc Cert.DownLn2RefIdeal.main_arg5)
      ∧ r.2.mem ((c.tc : Thread Cert.DownLn2RefIdeal.nD Cert.DownLn2RefIdeal.τ).loc Cert.DownLn2RefIdeal.main_arg6) = m ((c.tc : Thread Cert.DownLn2RefIdeal.nD Cert.DownLn2RefIdeal.τ).loc Cert.DownLn2RefIdeal.main_arg6))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4)
      ∧ r.2.mem ((c.tc : Thread Cert.DownLoss.nD Cert.DownLoss.τ).loc Cert.DownLoss.main_arg5) = m ((c.tc : Thread Cert.DownLoss.nD Cert.DownLoss.τ).loc Cert.DownLoss.main_arg5)
      ∧ r.2.mem ((c.tc : Thread Cert.DownLoss.nD Cert.DownLoss.τ).loc Cert.DownLoss.main_arg6) = m ((c.tc : Thread Cert.DownLoss.nD Cert.DownLoss.τ).loc Cert.DownLoss.main_arg6)
      ∧ r.2.mem ((c.tc : Thread Cert.DownLoss.nD Cert.DownLoss.τ).loc Cert.DownLoss.main_arg7) = m ((c.tc : Thread Cert.DownLoss.nD Cert.DownLoss.τ).loc Cert.DownLoss.main_arg7))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
      ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5)
      ∧ r.2.mem ((c.tc : Thread Cert.DownLossIdeal.nD Cert.DownLossIdeal.τ).loc Cert.DownLossIdeal.main_arg6) = m ((c.tc : Thread Cert.DownLossIdeal.nD Cert.DownLossIdeal.τ).loc Cert.DownLossIdeal.main_arg6)
      ∧ r.2.mem ((c.tc : Thread Cert.DownLossIdeal.nD Cert.DownLossIdeal.τ).loc Cert.DownLossIdeal.main_arg7) = m ((c.tc : Thread Cert.DownLossIdeal.nD Cert.DownLossIdeal.τ).loc Cert.DownLossIdeal.main_arg7))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4)
      ∧ r.2.mem ((c.tc : Thread Cert.DownLossRefIdeal.nD Cert.DownLossRefIdeal.τ).loc Cert.DownLossRefIdeal.main_arg5) = m ((c.tc : Thread Cert.DownLossRefIdeal.nD Cert.DownLossRefIdeal.τ).loc Cert.DownLossRefIdeal.main_arg5)
      ∧ r.2.mem ((c.tc : Thread Cert.DownLossRefIdeal.nD Cert.DownLossRefIdeal.τ).loc Cert.DownLossRefIdeal.main_arg6) = m ((c.tc : Thread Cert.DownLossRefIdeal.nD Cert.DownLossRefIdeal.τ).loc Cert.DownLossRefIdeal.main_arg6)
      ∧ r.2.mem ((c.tc : Thread Cert.DownLossRefIdeal.nD Cert.DownLossRefIdeal.τ).loc Cert.DownLossRefIdeal.main_arg7) = m ((c.tc : Thread Cert.DownLossRefIdeal.nD Cert.DownLossRefIdeal.τ).loc Cert.DownLossRefIdeal.main_arg7))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluIdeal_pre_glu_cotangent_finite [hGluIdeal : Cert.GluIdeal.Facts] [hPre_glu_cotangent_finite : Cert.Pre_glu_cotangent_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_cotangent_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluRefIdeal_pre_glu_cotangent_finite [hGluRefIdeal : Cert.GluRefIdeal.Facts] [hPre_glu_cotangent_finite : Cert.Pre_glu_cotangent_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_cotangent_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2)
      ∧ r.2.mem ((c.tc : Thread Cert.SumOut.nD Cert.SumOut.τ).loc Cert.SumOut.main_arg3) = m ((c.tc : Thread Cert.SumOut.nD Cert.SumOut.τ).loc Cert.SumOut.main_arg3))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
      ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2)
      ∧ r.2.mem ((c.tc : Thread Cert.SumOutRefIdeal.nD Cert.SumOutRefIdeal.τ).loc Cert.SumOutRefIdeal.main_arg3) = m ((c.tc : Thread Cert.SumOutRefIdeal.nD Cert.SumOutRefIdeal.τ).loc Cert.SumOutRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2)
      ∧ r.2.mem ((c.tc : Thread Cert.SumIn.nD Cert.SumIn.τ).loc Cert.SumIn.main_arg3) = m ((c.tc : Thread Cert.SumIn.nD Cert.SumIn.τ).loc Cert.SumIn.main_arg3))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
      ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2)
      ∧ r.2.mem ((c.tc : Thread Cert.SumInRefIdeal.nD Cert.SumInRefIdeal.τ).loc Cert.SumInRefIdeal.main_arg3) = m ((c.tc : Thread Cert.SumInRefIdeal.nD Cert.SumInRefIdeal.τ).loc Cert.SumInRefIdeal.main_arg3))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1)
      ∧ r.2.mem ((c.tc : Thread Cert.SumUp.nD Cert.SumUp.τ).loc Cert.SumUp.main_arg2) = m ((c.tc : Thread Cert.SumUp.nD Cert.SumUp.τ).loc Cert.SumUp.main_arg2)
      ∧ r.2.mem ((c.tc : Thread Cert.SumUp.nD Cert.SumUp.τ).loc Cert.SumUp.main_arg3) = m ((c.tc : Thread Cert.SumUp.nD Cert.SumUp.τ).loc Cert.SumUp.main_arg3))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
      ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
      ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2)
      ∧ r.2.mem ((c.tc : Thread Cert.SumUpRefIdeal.nD Cert.SumUpRefIdeal.τ).loc Cert.SumUpRefIdeal.main_arg3) = m ((c.tc : Thread Cert.SumUpRefIdeal.nD Cert.SumUpRefIdeal.τ).loc Cert.SumUpRefIdeal.main_arg3))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1)
      ∧ r.2.mem ((c.tc : Thread Cert.SumDown.nD Cert.SumDown.τ).loc Cert.SumDown.main_arg2) = m ((c.tc : Thread Cert.SumDown.nD Cert.SumDown.τ).loc Cert.SumDown.main_arg2)
      ∧ r.2.mem ((c.tc : Thread Cert.SumDown.nD Cert.SumDown.τ).loc Cert.SumDown.main_arg3) = m ((c.tc : Thread Cert.SumDown.nD Cert.SumDown.τ).loc Cert.SumDown.main_arg3))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1)
      ∧ r.2.mem ((c.tc : Thread Cert.SumDownIdeal.nD Cert.SumDownIdeal.τ).loc Cert.SumDownIdeal.main_arg2) = m ((c.tc : Thread Cert.SumDownIdeal.nD Cert.SumDownIdeal.τ).loc Cert.SumDownIdeal.main_arg2)
      ∧ r.2.mem ((c.tc : Thread Cert.SumDownIdeal.nD Cert.SumDownIdeal.τ).loc Cert.SumDownIdeal.main_arg3) = m ((c.tc : Thread Cert.SumDownIdeal.nD Cert.SumDownIdeal.τ).loc Cert.SumDownIdeal.main_arg3))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1)
      ∧ r.2.mem ((c.tc : Thread Cert.SumDownRefIdeal.nD Cert.SumDownRefIdeal.τ).loc Cert.SumDownRefIdeal.main_arg2) = m ((c.tc : Thread Cert.SumDownRefIdeal.nD Cert.SumDownRefIdeal.τ).loc Cert.SumDownRefIdeal.main_arg2)
      ∧ r.2.mem ((c.tc : Thread Cert.SumDownRefIdeal.nD Cert.SumDownRefIdeal.τ).loc Cert.SumDownRefIdeal.main_arg3) = m ((c.tc : Thread Cert.SumDownRefIdeal.nD Cert.SumDownRefIdeal.τ).loc Cert.SumDownRefIdeal.main_arg3))
      ∧ r.2.sem = fun _ => 0)

def quiescent_SumProj [hSumProj : Cert.SumProj.Facts] : Prop :=
  ∀ (m : (ℓ : Loc Cert.SumProj.nD Cert.SumProj.τ Cert.SumProj.sig) → Buf (Elt Bits) ℓ) (g : Dev Cert.SumProj.nD → PrngReg), Pre_SumProj m →
    θ_run (Cert.SumProj.defs (F := Bits)) (onTc (τ := Cert.SumProj.τ) (Cert.SumProj.main (F := Bits))) ⟨m, fun _ => 0, g⟩ (fun r => (∀ c : Dev Cert.SumProj.nD,
      r.2.mem ((c.tc : Thread Cert.SumProj.nD Cert.SumProj.τ).loc Cert.SumProj.main_arg0) = m ((c.tc : Thread Cert.SumProj.nD Cert.SumProj.τ).loc Cert.SumProj.main_arg0)
      ∧ r.2.mem ((c.tc : Thread Cert.SumProj.nD Cert.SumProj.τ).loc Cert.SumProj.main_arg1) = m ((c.tc : Thread Cert.SumProj.nD Cert.SumProj.τ).loc Cert.SumProj.main_arg1)
      ∧ r.2.mem ((c.tc : Thread Cert.SumProj.nD Cert.SumProj.τ).loc Cert.SumProj.main_arg2) = m ((c.tc : Thread Cert.SumProj.nD Cert.SumProj.τ).loc Cert.SumProj.main_arg2)
      ∧ r.2.mem ((c.tc : Thread Cert.SumProj.nD Cert.SumProj.τ).loc Cert.SumProj.main_arg3) = m ((c.tc : Thread Cert.SumProj.nD Cert.SumProj.τ).loc Cert.SumProj.main_arg3))
      ∧ r.2.sem = fun _ => 0)

def quiescent_SumProjIdeal [hSumProjIdeal : Cert.SumProjIdeal.Facts] : Prop :=
  ∀ (m : (ℓ : Loc Cert.SumProjIdeal.nD Cert.SumProjIdeal.τ Cert.SumProjIdeal.sig) → Buf (Elt Ideal) ℓ) (g : Dev Cert.SumProjIdeal.nD → PrngReg), Pre_SumProjIdeal m →
    θ_run (Cert.SumProjIdeal.defs (F := Ideal)) (onTc (τ := Cert.SumProjIdeal.τ) (Cert.SumProjIdeal.main (F := Ideal))) ⟨m, fun _ => 0, g⟩ (fun r => (∀ c : Dev Cert.SumProjIdeal.nD,
      r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
      ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1)
      ∧ r.2.mem ((c.tc : Thread Cert.SumProjIdeal.nD Cert.SumProjIdeal.τ).loc Cert.SumProjIdeal.main_arg2) = m ((c.tc : Thread Cert.SumProjIdeal.nD Cert.SumProjIdeal.τ).loc Cert.SumProjIdeal.main_arg2)
      ∧ r.2.mem ((c.tc : Thread Cert.SumProjIdeal.nD Cert.SumProjIdeal.τ).loc Cert.SumProjIdeal.main_arg3) = m ((c.tc : Thread Cert.SumProjIdeal.nD Cert.SumProjIdeal.τ).loc Cert.SumProjIdeal.main_arg3))
      ∧ r.2.sem = fun _ => 0)

def quiescent_SumProjRefIdeal [hSumProjRefIdeal : Cert.SumProjRefIdeal.Facts] : Prop :=
  ∀ (m : (ℓ : Loc Cert.SumProjRefIdeal.nD Cert.SumProjRefIdeal.τ Cert.SumProjRefIdeal.sig) → Buf (Elt Ideal) ℓ) (g : Dev Cert.SumProjRefIdeal.nD → PrngReg), Pre_SumProjRefIdeal m →
    θ_run (Cert.SumProjRefIdeal.defs (F := Ideal)) (onTc (τ := Cert.SumProjRefIdeal.τ) (Cert.SumProjRefIdeal.main (F := Ideal))) ⟨m, fun _ => 0, g⟩ (fun r => (∀ c : Dev Cert.SumProjRefIdeal.nD,
      r.2.mem ((c.tc : Thread Cert.SumProjRefIdeal.nD Cert.SumProjRefIdeal.τ).loc Cert.SumProjRefIdeal.main_arg0) = m ((c.tc : Thread Cert.SumProjRefIdeal.nD Cert.SumProjRefIdeal.τ).loc Cert.SumProjRefIdeal.main_arg0)
      ∧ r.2.mem ((c.tc : Thread Cert.SumProjRefIdeal.nD Cert.SumProjRefIdeal.τ).loc Cert.SumProjRefIdeal.main_arg1) = m ((c.tc : Thread Cert.SumProjRefIdeal.nD Cert.SumProjRefIdeal.τ).loc Cert.SumProjRefIdeal.main_arg1)
      ∧ r.2.mem ((c.tc : Thread Cert.SumProjRefIdeal.nD Cert.SumProjRefIdeal.τ).loc Cert.SumProjRefIdeal.main_arg2) = m ((c.tc : Thread Cert.SumProjRefIdeal.nD Cert.SumProjRefIdeal.τ).loc Cert.SumProjRefIdeal.main_arg2)
      ∧ r.2.mem ((c.tc : Thread Cert.SumProjRefIdeal.nD Cert.SumProjRefIdeal.τ).loc Cert.SumProjRefIdeal.main_arg3) = m ((c.tc : Thread Cert.SumProjRefIdeal.nD Cert.SumProjRefIdeal.τ).loc Cert.SumProjRefIdeal.main_arg3))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6))
      ∧ r.2.sem = fun _ => 0)

def preserves_WgUp_WgUpIdeal : Prop :=
  True

def algebraic_WgUpIdeal_WgUpRefIdeal [hWgUpIdeal : Cert.WgUpIdeal.Facts] [hWgUpRefIdeal : Cert.WgUpRefIdeal.Facts] : Prop :=
  ∀ (m : (ℓ : Loc Cert.WgUpIdeal.nD Cert.WgUpIdeal.τ Cert.WgUpIdeal.sig) → Buf (Elt Ideal) ℓ) (g : Dev Cert.WgUpIdeal.nD → PrngReg)
    (m' : (ℓ : Loc Cert.WgUpRefIdeal.nD Cert.WgUpRefIdeal.τ Cert.WgUpRefIdeal.sig) → Buf (Elt Ideal) ℓ) (g' : Dev Cert.WgUpRefIdeal.nD → PrngReg), Pre_WgUpIdeal m →
    (∀ c : Dev Cert.WgUpIdeal.nD,
      m' ((c.tc : Thread Cert.WgUpRefIdeal.nD Cert.WgUpRefIdeal.τ).loc Cert.WgUpRefIdeal.main_arg0) = m ((c.tc : Thread Cert.WgUpIdeal.nD Cert.WgUpIdeal.τ).loc Cert.WgUpIdeal.main_arg0)
      ∧ m' ((c.tc : Thread Cert.WgUpRefIdeal.nD Cert.WgUpRefIdeal.τ).loc Cert.WgUpRefIdeal.main_arg1) = m ((c.tc : Thread Cert.WgUpIdeal.nD Cert.WgUpIdeal.τ).loc Cert.WgUpIdeal.main_arg1)) →
    ∃ (v0 : (c : Dev Cert.WgUpIdeal.nD) → Buf (Elt Ideal) ((c.tc : Thread Cert.WgUpIdeal.nD Cert.WgUpIdeal.τ).loc Cert.WgUpIdeal.main_v0)),
      θ_run (Cert.WgUpIdeal.defs (F := Ideal)) (onTc (τ := Cert.WgUpIdeal.τ) (Cert.WgUpIdeal.main (F := Ideal))) ⟨m, fun _ => 0, g⟩ (fun r => ∀ c : Dev Cert.WgUpIdeal.nD,
          r.2.mem ((c.tc : Thread Cert.WgUpIdeal.nD Cert.WgUpIdeal.τ).loc Cert.WgUpIdeal.main_v0) = v0 c
          ∧ r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
          ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ θ_run (Cert.WgUpRefIdeal.defs (F := Ideal)) (onTc (τ := Cert.WgUpRefIdeal.τ) (Cert.WgUpRefIdeal.main (F := Ideal))) ⟨m', fun _ => 0, g'⟩ (fun r => ∀ c : Dev Cert.WgUpRefIdeal.nD,
          r.2.mem ((c.tc : Thread Cert.WgUpRefIdeal.nD Cert.WgUpRefIdeal.τ).loc Cert.WgUpRefIdeal.main_v4) = v0 c
          ∧ r.2.mem ((c.tc : Thread Cert.WgUpRefIdeal.nD Cert.WgUpRefIdeal.τ).loc Cert.WgUpRefIdeal.main_arg0) = m' ((c.tc : Thread Cert.WgUpRefIdeal.nD Cert.WgUpRefIdeal.τ).loc Cert.WgUpRefIdeal.main_arg0)
          ∧ r.2.mem ((c.tc : Thread Cert.WgUpRefIdeal.nD Cert.WgUpRefIdeal.τ).loc Cert.WgUpRefIdeal.main_arg1) = m' ((c.tc : Thread Cert.WgUpRefIdeal.nD Cert.WgUpRefIdeal.τ).loc Cert.WgUpRefIdeal.main_arg1))

def preserves_DgUp_DgUpIdeal : Prop :=
  True

def algebraic_DgUpIdeal_DgUpRefIdeal [hDgUpIdeal : Cert.DgUpIdeal.Facts] [hDgUpRefIdeal : Cert.DgUpRefIdeal.Facts] : Prop :=
  ∀ (m : (ℓ : Loc Cert.DgUpIdeal.nD Cert.DgUpIdeal.τ Cert.DgUpIdeal.sig) → Buf (Elt Ideal) ℓ) (g : Dev Cert.DgUpIdeal.nD → PrngReg)
    (m' : (ℓ : Loc Cert.DgUpRefIdeal.nD Cert.DgUpRefIdeal.τ Cert.DgUpRefIdeal.sig) → Buf (Elt Ideal) ℓ) (g' : Dev Cert.DgUpRefIdeal.nD → PrngReg), Pre_DgUpIdeal m →
    (∀ c : Dev Cert.DgUpIdeal.nD,
      m' ((c.tc : Thread Cert.DgUpRefIdeal.nD Cert.DgUpRefIdeal.τ).loc Cert.DgUpRefIdeal.main_arg0) = m ((c.tc : Thread Cert.DgUpIdeal.nD Cert.DgUpIdeal.τ).loc Cert.DgUpIdeal.main_arg0)
      ∧ m' ((c.tc : Thread Cert.DgUpRefIdeal.nD Cert.DgUpRefIdeal.τ).loc Cert.DgUpRefIdeal.main_arg1) = m ((c.tc : Thread Cert.DgUpIdeal.nD Cert.DgUpIdeal.τ).loc Cert.DgUpIdeal.main_arg1)
      ∧ m' ((c.tc : Thread Cert.DgUpRefIdeal.nD Cert.DgUpRefIdeal.τ).loc Cert.DgUpRefIdeal.main_arg2) = m ((c.tc : Thread Cert.DgUpIdeal.nD Cert.DgUpIdeal.τ).loc Cert.DgUpIdeal.main_arg2)) →
    ∃ (v0 : (c : Dev Cert.DgUpIdeal.nD) → Buf (Elt Ideal) ((c.tc : Thread Cert.DgUpIdeal.nD Cert.DgUpIdeal.τ).loc Cert.DgUpIdeal.main_v0)),
      θ_run (Cert.DgUpIdeal.defs (F := Ideal)) (onTc (τ := Cert.DgUpIdeal.τ) (Cert.DgUpIdeal.main (F := Ideal))) ⟨m, fun _ => 0, g⟩ (fun r => ∀ c : Dev Cert.DgUpIdeal.nD,
          r.2.mem ((c.tc : Thread Cert.DgUpIdeal.nD Cert.DgUpIdeal.τ).loc Cert.DgUpIdeal.main_v0) = v0 c
          ∧ r.2.mem ((c.tc : Thread Cert.DgUpIdeal.nD Cert.DgUpIdeal.τ).loc Cert.DgUpIdeal.main_arg0) = m ((c.tc : Thread Cert.DgUpIdeal.nD Cert.DgUpIdeal.τ).loc Cert.DgUpIdeal.main_arg0)
          ∧ r.2.mem ((c.tc : Thread Cert.DgUpIdeal.nD Cert.DgUpIdeal.τ).loc Cert.DgUpIdeal.main_arg1) = m ((c.tc : Thread Cert.DgUpIdeal.nD Cert.DgUpIdeal.τ).loc Cert.DgUpIdeal.main_arg1)
          ∧ r.2.mem ((c.tc : Thread Cert.DgUpIdeal.nD Cert.DgUpIdeal.τ).loc Cert.DgUpIdeal.main_arg2) = m ((c.tc : Thread Cert.DgUpIdeal.nD Cert.DgUpIdeal.τ).loc Cert.DgUpIdeal.main_arg2))
      ∧ θ_run (Cert.DgUpRefIdeal.defs (F := Ideal)) (onTc (τ := Cert.DgUpRefIdeal.τ) (Cert.DgUpRefIdeal.main (F := Ideal))) ⟨m', fun _ => 0, g'⟩ (fun r => ∀ c : Dev Cert.DgUpRefIdeal.nD,
          r.2.mem ((c.tc : Thread Cert.DgUpRefIdeal.nD Cert.DgUpRefIdeal.τ).loc Cert.DgUpRefIdeal.main_v5) = v0 c
          ∧ r.2.mem ((c.tc : Thread Cert.DgUpRefIdeal.nD Cert.DgUpRefIdeal.τ).loc Cert.DgUpRefIdeal.main_arg0) = m' ((c.tc : Thread Cert.DgUpRefIdeal.nD Cert.DgUpRefIdeal.τ).loc Cert.DgUpRefIdeal.main_arg0)
          ∧ r.2.mem ((c.tc : Thread Cert.DgUpRefIdeal.nD Cert.DgUpRefIdeal.τ).loc Cert.DgUpRefIdeal.main_arg1) = m' ((c.tc : Thread Cert.DgUpRefIdeal.nD Cert.DgUpRefIdeal.τ).loc Cert.DgUpRefIdeal.main_arg1)
          ∧ r.2.mem ((c.tc : Thread Cert.DgUpRefIdeal.nD Cert.DgUpRefIdeal.τ).loc Cert.DgUpRefIdeal.main_arg2) = m' ((c.tc : Thread Cert.DgUpRefIdeal.nD Cert.DgUpRefIdeal.τ).loc Cert.DgUpRefIdeal.main_arg2))

def preserves_WgDown_WgDownIdeal : Prop :=
  True

def algebraic_WgDownIdeal_WgDownRefIdeal [hWgDownIdeal : Cert.WgDownIdeal.Facts] [hWgDownRefIdeal : Cert.WgDownRefIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownRefIdeal.nD Cert.WgDownRefIdeal.τ Cert.WgDownRefIdeal.sig) → Buf (Elt Ideal) ℓ) (g' : Dev Cert.WgDownRefIdeal.nD → PrngReg), Pre_WgDownIdeal m →
    (∀ c : Dev Cert.WgDownIdeal.nD,
      m' ((c.tc : Thread Cert.WgDownRefIdeal.nD Cert.WgDownRefIdeal.τ).loc Cert.WgDownRefIdeal.main_arg0) = m ((c.tc : Thread Cert.WgDownIdeal.nD Cert.WgDownIdeal.τ).loc Cert.WgDownIdeal.main_arg0)
      ∧ m' ((c.tc : Thread Cert.WgDownRefIdeal.nD Cert.WgDownRefIdeal.τ).loc Cert.WgDownRefIdeal.main_arg1) = m ((c.tc : Thread Cert.WgDownIdeal.nD Cert.WgDownIdeal.τ).loc Cert.WgDownIdeal.main_arg1)) →
    ∃ (v0 : (c : Dev Cert.WgDownIdeal.nD) → Buf (Elt Ideal) ((c.tc : Thread Cert.WgDownIdeal.nD Cert.WgDownIdeal.τ).loc Cert.WgDownIdeal.main_v0)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v0) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ θ_run (Cert.WgDownRefIdeal.defs (F := Ideal)) (onTc (τ := Cert.WgDownRefIdeal.τ) (Cert.WgDownRefIdeal.main (F := Ideal))) ⟨m', fun _ => 0, g'⟩ (fun r => ∀ c : Dev Cert.WgDownRefIdeal.nD,
          r.2.mem ((c.tc : Thread Cert.WgDownRefIdeal.nD Cert.WgDownRefIdeal.τ).loc Cert.WgDownRefIdeal.main_v4) = v0 c
          ∧ r.2.mem ((c.tc : Thread Cert.WgDownRefIdeal.nD Cert.WgDownRefIdeal.τ).loc Cert.WgDownRefIdeal.main_arg0) = m' ((c.tc : Thread Cert.WgDownRefIdeal.nD Cert.WgDownRefIdeal.τ).loc Cert.WgDownRefIdeal.main_arg0)
          ∧ r.2.mem ((c.tc : Thread Cert.WgDownRefIdeal.nD Cert.WgDownRefIdeal.τ).loc Cert.WgDownRefIdeal.main_arg1) = m' ((c.tc : Thread Cert.WgDownRefIdeal.nD Cert.WgDownRefIdeal.τ).loc Cert.WgDownRefIdeal.main_arg1))

def preserves_DgDown_DgDownIdeal : Prop :=
  True

def algebraic_DgDownIdeal_DgDownRefIdeal [hDgDownIdeal : Cert.DgDownIdeal.Facts] [hDgDownRefIdeal : Cert.DgDownRefIdeal.Facts] : Prop :=
  ∀ (m : (ℓ : Loc Cert.DgDownIdeal.nD Cert.DgDownIdeal.τ Cert.DgDownIdeal.sig) → Buf (Elt Ideal) ℓ) (g : Dev Cert.DgDownIdeal.nD → PrngReg)
    (m' : (ℓ : Loc Cert.DgDownRefIdeal.nD Cert.DgDownRefIdeal.τ Cert.DgDownRefIdeal.sig) → Buf (Elt Ideal) ℓ) (g' : Dev Cert.DgDownRefIdeal.nD → PrngReg), Pre_DgDownIdeal m →
    (∀ c : Dev Cert.DgDownIdeal.nD,
      m' ((c.tc : Thread Cert.DgDownRefIdeal.nD Cert.DgDownRefIdeal.τ).loc Cert.DgDownRefIdeal.main_arg0) = m ((c.tc : Thread Cert.DgDownIdeal.nD Cert.DgDownIdeal.τ).loc Cert.DgDownIdeal.main_arg0)
      ∧ m' ((c.tc : Thread Cert.DgDownRefIdeal.nD Cert.DgDownRefIdeal.τ).loc Cert.DgDownRefIdeal.main_arg1) = m ((c.tc : Thread Cert.DgDownIdeal.nD Cert.DgDownIdeal.τ).loc Cert.DgDownIdeal.main_arg1)) →
    ∃ (v0 : (c : Dev Cert.DgDownIdeal.nD) → Buf (Elt Ideal) ((c.tc : Thread Cert.DgDownIdeal.nD Cert.DgDownIdeal.τ).loc Cert.DgDownIdeal.main_v0)),
      θ_run (Cert.DgDownIdeal.defs (F := Ideal)) (onTc (τ := Cert.DgDownIdeal.τ) (Cert.DgDownIdeal.main (F := Ideal))) ⟨m, fun _ => 0, g⟩ (fun r => ∀ c : Dev Cert.DgDownIdeal.nD,
          r.2.mem ((c.tc : Thread Cert.DgDownIdeal.nD Cert.DgDownIdeal.τ).loc Cert.DgDownIdeal.main_v0) = v0 c
          ∧ r.2.mem ((c.tc : Thread Cert.DgDownIdeal.nD Cert.DgDownIdeal.τ).loc Cert.DgDownIdeal.main_arg0) = m ((c.tc : Thread Cert.DgDownIdeal.nD Cert.DgDownIdeal.τ).loc Cert.DgDownIdeal.main_arg0)
          ∧ r.2.mem ((c.tc : Thread Cert.DgDownIdeal.nD Cert.DgDownIdeal.τ).loc Cert.DgDownIdeal.main_arg1) = m ((c.tc : Thread Cert.DgDownIdeal.nD Cert.DgDownIdeal.τ).loc Cert.DgDownIdeal.main_arg1))
      ∧ θ_run (Cert.DgDownRefIdeal.defs (F := Ideal)) (onTc (τ := Cert.DgDownRefIdeal.τ) (Cert.DgDownRefIdeal.main (F := Ideal))) ⟨m', fun _ => 0, g'⟩ (fun r => ∀ c : Dev Cert.DgDownRefIdeal.nD,
          r.2.mem ((c.tc : Thread Cert.DgDownRefIdeal.nD Cert.DgDownRefIdeal.τ).loc Cert.DgDownRefIdeal.main_v3) = v0 c
          ∧ r.2.mem ((c.tc : Thread Cert.DgDownRefIdeal.nD Cert.DgDownRefIdeal.τ).loc Cert.DgDownRefIdeal.main_arg0) = m' ((c.tc : Thread Cert.DgDownRefIdeal.nD Cert.DgDownRefIdeal.τ).loc Cert.DgDownRefIdeal.main_arg0)
          ∧ r.2.mem ((c.tc : Thread Cert.DgDownRefIdeal.nD Cert.DgDownRefIdeal.τ).loc Cert.DgDownRefIdeal.main_arg1) = m' ((c.tc : Thread Cert.DgDownRefIdeal.nD Cert.DgDownRefIdeal.τ).loc Cert.DgDownRefIdeal.main_arg1))

def preserves_WgIn_WgInIdeal : Prop :=
  True

def algebraic_WgInIdeal_WgInRefIdeal [hWgInIdeal : Cert.WgInIdeal.Facts] [hWgInRefIdeal : Cert.WgInRefIdeal.Facts] : Prop :=
  ∀ (m : (ℓ : Loc Cert.WgInIdeal.nD Cert.WgInIdeal.τ Cert.WgInIdeal.sig) → Buf (Elt Ideal) ℓ) (g : Dev Cert.WgInIdeal.nD → PrngReg)
    (m' : (ℓ : Loc Cert.WgInRefIdeal.nD Cert.WgInRefIdeal.τ Cert.WgInRefIdeal.sig) → Buf (Elt Ideal) ℓ) (g' : Dev Cert.WgInRefIdeal.nD → PrngReg), Pre_WgInIdeal m →
    (∀ c : Dev Cert.WgInIdeal.nD,
      m' ((c.tc : Thread Cert.WgInRefIdeal.nD Cert.WgInRefIdeal.τ).loc Cert.WgInRefIdeal.main_arg0) = m ((c.tc : Thread Cert.WgInIdeal.nD Cert.WgInIdeal.τ).loc Cert.WgInIdeal.main_arg0)
      ∧ m' ((c.tc : Thread Cert.WgInRefIdeal.nD Cert.WgInRefIdeal.τ).loc Cert.WgInRefIdeal.main_arg1) = m ((c.tc : Thread Cert.WgInIdeal.nD Cert.WgInIdeal.τ).loc Cert.WgInIdeal.main_arg1)) →
    ∃ (v0 : (c : Dev Cert.WgInIdeal.nD) → Buf (Elt Ideal) ((c.tc : Thread Cert.WgInIdeal.nD Cert.WgInIdeal.τ).loc Cert.WgInIdeal.main_v0)),
      θ_run (Cert.WgInIdeal.defs (F := Ideal)) (onTc (τ := Cert.WgInIdeal.τ) (Cert.WgInIdeal.main (F := Ideal))) ⟨m, fun _ => 0, g⟩ (fun r => ∀ c : Dev Cert.WgInIdeal.nD,
          r.2.mem ((c.tc : Thread Cert.WgInIdeal.nD Cert.WgInIdeal.τ).loc Cert.WgInIdeal.main_v0) = v0 c
          ∧ r.2.mem ((c.tc : Thread Cert.WgInIdeal.nD Cert.WgInIdeal.τ).loc Cert.WgInIdeal.main_arg0) = m ((c.tc : Thread Cert.WgInIdeal.nD Cert.WgInIdeal.τ).loc Cert.WgInIdeal.main_arg0)
          ∧ r.2.mem ((c.tc : Thread Cert.WgInIdeal.nD Cert.WgInIdeal.τ).loc Cert.WgInIdeal.main_arg1) = m ((c.tc : Thread Cert.WgInIdeal.nD Cert.WgInIdeal.τ).loc Cert.WgInIdeal.main_arg1))
      ∧ θ_run (Cert.WgInRefIdeal.defs (F := Ideal)) (onTc (τ := Cert.WgInRefIdeal.τ) (Cert.WgInRefIdeal.main (F := Ideal))) ⟨m', fun _ => 0, g'⟩ (fun r => ∀ c : Dev Cert.WgInRefIdeal.nD,
          r.2.mem ((c.tc : Thread Cert.WgInRefIdeal.nD Cert.WgInRefIdeal.τ).loc Cert.WgInRefIdeal.main_v4) = v0 c
          ∧ r.2.mem ((c.tc : Thread Cert.WgInRefIdeal.nD Cert.WgInRefIdeal.τ).loc Cert.WgInRefIdeal.main_arg0) = m' ((c.tc : Thread Cert.WgInRefIdeal.nD Cert.WgInRefIdeal.τ).loc Cert.WgInRefIdeal.main_arg0)
          ∧ r.2.mem ((c.tc : Thread Cert.WgInRefIdeal.nD Cert.WgInRefIdeal.τ).loc Cert.WgInRefIdeal.main_arg1) = m' ((c.tc : Thread Cert.WgInRefIdeal.nD Cert.WgInRefIdeal.τ).loc Cert.WgInRefIdeal.main_arg1))

def preserves_DgIn_DgInIdeal : Prop :=
  True

def algebraic_DgInIdeal_DgInRefIdeal [hDgInIdeal : Cert.DgInIdeal.Facts] [hDgInRefIdeal : Cert.DgInRefIdeal.Facts] : Prop :=
  ∀ (m : (ℓ : Loc Cert.DgInIdeal.nD Cert.DgInIdeal.τ Cert.DgInIdeal.sig) → Buf (Elt Ideal) ℓ) (g : Dev Cert.DgInIdeal.nD → PrngReg)
    (m' : (ℓ : Loc Cert.DgInRefIdeal.nD Cert.DgInRefIdeal.τ Cert.DgInRefIdeal.sig) → Buf (Elt Ideal) ℓ) (g' : Dev Cert.DgInRefIdeal.nD → PrngReg), Pre_DgInIdeal m →
    (∀ c : Dev Cert.DgInIdeal.nD,
      m' ((c.tc : Thread Cert.DgInRefIdeal.nD Cert.DgInRefIdeal.τ).loc Cert.DgInRefIdeal.main_arg0) = m ((c.tc : Thread Cert.DgInIdeal.nD Cert.DgInIdeal.τ).loc Cert.DgInIdeal.main_arg0)
      ∧ m' ((c.tc : Thread Cert.DgInRefIdeal.nD Cert.DgInRefIdeal.τ).loc Cert.DgInRefIdeal.main_arg1) = m ((c.tc : Thread Cert.DgInIdeal.nD Cert.DgInIdeal.τ).loc Cert.DgInIdeal.main_arg1)
      ∧ m' ((c.tc : Thread Cert.DgInRefIdeal.nD Cert.DgInRefIdeal.τ).loc Cert.DgInRefIdeal.main_arg2) = m ((c.tc : Thread Cert.DgInIdeal.nD Cert.DgInIdeal.τ).loc Cert.DgInIdeal.main_arg2)) →
    ∃ (v0 : (c : Dev Cert.DgInIdeal.nD) → Buf (Elt Ideal) ((c.tc : Thread Cert.DgInIdeal.nD Cert.DgInIdeal.τ).loc Cert.DgInIdeal.main_v0)),
      θ_run (Cert.DgInIdeal.defs (F := Ideal)) (onTc (τ := Cert.DgInIdeal.τ) (Cert.DgInIdeal.main (F := Ideal))) ⟨m, fun _ => 0, g⟩ (fun r => ∀ c : Dev Cert.DgInIdeal.nD,
          r.2.mem ((c.tc : Thread Cert.DgInIdeal.nD Cert.DgInIdeal.τ).loc Cert.DgInIdeal.main_v0) = v0 c
          ∧ r.2.mem ((c.tc : Thread Cert.DgInIdeal.nD Cert.DgInIdeal.τ).loc Cert.DgInIdeal.main_arg0) = m ((c.tc : Thread Cert.DgInIdeal.nD Cert.DgInIdeal.τ).loc Cert.DgInIdeal.main_arg0)
          ∧ r.2.mem ((c.tc : Thread Cert.DgInIdeal.nD Cert.DgInIdeal.τ).loc Cert.DgInIdeal.main_arg1) = m ((c.tc : Thread Cert.DgInIdeal.nD Cert.DgInIdeal.τ).loc Cert.DgInIdeal.main_arg1)
          ∧ r.2.mem ((c.tc : Thread Cert.DgInIdeal.nD Cert.DgInIdeal.τ).loc Cert.DgInIdeal.main_arg2) = m ((c.tc : Thread Cert.DgInIdeal.nD Cert.DgInIdeal.τ).loc Cert.DgInIdeal.main_arg2))
      ∧ θ_run (Cert.DgInRefIdeal.defs (F := Ideal)) (onTc (τ := Cert.DgInRefIdeal.τ) (Cert.DgInRefIdeal.main (F := Ideal))) ⟨m', fun _ => 0, g'⟩ (fun r => ∀ c : Dev Cert.DgInRefIdeal.nD,
          r.2.mem ((c.tc : Thread Cert.DgInRefIdeal.nD Cert.DgInRefIdeal.τ).loc Cert.DgInRefIdeal.main_v9) = v0 c
          ∧ r.2.mem ((c.tc : Thread Cert.DgInRefIdeal.nD Cert.DgInRefIdeal.τ).loc Cert.DgInRefIdeal.main_arg0) = m' ((c.tc : Thread Cert.DgInRefIdeal.nD Cert.DgInRefIdeal.τ).loc Cert.DgInRefIdeal.main_arg0)
          ∧ r.2.mem ((c.tc : Thread Cert.DgInRefIdeal.nD Cert.DgInRefIdeal.τ).loc Cert.DgInRefIdeal.main_arg1) = m' ((c.tc : Thread Cert.DgInRefIdeal.nD Cert.DgInRefIdeal.τ).loc Cert.DgInRefIdeal.main_arg1)
          ∧ r.2.mem ((c.tc : Thread Cert.DgInRefIdeal.nD Cert.DgInRefIdeal.τ).loc Cert.DgInRefIdeal.main_arg2) = m' ((c.tc : Thread Cert.DgInRefIdeal.nD Cert.DgInRefIdeal.τ).loc Cert.DgInRefIdeal.main_arg2))

def preserves_WgOut_WgOutIdeal : Prop :=
  True

def algebraic_WgOutIdeal_WgOutRefIdeal [hWgOutIdeal : Cert.WgOutIdeal.Facts] [hWgOutRefIdeal : Cert.WgOutRefIdeal.Facts] : Prop :=
  ∀ (m : (ℓ : Loc Cert.WgOutIdeal.nD Cert.WgOutIdeal.τ Cert.WgOutIdeal.sig) → Buf (Elt Ideal) ℓ) (g : Dev Cert.WgOutIdeal.nD → PrngReg)
    (m' : (ℓ : Loc Cert.WgOutRefIdeal.nD Cert.WgOutRefIdeal.τ Cert.WgOutRefIdeal.sig) → Buf (Elt Ideal) ℓ) (g' : Dev Cert.WgOutRefIdeal.nD → PrngReg), Pre_WgOutIdeal m →
    (∀ c : Dev Cert.WgOutIdeal.nD,
      m' ((c.tc : Thread Cert.WgOutRefIdeal.nD Cert.WgOutRefIdeal.τ).loc Cert.WgOutRefIdeal.main_arg0) = m ((c.tc : Thread Cert.WgOutIdeal.nD Cert.WgOutIdeal.τ).loc Cert.WgOutIdeal.main_arg0)
      ∧ m' ((c.tc : Thread Cert.WgOutRefIdeal.nD Cert.WgOutRefIdeal.τ).loc Cert.WgOutRefIdeal.main_arg1) = m ((c.tc : Thread Cert.WgOutIdeal.nD Cert.WgOutIdeal.τ).loc Cert.WgOutIdeal.main_arg1)) →
    ∃ (v0 : (c : Dev Cert.WgOutIdeal.nD) → Buf (Elt Ideal) ((c.tc : Thread Cert.WgOutIdeal.nD Cert.WgOutIdeal.τ).loc Cert.WgOutIdeal.main_v0)),
      θ_run (Cert.WgOutIdeal.defs (F := Ideal)) (onTc (τ := Cert.WgOutIdeal.τ) (Cert.WgOutIdeal.main (F := Ideal))) ⟨m, fun _ => 0, g⟩ (fun r => ∀ c : Dev Cert.WgOutIdeal.nD,
          r.2.mem ((c.tc : Thread Cert.WgOutIdeal.nD Cert.WgOutIdeal.τ).loc Cert.WgOutIdeal.main_v0) = v0 c
          ∧ r.2.mem ((c.tc : Thread Cert.WgOutIdeal.nD Cert.WgOutIdeal.τ).loc Cert.WgOutIdeal.main_arg0) = m ((c.tc : Thread Cert.WgOutIdeal.nD Cert.WgOutIdeal.τ).loc Cert.WgOutIdeal.main_arg0)
          ∧ r.2.mem ((c.tc : Thread Cert.WgOutIdeal.nD Cert.WgOutIdeal.τ).loc Cert.WgOutIdeal.main_arg1) = m ((c.tc : Thread Cert.WgOutIdeal.nD Cert.WgOutIdeal.τ).loc Cert.WgOutIdeal.main_arg1))
      ∧ θ_run (Cert.WgOutRefIdeal.defs (F := Ideal)) (onTc (τ := Cert.WgOutRefIdeal.τ) (Cert.WgOutRefIdeal.main (F := Ideal))) ⟨m', fun _ => 0, g'⟩ (fun r => ∀ c : Dev Cert.WgOutRefIdeal.nD,
          r.2.mem ((c.tc : Thread Cert.WgOutRefIdeal.nD Cert.WgOutRefIdeal.τ).loc Cert.WgOutRefIdeal.main_v4) = v0 c
          ∧ r.2.mem ((c.tc : Thread Cert.WgOutRefIdeal.nD Cert.WgOutRefIdeal.τ).loc Cert.WgOutRefIdeal.main_arg0) = m' ((c.tc : Thread Cert.WgOutRefIdeal.nD Cert.WgOutRefIdeal.τ).loc Cert.WgOutRefIdeal.main_arg0)
          ∧ r.2.mem ((c.tc : Thread Cert.WgOutRefIdeal.nD Cert.WgOutRefIdeal.τ).loc Cert.WgOutRefIdeal.main_arg1) = m' ((c.tc : Thread Cert.WgOutRefIdeal.nD Cert.WgOutRefIdeal.τ).loc Cert.WgOutRefIdeal.main_arg1))

def preserves_DgOut_DgOutIdeal : Prop :=
  True

def algebraic_DgOutIdeal_DgOutRefIdeal [hDgOutIdeal : Cert.DgOutIdeal.Facts] [hDgOutRefIdeal : Cert.DgOutRefIdeal.Facts] : Prop :=
  ∀ (m : (ℓ : Loc Cert.DgOutIdeal.nD Cert.DgOutIdeal.τ Cert.DgOutIdeal.sig) → Buf (Elt Ideal) ℓ) (g : Dev Cert.DgOutIdeal.nD → PrngReg)
    (m' : (ℓ : Loc Cert.DgOutRefIdeal.nD Cert.DgOutRefIdeal.τ Cert.DgOutRefIdeal.sig) → Buf (Elt Ideal) ℓ) (g' : Dev Cert.DgOutRefIdeal.nD → PrngReg), Pre_DgOutIdeal m →
    (∀ c : Dev Cert.DgOutIdeal.nD,
      m' ((c.tc : Thread Cert.DgOutRefIdeal.nD Cert.DgOutRefIdeal.τ).loc Cert.DgOutRefIdeal.main_arg0) = m ((c.tc : Thread Cert.DgOutIdeal.nD Cert.DgOutIdeal.τ).loc Cert.DgOutIdeal.main_arg0)
      ∧ m' ((c.tc : Thread Cert.DgOutRefIdeal.nD Cert.DgOutRefIdeal.τ).loc Cert.DgOutRefIdeal.main_arg1) = m ((c.tc : Thread Cert.DgOutIdeal.nD Cert.DgOutIdeal.τ).loc Cert.DgOutIdeal.main_arg1)) →
    ∃ (v0 : (c : Dev Cert.DgOutIdeal.nD) → Buf (Elt Ideal) ((c.tc : Thread Cert.DgOutIdeal.nD Cert.DgOutIdeal.τ).loc Cert.DgOutIdeal.main_v0)),
      θ_run (Cert.DgOutIdeal.defs (F := Ideal)) (onTc (τ := Cert.DgOutIdeal.τ) (Cert.DgOutIdeal.main (F := Ideal))) ⟨m, fun _ => 0, g⟩ (fun r => ∀ c : Dev Cert.DgOutIdeal.nD,
          r.2.mem ((c.tc : Thread Cert.DgOutIdeal.nD Cert.DgOutIdeal.τ).loc Cert.DgOutIdeal.main_v0) = v0 c
          ∧ r.2.mem ((c.tc : Thread Cert.DgOutIdeal.nD Cert.DgOutIdeal.τ).loc Cert.DgOutIdeal.main_arg0) = m ((c.tc : Thread Cert.DgOutIdeal.nD Cert.DgOutIdeal.τ).loc Cert.DgOutIdeal.main_arg0)
          ∧ r.2.mem ((c.tc : Thread Cert.DgOutIdeal.nD Cert.DgOutIdeal.τ).loc Cert.DgOutIdeal.main_arg1) = m ((c.tc : Thread Cert.DgOutIdeal.nD Cert.DgOutIdeal.τ).loc Cert.DgOutIdeal.main_arg1))
      ∧ θ_run (Cert.DgOutRefIdeal.defs (F := Ideal)) (onTc (τ := Cert.DgOutRefIdeal.τ) (Cert.DgOutRefIdeal.main (F := Ideal))) ⟨m', fun _ => 0, g'⟩ (fun r => ∀ c : Dev Cert.DgOutRefIdeal.nD,
          r.2.mem ((c.tc : Thread Cert.DgOutRefIdeal.nD Cert.DgOutRefIdeal.τ).loc Cert.DgOutRefIdeal.main_v3) = v0 c
          ∧ r.2.mem ((c.tc : Thread Cert.DgOutRefIdeal.nD Cert.DgOutRefIdeal.τ).loc Cert.DgOutRefIdeal.main_arg0) = m' ((c.tc : Thread Cert.DgOutRefIdeal.nD Cert.DgOutRefIdeal.τ).loc Cert.DgOutRefIdeal.main_arg0)
          ∧ r.2.mem ((c.tc : Thread Cert.DgOutRefIdeal.nD Cert.DgOutRefIdeal.τ).loc Cert.DgOutRefIdeal.main_arg1) = m' ((c.tc : Thread Cert.DgOutRefIdeal.nD Cert.DgOutRefIdeal.τ).loc Cert.DgOutRefIdeal.main_arg1))

def preserves_WgGate_WgGateIdeal : Prop :=
  True

def algebraic_WgGateIdeal_WgGateRefIdeal [hWgGateIdeal : Cert.WgGateIdeal.Facts] [hWgGateRefIdeal : Cert.WgGateRefIdeal.Facts] : Prop :=
  ∀ (m : (ℓ : Loc Cert.WgGateIdeal.nD Cert.WgGateIdeal.τ Cert.WgGateIdeal.sig) → Buf (Elt Ideal) ℓ) (g : Dev Cert.WgGateIdeal.nD → PrngReg)
    (m' : (ℓ : Loc Cert.WgGateRefIdeal.nD Cert.WgGateRefIdeal.τ Cert.WgGateRefIdeal.sig) → Buf (Elt Ideal) ℓ) (g' : Dev Cert.WgGateRefIdeal.nD → PrngReg), Pre_WgGateIdeal m →
    (∀ c : Dev Cert.WgGateIdeal.nD,
      m' ((c.tc : Thread Cert.WgGateRefIdeal.nD Cert.WgGateRefIdeal.τ).loc Cert.WgGateRefIdeal.main_arg0) = m ((c.tc : Thread Cert.WgGateIdeal.nD Cert.WgGateIdeal.τ).loc Cert.WgGateIdeal.main_arg0)
      ∧ m' ((c.tc : Thread Cert.WgGateRefIdeal.nD Cert.WgGateRefIdeal.τ).loc Cert.WgGateRefIdeal.main_arg1) = m ((c.tc : Thread Cert.WgGateIdeal.nD Cert.WgGateIdeal.τ).loc Cert.WgGateIdeal.main_arg1)) →
    ∃ (v0 : (c : Dev Cert.WgGateIdeal.nD) → Buf (Elt Ideal) ((c.tc : Thread Cert.WgGateIdeal.nD Cert.WgGateIdeal.τ).loc Cert.WgGateIdeal.main_v0)),
      θ_run (Cert.WgGateIdeal.defs (F := Ideal)) (onTc (τ := Cert.WgGateIdeal.τ) (Cert.WgGateIdeal.main (F := Ideal))) ⟨m, fun _ => 0, g⟩ (fun r => ∀ c : Dev Cert.WgGateIdeal.nD,
          r.2.mem ((c.tc : Thread Cert.WgGateIdeal.nD Cert.WgGateIdeal.τ).loc Cert.WgGateIdeal.main_v0) = v0 c
          ∧ r.2.mem ((c.tc : Thread Cert.WgGateIdeal.nD Cert.WgGateIdeal.τ).loc Cert.WgGateIdeal.main_arg0) = m ((c.tc : Thread Cert.WgGateIdeal.nD Cert.WgGateIdeal.τ).loc Cert.WgGateIdeal.main_arg0)
          ∧ r.2.mem ((c.tc : Thread Cert.WgGateIdeal.nD Cert.WgGateIdeal.τ).loc Cert.WgGateIdeal.main_arg1) = m ((c.tc : Thread Cert.WgGateIdeal.nD Cert.WgGateIdeal.τ).loc Cert.WgGateIdeal.main_arg1))
      ∧ θ_run (Cert.WgGateRefIdeal.defs (F := Ideal)) (onTc (τ := Cert.WgGateRefIdeal.τ) (Cert.WgGateRefIdeal.main (F := Ideal))) ⟨m', fun _ => 0, g'⟩ (fun r => ∀ c : Dev Cert.WgGateRefIdeal.nD,
          r.2.mem ((c.tc : Thread Cert.WgGateRefIdeal.nD Cert.WgGateRefIdeal.τ).loc Cert.WgGateRefIdeal.main_v4) = v0 c
          ∧ r.2.mem ((c.tc : Thread Cert.WgGateRefIdeal.nD Cert.WgGateRefIdeal.τ).loc Cert.WgGateRefIdeal.main_arg0) = m' ((c.tc : Thread Cert.WgGateRefIdeal.nD Cert.WgGateRefIdeal.τ).loc Cert.WgGateRefIdeal.main_arg0)
          ∧ r.2.mem ((c.tc : Thread Cert.WgGateRefIdeal.nD Cert.WgGateRefIdeal.τ).loc Cert.WgGateRefIdeal.main_arg1) = m' ((c.tc : Thread Cert.WgGateRefIdeal.nD Cert.WgGateRefIdeal.τ).loc Cert.WgGateRefIdeal.main_arg1))

def preserves_DgGate_DgGateIdeal : Prop :=
  True

def algebraic_DgGateIdeal_DgGateRefIdeal [hDgGateIdeal : Cert.DgGateIdeal.Facts] [hDgGateRefIdeal : Cert.DgGateRefIdeal.Facts] : Prop :=
  ∀ (m : (ℓ : Loc Cert.DgGateIdeal.nD Cert.DgGateIdeal.τ Cert.DgGateIdeal.sig) → Buf (Elt Ideal) ℓ) (g : Dev Cert.DgGateIdeal.nD → PrngReg)
    (m' : (ℓ : Loc Cert.DgGateRefIdeal.nD Cert.DgGateRefIdeal.τ Cert.DgGateRefIdeal.sig) → Buf (Elt Ideal) ℓ) (g' : Dev Cert.DgGateRefIdeal.nD → PrngReg), Pre_DgGateIdeal m →
    (∀ c : Dev Cert.DgGateIdeal.nD,
      m' ((c.tc : Thread Cert.DgGateRefIdeal.nD Cert.DgGateRefIdeal.τ).loc Cert.DgGateRefIdeal.main_arg0) = m ((c.tc : Thread Cert.DgGateIdeal.nD Cert.DgGateIdeal.τ).loc Cert.DgGateIdeal.main_arg0)
      ∧ m' ((c.tc : Thread Cert.DgGateRefIdeal.nD Cert.DgGateRefIdeal.τ).loc Cert.DgGateRefIdeal.main_arg1) = m ((c.tc : Thread Cert.DgGateIdeal.nD Cert.DgGateIdeal.τ).loc Cert.DgGateIdeal.main_arg1)
      ∧ m' ((c.tc : Thread Cert.DgGateRefIdeal.nD Cert.DgGateRefIdeal.τ).loc Cert.DgGateRefIdeal.main_arg2) = m ((c.tc : Thread Cert.DgGateIdeal.nD Cert.DgGateIdeal.τ).loc Cert.DgGateIdeal.main_arg2)) →
    ∃ (v0 : (c : Dev Cert.DgGateIdeal.nD) → Buf (Elt Ideal) ((c.tc : Thread Cert.DgGateIdeal.nD Cert.DgGateIdeal.τ).loc Cert.DgGateIdeal.main_v0)),
      θ_run (Cert.DgGateIdeal.defs (F := Ideal)) (onTc (τ := Cert.DgGateIdeal.τ) (Cert.DgGateIdeal.main (F := Ideal))) ⟨m, fun _ => 0, g⟩ (fun r => ∀ c : Dev Cert.DgGateIdeal.nD,
          r.2.mem ((c.tc : Thread Cert.DgGateIdeal.nD Cert.DgGateIdeal.τ).loc Cert.DgGateIdeal.main_v0) = v0 c
          ∧ r.2.mem ((c.tc : Thread Cert.DgGateIdeal.nD Cert.DgGateIdeal.τ).loc Cert.DgGateIdeal.main_arg0) = m ((c.tc : Thread Cert.DgGateIdeal.nD Cert.DgGateIdeal.τ).loc Cert.DgGateIdeal.main_arg0)
          ∧ r.2.mem ((c.tc : Thread Cert.DgGateIdeal.nD Cert.DgGateIdeal.τ).loc Cert.DgGateIdeal.main_arg1) = m ((c.tc : Thread Cert.DgGateIdeal.nD Cert.DgGateIdeal.τ).loc Cert.DgGateIdeal.main_arg1)
          ∧ r.2.mem ((c.tc : Thread Cert.DgGateIdeal.nD Cert.DgGateIdeal.τ).loc Cert.DgGateIdeal.main_arg2) = m ((c.tc : Thread Cert.DgGateIdeal.nD Cert.DgGateIdeal.τ).loc Cert.DgGateIdeal.main_arg2))
      ∧ θ_run (Cert.DgGateRefIdeal.defs (F := Ideal)) (onTc (τ := Cert.DgGateRefIdeal.τ) (Cert.DgGateRefIdeal.main (F := Ideal))) ⟨m', fun _ => 0, g'⟩ (fun r => ∀ c : Dev Cert.DgGateRefIdeal.nD,
          r.2.mem ((c.tc : Thread Cert.DgGateRefIdeal.nD Cert.DgGateRefIdeal.τ).loc Cert.DgGateRefIdeal.main_v9) = v0 c
          ∧ r.2.mem ((c.tc : Thread Cert.DgGateRefIdeal.nD Cert.DgGateRefIdeal.τ).loc Cert.DgGateRefIdeal.main_arg0) = m' ((c.tc : Thread Cert.DgGateRefIdeal.nD Cert.DgGateRefIdeal.τ).loc Cert.DgGateRefIdeal.main_arg0)
          ∧ r.2.mem ((c.tc : Thread Cert.DgGateRefIdeal.nD Cert.DgGateRefIdeal.τ).loc Cert.DgGateRefIdeal.main_arg1) = m' ((c.tc : Thread Cert.DgGateRefIdeal.nD Cert.DgGateRefIdeal.τ).loc Cert.DgGateRefIdeal.main_arg1)
          ∧ r.2.mem ((c.tc : Thread Cert.DgGateRefIdeal.nD Cert.DgGateRefIdeal.τ).loc Cert.DgGateRefIdeal.main_arg2) = m' ((c.tc : Thread Cert.DgGateRefIdeal.nD Cert.DgGateRefIdeal.τ).loc Cert.DgGateRefIdeal.main_arg2))

def preserves_WgProj_WgProjIdeal : Prop :=
  True

def algebraic_WgProjIdeal_WgProjRefIdeal [hWgProjIdeal : Cert.WgProjIdeal.Facts] [hWgProjRefIdeal : Cert.WgProjRefIdeal.Facts] : Prop :=
  ∀ (m : (ℓ : Loc Cert.WgProjIdeal.nD Cert.WgProjIdeal.τ Cert.WgProjIdeal.sig) → Buf (Elt Ideal) ℓ) (g : Dev Cert.WgProjIdeal.nD → PrngReg)
    (m' : (ℓ : Loc Cert.WgProjRefIdeal.nD Cert.WgProjRefIdeal.τ Cert.WgProjRefIdeal.sig) → Buf (Elt Ideal) ℓ) (g' : Dev Cert.WgProjRefIdeal.nD → PrngReg), Pre_WgProjIdeal m →
    (∀ c : Dev Cert.WgProjIdeal.nD,
      m' ((c.tc : Thread Cert.WgProjRefIdeal.nD Cert.WgProjRefIdeal.τ).loc Cert.WgProjRefIdeal.main_arg0) = m ((c.tc : Thread Cert.WgProjIdeal.nD Cert.WgProjIdeal.τ).loc Cert.WgProjIdeal.main_arg0)
      ∧ m' ((c.tc : Thread Cert.WgProjRefIdeal.nD Cert.WgProjRefIdeal.τ).loc Cert.WgProjRefIdeal.main_arg1) = m ((c.tc : Thread Cert.WgProjIdeal.nD Cert.WgProjIdeal.τ).loc Cert.WgProjIdeal.main_arg1)) →
    ∃ (v0 : (c : Dev Cert.WgProjIdeal.nD) → Buf (Elt Ideal) ((c.tc : Thread Cert.WgProjIdeal.nD Cert.WgProjIdeal.τ).loc Cert.WgProjIdeal.main_v0)),
      θ_run (Cert.WgProjIdeal.defs (F := Ideal)) (onTc (τ := Cert.WgProjIdeal.τ) (Cert.WgProjIdeal.main (F := Ideal))) ⟨m, fun _ => 0, g⟩ (fun r => ∀ c : Dev Cert.WgProjIdeal.nD,
          r.2.mem ((c.tc : Thread Cert.WgProjIdeal.nD Cert.WgProjIdeal.τ).loc Cert.WgProjIdeal.main_v0) = v0 c
          ∧ r.2.mem ((c.tc : Thread Cert.WgProjIdeal.nD Cert.WgProjIdeal.τ).loc Cert.WgProjIdeal.main_arg0) = m ((c.tc : Thread Cert.WgProjIdeal.nD Cert.WgProjIdeal.τ).loc Cert.WgProjIdeal.main_arg0)
          ∧ r.2.mem ((c.tc : Thread Cert.WgProjIdeal.nD Cert.WgProjIdeal.τ).loc Cert.WgProjIdeal.main_arg1) = m ((c.tc : Thread Cert.WgProjIdeal.nD Cert.WgProjIdeal.τ).loc Cert.WgProjIdeal.main_arg1))
      ∧ θ_run (Cert.WgProjRefIdeal.defs (F := Ideal)) (onTc (τ := Cert.WgProjRefIdeal.τ) (Cert.WgProjRefIdeal.main (F := Ideal))) ⟨m', fun _ => 0, g'⟩ (fun r => ∀ c : Dev Cert.WgProjRefIdeal.nD,
          r.2.mem ((c.tc : Thread Cert.WgProjRefIdeal.nD Cert.WgProjRefIdeal.τ).loc Cert.WgProjRefIdeal.main_v4) = v0 c
          ∧ r.2.mem ((c.tc : Thread Cert.WgProjRefIdeal.nD Cert.WgProjRefIdeal.τ).loc Cert.WgProjRefIdeal.main_arg0) = m' ((c.tc : Thread Cert.WgProjRefIdeal.nD Cert.WgProjRefIdeal.τ).loc Cert.WgProjRefIdeal.main_arg0)
          ∧ r.2.mem ((c.tc : Thread Cert.WgProjRefIdeal.nD Cert.WgProjRefIdeal.τ).loc Cert.WgProjRefIdeal.main_arg1) = m' ((c.tc : Thread Cert.WgProjRefIdeal.nD Cert.WgProjRefIdeal.τ).loc Cert.WgProjRefIdeal.main_arg1))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v1) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v0)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v1) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmGate_MmGateIdeal : Prop :=
  True

def algebraic_MmGateIdeal_MmGateRefIdeal [hMmGateIdeal : Cert.MmGateIdeal.Facts] [hMmGateRefIdeal : Cert.MmGateRefIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateRefIdeal.nD Cert.MmGateRefIdeal.τ Cert.MmGateRefIdeal.sig) → Buf (Elt Ideal) ℓ) (g' : Dev Cert.MmGateRefIdeal.nD → PrngReg), Pre_MmGateIdeal m →
    (∀ c : Dev Cert.MmGateIdeal.nD,
      m' ((c.tc : Thread Cert.MmGateRefIdeal.nD Cert.MmGateRefIdeal.τ).loc Cert.MmGateRefIdeal.main_arg0) = m ((c.tc : Thread Cert.MmGateIdeal.nD Cert.MmGateIdeal.τ).loc Cert.MmGateIdeal.main_arg0)
      ∧ m' ((c.tc : Thread Cert.MmGateRefIdeal.nD Cert.MmGateRefIdeal.τ).loc Cert.MmGateRefIdeal.main_arg1) = m ((c.tc : Thread Cert.MmGateIdeal.nD Cert.MmGateIdeal.τ).loc Cert.MmGateIdeal.main_arg1)) →
    ∃ (v0 : (c : Dev Cert.MmGateIdeal.nD) → Buf (Elt Ideal) ((c.tc : Thread Cert.MmGateIdeal.nD Cert.MmGateIdeal.τ).loc Cert.MmGateIdeal.main_v0)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v0) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1))
      ∧ θ_run (Cert.MmGateRefIdeal.defs (F := Ideal)) (onTc (τ := Cert.MmGateRefIdeal.τ) (Cert.MmGateRefIdeal.main (F := Ideal))) ⟨m', fun _ => 0, g'⟩ (fun r => ∀ c : Dev Cert.MmGateRefIdeal.nD,
          r.2.mem ((c.tc : Thread Cert.MmGateRefIdeal.nD Cert.MmGateRefIdeal.τ).loc Cert.MmGateRefIdeal.main_v1) = v0 c
          ∧ r.2.mem ((c.tc : Thread Cert.MmGateRefIdeal.nD Cert.MmGateRefIdeal.τ).loc Cert.MmGateRefIdeal.main_arg0) = m' ((c.tc : Thread Cert.MmGateRefIdeal.nD Cert.MmGateRefIdeal.τ).loc Cert.MmGateRefIdeal.main_arg0)
          ∧ r.2.mem ((c.tc : Thread Cert.MmGateRefIdeal.nD Cert.MmGateRefIdeal.τ).loc Cert.MmGateRefIdeal.main_arg1) = m' ((c.tc : Thread Cert.MmGateRefIdeal.nD Cert.MmGateRefIdeal.τ).loc Cert.MmGateRefIdeal.main_arg1))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v0)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v0) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v1) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_Ln2_Ln2Ideal : Prop :=
  True

def algebraic_Ln2Ideal_Ln2RefIdeal_pre_ln2_cotangent_finite [hLn2Ideal : Cert.Ln2Ideal.Facts] [hLn2RefIdeal : Cert.Ln2RefIdeal.Facts] [hPre_ln2_cotangent_finite : Cert.Pre_ln2_cotangent_finite.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal_ln2_cotangent_finite m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)) →
    ∃ (v0 : (c : Dev Cert.Ln2Ideal.nD) → Buf (Elt Ideal) ((c.tc : Thread Cert.Ln2Ideal.nD Cert.Ln2Ideal.τ).loc Cert.Ln2Ideal.main_v3_0)) (v1 : (c : Dev Cert.Ln2Ideal.nD) → Buf (Elt Ideal) ((c.tc : Thread Cert.Ln2Ideal.nD Cert.Ln2Ideal.τ).loc Cert.Ln2Ideal.main_v3_1)) (v2 : (c : Dev Cert.Ln2Ideal.nD) → Buf (Elt Ideal) ((c.tc : Thread Cert.Ln2Ideal.nD Cert.Ln2Ideal.τ).loc Cert.Ln2Ideal.main_v3_2)) (v3 : (c : Dev Cert.Ln2Ideal.nD) → Buf (Elt Ideal) ((c.tc : Thread Cert.Ln2Ideal.nD Cert.Ln2Ideal.τ).loc Cert.Ln2Ideal.main_v3_3)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v3_0) = v0 c
          ∧ r.2.mem ((c.tc : Thread Cert.Ln2Ideal.nD Cert.Ln2Ideal.τ).loc Cert.Ln2Ideal.main_v3_1) = v1 c
          ∧ r.2.mem ((c.tc : Thread Cert.Ln2Ideal.nD Cert.Ln2Ideal.τ).loc Cert.Ln2Ideal.main_v3_2) = v2 c
          ∧ r.2.mem ((c.tc : Thread Cert.Ln2Ideal.nD Cert.Ln2Ideal.τ).loc Cert.Ln2Ideal.main_v3_3) = v3 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v62) = v0 c
          ∧ r.2.mem ((c.tc : Thread Cert.Ln2RefIdeal.nD Cert.Ln2RefIdeal.τ).loc Cert.Ln2RefIdeal.main_v76) = v1 c
          ∧ r.2.mem ((c.tc : Thread Cert.Ln2RefIdeal.nD Cert.Ln2RefIdeal.τ).loc Cert.Ln2RefIdeal.main_v77) = v2 c
          ∧ r.2.mem ((c.tc : Thread Cert.Ln2RefIdeal.nD Cert.Ln2RefIdeal.τ).loc Cert.Ln2RefIdeal.main_v80) = v3 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5))

def preserves_Ln1_Ln1Ideal : Prop :=
  True

def algebraic_Ln1Ideal_Ln1RefIdeal_pre_ln1_cotangent_finite [hLn1Ideal : Cert.Ln1Ideal.Facts] [hLn1RefIdeal : Cert.Ln1RefIdeal.Facts] [hPre_ln1_cotangent_finite : Cert.Pre_ln1_cotangent_finite.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal_ln1_cotangent_finite m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)) →
    ∃ (v0 : (c : Dev Cert.Ln1Ideal.nD) → Buf (Elt Ideal) ((c.tc : Thread Cert.Ln1Ideal.nD Cert.Ln1Ideal.τ).loc Cert.Ln1Ideal.main_v3_0)) (v1 : (c : Dev Cert.Ln1Ideal.nD) → Buf (Elt Ideal) ((c.tc : Thread Cert.Ln1Ideal.nD Cert.Ln1Ideal.τ).loc Cert.Ln1Ideal.main_v3_1)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v3_0) = v0 c
          ∧ r.2.mem ((c.tc : Thread Cert.Ln1Ideal.nD Cert.Ln1Ideal.τ).loc Cert.Ln1Ideal.main_v3_1) = v1 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v62) = v0 c
          ∧ r.2.mem ((c.tc : Thread Cert.Ln1RefIdeal.nD Cert.Ln1RefIdeal.τ).loc Cert.Ln1RefIdeal.main_v65) = v1 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3))

def preserves_OutLn1_OutLn1Ideal : Prop :=
  True

def algebraic_OutLn1Ideal_OutLn1RefIdeal [hOutLn1Ideal : Cert.OutLn1Ideal.Facts] [hOutLn1RefIdeal : Cert.OutLn1RefIdeal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg)
    (m' : (ℓ : Loc Cert.OutLn1RefIdeal.nD Cert.OutLn1RefIdeal.τ Cert.OutLn1RefIdeal.sig) → Buf (Elt Ideal) ℓ) (g' : Dev Cert.OutLn1RefIdeal.nD → PrngReg), Pre_OutLn1Ideal m →
    (∀ c : Dev Cert.OutLn1Ideal.nD,
      m' ((c.tc : Thread Cert.OutLn1RefIdeal.nD Cert.OutLn1RefIdeal.τ).loc Cert.OutLn1RefIdeal.main_arg0) = m ((c.tc : Thread Cert.OutLn1Ideal.nD Cert.OutLn1Ideal.τ).loc Cert.OutLn1Ideal.main_arg0)
      ∧ m' ((c.tc : Thread Cert.OutLn1RefIdeal.nD Cert.OutLn1RefIdeal.τ).loc Cert.OutLn1RefIdeal.main_arg1) = m ((c.tc : Thread Cert.OutLn1Ideal.nD Cert.OutLn1Ideal.τ).loc Cert.OutLn1Ideal.main_arg1)
      ∧ m' ((c.tc : Thread Cert.OutLn1RefIdeal.nD Cert.OutLn1RefIdeal.τ).loc Cert.OutLn1RefIdeal.main_arg2) = m ((c.tc : Thread Cert.OutLn1Ideal.nD Cert.OutLn1Ideal.τ).loc Cert.OutLn1Ideal.main_arg2)
      ∧ m' ((c.tc : Thread Cert.OutLn1RefIdeal.nD Cert.OutLn1RefIdeal.τ).loc Cert.OutLn1RefIdeal.main_arg3) = m ((c.tc : Thread Cert.OutLn1Ideal.nD Cert.OutLn1Ideal.τ).loc Cert.OutLn1Ideal.main_arg3)
      ∧ m' ((c.tc : Thread Cert.OutLn1RefIdeal.nD Cert.OutLn1RefIdeal.τ).loc Cert.OutLn1RefIdeal.main_arg4) = m ((c.tc : Thread Cert.OutLn1Ideal.nD Cert.OutLn1Ideal.τ).loc Cert.OutLn1Ideal.main_arg4)) →
    ∃ (v0 : (c : Dev Cert.OutLn1Ideal.nD) → Buf (Elt Ideal) ((c.tc : Thread Cert.OutLn1Ideal.nD Cert.OutLn1Ideal.τ).loc Cert.OutLn1Ideal.main_v3_0)) (v1 : (c : Dev Cert.OutLn1Ideal.nD) → Buf (Elt Ideal) ((c.tc : Thread Cert.OutLn1Ideal.nD Cert.OutLn1Ideal.τ).loc Cert.OutLn1Ideal.main_v3_1)),
      θ_run (Cert.OutLn1Ideal.defs (F := Ideal)) (onTc (τ := Cert.OutLn1Ideal.τ) (Cert.OutLn1Ideal.main (F := Ideal))) ⟨m, fun _ => 0, g⟩ (fun r => ∀ c : Dev Cert.OutLn1Ideal.nD,
          r.2.mem ((c.tc : Thread Cert.OutLn1Ideal.nD Cert.OutLn1Ideal.τ).loc Cert.OutLn1Ideal.main_v3_0) = v0 c
          ∧ r.2.mem ((c.tc : Thread Cert.OutLn1Ideal.nD Cert.OutLn1Ideal.τ).loc Cert.OutLn1Ideal.main_v3_1) = v1 c
          ∧ r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
          ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
          ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
          ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
          ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4))
      ∧ θ_run (Cert.OutLn1RefIdeal.defs (F := Ideal)) (onTc (τ := Cert.OutLn1RefIdeal.τ) (Cert.OutLn1RefIdeal.main (F := Ideal))) ⟨m', fun _ => 0, g'⟩ (fun r => ∀ c : Dev Cert.OutLn1RefIdeal.nD,
          r.2.mem ((c.tc : Thread Cert.OutLn1RefIdeal.nD Cert.OutLn1RefIdeal.τ).loc Cert.OutLn1RefIdeal.main_v29) = v0 c
          ∧ r.2.mem ((c.tc : Thread Cert.OutLn1RefIdeal.nD Cert.OutLn1RefIdeal.τ).loc Cert.OutLn1RefIdeal.main_v5) = v1 c
          ∧ r.2.mem ((c.tc : Thread Cert.OutLn1RefIdeal.nD Cert.OutLn1RefIdeal.τ).loc Cert.OutLn1RefIdeal.main_arg0) = m' ((c.tc : Thread Cert.OutLn1RefIdeal.nD Cert.OutLn1RefIdeal.τ).loc Cert.OutLn1RefIdeal.main_arg0)
          ∧ r.2.mem ((c.tc : Thread Cert.OutLn1RefIdeal.nD Cert.OutLn1RefIdeal.τ).loc Cert.OutLn1RefIdeal.main_arg1) = m' ((c.tc : Thread Cert.OutLn1RefIdeal.nD Cert.OutLn1RefIdeal.τ).loc Cert.OutLn1RefIdeal.main_arg1)
          ∧ r.2.mem ((c.tc : Thread Cert.OutLn1RefIdeal.nD Cert.OutLn1RefIdeal.τ).loc Cert.OutLn1RefIdeal.main_arg2) = m' ((c.tc : Thread Cert.OutLn1RefIdeal.nD Cert.OutLn1RefIdeal.τ).loc Cert.OutLn1RefIdeal.main_arg2)
          ∧ r.2.mem ((c.tc : Thread Cert.OutLn1RefIdeal.nD Cert.OutLn1RefIdeal.τ).loc Cert.OutLn1RefIdeal.main_arg3) = m' ((c.tc : Thread Cert.OutLn1RefIdeal.nD Cert.OutLn1RefIdeal.τ).loc Cert.OutLn1RefIdeal.main_arg3)
          ∧ r.2.mem ((c.tc : Thread Cert.OutLn1RefIdeal.nD Cert.OutLn1RefIdeal.τ).loc Cert.OutLn1RefIdeal.main_arg4) = m' ((c.tc : Thread Cert.OutLn1RefIdeal.nD Cert.OutLn1RefIdeal.τ).loc Cert.OutLn1RefIdeal.main_arg4))

def preserves_DownLn2_DownLn2Ideal : Prop :=
  True

def algebraic_DownLn2Ideal_DownLn2RefIdeal [hDownLn2Ideal : Cert.DownLn2Ideal.Facts] [hDownLn2RefIdeal : Cert.DownLn2RefIdeal.Facts] : Prop :=
  ∀ (m : (ℓ : Loc Cert.DownLn2Ideal.nD Cert.DownLn2Ideal.τ Cert.DownLn2Ideal.sig) → Buf (Elt Ideal) ℓ) (g : Dev Cert.DownLn2Ideal.nD → PrngReg)
    (m' : (ℓ : Loc Cert.DownLn2RefIdeal.nD Cert.DownLn2RefIdeal.τ Cert.DownLn2RefIdeal.sig) → Buf (Elt Ideal) ℓ) (g' : Dev Cert.DownLn2RefIdeal.nD → PrngReg), Pre_DownLn2Ideal m →
    (∀ c : Dev Cert.DownLn2Ideal.nD,
      m' ((c.tc : Thread Cert.DownLn2RefIdeal.nD Cert.DownLn2RefIdeal.τ).loc Cert.DownLn2RefIdeal.main_arg0) = m ((c.tc : Thread Cert.DownLn2Ideal.nD Cert.DownLn2Ideal.τ).loc Cert.DownLn2Ideal.main_arg0)
      ∧ m' ((c.tc : Thread Cert.DownLn2RefIdeal.nD Cert.DownLn2RefIdeal.τ).loc Cert.DownLn2RefIdeal.main_arg1) = m ((c.tc : Thread Cert.DownLn2Ideal.nD Cert.DownLn2Ideal.τ).loc Cert.DownLn2Ideal.main_arg1)
      ∧ m' ((c.tc : Thread Cert.DownLn2RefIdeal.nD Cert.DownLn2RefIdeal.τ).loc Cert.DownLn2RefIdeal.main_arg2) = m ((c.tc : Thread Cert.DownLn2Ideal.nD Cert.DownLn2Ideal.τ).loc Cert.DownLn2Ideal.main_arg2)
      ∧ m' ((c.tc : Thread Cert.DownLn2RefIdeal.nD Cert.DownLn2RefIdeal.τ).loc Cert.DownLn2RefIdeal.main_arg3) = m ((c.tc : Thread Cert.DownLn2Ideal.nD Cert.DownLn2Ideal.τ).loc Cert.DownLn2Ideal.main_arg3)
      ∧ m' ((c.tc : Thread Cert.DownLn2RefIdeal.nD Cert.DownLn2RefIdeal.τ).loc Cert.DownLn2RefIdeal.main_arg4) = m ((c.tc : Thread Cert.DownLn2Ideal.nD Cert.DownLn2Ideal.τ).loc Cert.DownLn2Ideal.main_arg4)
      ∧ m' ((c.tc : Thread Cert.DownLn2RefIdeal.nD Cert.DownLn2RefIdeal.τ).loc Cert.DownLn2RefIdeal.main_arg5) = m ((c.tc : Thread Cert.DownLn2Ideal.nD Cert.DownLn2Ideal.τ).loc Cert.DownLn2Ideal.main_arg5)
      ∧ m' ((c.tc : Thread Cert.DownLn2RefIdeal.nD Cert.DownLn2RefIdeal.τ).loc Cert.DownLn2RefIdeal.main_arg6) = m ((c.tc : Thread Cert.DownLn2Ideal.nD Cert.DownLn2Ideal.τ).loc Cert.DownLn2Ideal.main_arg6)) →
    ∃ (v0 : (c : Dev Cert.DownLn2Ideal.nD) → Buf (Elt Ideal) ((c.tc : Thread Cert.DownLn2Ideal.nD Cert.DownLn2Ideal.τ).loc Cert.DownLn2Ideal.main_v3_0)) (v1 : (c : Dev Cert.DownLn2Ideal.nD) → Buf (Elt Ideal) ((c.tc : Thread Cert.DownLn2Ideal.nD Cert.DownLn2Ideal.τ).loc Cert.DownLn2Ideal.main_v3_1)),
      θ_run (Cert.DownLn2Ideal.defs (F := Ideal)) (onTc (τ := Cert.DownLn2Ideal.τ) (Cert.DownLn2Ideal.main (F := Ideal))) ⟨m, fun _ => 0, g⟩ (fun r => ∀ c : Dev Cert.DownLn2Ideal.nD,
          r.2.mem ((c.tc : Thread Cert.DownLn2Ideal.nD Cert.DownLn2Ideal.τ).loc Cert.DownLn2Ideal.main_v3_0) = v0 c
          ∧ r.2.mem ((c.tc : Thread Cert.DownLn2Ideal.nD Cert.DownLn2Ideal.τ).loc Cert.DownLn2Ideal.main_v3_1) = v1 c
          ∧ r.2.mem ((c.tc : Thread Cert.DownLn2Ideal.nD Cert.DownLn2Ideal.τ).loc Cert.DownLn2Ideal.main_arg0) = m ((c.tc : Thread Cert.DownLn2Ideal.nD Cert.DownLn2Ideal.τ).loc Cert.DownLn2Ideal.main_arg0)
          ∧ r.2.mem ((c.tc : Thread Cert.DownLn2Ideal.nD Cert.DownLn2Ideal.τ).loc Cert.DownLn2Ideal.main_arg1) = m ((c.tc : Thread Cert.DownLn2Ideal.nD Cert.DownLn2Ideal.τ).loc Cert.DownLn2Ideal.main_arg1)
          ∧ r.2.mem ((c.tc : Thread Cert.DownLn2Ideal.nD Cert.DownLn2Ideal.τ).loc Cert.DownLn2Ideal.main_arg2) = m ((c.tc : Thread Cert.DownLn2Ideal.nD Cert.DownLn2Ideal.τ).loc Cert.DownLn2Ideal.main_arg2)
          ∧ r.2.mem ((c.tc : Thread Cert.DownLn2Ideal.nD Cert.DownLn2Ideal.τ).loc Cert.DownLn2Ideal.main_arg3) = m ((c.tc : Thread Cert.DownLn2Ideal.nD Cert.DownLn2Ideal.τ).loc Cert.DownLn2Ideal.main_arg3)
          ∧ r.2.mem ((c.tc : Thread Cert.DownLn2Ideal.nD Cert.DownLn2Ideal.τ).loc Cert.DownLn2Ideal.main_arg4) = m ((c.tc : Thread Cert.DownLn2Ideal.nD Cert.DownLn2Ideal.τ).loc Cert.DownLn2Ideal.main_arg4)
          ∧ r.2.mem ((c.tc : Thread Cert.DownLn2Ideal.nD Cert.DownLn2Ideal.τ).loc Cert.DownLn2Ideal.main_arg5) = m ((c.tc : Thread Cert.DownLn2Ideal.nD Cert.DownLn2Ideal.τ).loc Cert.DownLn2Ideal.main_arg5)
          ∧ r.2.mem ((c.tc : Thread Cert.DownLn2Ideal.nD Cert.DownLn2Ideal.τ).loc Cert.DownLn2Ideal.main_arg6) = m ((c.tc : Thread Cert.DownLn2Ideal.nD Cert.DownLn2Ideal.τ).loc Cert.DownLn2Ideal.main_arg6))
      ∧ θ_run (Cert.DownLn2RefIdeal.defs (F := Ideal)) (onTc (τ := Cert.DownLn2RefIdeal.τ) (Cert.DownLn2RefIdeal.main (F := Ideal))) ⟨m', fun _ => 0, g'⟩ (fun r => ∀ c : Dev Cert.DownLn2RefIdeal.nD,
          r.2.mem ((c.tc : Thread Cert.DownLn2RefIdeal.nD Cert.DownLn2RefIdeal.τ).loc Cert.DownLn2RefIdeal.main_v37) = v0 c
          ∧ r.2.mem ((c.tc : Thread Cert.DownLn2RefIdeal.nD Cert.DownLn2RefIdeal.τ).loc Cert.DownLn2RefIdeal.main_v13) = v1 c
          ∧ r.2.mem ((c.tc : Thread Cert.DownLn2RefIdeal.nD Cert.DownLn2RefIdeal.τ).loc Cert.DownLn2RefIdeal.main_arg0) = m' ((c.tc : Thread Cert.DownLn2RefIdeal.nD Cert.DownLn2RefIdeal.τ).loc Cert.DownLn2RefIdeal.main_arg0)
          ∧ r.2.mem ((c.tc : Thread Cert.DownLn2RefIdeal.nD Cert.DownLn2RefIdeal.τ).loc Cert.DownLn2RefIdeal.main_arg1) = m' ((c.tc : Thread Cert.DownLn2RefIdeal.nD Cert.DownLn2RefIdeal.τ).loc Cert.DownLn2RefIdeal.main_arg1)
          ∧ r.2.mem ((c.tc : Thread Cert.DownLn2RefIdeal.nD Cert.DownLn2RefIdeal.τ).loc Cert.DownLn2RefIdeal.main_arg2) = m' ((c.tc : Thread Cert.DownLn2RefIdeal.nD Cert.DownLn2RefIdeal.τ).loc Cert.DownLn2RefIdeal.main_arg2)
          ∧ r.2.mem ((c.tc : Thread Cert.DownLn2RefIdeal.nD Cert.DownLn2RefIdeal.τ).loc Cert.DownLn2RefIdeal.main_arg3) = m' ((c.tc : Thread Cert.DownLn2RefIdeal.nD Cert.DownLn2RefIdeal.τ).loc Cert.DownLn2RefIdeal.main_arg3)
          ∧ r.2.mem ((c.tc : Thread Cert.DownLn2RefIdeal.nD Cert.DownLn2RefIdeal.τ).loc Cert.DownLn2RefIdeal.main_arg4) = m' ((c.tc : Thread Cert.DownLn2RefIdeal.nD Cert.DownLn2RefIdeal.τ).loc Cert.DownLn2RefIdeal.main_arg4)
          ∧ r.2.mem ((c.tc : Thread Cert.DownLn2RefIdeal.nD Cert.DownLn2RefIdeal.τ).loc Cert.DownLn2RefIdeal.main_arg5) = m' ((c.tc : Thread Cert.DownLn2RefIdeal.nD Cert.DownLn2RefIdeal.τ).loc Cert.DownLn2RefIdeal.main_arg5)
          ∧ r.2.mem ((c.tc : Thread Cert.DownLn2RefIdeal.nD Cert.DownLn2RefIdeal.τ).loc Cert.DownLn2RefIdeal.main_arg6) = m' ((c.tc : Thread Cert.DownLn2RefIdeal.nD Cert.DownLn2RefIdeal.τ).loc Cert.DownLn2RefIdeal.main_arg6))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)
      ∧ m' ((c.tc : Thread Cert.DownLossRefIdeal.nD Cert.DownLossRefIdeal.τ).loc Cert.DownLossRefIdeal.main_arg5) = m ((c.tc : Thread Cert.DownLossIdeal.nD Cert.DownLossIdeal.τ).loc Cert.DownLossIdeal.main_arg5)
      ∧ m' ((c.tc : Thread Cert.DownLossRefIdeal.nD Cert.DownLossRefIdeal.τ).loc Cert.DownLossRefIdeal.main_arg6) = m ((c.tc : Thread Cert.DownLossIdeal.nD Cert.DownLossIdeal.τ).loc Cert.DownLossIdeal.main_arg6)
      ∧ m' ((c.tc : Thread Cert.DownLossRefIdeal.nD Cert.DownLossRefIdeal.τ).loc Cert.DownLossRefIdeal.main_arg7) = m ((c.tc : Thread Cert.DownLossIdeal.nD Cert.DownLossIdeal.τ).loc Cert.DownLossIdeal.main_arg7)) →
    ∃ (v0 : (c : Dev Cert.DownLossIdeal.nD) → Buf (Elt Ideal) ((c.tc : Thread Cert.DownLossIdeal.nD Cert.DownLossIdeal.τ).loc Cert.DownLossIdeal.main_v3_0)) (v1 : (c : Dev Cert.DownLossIdeal.nD) → Buf (Elt Ideal) ((c.tc : Thread Cert.DownLossIdeal.nD Cert.DownLossIdeal.τ).loc Cert.DownLossIdeal.main_v3_1)) (v2 : (c : Dev Cert.DownLossIdeal.nD) → Buf (Elt Ideal) ((c.tc : Thread Cert.DownLossIdeal.nD Cert.DownLossIdeal.τ).loc Cert.DownLossIdeal.main_v3_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v3_0) = v0 c
          ∧ r.2.mem ((c.tc : Thread Cert.DownLossIdeal.nD Cert.DownLossIdeal.τ).loc Cert.DownLossIdeal.main_v3_1) = v1 c
          ∧ r.2.mem ((c.tc : Thread Cert.DownLossIdeal.nD Cert.DownLossIdeal.τ).loc Cert.DownLossIdeal.main_v3_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
          ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5)
          ∧ r.2.mem ((c.tc : Thread Cert.DownLossIdeal.nD Cert.DownLossIdeal.τ).loc Cert.DownLossIdeal.main_arg6) = m ((c.tc : Thread Cert.DownLossIdeal.nD Cert.DownLossIdeal.τ).loc Cert.DownLossIdeal.main_arg6)
          ∧ r.2.mem ((c.tc : Thread Cert.DownLossIdeal.nD Cert.DownLossIdeal.τ).loc Cert.DownLossIdeal.main_arg7) = m ((c.tc : Thread Cert.DownLossIdeal.nD Cert.DownLossIdeal.τ).loc Cert.DownLossIdeal.main_arg7))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v52) = v0 c
          ∧ r.2.mem ((c.tc : Thread Cert.DownLossRefIdeal.nD Cert.DownLossRefIdeal.τ).loc Cert.DownLossRefIdeal.main_v13) = v1 c
          ∧ r.2.mem ((c.tc : Thread Cert.DownLossRefIdeal.nD Cert.DownLossRefIdeal.τ).loc Cert.DownLossRefIdeal.main_v53) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4)
          ∧ r.2.mem ((c.tc : Thread Cert.DownLossRefIdeal.nD Cert.DownLossRefIdeal.τ).loc Cert.DownLossRefIdeal.main_arg5) = m' ((c.tc : Thread Cert.DownLossRefIdeal.nD Cert.DownLossRefIdeal.τ).loc Cert.DownLossRefIdeal.main_arg5)
          ∧ r.2.mem ((c.tc : Thread Cert.DownLossRefIdeal.nD Cert.DownLossRefIdeal.τ).loc Cert.DownLossRefIdeal.main_arg6) = m' ((c.tc : Thread Cert.DownLossRefIdeal.nD Cert.DownLossRefIdeal.τ).loc Cert.DownLossRefIdeal.main_arg6)
          ∧ r.2.mem ((c.tc : Thread Cert.DownLossRefIdeal.nD Cert.DownLossRefIdeal.τ).loc Cert.DownLossRefIdeal.main_arg7) = m' ((c.tc : Thread Cert.DownLossRefIdeal.nD Cert.DownLossRefIdeal.τ).loc Cert.DownLossRefIdeal.main_arg7))

def preserves_Glu_GluIdeal : Prop :=
  True

def algebraic_GluIdeal_GluRefIdeal_pre_glu_cotangent_finite [hGluIdeal : Cert.GluIdeal.Facts] [hGluRefIdeal : Cert.GluRefIdeal.Facts] [hPre_glu_cotangent_finite : Cert.Pre_glu_cotangent_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_cotangent_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v7_0)) (v1 : (c : Dev Cert.GluIdeal.nD) → Buf (Elt Ideal) ((c.tc : Thread Cert.GluIdeal.nD Cert.GluIdeal.τ).loc Cert.GluIdeal.main_v7_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v7_0) = v0 c
          ∧ r.2.mem ((c.tc : Thread Cert.GluIdeal.nD Cert.GluIdeal.τ).loc Cert.GluIdeal.main_v7_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v94) = v0 c
          ∧ r.2.mem ((c.tc : Thread Cert.GluRefIdeal.nD Cert.GluRefIdeal.τ).loc Cert.GluRefIdeal.main_v97) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v7)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v7) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v39) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_Pool_PoolIdeal : Prop :=
  True

def algebraic_PoolIdeal_PoolRefIdeal_on_diagonal_blocks [hPoolIdeal : Cert.PoolIdeal.Facts] [hPoolRefIdeal : Cert.PoolRefIdeal.Facts] [hOn_diagonal_blocks : Cert.On_diagonal_blocks.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v15_0)) (v1 : (c : Dev Cert.PoolIdeal.nD) → Buf (Elt Ideal) ((c.tc : Thread Cert.PoolIdeal.nD Cert.PoolIdeal.τ).loc Cert.PoolIdeal.main_v15_1)) (v2 : (c : Dev Cert.PoolIdeal.nD) → Buf (Elt Ideal) ((c.tc : Thread Cert.PoolIdeal.nD Cert.PoolIdeal.τ).loc Cert.PoolIdeal.main_v15_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          (∀ i : (⟨2, ![8192, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolIdeal.nD Cert.PoolIdeal.τ).loc Cert.PoolIdeal.main_v15_0) i = v0 c i)
          ∧ (∀ i : (⟨2, ![256, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolIdeal.nD Cert.PoolIdeal.τ).loc Cert.PoolIdeal.main_v15_1) i = v1 c i)
          ∧ (∀ i : (⟨2, ![1, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolIdeal.nD Cert.PoolIdeal.τ).loc Cert.PoolIdeal.main_v15_2) i = v2 c i)
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          (∀ i : (⟨2, ![8192, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 i = 1#1 → r.2.mem ((c.tc : Thread Cert.PoolRefIdeal.nD Cert.PoolRefIdeal.τ).loc Cert.PoolRefIdeal.main_v75) i = v0 c i)
          ∧ (∀ i : (⟨2, ![256, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 i = 1#1 → r.2.mem ((c.tc : Thread Cert.PoolRefIdeal.nD Cert.PoolRefIdeal.τ).loc Cert.PoolRefIdeal.main_v73) i = v1 c i)
          ∧ (∀ i : (⟨2, ![1, 256]⟩ : Shape).Idx, (Cert.On_diagonal_blocks.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 i = 1#1 → r.2.mem ((c.tc : Thread Cert.PoolRefIdeal.nD Cert.PoolRefIdeal.τ).loc Cert.PoolRefIdeal.main_v76) i = v2 c i)
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v15)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v15) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v50) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)
      ∧ m' ((c.tc : Thread Cert.SumOutRefIdeal.nD Cert.SumOutRefIdeal.τ).loc Cert.SumOutRefIdeal.main_arg3) = m ((c.tc : Thread Cert.SumOutIdeal.nD Cert.SumOutIdeal.τ).loc Cert.SumOutIdeal.main_arg3)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
          ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v8) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2)
          ∧ r.2.mem ((c.tc : Thread Cert.SumOutRefIdeal.nD Cert.SumOutRefIdeal.τ).loc Cert.SumOutRefIdeal.main_arg3) = m' ((c.tc : Thread Cert.SumOutRefIdeal.nD Cert.SumOutRefIdeal.τ).loc Cert.SumOutRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)
      ∧ m' ((c.tc : Thread Cert.SumInRefIdeal.nD Cert.SumInRefIdeal.τ).loc Cert.SumInRefIdeal.main_arg3) = m ((c.tc : Thread Cert.SumInIdeal.nD Cert.SumInIdeal.τ).loc Cert.SumInIdeal.main_arg3)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2)
          ∧ r.2.mem ((c.tc : Thread Cert.SumInIdeal.nD Cert.SumInIdeal.τ).loc Cert.SumInIdeal.main_arg3) = m ((c.tc : Thread Cert.SumInIdeal.nD Cert.SumInIdeal.τ).loc Cert.SumInIdeal.main_arg3))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v8) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2)
          ∧ r.2.mem ((c.tc : Thread Cert.SumInRefIdeal.nD Cert.SumInRefIdeal.τ).loc Cert.SumInRefIdeal.main_arg3) = m' ((c.tc : Thread Cert.SumInRefIdeal.nD Cert.SumInRefIdeal.τ).loc Cert.SumInRefIdeal.main_arg3))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)
      ∧ m' ((c.tc : Thread Cert.SumUpRefIdeal.nD Cert.SumUpRefIdeal.τ).loc Cert.SumUpRefIdeal.main_arg2) = m ((c.tc : Thread Cert.SumUpIdeal.nD Cert.SumUpIdeal.τ).loc Cert.SumUpIdeal.main_arg2)
      ∧ m' ((c.tc : Thread Cert.SumUpRefIdeal.nD Cert.SumUpRefIdeal.τ).loc Cert.SumUpRefIdeal.main_arg3) = m ((c.tc : Thread Cert.SumUpIdeal.nD Cert.SumUpIdeal.τ).loc Cert.SumUpIdeal.main_arg3)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
          ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
          ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v8) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1)
          ∧ r.2.mem ((c.tc : Thread Cert.SumUpRefIdeal.nD Cert.SumUpRefIdeal.τ).loc Cert.SumUpRefIdeal.main_arg2) = m' ((c.tc : Thread Cert.SumUpRefIdeal.nD Cert.SumUpRefIdeal.τ).loc Cert.SumUpRefIdeal.main_arg2)
          ∧ r.2.mem ((c.tc : Thread Cert.SumUpRefIdeal.nD Cert.SumUpRefIdeal.τ).loc Cert.SumUpRefIdeal.main_arg3) = m' ((c.tc : Thread Cert.SumUpRefIdeal.nD Cert.SumUpRefIdeal.τ).loc Cert.SumUpRefIdeal.main_arg3))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)
      ∧ m' ((c.tc : Thread Cert.SumDownRefIdeal.nD Cert.SumDownRefIdeal.τ).loc Cert.SumDownRefIdeal.main_arg2) = m ((c.tc : Thread Cert.SumDownIdeal.nD Cert.SumDownIdeal.τ).loc Cert.SumDownIdeal.main_arg2)
      ∧ m' ((c.tc : Thread Cert.SumDownRefIdeal.nD Cert.SumDownRefIdeal.τ).loc Cert.SumDownRefIdeal.main_arg3) = m ((c.tc : Thread Cert.SumDownIdeal.nD Cert.SumDownIdeal.τ).loc Cert.SumDownIdeal.main_arg3)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1)
          ∧ r.2.mem ((c.tc : Thread Cert.SumDownIdeal.nD Cert.SumDownIdeal.τ).loc Cert.SumDownIdeal.main_arg2) = m ((c.tc : Thread Cert.SumDownIdeal.nD Cert.SumDownIdeal.τ).loc Cert.SumDownIdeal.main_arg2)
          ∧ r.2.mem ((c.tc : Thread Cert.SumDownIdeal.nD Cert.SumDownIdeal.τ).loc Cert.SumDownIdeal.main_arg3) = m ((c.tc : Thread Cert.SumDownIdeal.nD Cert.SumDownIdeal.τ).loc Cert.SumDownIdeal.main_arg3))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v8) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1)
          ∧ r.2.mem ((c.tc : Thread Cert.SumDownRefIdeal.nD Cert.SumDownRefIdeal.τ).loc Cert.SumDownRefIdeal.main_arg2) = m' ((c.tc : Thread Cert.SumDownRefIdeal.nD Cert.SumDownRefIdeal.τ).loc Cert.SumDownRefIdeal.main_arg2)
          ∧ r.2.mem ((c.tc : Thread Cert.SumDownRefIdeal.nD Cert.SumDownRefIdeal.τ).loc Cert.SumDownRefIdeal.main_arg3) = m' ((c.tc : Thread Cert.SumDownRefIdeal.nD Cert.SumDownRefIdeal.τ).loc Cert.SumDownRefIdeal.main_arg3))

def preserves_SumProj_SumProjIdeal : Prop :=
  True

def algebraic_SumProjIdeal_SumProjRefIdeal [hSumProjIdeal : Cert.SumProjIdeal.Facts] [hSumProjRefIdeal : Cert.SumProjRefIdeal.Facts] : Prop :=
  ∀ (m : (ℓ : Loc Cert.SumProjIdeal.nD Cert.SumProjIdeal.τ Cert.SumProjIdeal.sig) → Buf (Elt Ideal) ℓ) (g : Dev Cert.SumProjIdeal.nD → PrngReg)
    (m' : (ℓ : Loc Cert.SumProjRefIdeal.nD Cert.SumProjRefIdeal.τ Cert.SumProjRefIdeal.sig) → Buf (Elt Ideal) ℓ) (g' : Dev Cert.SumProjRefIdeal.nD → PrngReg), Pre_SumProjIdeal m →
    (∀ c : Dev Cert.SumProjIdeal.nD,
      m' ((c.tc : Thread Cert.SumProjRefIdeal.nD Cert.SumProjRefIdeal.τ).loc Cert.SumProjRefIdeal.main_arg0) = m ((c.tc : Thread Cert.SumProjIdeal.nD Cert.SumProjIdeal.τ).loc Cert.SumProjIdeal.main_arg0)
      ∧ m' ((c.tc : Thread Cert.SumProjRefIdeal.nD Cert.SumProjRefIdeal.τ).loc Cert.SumProjRefIdeal.main_arg1) = m ((c.tc : Thread Cert.SumProjIdeal.nD Cert.SumProjIdeal.τ).loc Cert.SumProjIdeal.main_arg1)
      ∧ m' ((c.tc : Thread Cert.SumProjRefIdeal.nD Cert.SumProjRefIdeal.τ).loc Cert.SumProjRefIdeal.main_arg2) = m ((c.tc : Thread Cert.SumProjIdeal.nD Cert.SumProjIdeal.τ).loc Cert.SumProjIdeal.main_arg2)
      ∧ m' ((c.tc : Thread Cert.SumProjRefIdeal.nD Cert.SumProjRefIdeal.τ).loc Cert.SumProjRefIdeal.main_arg3) = m ((c.tc : Thread Cert.SumProjIdeal.nD Cert.SumProjIdeal.τ).loc Cert.SumProjIdeal.main_arg3)) →
    ∃ (v0 : (c : Dev Cert.SumProjIdeal.nD) → Buf (Elt Ideal) ((c.tc : Thread Cert.SumProjIdeal.nD Cert.SumProjIdeal.τ).loc Cert.SumProjIdeal.main_v0)),
      θ_run (Cert.SumProjIdeal.defs (F := Ideal)) (onTc (τ := Cert.SumProjIdeal.τ) (Cert.SumProjIdeal.main (F := Ideal))) ⟨m, fun _ => 0, g⟩ (fun r => ∀ c : Dev Cert.SumProjIdeal.nD,
          r.2.mem ((c.tc : Thread Cert.SumProjIdeal.nD Cert.SumProjIdeal.τ).loc Cert.SumProjIdeal.main_v0) = v0 c
          ∧ r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
          ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1)
          ∧ r.2.mem ((c.tc : Thread Cert.SumProjIdeal.nD Cert.SumProjIdeal.τ).loc Cert.SumProjIdeal.main_arg2) = m ((c.tc : Thread Cert.SumProjIdeal.nD Cert.SumProjIdeal.τ).loc Cert.SumProjIdeal.main_arg2)
          ∧ r.2.mem ((c.tc : Thread Cert.SumProjIdeal.nD Cert.SumProjIdeal.τ).loc Cert.SumProjIdeal.main_arg3) = m ((c.tc : Thread Cert.SumProjIdeal.nD Cert.SumProjIdeal.τ).loc Cert.SumProjIdeal.main_arg3))
      ∧ θ_run (Cert.SumProjRefIdeal.defs (F := Ideal)) (onTc (τ := Cert.SumProjRefIdeal.τ) (Cert.SumProjRefIdeal.main (F := Ideal))) ⟨m', fun _ => 0, g'⟩ (fun r => ∀ c : Dev Cert.SumProjRefIdeal.nD,
          r.2.mem ((c.tc : Thread Cert.SumProjRefIdeal.nD Cert.SumProjRefIdeal.τ).loc Cert.SumProjRefIdeal.main_v8) = v0 c
          ∧ r.2.mem ((c.tc : Thread Cert.SumProjRefIdeal.nD Cert.SumProjRefIdeal.τ).loc Cert.SumProjRefIdeal.main_arg0) = m' ((c.tc : Thread Cert.SumProjRefIdeal.nD Cert.SumProjRefIdeal.τ).loc Cert.SumProjRefIdeal.main_arg0)
          ∧ r.2.mem ((c.tc : Thread Cert.SumProjRefIdeal.nD Cert.SumProjRefIdeal.τ).loc Cert.SumProjRefIdeal.main_arg1) = m' ((c.tc : Thread Cert.SumProjRefIdeal.nD Cert.SumProjRefIdeal.τ).loc Cert.SumProjRefIdeal.main_arg1)
          ∧ r.2.mem ((c.tc : Thread Cert.SumProjRefIdeal.nD Cert.SumProjRefIdeal.τ).loc Cert.SumProjRefIdeal.main_arg2) = m' ((c.tc : Thread Cert.SumProjRefIdeal.nD Cert.SumProjRefIdeal.τ).loc Cert.SumProjRefIdeal.main_arg2)
          ∧ r.2.mem ((c.tc : Thread Cert.SumProjRefIdeal.nD Cert.SumProjRefIdeal.τ).loc Cert.SumProjRefIdeal.main_arg3) = m' ((c.tc : Thread Cert.SumProjRefIdeal.nD Cert.SumProjRefIdeal.τ).loc Cert.SumProjRefIdeal.main_arg3))

def preserves_SsdFwd_SsdFwdIdeal : Prop :=
  True

def Claim : Prop :=
  ∃ (hWgUp : Cert.WgUp.Facts) (hWgUpIdeal : Cert.WgUpIdeal.Facts) (hWgUpRefIdeal : Cert.WgUpRefIdeal.Facts) (hDgUp : Cert.DgUp.Facts) (hDgUpIdeal : Cert.DgUpIdeal.Facts) (hDgUpRefIdeal : Cert.DgUpRefIdeal.Facts) (hWgDown : Cert.WgDown.Facts) (hWgDownIdeal : Cert.WgDownIdeal.Facts) (hWgDownRefIdeal : Cert.WgDownRefIdeal.Facts) (hDgDown : Cert.DgDown.Facts) (hDgDownIdeal : Cert.DgDownIdeal.Facts) (hDgDownRefIdeal : Cert.DgDownRefIdeal.Facts) (hWgIn : Cert.WgIn.Facts) (hWgInIdeal : Cert.WgInIdeal.Facts) (hWgInRefIdeal : Cert.WgInRefIdeal.Facts) (hDgIn : Cert.DgIn.Facts) (hDgInIdeal : Cert.DgInIdeal.Facts) (hDgInRefIdeal : Cert.DgInRefIdeal.Facts) (hWgOut : Cert.WgOut.Facts) (hWgOutIdeal : Cert.WgOutIdeal.Facts) (hWgOutRefIdeal : Cert.WgOutRefIdeal.Facts) (hDgOut : Cert.DgOut.Facts) (hDgOutIdeal : Cert.DgOutIdeal.Facts) (hDgOutRefIdeal : Cert.DgOutRefIdeal.Facts) (hWgGate : Cert.WgGate.Facts) (hWgGateIdeal : Cert.WgGateIdeal.Facts) (hWgGateRefIdeal : Cert.WgGateRefIdeal.Facts) (hDgGate : Cert.DgGate.Facts) (hDgGateIdeal : Cert.DgGateIdeal.Facts) (hDgGateRefIdeal : Cert.DgGateRefIdeal.Facts) (hWgProj : Cert.WgProj.Facts) (hWgProjIdeal : Cert.WgProjIdeal.Facts) (hWgProjRefIdeal : Cert.WgProjRefIdeal.Facts) (hMmIn : Cert.MmIn.Facts) (hMmInIdeal : Cert.MmInIdeal.Facts) (hMmInRefIdeal : Cert.MmInRefIdeal.Facts) (hMmUp : Cert.MmUp.Facts) (hMmUpIdeal : Cert.MmUpIdeal.Facts) (hMmUpRefIdeal : Cert.MmUpRefIdeal.Facts) (hMmGate : Cert.MmGate.Facts) (hMmGateIdeal : Cert.MmGateIdeal.Facts) (hMmGateRefIdeal : Cert.MmGateRefIdeal.Facts) (hMmProj : Cert.MmProj.Facts) (hMmProjIdeal : Cert.MmProjIdeal.Facts) (hMmProjRefIdeal : Cert.MmProjRefIdeal.Facts) (hLn2 : Cert.Ln2.Facts) (hLn2Ideal : Cert.Ln2Ideal.Facts) (hLn2RefIdeal : Cert.Ln2RefIdeal.Facts) (hLn1 : Cert.Ln1.Facts) (hLn1Ideal : Cert.Ln1Ideal.Facts) (hLn1RefIdeal : Cert.Ln1RefIdeal.Facts) (hOutLn1 : Cert.OutLn1.Facts) (hOutLn1Ideal : Cert.OutLn1Ideal.Facts) (hOutLn1RefIdeal : Cert.OutLn1RefIdeal.Facts) (hDownLn2 : Cert.DownLn2.Facts) (hDownLn2Ideal : Cert.DownLn2Ideal.Facts) (hDownLn2RefIdeal : Cert.DownLn2RefIdeal.Facts) (hDownLoss : Cert.DownLoss.Facts) (hDownLossIdeal : Cert.DownLossIdeal.Facts) (hDownLossRefIdeal : Cert.DownLossRefIdeal.Facts) (hGlu : Cert.Glu.Facts) (hGluIdeal : Cert.GluIdeal.Facts) (hGluRefIdeal : Cert.GluRefIdeal.Facts) (hGluFwd : Cert.GluFwd.Facts) (hGluFwdIdeal : Cert.GluFwdIdeal.Facts) (hGluFwdRefIdeal : Cert.GluFwdRefIdeal.Facts) (hPool : Cert.Pool.Facts) (hPoolIdeal : Cert.PoolIdeal.Facts) (hPoolRefIdeal : Cert.PoolRefIdeal.Facts) (hPoolFwd : Cert.PoolFwd.Facts) (hPoolFwdIdeal : Cert.PoolFwdIdeal.Facts) (hPoolFwdRefIdeal : Cert.PoolFwdRefIdeal.Facts) (hAdamW : Cert.AdamW.Facts) (hAdamWIdeal : Cert.AdamWIdeal.Facts) (hAdamWRefIdeal : Cert.AdamWRefIdeal.Facts) (hAdamWIn : Cert.AdamWIn.Facts) (hAdamWInIdeal : Cert.AdamWInIdeal.Facts) (hAdamWInRefIdeal : Cert.AdamWInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hSumOut : Cert.SumOut.Facts) (hSumOutIdeal : Cert.SumOutIdeal.Facts) (hSumOutRefIdeal : Cert.SumOutRefIdeal.Facts) (hSumIn : Cert.SumIn.Facts) (hSumInIdeal : Cert.SumInIdeal.Facts) (hSumInRefIdeal : Cert.SumInRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumProj : Cert.SumProj.Facts) (hSumProjIdeal : Cert.SumProjIdeal.Facts) (hSumProjRefIdeal : Cert.SumProjRefIdeal.Facts) (hSsdFwd : Cert.SsdFwd.Facts) (hSsdFwdIdeal : Cert.SsdFwdIdeal.Facts) (hPre_ln2_cotangent_finite : Cert.Pre_ln2_cotangent_finite.Facts) (hPre_ln1_cotangent_finite : Cert.Pre_ln1_cotangent_finite.Facts) (hPre_glu_cotangent_finite : Cert.Pre_glu_cotangent_finite.Facts) (hOn_diagonal_blocks : Cert.On_diagonal_blocks.Facts),
    quiescent_WgUp (hWgUp := hWgUp)
    ∧ quiescent_WgUpIdeal (hWgUpIdeal := hWgUpIdeal)
    ∧ quiescent_WgUpRefIdeal (hWgUpRefIdeal := hWgUpRefIdeal)
    ∧ quiescent_DgUp (hDgUp := hDgUp)
    ∧ quiescent_DgUpIdeal (hDgUpIdeal := hDgUpIdeal)
    ∧ quiescent_DgUpRefIdeal (hDgUpRefIdeal := hDgUpRefIdeal)
    ∧ quiescent_WgDown (hWgDown := hWgDown)
    ∧ quiescent_WgDownIdeal (hWgDownIdeal := hWgDownIdeal)
    ∧ quiescent_WgDownRefIdeal (hWgDownRefIdeal := hWgDownRefIdeal)
    ∧ quiescent_DgDown (hDgDown := hDgDown)
    ∧ quiescent_DgDownIdeal (hDgDownIdeal := hDgDownIdeal)
    ∧ quiescent_DgDownRefIdeal (hDgDownRefIdeal := hDgDownRefIdeal)
    ∧ quiescent_WgIn (hWgIn := hWgIn)
    ∧ quiescent_WgInIdeal (hWgInIdeal := hWgInIdeal)
    ∧ quiescent_WgInRefIdeal (hWgInRefIdeal := hWgInRefIdeal)
    ∧ quiescent_DgIn (hDgIn := hDgIn)
    ∧ quiescent_DgInIdeal (hDgInIdeal := hDgInIdeal)
    ∧ quiescent_DgInRefIdeal (hDgInRefIdeal := hDgInRefIdeal)
    ∧ quiescent_WgOut (hWgOut := hWgOut)
    ∧ quiescent_WgOutIdeal (hWgOutIdeal := hWgOutIdeal)
    ∧ quiescent_WgOutRefIdeal (hWgOutRefIdeal := hWgOutRefIdeal)
    ∧ quiescent_DgOut (hDgOut := hDgOut)
    ∧ quiescent_DgOutIdeal (hDgOutIdeal := hDgOutIdeal)
    ∧ quiescent_DgOutRefIdeal (hDgOutRefIdeal := hDgOutRefIdeal)
    ∧ quiescent_WgGate (hWgGate := hWgGate)
    ∧ quiescent_WgGateIdeal (hWgGateIdeal := hWgGateIdeal)
    ∧ quiescent_WgGateRefIdeal (hWgGateRefIdeal := hWgGateRefIdeal)
    ∧ quiescent_DgGate (hDgGate := hDgGate)
    ∧ quiescent_DgGateIdeal (hDgGateIdeal := hDgGateIdeal)
    ∧ quiescent_DgGateRefIdeal (hDgGateRefIdeal := hDgGateRefIdeal)
    ∧ quiescent_WgProj (hWgProj := hWgProj)
    ∧ quiescent_WgProjIdeal (hWgProjIdeal := hWgProjIdeal)
    ∧ quiescent_WgProjRefIdeal (hWgProjRefIdeal := hWgProjRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmGate (hMmGate := hMmGate)
    ∧ quiescent_MmGateIdeal (hMmGateIdeal := hMmGateIdeal)
    ∧ quiescent_MmGateRefIdeal (hMmGateRefIdeal := hMmGateRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_Ln2 (hLn2 := hLn2)
    ∧ quiescent_Ln2Ideal (hLn2Ideal := hLn2Ideal)
    ∧ quiescent_Ln2Ideal_pre_ln2_cotangent_finite (hLn2Ideal := hLn2Ideal) (hPre_ln2_cotangent_finite := hPre_ln2_cotangent_finite)
    ∧ quiescent_Ln2RefIdeal (hLn2RefIdeal := hLn2RefIdeal)
    ∧ quiescent_Ln2RefIdeal_pre_ln2_cotangent_finite (hLn2RefIdeal := hLn2RefIdeal) (hPre_ln2_cotangent_finite := hPre_ln2_cotangent_finite)
    ∧ quiescent_Ln1 (hLn1 := hLn1)
    ∧ quiescent_Ln1Ideal (hLn1Ideal := hLn1Ideal)
    ∧ quiescent_Ln1Ideal_pre_ln1_cotangent_finite (hLn1Ideal := hLn1Ideal) (hPre_ln1_cotangent_finite := hPre_ln1_cotangent_finite)
    ∧ quiescent_Ln1RefIdeal (hLn1RefIdeal := hLn1RefIdeal)
    ∧ quiescent_Ln1RefIdeal_pre_ln1_cotangent_finite (hLn1RefIdeal := hLn1RefIdeal) (hPre_ln1_cotangent_finite := hPre_ln1_cotangent_finite)
    ∧ quiescent_OutLn1 (hOutLn1 := hOutLn1)
    ∧ quiescent_OutLn1Ideal (hOutLn1Ideal := hOutLn1Ideal)
    ∧ quiescent_OutLn1RefIdeal (hOutLn1RefIdeal := hOutLn1RefIdeal)
    ∧ quiescent_DownLn2 (hDownLn2 := hDownLn2)
    ∧ quiescent_DownLn2Ideal (hDownLn2Ideal := hDownLn2Ideal)
    ∧ quiescent_DownLn2RefIdeal (hDownLn2RefIdeal := hDownLn2RefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_Glu (hGlu := hGlu)
    ∧ quiescent_GluIdeal (hGluIdeal := hGluIdeal)
    ∧ quiescent_GluIdeal_pre_glu_cotangent_finite (hGluIdeal := hGluIdeal) (hPre_glu_cotangent_finite := hPre_glu_cotangent_finite)
    ∧ quiescent_GluRefIdeal (hGluRefIdeal := hGluRefIdeal)
    ∧ quiescent_GluRefIdeal_pre_glu_cotangent_finite (hGluRefIdeal := hGluRefIdeal) (hPre_glu_cotangent_finite := hPre_glu_cotangent_finite)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_Pool (hPool := hPool)
    ∧ quiescent_PoolIdeal (hPoolIdeal := hPoolIdeal)
    ∧ quiescent_PoolRefIdeal (hPoolRefIdeal := hPoolRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumProj (hSumProj := hSumProj)
    ∧ quiescent_SumProjIdeal (hSumProjIdeal := hSumProjIdeal)
    ∧ quiescent_SumProjRefIdeal (hSumProjRefIdeal := hSumProjRefIdeal)
    ∧ quiescent_SsdFwd (hSsdFwd := hSsdFwd)
    ∧ quiescent_SsdFwdIdeal (hSsdFwdIdeal := hSsdFwdIdeal)
    ∧ preserves_WgUp_WgUpIdeal
    ∧ algebraic_WgUpIdeal_WgUpRefIdeal (hWgUpIdeal := hWgUpIdeal) (hWgUpRefIdeal := hWgUpRefIdeal)
    ∧ preserves_DgUp_DgUpIdeal
    ∧ algebraic_DgUpIdeal_DgUpRefIdeal (hDgUpIdeal := hDgUpIdeal) (hDgUpRefIdeal := hDgUpRefIdeal)
    ∧ preserves_WgDown_WgDownIdeal
    ∧ algebraic_WgDownIdeal_WgDownRefIdeal (hWgDownIdeal := hWgDownIdeal) (hWgDownRefIdeal := hWgDownRefIdeal)
    ∧ preserves_DgDown_DgDownIdeal
    ∧ algebraic_DgDownIdeal_DgDownRefIdeal (hDgDownIdeal := hDgDownIdeal) (hDgDownRefIdeal := hDgDownRefIdeal)
    ∧ preserves_WgIn_WgInIdeal
    ∧ algebraic_WgInIdeal_WgInRefIdeal (hWgInIdeal := hWgInIdeal) (hWgInRefIdeal := hWgInRefIdeal)
    ∧ preserves_DgIn_DgInIdeal
    ∧ algebraic_DgInIdeal_DgInRefIdeal (hDgInIdeal := hDgInIdeal) (hDgInRefIdeal := hDgInRefIdeal)
    ∧ preserves_WgOut_WgOutIdeal
    ∧ algebraic_WgOutIdeal_WgOutRefIdeal (hWgOutIdeal := hWgOutIdeal) (hWgOutRefIdeal := hWgOutRefIdeal)
    ∧ preserves_DgOut_DgOutIdeal
    ∧ algebraic_DgOutIdeal_DgOutRefIdeal (hDgOutIdeal := hDgOutIdeal) (hDgOutRefIdeal := hDgOutRefIdeal)
    ∧ preserves_WgGate_WgGateIdeal
    ∧ algebraic_WgGateIdeal_WgGateRefIdeal (hWgGateIdeal := hWgGateIdeal) (hWgGateRefIdeal := hWgGateRefIdeal)
    ∧ preserves_DgGate_DgGateIdeal
    ∧ algebraic_DgGateIdeal_DgGateRefIdeal (hDgGateIdeal := hDgGateIdeal) (hDgGateRefIdeal := hDgGateRefIdeal)
    ∧ preserves_WgProj_WgProjIdeal
    ∧ algebraic_WgProjIdeal_WgProjRefIdeal (hWgProjIdeal := hWgProjIdeal) (hWgProjRefIdeal := hWgProjRefIdeal)
    ∧ preserves_MmIn_MmInIdeal
    ∧ algebraic_MmInIdeal_MmInRefIdeal (hMmInIdeal := hMmInIdeal) (hMmInRefIdeal := hMmInRefIdeal)
    ∧ preserves_MmUp_MmUpIdeal
    ∧ algebraic_MmUpIdeal_MmUpRefIdeal (hMmUpIdeal := hMmUpIdeal) (hMmUpRefIdeal := hMmUpRefIdeal)
    ∧ preserves_MmGate_MmGateIdeal
    ∧ algebraic_MmGateIdeal_MmGateRefIdeal (hMmGateIdeal := hMmGateIdeal) (hMmGateRefIdeal := hMmGateRefIdeal)
    ∧ preserves_MmProj_MmProjIdeal
    ∧ algebraic_MmProjIdeal_MmProjRefIdeal (hMmProjIdeal := hMmProjIdeal) (hMmProjRefIdeal := hMmProjRefIdeal)
    ∧ preserves_Ln2_Ln2Ideal
    ∧ algebraic_Ln2Ideal_Ln2RefIdeal_pre_ln2_cotangent_finite (hLn2Ideal := hLn2Ideal) (hLn2RefIdeal := hLn2RefIdeal) (hPre_ln2_cotangent_finite := hPre_ln2_cotangent_finite)
    ∧ preserves_Ln1_Ln1Ideal
    ∧ algebraic_Ln1Ideal_Ln1RefIdeal_pre_ln1_cotangent_finite (hLn1Ideal := hLn1Ideal) (hLn1RefIdeal := hLn1RefIdeal) (hPre_ln1_cotangent_finite := hPre_ln1_cotangent_finite)
    ∧ preserves_OutLn1_OutLn1Ideal
    ∧ algebraic_OutLn1Ideal_OutLn1RefIdeal (hOutLn1Ideal := hOutLn1Ideal) (hOutLn1RefIdeal := hOutLn1RefIdeal)
    ∧ preserves_DownLn2_DownLn2Ideal
    ∧ algebraic_DownLn2Ideal_DownLn2RefIdeal (hDownLn2Ideal := hDownLn2Ideal) (hDownLn2RefIdeal := hDownLn2RefIdeal)
    ∧ preserves_DownLoss_DownLossIdeal
    ∧ algebraic_DownLossIdeal_DownLossRefIdeal (hDownLossIdeal := hDownLossIdeal) (hDownLossRefIdeal := hDownLossRefIdeal)
    ∧ preserves_Glu_GluIdeal
    ∧ algebraic_GluIdeal_GluRefIdeal_pre_glu_cotangent_finite (hGluIdeal := hGluIdeal) (hGluRefIdeal := hGluRefIdeal) (hPre_glu_cotangent_finite := hPre_glu_cotangent_finite)
    ∧ preserves_GluFwd_GluFwdIdeal
    ∧ algebraic_GluFwdIdeal_GluFwdRefIdeal (hGluFwdIdeal := hGluFwdIdeal) (hGluFwdRefIdeal := hGluFwdRefIdeal)
    ∧ preserves_Pool_PoolIdeal
    ∧ algebraic_PoolIdeal_PoolRefIdeal_on_diagonal_blocks (hPoolIdeal := hPoolIdeal) (hPoolRefIdeal := hPoolRefIdeal) (hOn_diagonal_blocks := hOn_diagonal_blocks)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_AdamW_AdamWIdeal
    ∧ algebraic_AdamWIdeal_AdamWRefIdeal (hAdamWIdeal := hAdamWIdeal) (hAdamWRefIdeal := hAdamWRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumOut_SumOutIdeal
    ∧ algebraic_SumOutIdeal_SumOutRefIdeal (hSumOutIdeal := hSumOutIdeal) (hSumOutRefIdeal := hSumOutRefIdeal)
    ∧ preserves_SumIn_SumInIdeal
    ∧ algebraic_SumInIdeal_SumInRefIdeal (hSumInIdeal := hSumInIdeal) (hSumInRefIdeal := hSumInRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumProj_SumProjIdeal
    ∧ algebraic_SumProjIdeal_SumProjRefIdeal (hSumProjIdeal := hSumProjIdeal) (hSumProjRefIdeal := hSumProjRefIdeal)
    ∧ preserves_SsdFwd_SsdFwdIdeal
-- ==== On_diagonal_blocks.lean ====
abbrev S8192x2816 : Shape := ⟨2, ![8192, 2816]⟩
abbrev S8192x1024 : Shape := ⟨2, ![8192, 1024]⟩
abbrev S4x64x64 : Shape := ⟨3, ![4, 64, 64]⟩
abbrev S256 : Shape := ⟨1, ![256]⟩
abbrev S256x256 : Shape := ⟨2, ![256, 256]⟩
abbrev S_ : Shape := ⟨0, ![]⟩
abbrev S8192x256 : Shape := ⟨2, ![8192, 256]⟩
abbrev S1x256 : Shape := ⟨2, ![1, 256]⟩

class Facts : Prop where
  bcast_S_S8192x256 : S_.BroadcastsInDim S8192x256 (![] : Fin 0 → Fin S8192x256.rank)
  bcast_S_S256x256 : S_.BroadcastsInDim S256x256 (![] : Fin 0 → Fin S256x256.rank)
  bcast_S_S1x256 : S_.BroadcastsInDim S1x256 (![] : Fin 0 → Fin S1x256.rank)

variable [Facts]

def fn {F : FTy → Type} [FloatOps F] (main_arg0 : FVec F S8192x2816 .f32) (main_arg1 : FVec F S8192x1024 .f32) (main_arg2 : FVec F S4x64x64 .f32) (main_arg3 : FVec F S256 .f32) : IVec S8192x256 1 × IVec S256x256 1 × IVec S1x256 1 :=
  let main_v0 : IVec S256x256 32 := iotaInDim S256x256 32 0
  let main_v1 : IVec S256x256 32 := iotaInDim S256x256 32 1
  let main_c : IVec S_ 1 := constantI S_ 1 1#1
  let main_v2 : IVec S8192x256 1 := broadcastInDim S8192x256 ![] bcast_S_S8192x256 main_c
  let main_c_0 : IVec S_ 32 := constantI S_ 32 64#32
  let main_v3 : IVec S256x256 32 := broadcastInDim S256x256 ![] bcast_S_S256x256 main_c_0
  let main_v4 : IVec S256x256 32 := Host.divsi main_v0 main_v3
  let main_c_1 : IVec S_ 32 := constantI S_ 32 64#32
  let main_v5 : IVec S256x256 32 := broadcastInDim S256x256 ![] bcast_S_S256x256 main_c_1
  let main_v6 : IVec S256x256 32 := Host.divsi main_v1 main_v5
  let main_v7 : IVec S256x256 1 := cmpi .eq main_v4 main_v6
  let main_c_2 : IVec S_ 1 := constantI S_ 1 1#1
  let main_v8 : IVec S1x256 1 := broadcastInDim S1x256 ![] bcast_S_S1x256 main_c_2
  (main_v2, main_v7, main_v8)
-- ==== Pre_glu_cotangent_finite.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S4x2048x11x2x256 : Shape := ⟨5, ![4, 2048, 11, 2, 256]⟩
abbrev S4x2048x2x11x256 : Shape := ⟨5, ![4, 2048, 2, 11, 256]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩

class Facts : Prop where
  shapeCasts_S8192x5632_S4x2048x11x2x256 : S8192x5632.ShapeCasts S4x2048x11x2x256
  transposes_S4x2048x11x2x256_S4x2048x2x11x256_0_1_3_2_4 : S4x2048x11x2x256.Transposes [0, 1, 3, 2, 4] S4x2048x2x11x256
  shapeCasts_S4x2048x2x11x256_S4x2048x5632 : S4x2048x2x11x256.ShapeCasts S4x2048x5632
  bcast_S_S4x2x5632 : S_.BroadcastsInDim S4x2x5632 (![] : Fin 0 → Fin S4x2x5632.rank)
  concatenates_S4x2x5632_S4x2048x5632_S4x2050x5632_d1 : Shape.Concatenates [S4x2x5632, S4x2048x5632] S4x2050x5632 1
  slices_S4x2050x5632_S4x2048x5632_0_0_0 : S4x2050x5632.Slices ![0, 0, 0] S4x2048x5632
  slices_S3x5632_S1x5632_0_0 : S3x5632.Slices ![0, 0] S1x5632
  shapeCasts_S1x5632_S5632 : S1x5632.ShapeCasts S5632
  bcast_S5632_S1x1x5632_2 : S5632.BroadcastsInDim S1x1x5632 (![2] : Fin 1 → Fin S1x1x5632.rank)
  bcast_S1x1x5632_S4x2048x5632_0_1_2 : S1x1x5632.BroadcastsInDim S4x2048x5632 (![0, 1, 2] : Fin 3 → Fin S4x2048x5632.rank)
  slices_S4x2050x5632_S4x2048x5632_0_1_0 : S4x2050x5632.Slices ![0, 1, 0] S4x2048x5632
  slices_S3x5632_S1x5632_1_0 : S3x5632.Slices ![1, 0] S1x5632
  slices_S4x2050x5632_S4x2048x5632_0_2_0 : S4x2050x5632.Slices ![0, 2, 0] S4x2048x5632
  slices_S3x5632_S1x5632_2_0 : S3x5632.Slices ![2, 0] S1x5632
  slices_S4x2048x5632_S4x2048x2816_0_0_2816 : S4x2048x5632.Slices ![0, 0, 2816] S4x2048x2816
  shapeCasts_S8192x2816_S4x2048x2816 : S8192x2816.ShapeCasts S4x2048x2816
  bcast_S_S4x2048x2816 : S_.BroadcastsInDim S4x2048x2816 (![] : Fin 0 → Fin S4x2048x2816.rank)

variable [Facts]

def fn_part1 {F : FTy → Type} [FloatOps F] (main_arg1 : FVec F S8192x2816 .f32) (main_v20 : FVec F S4x2048x5632 .f32) (main_v21 : FVec F S4x2048x5632 .f32) (main_v22 : FVec F S1x5632 .f32) : IVec S4x2048x2816 1 :=
  let main_v23 : FVec F S5632 .f32 := shapeCast S5632 main_v22 shapeCasts_S1x5632_S5632
  let main_v24 : FVec F S1x1x5632 .f32 := broadcastInDim S1x1x5632 ![2] bcast_S5632_S1x1x5632_2 main_v23
  let main_v25 : FVec F S4x2048x5632 .f32 := broadcastInDim S4x2048x5632 ![0, 1, 2] bcast_S1x1x5632_S4x2048x5632_0_1_2 main_v24
  let main_v26 : FVec F S4x2048x5632 .f32 := mulf main_v21 main_v25
  let main_v27 : FVec F S4x2048x5632 .f32 := addf main_v20 main_v26
  let main_v28 : FVec F S4x2048x2816 .f32 := (extractStridedSlice S4x2048x2816 ![0, 0, 2816] · slices_S4x2048x5632_S4x2048x2816_0_0_2816) main_v27
  let main_v29 : FVec F S4x2048x2816 .f32 := shapeCast S4x2048x2816 main_arg1 shapeCasts_S8192x2816_S4x2048x2816
  let main_v30 : FVec F S4x2048x2816 .f32 := mulf main_v29 main_v28
  let main_v31 : FVec F S4x2048x2816 .f32 := Host.absf main_v30
  let main_cst_0 : FVec F S_ .f32 := constant S_ .f32 0x7F800000#32
  let main_v32 : FVec F S4x2048x2816 .f32 := broadcastInDim S4x2048x2816 ![] bcast_S_S4x2048x2816 main_cst_0
  let main_v33 : IVec S4x2048x2816 1 := cmpf .olt main_v31 main_v32
  main_v33

def fn {F : FTy → Type} [FloatOps F] (main_arg0 : FVec F S8192x5632 .f32) (main_arg1 : FVec F S8192x2816 .f32) (main_arg2 : FVec F S3x5632 .f32) (main_arg3 : FVec F S5632 .f32) : IVec S4x2048x2816 1 :=
  let main_v0 : FVec F S4x2048x11x2x256 .f32 := shapeCast S4x2048x11x2x256 main_arg0 shapeCasts_S8192x5632_S4x2048x11x2x256
  let main_v1 : FVec F S4x2048x2x11x256 .f32 := (transpose S4x2048x2x11x256 [0, 1, 3, 2, 4] · transposes_S4x2048x11x2x256_S4x2048x2x11x256_0_1_3_2_4) main_v0
  let main_v2 : FVec F S4x2048x5632 .f32 := shapeCast S4x2048x5632 main_v1 shapeCasts_S4x2048x2x11x256_S4x2048x5632
  let main_cst : FVec F S_ .f32 := constant S_ .f32 0x00000000#32
  let main_v3 : FVec F S4x2x5632 .f32 := broadcastInDim S4x2x5632 ![] bcast_S_S4x2x5632 main_cst
  let main_v4 : FVec F S4x2050x5632 .f32 := (fun a b => concatenate S4x2050x5632 1 [⟨S4x2x5632, a⟩, ⟨S4x2048x5632, b⟩] concatenates_S4x2x5632_S4x2048x5632_S4x2050x5632_d1) main_v3 main_v2
  let main_v5 : FVec F S4x2048x5632 .f32 := (extractStridedSlice S4x2048x5632 ![0, 0, 0] · slices_S4x2050x5632_S4x2048x5632_0_0_0) main_v4
  let main_v6 : FVec F S1x5632 .f32 := (extractStridedSlice S1x5632 ![0, 0] · slices_S3x5632_S1x5632_0_0) main_arg2
  let main_v7 : FVec F S5632 .f32 := shapeCast S5632 main_v6 shapeCasts_S1x5632_S5632
  let main_v8 : FVec F S1x1x5632 .f32 := broadcastInDim S1x1x5632 ![2] bcast_S5632_S1x1x5632_2 main_v7
  let main_v9 : FVec F S4x2048x5632 .f32 := broadcastInDim S4x2048x5632 ![0, 1, 2] bcast_S1x1x5632_S4x2048x5632_0_1_2 main_v8
  let main_v10 : FVec F S4x2048x5632 .f32 := mulf main_v5 main_v9
  let main_v11 : FVec F S1x1x5632 .f32 := broadcastInDim S1x1x5632 ![2] bcast_S5632_S1x1x5632_2 main_arg3
  let main_v12 : FVec F S4x2048x5632 .f32 := broadcastInDim S4x2048x5632 ![0, 1, 2] bcast_S1x1x5632_S4x2048x5632_0_1_2 main_v11
  let main_v13 : FVec F S4x2048x5632 .f32 := addf main_v12 main_v10
  let main_v14 : FVec F S4x2048x5632 .f32 := (extractStridedSlice S4x2048x5632 ![0, 1, 0] · slices_S4x2050x5632_S4x2048x5632_0_1_0) main_v4
  let main_v15 : FVec F S1x5632 .f32 := (extractStridedSlice S1x5632 ![1, 0] · slices_S3x5632_S1x5632_1_0) main_arg2
  let main_v16 : FVec F S5632 .f32 := shapeCast S5632 main_v15 shapeCasts_S1x5632_S5632
  let main_v17 : FVec F S1x1x5632 .f32 := broadcastInDim S1x1x5632 ![2] bcast_S5632_S1x1x5632_2 main_v16
  let main_v18 : FVec F S4x2048x5632 .f32 := broadcastInDim S4x2048x5632 ![0, 1, 2] bcast_S1x1x5632_S4x2048x5632_0_1_2 main_v17
  let main_v19 : FVec F S4x2048x5632 .f32 := mulf main_v14 main_v18
  let main_v20 : FVec F S4x2048x5632 .f32 := addf main_v13 main_v19
  let main_v21 : FVec F S4x2048x5632 .f32 := (extractStridedSlice S4x2048x5632 ![0, 2, 0] · slices_S4x2050x5632_S4x2048x5632_0_2_0) main_v4
  let main_v22 : FVec F S1x5632 .f32 := (extractStridedSlice S1x5632 ![2, 0] · slices_S3x5632_S1x5632_2_0) main_arg2
  fn_part1 (F := F) main_arg1 main_v20 main_v21 main_v22
-- ==== Pre_ln1_cotangent_finite.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

class Facts : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 :=
  let main_v0 : FVec F S1x1024 .f32 := broadcastInDim S1x1024 ![1] bcast_S1024_S1x1024_1 main_arg1
  let main_v1 : FVec F S8192x1024 .f32 := broadcastInDim S8192x1024 ![0, 1] bcast_S1x1024_S8192x1024_0_1 main_v0
  let main_v2 : FVec F S8192x1024 .f32 := mulf main_arg3 main_v1
  let main_v3 : FVec F S8192x1024 .f32 := Host.absf main_v2
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  main_v5
-- ==== Pre_ln2_cotangent_finite.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩

class Facts : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024 .f32) (main_arg3 : FVec F S8192x1024 .f32) (main_arg4 : FVec F S8192x1024 .f32) (main_arg5 : FVec F S8192x1024 .f32) : IVec S8192x1024 1 :=
  let main_v0 : FVec F S1x1024 .f32 := broadcastInDim S1x1024 ![1] bcast_S1024_S1x1024_1 main_arg1
  let main_v1 : FVec F S8192x1024 .f32 := broadcastInDim S8192x1024 ![0, 1] bcast_S1x1024_S8192x1024_0_1 main_v0
  let main_v2 : FVec F S8192x1024 .f32 := mulf main_arg3 main_v1
  let main_v3 : FVec F S8192x1024 .f32 := Host.absf main_v2
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  main_v5
-- ==== WgUp.lean ====
abbrev S8192x1024 : Shape := ⟨2, ![8192, 1024]⟩
abbrev S8192x5632 : Shape := ⟨2, ![8192, 5632]⟩
abbrev S1024x5632 : Shape := ⟨2, ![1024, 5632]⟩
abbrev S512x1024 : Shape := ⟨2, ![512, 1024]⟩
abbrev S512x2816 : Shape := ⟨2, ![512, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgUpRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S8192x5632, .f32⟩
  | .hbm, ⟨6, _⟩ => ⟨S5632x1024, .f32⟩
  | .hbm, ⟨7, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgUp.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgUpRefIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S8192x1024, .f32⟩
  | .hbm, ⟨9, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== WgDown.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgDown.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgDownRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WgIn.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | .local _ .vmem, ⟨5, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgInRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgIn.lean ====
abbrev S8192x2816 : Shape := ⟨2, ![8192, 2816]⟩
abbrev S1024x2816 : Shape := ⟨2, ![1024, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgInRefIdeal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x2816, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== WgOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgOutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WgGate.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgGate.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgGateRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== WgProj.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmIn.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .bf16⟩
  | .hbm, ⟨2, _⟩ => ⟨S1024x2816, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .bf16⟩
  | .hbm, ⟨2, _⟩ => ⟨S1024x5632, .f32⟩
  | .hbm, ⟨3, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmGate.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmProj.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S2048x1024, .f32⟩
  | .local _ .vmem, ⟨4, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ln2.lean ====
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Ln2RefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .bf16⟩
  | .hbm, ⟨104, _⟩ => ⟨S8192x1024, .bf16⟩
  | .hbm, ⟨105, _⟩ => ⟨S1x1024, .f32⟩
  | .hbm, ⟨106, _⟩ => ⟨S1x1024, .f32⟩
  | .hbm, ⟨107, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Ln1.lean ====
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S2x1024, .f32⟩
  | .hbm, ⟨7, _⟩ => ⟨S8192x1024, .f32⟩
  | .hbm, ⟨8, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Ln1RefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S1x1024, .f32⟩
  | .hbm, ⟨87, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== OutLn1.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S2x1024 : Shape := ⟨2, ![2, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S8192x1024, .f32⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S2x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutLn1RefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== DownLn2.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S2x1024, .f32⟩
  | .hbm, ⟨10, _⟩ => ⟨S8192x1024, .f32⟩
  | .hbm, ⟨11, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownLn2RefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x2816, .f32⟩
  | .hbm, ⟨11, _⟩ => ⟨S2816x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== DownLoss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S8x128 : Shape := ⟨2, ![8, 128]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S8192x1024, .f32⟩
  | .hbm, ⟨12, _⟩ => ⟨S8192x1024, .f32⟩
  | .hbm, ⟨13, _⟩ => ⟨S8x128, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S2x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x128, .f32⟩
  | .local _ .vmem, ⟨18, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DownLossRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S2816x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_cst_12 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Glu.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S8x5632 : Shape := ⟨2, ![8, 5632]⟩
abbrev S2048x512 : Shape := ⟨2, ![2048, 512]⟩
abbrev S2048x256 : Shape := ⟨2, ![2048, 256]⟩
abbrev S3x512 : Shape := ⟨2, ![3, 512]⟩
abbrev S1x512 : Shape := ⟨2, ![1, 512]⟩
abbrev S8x512 : Shape := ⟨2, ![8, 512]⟩
abbrev S512 : Shape := ⟨1, ![512]⟩

abbrev nBuf : Space → Nat
  | .hbm => 13
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S3x2x11x256, .f32⟩
  | .hbm, ⟨5, _⟩ => ⟨S3x11x2x256, .f32⟩
  | .hbm, ⟨6, _⟩ => ⟨S3x5632, .f32⟩
  | .hbm, ⟨7, _⟩ => ⟨S1x5632, .f32⟩
  | .hbm, ⟨8, _⟩ => ⟨S1x2x11x256, .f32⟩
  | .hbm, ⟨9, _⟩ => ⟨S1x11x2x256, .f32⟩
  | .hbm, ⟨10, _⟩ => ⟨S1x5632, .f32⟩
  | .hbm, ⟨11, _⟩ => ⟨S8192x5632, .bf16⟩
  | .hbm, ⟨12, _⟩ => ⟨S8x5632, .f32⟩
  | .local _ .vmem, ⟨0, _⟩ => ⟨S2048x512, .f32⟩
  | .local _ .vmem, ⟨1, _⟩ => ⟨S2048x512, .f32⟩
  | .local _ .vmem, ⟨2, _⟩ => ⟨S2048x256, .f32⟩
  | .local _ .vmem, ⟨3, _⟩ => ⟨S2048x256, .f32⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S8x512, .f32⟩
  | .local _ .vmem, ⟨11, _⟩ => ⟨S8x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GluRefIdeal.lean ====
abbrev S8192x5632 : Shape := ⟨2, ![8192, 5632]⟩
abbrev S8192x2816 : Shape := ⟨2, ![8192, 2816]⟩
abbrev S3x5632 : Shape := ⟨2, ![3, 5632]⟩
abbrev S5632 : Shape := ⟨1, ![5632]⟩
abbrev S4x2048x11x2x256 : Shape := ⟨5, ![4, 2048, 11, 2, 256]⟩
abbrev S4x2048x2x11x256 : Shape := ⟨5, ![4, 2048, 2, 11, 256]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S4x5632 : Shape := ⟨2, ![4, 5632]⟩
abbrev S8x5632 : Shape := ⟨2, ![8, 5632]⟩
abbrev S8x2x11x256 : Shape := ⟨4, ![8, 2, 11, 256]⟩
abbrev S8x11x2x256 : Shape := ⟨4, ![8, 11, 2, 256]⟩

abbrev nBuf : Space → Nat
  | .hbm => 124
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S5632, .f32⟩
  | .hbm, ⟨4, _⟩ => ⟨S4x2048x11x2x256, .f32⟩
  | .hbm, ⟨5, _⟩ => ⟨S4x2048x2x11x256, .f32⟩
  | .hbm, ⟨6, _⟩ => ⟨S4x2048x5632, .f32⟩
  | .hbm, ⟨7, _⟩ => ⟨S_, .f32⟩
  | .hbm, ⟨8, _⟩ => ⟨S4x2x5632, .f32⟩
  | .hbm, ⟨9, _⟩ => ⟨S4x2050x5632, .f32⟩
  | .hbm, ⟨10, _⟩ => ⟨S_, .f32⟩
  | .hbm, ⟨11, _⟩ => ⟨S4x2x5632, .f32⟩
  | .hbm, ⟨12, _⟩ => ⟨S4x2048x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S1x1x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S_, .f32⟩
  | .hbm, ⟨40, _⟩ => ⟨S4x2048x2816, .f32⟩
  | .hbm, ⟨41, _⟩ => ⟨S4x2048x2816, .f32⟩
  | .hbm, ⟨42, _⟩ => ⟨S_, .f32⟩
  | .hbm, ⟨43, _⟩ => ⟨S4x2048x2816, .f32⟩
  | .hbm, ⟨44, _⟩ => ⟨S4x2048x2816, .f32⟩
  | .hbm, ⟨45, _⟩ => ⟨S_, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S_, .f32⟩
  | .hbm, ⟨59, _⟩ => ⟨S4x2048x5632, .f32⟩
  | .hbm, ⟨60, _⟩ => ⟨S_, .f32⟩
  | .hbm, ⟨61, _⟩ => ⟨S4x2048x5632, .f32⟩
  | .hbm, ⟨62, _⟩ => ⟨S4x2048x5632, .f32⟩
  | .hbm, ⟨63, _⟩ => ⟨S4x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S4x2048x5632, .f32⟩
  | .hbm, ⟨68, _⟩ => ⟨S4x2048x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S4x2050x5632, .f32⟩
  | .hbm, ⟨76, _⟩ => ⟨S4x2048x5632, .f32⟩
  | .hbm, ⟨77, _⟩ => ⟨S_, .f32⟩
  | .hbm, ⟨78, _⟩ => ⟨S5632, .f32⟩
  | .hbm, ⟨79, _⟩ => ⟨S1x1x5632, .f32⟩
  | .hbm, ⟨80, _⟩ => ⟨S4x2048x5632, .f32⟩
  | .hbm, ⟨81, _⟩ => ⟨S4x2048x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S4x2050x5632, .f32⟩
  | .hbm, ⟨90, _⟩ => ⟨S4x2050x5632, .f32⟩
  | .hbm, ⟨91, _⟩ => ⟨S_, .f32⟩
  | .hbm, ⟨92, _⟩ => ⟨S5632, .f32⟩
  | .hbm, ⟨93, _⟩ => ⟨S1x1x5632, .f32⟩
  | .hbm, ⟨94, _⟩ => ⟨S_, .f32⟩
  | .hbm, ⟨95, _⟩ => ⟨S5632, .f32⟩
  | .hbm, ⟨96, _⟩ => ⟨S4x2048x5632, .f32⟩
  | .hbm, ⟨97, _⟩ => ⟨S_, .f32⟩
  | .hbm, ⟨98, _⟩ => ⟨S5632, .f32⟩
  | .hbm, ⟨99, _⟩ => ⟨S1x1x5632, .f32⟩
  | .hbm, ⟨100, _⟩ => ⟨S4x2048x5632, .f32⟩
  | .hbm, ⟨101, _⟩ => ⟨S4x2048x5632, .f32⟩
  | .hbm, ⟨102, _⟩ => ⟨S_, .f32⟩
  | .hbm, ⟨103, _⟩ => ⟨S5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S_, .f32⟩
  | .hbm, ⟨109, _⟩ => ⟨S4x2050x5632, .f32⟩
  | .hbm, ⟨110, _⟩ => ⟨S4x2050x5632, .f32⟩
  | .hbm, ⟨111, _⟩ => ⟨S4x2x5632, .f32⟩
  | .hbm, ⟨112, _⟩ => ⟨S4x2048x5632, .f32⟩
  | .hbm, ⟨113, _⟩ => ⟨S4x2048x2x11x256, .f32⟩
  | .hbm, ⟨114, _⟩ => ⟨S4x2048x11x2x256, .f32⟩
  | .hbm, ⟨115, _⟩ => ⟨S8192x5632, .f32⟩
  | .hbm, ⟨116, _⟩ => ⟨S1x5632, .f32⟩
  | .hbm, ⟨117, _⟩ => ⟨S_, .f32⟩
  | .hbm, ⟨118, _⟩ => ⟨S4x5632, .f32⟩
  | .hbm, ⟨119, _⟩ => ⟨S8x5632, .f32⟩
  | .hbm, ⟨120, _⟩ => ⟨S8192x5632, .bf16⟩
  | .hbm, ⟨121, _⟩ => ⟨S8x2x11x256, .f32⟩
  | .hbm, ⟨122, _⟩ => ⟨S8x11x2x256, .f32⟩
  | .hbm, ⟨123, _⟩ => ⟨S8x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_cst_14 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_20 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== GluFwd.lean ====
abbrev S8192x5632 : Shape := ⟨2, ![8192, 5632]⟩
abbrev S3x5632 : Shape := ⟨2, ![3, 5632]⟩
abbrev S5632 : Shape := ⟨1, ![5632]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S8192x2816 : Shape := ⟨2, ![8192, 2816]⟩
abbrev S2048x512 : Shape := ⟨2, ![2048, 512]⟩
abbrev S3x512 : Shape := ⟨2, ![3, 512]⟩
abbrev S1x512 : Shape := ⟨2, ![1, 512]⟩
abbrev S2048x256 : Shape := ⟨2, ![2048, 256]⟩

abbrev nBuf : Space → Nat
  | .hbm => 11
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S3x2x11x256, .f32⟩
  | .hbm, ⟨4, _⟩ => ⟨S3x11x2x256, .f32⟩
  | .hbm, ⟨5, _⟩ => ⟨S3x5632, .f32⟩
  | .hbm, ⟨6, _⟩ => ⟨S1x5632, .f32⟩
  | .hbm, ⟨7, _⟩ => ⟨S1x2x11x256, .f32⟩
  | .hbm, ⟨8, _⟩ => ⟨S1x11x2x256, .f32⟩
  | .hbm, ⟨9, _⟩ => ⟨S1x5632, .f32⟩
  | .hbm, ⟨10, _⟩ => ⟨S8192x2816, .bf16⟩
  | .local _ .vmem, ⟨0, _⟩ => ⟨S2048x512, .f32⟩
  | .local _ .vmem, ⟨1, _⟩ => ⟨S2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S2048x256, .bf16⟩
  | .local _ .vmem, ⟨7, _⟩ => ⟨S2048x256, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluFwdRefIdeal.lean ====
abbrev S8192x5632 : Shape := ⟨2, ![8192, 5632]⟩
abbrev S3x5632 : Shape := ⟨2, ![3, 5632]⟩
abbrev S5632 : Shape := ⟨1, ![5632]⟩
abbrev S4x2048x11x2x256 : Shape := ⟨5, ![4, 2048, 11, 2, 256]⟩
abbrev S4x2048x2x11x256 : Shape := ⟨5, ![4, 2048, 2, 11, 256]⟩
abbrev S4x2048x5632 : Shape := ⟨3, ![4, 2048, 5632]⟩
abbrev S_ : Shape := ⟨0, ![]⟩
abbrev S4x2x5632 : Shape := ⟨3, ![4, 2, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S4x2048x2816 : Shape := ⟨3, ![4, 2048, 2816]⟩
abbrev S8192x2816 : Shape := ⟨2, ![8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S4x2048x11x2x256, .f32⟩
  | .hbm, ⟨4, _⟩ => ⟨S4x2048x2x11x256, .f32⟩
  | .hbm, ⟨5, _⟩ => ⟨S4x2048x5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S4x2048x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S4x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S_, .f32⟩
  | .hbm, ⟨37, _⟩ => ⟨S4x2048x2816, .f32⟩
  | .hbm, ⟨38, _⟩ => ⟨S4x2048x2816, .f32⟩
  | .hbm, ⟨39, _⟩ => ⟨S_, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S8192x2816, .f32⟩
  | .hbm, ⟨45, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Pool.lean ====
abbrev S8192x2816 : Shape := ⟨2, ![8192, 2816]⟩
abbrev S8192x1024 : Shape := ⟨2, ![8192, 1024]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S8192x256 : Shape := ⟨2, ![8192, 256]⟩
abbrev S2048x256 : Shape := ⟨2, ![2048, 256]⟩

abbrev nBuf : Space → Nat
  | .hbm => 31
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S_, .i32⟩
  | .hbm, ⟨10, _⟩ => ⟨S256x256, .f32⟩
  | .hbm, ⟨11, _⟩ => ⟨S1x64x64, .f32⟩
  | .hbm, ⟨12, _⟩ => ⟨S64x64, .f32⟩
  | .hbm, ⟨13, _⟩ => ⟨S_, .i32⟩
  | .hbm, ⟨14, _⟩ => ⟨S_, .i32⟩
  | .hbm, ⟨15, _⟩ => ⟨S256x256, .f32⟩
  | .hbm, ⟨16, _⟩ => ⟨S1x64x64, .f32⟩
  | .hbm, ⟨17, _⟩ => ⟨S64x64, .f32⟩
  | .hbm, ⟨18, _⟩ => ⟨S_, .i32⟩
  | .hbm, ⟨19, _⟩ => ⟨S_, .i32⟩
  | .hbm, ⟨20, _⟩ => ⟨S256x256, .f32⟩
  | .hbm, ⟨21, _⟩ => ⟨S1x64x64, .f32⟩
  | .hbm, ⟨22, _⟩ => ⟨S64x64, .f32⟩
  | .hbm, ⟨23, _⟩ => ⟨S_, .i32⟩
  | .hbm, ⟨24, _⟩ => ⟨S_, .i32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S8192x256, .bf16⟩
  | .hbm, ⟨29, _⟩ => ⟨S256x256, .f32⟩
  | .hbm, ⟨30, _⟩ => ⟨S1x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S1x256, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolRefIdeal.lean ====
abbrev S8192x2816 : Shape := ⟨2, ![8192, 2816]⟩
abbrev S8192x1024 : Shape := ⟨2, ![8192, 1024]⟩
abbrev S4x64x64 : Shape := ⟨3, ![4, 64, 64]⟩
abbrev S256 : Shape := ⟨1, ![256]⟩
abbrev S8192x256 : Shape := ⟨2, ![8192, 256]⟩
abbrev S4x2048x256 : Shape := ⟨3, ![4, 2048, 256]⟩
abbrev S4x2048x4x64 : Shape := ⟨4, ![4, 2048, 4, 64]⟩
abbrev S4x2048x2048 : Shape := ⟨3, ![4, 2048, 2048]⟩
abbrev S_ : Shape := ⟨0, ![]⟩
abbrev S2048x4 : Shape := ⟨2, ![2048, 4]⟩
abbrev S4x4x64x2048 : Shape := ⟨4, ![4, 4, 64, 2048]⟩
abbrev S1x2048x4x1 : Shape := ⟨4, ![1, 2048, 4, 1]⟩
abbrev S4x64x4x2048 : Shape := ⟨4, ![4, 64, 4, 2048]⟩
abbrev S1x1x256 : Shape := ⟨3, ![1, 1, 256]⟩
abbrev S4x4x2048x64 : Shape := ⟨4, ![4, 4, 2048, 64]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩

abbrev nBuf : Space → Nat
  | .hbm => 110
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S4x64x64, .f32⟩
  | .hbm, ⟨3, _⟩ => ⟨S256, .f32⟩
  | .hbm, ⟨4, _⟩ => ⟨S8192x256, .f32⟩
  | .hbm, ⟨5, _⟩ => ⟨S4x2048x256, .f32⟩
  | .hbm, ⟨6, _⟩ => ⟨S8192x256, .f32⟩
  | .hbm, ⟨7, _⟩ => ⟨S4x2048x256, .f32⟩
  | .hbm, ⟨8, _⟩ => ⟨S4x2048x4x64, .f32⟩
  | .hbm, ⟨9, _⟩ => ⟨S4x2048x2048, .i32⟩
  | .hbm, ⟨10, _⟩ => ⟨S4x2048x2048, .i32⟩
  | .hbm, ⟨11, _⟩ => ⟨S4x2048x2048, .i1⟩
  | .hbm, ⟨12, _⟩ => ⟨S4x2048x2048, .i32⟩
  | .hbm, ⟨13, _⟩ => ⟨S_, .i32⟩
  | .hbm, ⟨14, _⟩ => ⟨S4x2048x2048, .i32⟩
  | .hbm, ⟨15, _⟩ => ⟨S4x2048x2048, .i1⟩
  | .hbm, ⟨16, _⟩ => ⟨S_, .i32⟩
  | .hbm, ⟨17, _⟩ => ⟨S4x2048x2048, .i32⟩
  | .hbm, ⟨18, _⟩ => ⟨S4x2048x2048, .i1⟩
  | .hbm, ⟨19, _⟩ => ⟨S_, .i32⟩
  | .hbm, ⟨20, _⟩ => ⟨S4x2048x2048, .i32⟩
  | .hbm, ⟨21, _⟩ => ⟨S4x2048x2048, .i1⟩
  | .hbm, ⟨22, _⟩ => ⟨S_, .i32⟩
  | .hbm, ⟨23, _⟩ => ⟨S_, .i32⟩
  | .hbm, ⟨24, _⟩ => ⟨S4x2048x2048, .i32⟩
  | .hbm, ⟨25, _⟩ => ⟨S4x2048x2048, .i32⟩
  | .hbm, ⟨26, _⟩ => ⟨S4x2048x2048, .i32⟩
  | .hbm, ⟨27, _⟩ => ⟨S_, .i32⟩
  | .hbm, ⟨28, _⟩ => ⟨S4x2048x2048, .i32⟩
  | .hbm, ⟨29, _⟩ => ⟨S4x2048x2048, .i32⟩
  | .hbm, ⟨30, _⟩ => ⟨S_, .i32⟩
  | .hbm, ⟨31, _⟩ => ⟨S4x2048x2048, .i32⟩
  | .hbm, ⟨32, _⟩ => ⟨S4x2048x2048, .i32⟩
  | .hbm, ⟨33, _⟩ => ⟨S4x2048x2048, .i32⟩
  | .hbm, ⟨34, _⟩ => ⟨S4x2048x2048, .i32⟩
  | .hbm, ⟨35, _⟩ => ⟨S4x2048x2048, .i1⟩
  | .hbm, ⟨36, _⟩ => ⟨S4x2048x2048, .i1⟩
  | .hbm, ⟨37, _⟩ => ⟨S_, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S2048x4, .i32⟩
  | .hbm, ⟨43, _⟩ => ⟨S_, .i32⟩
  | .hbm, ⟨44, _⟩ => ⟨S2048x4, .i32⟩
  | .hbm, ⟨45, _⟩ => ⟨S2048x4, .i32⟩
  | .hbm, ⟨46, _⟩ => ⟨S2048x4, .i32⟩
  | .hbm, ⟨47, _⟩ => ⟨S_, .i32⟩
  | .hbm, ⟨48, _⟩ => ⟨S2048x4, .i32⟩
  | .hbm, ⟨49, _⟩ => ⟨S2048x4, .i1⟩
  | .hbm, ⟨50, _⟩ => ⟨S_, .i32⟩
  | .hbm, ⟨51, _⟩ => ⟨S2048x4, .i32⟩
  | .hbm, ⟨52, _⟩ => ⟨S2048x4, .i1⟩
  | .hbm, ⟨53, _⟩ => ⟨S_, .i32⟩
  | .hbm, ⟨54, _⟩ => ⟨S2048x4, .i32⟩
  | .hbm, ⟨55, _⟩ => ⟨S2048x4, .i1⟩
  | .hbm, ⟨56, _⟩ => ⟨S_, .i32⟩
  | .hbm, ⟨57, _⟩ => ⟨S_, .i32⟩
  | .hbm, ⟨58, _⟩ => ⟨S2048x4, .i32⟩
  | .hbm, ⟨59, _⟩ => ⟨S2048x4, .i32⟩
  | .hbm, ⟨60, _⟩ => ⟨S2048x4, .i32⟩
  | .hbm, ⟨61, _⟩ => ⟨S_, .i32⟩
  | .hbm, ⟨62, _⟩ => ⟨S2048x4, .i32⟩
  | .hbm, ⟨63, _⟩ => ⟨S2048x4, .i32⟩
  | .hbm, ⟨64, _⟩ => ⟨S_, .i32⟩
  | .hbm, ⟨65, _⟩ => ⟨S2048x4, .i32⟩
  | .hbm, ⟨66, _⟩ => ⟨S2048x4, .i32⟩
  | .hbm, ⟨67, _⟩ => ⟨S2048x4, .i32⟩
  | .hbm, ⟨68, _⟩ => ⟨S2048x4, .i32⟩
  | .hbm, ⟨69, _⟩ => ⟨S2048x4, .f32⟩
  | .hbm, ⟨70, _⟩ => ⟨S4x4x64x2048, .f32⟩
  | .hbm, ⟨71, _⟩ => ⟨S4x2048x4x64, .f32⟩
  | .hbm, ⟨72, _⟩ => ⟨S1x2048x4x1, .f32⟩
  | .hbm, ⟨73, _⟩ => ⟨S4x2048x4x64, .f32⟩
  | .hbm, ⟨74, _⟩ => ⟨S4x2048x4x64, .f32⟩
  | .hbm, ⟨75, _⟩ => ⟨S4x2048x4x64, .f32⟩
  | .hbm, ⟨76, _⟩ => ⟨S4x64x4x2048, .f32⟩
  | .hbm, ⟨77, _⟩ => ⟨S4x2048x4x64, .f32⟩
  | .hbm, ⟨78, _⟩ => ⟨S4x2048x256, .f32⟩
  | .hbm, ⟨79, _⟩ => ⟨S1x1x256, .f32⟩
  | .hbm, ⟨80, _⟩ => ⟨S4x2048x256, .f32⟩
  | .hbm, ⟨81, _⟩ => ⟨S4x2048x256, .f32⟩
  | .hbm, ⟨82, _⟩ => ⟨S4x2048x256, .f32⟩
  | .hbm, ⟨83, _⟩ => ⟨S_, .f32⟩
  | .hbm, ⟨84, _⟩ => ⟨S256, .f32⟩
  | .hbm, ⟨85, _⟩ => ⟨S1x1x256, .f32⟩
  | .hbm, ⟨86, _⟩ => ⟨S4x2048x256, .f32⟩
  | .hbm, ⟨87, _⟩ => ⟨S4x2048x256, .f32⟩
  | .hbm, ⟨88, _⟩ => ⟨S_, .f32⟩
  | .hbm, ⟨89, _⟩ => ⟨S256, .f32⟩
  | .hbm, ⟨90, _⟩ => ⟨S4x2048x4x64, .f32⟩
  | .hbm, ⟨91, _⟩ => ⟨S4x64x4x2048, .f32⟩
  | .hbm, ⟨92, _⟩ => ⟨S4x4x2048x64, .f32⟩
  | .hbm, ⟨93, _⟩ => ⟨S4x2048x4x64, .f32⟩
  | .hbm, ⟨94, _⟩ => ⟨S4x64x64, .f32⟩
  | .hbm, ⟨95, _⟩ => ⟨S4x64x64, .f32⟩
  | .hbm, ⟨96, _⟩ => ⟨S4x2048x4x64, .f32⟩
  | .hbm, ⟨97, _⟩ => ⟨S4x2048x4x64, .f32⟩
  | .hbm, ⟨98, _⟩ => ⟨S4x2048x4x64, .f32⟩
  | .hbm, ⟨99, _⟩ => ⟨S4x4x64x2048, .f32⟩
  | .hbm, ⟨100, _⟩ => ⟨S4x4x64x2048, .f32⟩
  | .hbm, ⟨101, _⟩ => ⟨S4x2048x4x64, .f32⟩
  | .hbm, ⟨102, _⟩ => ⟨S4x2048x4x64, .f32⟩
  | .hbm, ⟨103, _⟩ => ⟨S4x2048x256, .f32⟩
  | .hbm, ⟨104, _⟩ => ⟨S4x64x1x64, .f32⟩
  | .hbm, ⟨105, _⟩ => ⟨S4x64x4x64, .f32⟩
  | .hbm, ⟨106, _⟩ => ⟨S256x256, .f32⟩
  | .hbm, ⟨107, _⟩ => ⟨S8192x256, .f32⟩
  | .hbm, ⟨108, _⟩ => ⟨S8192x256, .bf16⟩
  | .hbm, ⟨109, _⟩ => ⟨S1x256, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c_4 : Ref sig .tc := ⟨.hbm, 27, rfl⟩
abbrev main_call1_v0 : Ref sig .tc := ⟨.hbm, 28, rfl⟩
abbrev main_v16 : Ref sig .tc := ⟨.hbm, 29, rfl⟩
abbrev main_c_5 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_cst_6 : Ref sig .tc := ⟨.hbm, 38, rfl⟩
abbrev main_call3_v0 : Ref sig .tc := ⟨.hbm, 39, rfl⟩
abbrev main_call3_v1 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_c_11 : Ref sig .tc := ⟨.hbm, 56, rfl⟩
abbrev main_c_12 : Ref sig .tc := ⟨.hbm, 57, rfl⟩
abbrev main_call4_v0 : Ref sig .tc := ⟨.hbm, 58, rfl⟩
abbrev main_call4_v1 : Ref sig .tc := ⟨.hbm, 59, rfl⟩
abbrev main_v33 : Ref sig .tc := ⟨.hbm, 60, rfl⟩
abbrev main_c_13 : Ref sig .tc := ⟨.hbm, 61, rfl⟩
abbrev main_call5_v0 : Ref sig .tc := ⟨.hbm, 62, rfl⟩
abbrev main_v34 : Ref sig .tc := ⟨.hbm, 63, rfl⟩
abbrev main_c_14 : Ref sig .tc := ⟨.hbm, 64, rfl⟩
abbrev main_call6_v0 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== PoolFwd.lean ====
abbrev S8192x2816 : Shape := ⟨2, ![8192, 2816]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S8192x256 : Shape := ⟨2, ![8192, 256]⟩
abbrev S2048x256 : Shape := ⟨2, ![2048, 256]⟩

abbrev nBuf : Space → Nat
  | .hbm => 28
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S4x64x64, .f32⟩
  | .hbm, ⟨2, _⟩ => ⟨S256, .f32⟩
  | .hbm, ⟨3, _⟩ => ⟨S_, .f32⟩
  | .hbm, ⟨4, _⟩ => ⟨S256x256, .f32⟩
  | .hbm, ⟨5, _⟩ => ⟨S1x64x64, .f32⟩
  | .hbm, ⟨6, _⟩ => ⟨S64x64, .f32⟩
  | .hbm, ⟨7, _⟩ => ⟨S_, .i32⟩
  | .hbm, ⟨8, _⟩ => ⟨S_, .i32⟩
  | .hbm, ⟨9, _⟩ => ⟨S256x256, .f32⟩
  | .hbm, ⟨10, _⟩ => ⟨S1x64x64, .f32⟩
  | .hbm, ⟨11, _⟩ => ⟨S64x64, .f32⟩
  | .hbm, ⟨12, _⟩ => ⟨S_, .i32⟩
  | .hbm, ⟨13, _⟩ => ⟨S_, .i32⟩
  | .hbm, ⟨14, _⟩ => ⟨S256x256, .f32⟩
  | .hbm, ⟨15, _⟩ => ⟨S1x64x64, .f32⟩
  | .hbm, ⟨16, _⟩ => ⟨S64x64, .f32⟩
  | .hbm, ⟨17, _⟩ => ⟨S_, .i32⟩
  | .hbm, ⟨18, _⟩ => ⟨S_, .i32⟩
  | .hbm, ⟨19, _⟩ => ⟨S256x256, .f32⟩
  | .hbm, ⟨20, _⟩ => ⟨S1x64x64, .f32⟩
  | .hbm, ⟨21, _⟩ => ⟨S64x64, .f32⟩
  | .hbm, ⟨22, _⟩ => ⟨S_, .i32⟩
  | .hbm, ⟨23, _⟩ => ⟨S_, .i32⟩
  | .hbm, ⟨24, _⟩ => ⟨S256x256, .f32⟩
  | .hbm, ⟨25, _⟩ => ⟨S256x256, .bf16⟩
  | .hbm, ⟨26, _⟩ => ⟨S1x256, .f32⟩
  | .hbm, ⟨27, _⟩ => ⟨S8192x256, .bf16⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S8192x2816 : Shape := ⟨2, ![8192, 2816]⟩
abbrev S4x64x64 : Shape := ⟨3, ![4, 64, 64]⟩
abbrev S256 : Shape := ⟨1, ![256]⟩
abbrev S8192x256 : Shape := ⟨2, ![8192, 256]⟩
abbrev S4x2048x256 : Shape := ⟨3, ![4, 2048, 256]⟩
abbrev S4x2048x4x64 : Shape := ⟨4, ![4, 2048, 4, 64]⟩
abbrev S4x2048x2048 : Shape := ⟨3, ![4, 2048, 2048]⟩
abbrev S_ : Shape := ⟨0, ![]⟩
abbrev S2048x4 : Shape := ⟨2, ![2048, 4]⟩
abbrev S4x4x64x2048 : Shape := ⟨4, ![4, 4, 64, 2048]⟩
abbrev S1x2048x4x1 : Shape := ⟨4, ![1, 2048, 4, 1]⟩
abbrev S4x64x4x2048 : Shape := ⟨4, ![4, 64, 4, 2048]⟩
abbrev S1x1x256 : Shape := ⟨3, ![1, 1, 256]⟩

abbrev nBuf : Space → Nat
  | .hbm => 81
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S4x64x64, .f32⟩
  | .hbm, ⟨2, _⟩ => ⟨S256, .f32⟩
  | .hbm, ⟨3, _⟩ => ⟨S8192x256, .f32⟩
  | .hbm, ⟨4, _⟩ => ⟨S4x2048x256, .f32⟩
  | .hbm, ⟨5, _⟩ => ⟨S4x2048x4x64, .f32⟩
  | .hbm, ⟨6, _⟩ => ⟨S4x2048x2048, .i32⟩
  | .hbm, ⟨7, _⟩ => ⟨S4x2048x2048, .i32⟩
  | .hbm, ⟨8, _⟩ => ⟨S4x2048x2048, .i1⟩
  | .hbm, ⟨9, _⟩ => ⟨S4x2048x2048, .i32⟩
  | .hbm, ⟨10, _⟩ => ⟨S_, .i32⟩
  | .hbm, ⟨11, _⟩ => ⟨S4x2048x2048, .i32⟩
  | .hbm, ⟨12, _⟩ => ⟨S4x2048x2048, .i1⟩
  | .hbm, ⟨13, _⟩ => ⟨S_, .i32⟩
  | .hbm, ⟨14, _⟩ => ⟨S4x2048x2048, .i32⟩
  | .hbm, ⟨15, _⟩ => ⟨S4x2048x2048, .i1⟩
  | .hbm, ⟨16, _⟩ => ⟨S_, .i32⟩
  | .hbm, ⟨17, _⟩ => ⟨S4x2048x2048, .i32⟩
  | .hbm, ⟨18, _⟩ => ⟨S4x2048x2048, .i1⟩
  | .hbm, ⟨19, _⟩ => ⟨S_, .i32⟩
  | .hbm, ⟨20, _⟩ => ⟨S_, .i32⟩
  | .hbm, ⟨21, _⟩ => ⟨S4x2048x2048, .i32⟩
  | .hbm, ⟨22, _⟩ => ⟨S4x2048x2048, .i32⟩
  | .hbm, ⟨23, _⟩ => ⟨S4x2048x2048, .i32⟩
  | .hbm, ⟨24, _⟩ => ⟨S_, .i32⟩
  | .hbm, ⟨25, _⟩ => ⟨S4x2048x2048, .i32⟩
  | .hbm, ⟨26, _⟩ => ⟨S4x2048x2048, .i32⟩
  | .hbm, ⟨27, _⟩ => ⟨S_, .i32⟩
  | .hbm, ⟨28, _⟩ => ⟨S4x2048x2048, .i32⟩
  | .hbm, ⟨29, _⟩ => ⟨S4x2048x2048, .i32⟩
  | .hbm, ⟨30, _⟩ => ⟨S4x2048x2048, .i32⟩
  | .hbm, ⟨31, _⟩ => ⟨S4x2048x2048, .i32⟩
  | .hbm, ⟨32, _⟩ => ⟨S4x2048x2048, .i1⟩
  | .hbm, ⟨33, _⟩ => ⟨S4x2048x2048, .i1⟩
  | .hbm, ⟨34, _⟩ => ⟨S_, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S2048x4, .i32⟩
  | .hbm, ⟨40, _⟩ => ⟨S_, .i32⟩
  | .hbm, ⟨41, _⟩ => ⟨S2048x4, .i32⟩
  | .hbm, ⟨42, _⟩ => ⟨S2048x4, .i32⟩
  | .hbm, ⟨43, _⟩ => ⟨S2048x4, .i32⟩
  | .hbm, ⟨44, _⟩ => ⟨S_, .i32⟩
  | .hbm, ⟨45, _⟩ => ⟨S2048x4, .i32⟩
  | .hbm, ⟨46, _⟩ => ⟨S2048x4, .i1⟩
  | .hbm, ⟨47, _⟩ => ⟨S_, .i32⟩
  | .hbm, ⟨48, _⟩ => ⟨S2048x4, .i32⟩
  | .hbm, ⟨49, _⟩ => ⟨S2048x4, .i1⟩
  | .hbm, ⟨50, _⟩ => ⟨S_, .i32⟩
  | .hbm, ⟨51, _⟩ => ⟨S2048x4, .i32⟩
  | .hbm, ⟨52, _⟩ => ⟨S2048x4, .i1⟩
  | .hbm, ⟨53, _⟩ => ⟨S_, .i32⟩
  | .hbm, ⟨54, _⟩ => ⟨S_, .i32⟩
  | .hbm, ⟨55, _⟩ => ⟨S2048x4, .i32⟩
  | .hbm, ⟨56, _⟩ => ⟨S2048x4, .i32⟩
  | .hbm, ⟨57, _⟩ => ⟨S2048x4, .i32⟩
  | .hbm, ⟨58, _⟩ => ⟨S_, .i32⟩
  | .hbm, ⟨59, _⟩ => ⟨S2048x4, .i32⟩
  | .hbm, ⟨60, _⟩ => ⟨S2048x4, .i32⟩
  | .hbm, ⟨61, _⟩ => ⟨S_, .i32⟩
  | .hbm, ⟨62, _⟩ => ⟨S2048x4, .i32⟩
  | .hbm, ⟨63, _⟩ => ⟨S2048x4, .i32⟩
  | .hbm, ⟨64, _⟩ => ⟨S2048x4, .i32⟩
  | .hbm, ⟨65, _⟩ => ⟨S2048x4, .i32⟩
  | .hbm, ⟨66, _⟩ => ⟨S2048x4, .f32⟩
  | .hbm, ⟨67, _⟩ => ⟨S4x4x64x2048, .f32⟩
  | .hbm, ⟨68, _⟩ => ⟨S4x2048x4x64, .f32⟩
  | .hbm, ⟨69, _⟩ => ⟨S1x2048x4x1, .f32⟩
  | .hbm, ⟨70, _⟩ => ⟨S4x2048x4x64, .f32⟩
  | .hbm, ⟨71, _⟩ => ⟨S4x2048x4x64, .f32⟩
  | .hbm, ⟨72, _⟩ => ⟨S4x2048x4x64, .f32⟩
  | .hbm, ⟨73, _⟩ => ⟨S4x64x4x2048, .f32⟩
  | .hbm, ⟨74, _⟩ => ⟨S4x2048x4x64, .f32⟩
  | .hbm, ⟨75, _⟩ => ⟨S4x2048x256, .f32⟩
  | .hbm, ⟨76, _⟩ => ⟨S1x1x256, .f32⟩
  | .hbm, ⟨77, _⟩ => ⟨S4x2048x256, .f32⟩
  | .hbm, ⟨78, _⟩ => ⟨S4x2048x256, .f32⟩
  | .hbm, ⟨79, _⟩ => ⟨S8192x256, .f32⟩
  | .hbm, ⟨80, _⟩ => ⟨S8192x256, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c_4 : Ref sig .tc := ⟨.hbm, 24, rfl⟩
abbrev main_call1_v0 : Ref sig .tc := ⟨.hbm, 25, rfl⟩
abbrev main_v14 : Ref sig .tc := ⟨.hbm, 26, rfl⟩
abbrev main_c_5 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_v20 : Ref sig .tc := ⟨.hbm, 38, rfl⟩
abbrev main_v21 : Ref sig .tc := ⟨.hbm, 39, rfl⟩
abbrev main_c_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_8 : Ref sig .tc := ⟨.hbm, 44, rfl⟩
abbrev main_v25 : Ref sig .tc := ⟨.hbm, 45, rfl⟩
abbrev main_v26 : Ref sig .tc := ⟨.hbm, 46, rfl⟩
abbrev main_c_9 : Ref sig .tc := ⟨.hbm, 47, rfl⟩
abbrev main_v27 : Ref sig .tc := ⟨.hbm, 48, rfl⟩
abbrev main_v28 : Ref sig .tc := ⟨.hbm, 49, rfl⟩
abbrev main_c_10 : Ref sig .tc := ⟨.hbm, 50, rfl⟩
abbrev main_v29 : Ref sig .tc := ⟨.hbm, 51, rfl⟩
abbrev main_v30 : Ref sig .tc := ⟨.hbm, 52, rfl⟩
abbrev main_c_11 : Ref sig .tc := ⟨.hbm, 53, rfl⟩
abbrev main_c_12 : Ref sig .tc := ⟨.hbm, 54, rfl⟩
abbrev main_call4_v0 : Ref sig .tc := ⟨.hbm, 55, rfl⟩
abbrev main_call4_v1 : Ref sig .tc := ⟨.hbm, 56, rfl⟩
abbrev main_v31 : Ref sig .tc := ⟨.hbm, 57, rfl⟩
abbrev main_c_13 : Ref sig .tc := ⟨.hbm, 58, rfl⟩
abbrev main_call5_v0 : Ref sig .tc := ⟨.hbm, 59, rfl⟩
abbrev main_v32 : Ref sig .tc := ⟨.hbm, 60, rfl⟩
abbrev main_c_14 : Ref sig .tc := ⟨.hbm, 61, rfl⟩
abbrev main_call6_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== AdamW.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S512x2694 : Shape := ⟨2, ![512, 2694]⟩
abbrev S128x2694 : Shape := ⟨2, ![128, 2694]⟩

abbrev nBuf : Space → Nat
  | .hbm => 7
  | .vmem => 14
  | .smem => 0
  | _ => 0

abbrev bufTy : (tb : Table) → Fin (tcTables nBuf tb) → BufTy
  | .hbm, ⟨0, _⟩ => ⟨S512x2694, .f32⟩
  | .hbm, ⟨1, _⟩ => ⟨S512x2694, .f32⟩
  | .hbm, ⟨2, _⟩ => ⟨S512x2694, .f32⟩
  | .hbm, ⟨3, _⟩ => ⟨S512x2694, .f32⟩
  | .hbm, ⟨4, _⟩ => ⟨S512x2694, .f32⟩
  | .hbm, ⟨5, _⟩ => ⟨S512x2694, .f32⟩
  | .hbm, ⟨6, _⟩ => ⟨S512x2694, .f32⟩
  | .local _ .vmem, ⟨0, _⟩ => ⟨S128x2694, .f32⟩
  | .local _ .vmem, ⟨1, _⟩ => ⟨S128x2694, .f32⟩
  | .local _ .vmem, ⟨2, _⟩ => ⟨S128x2694, .f32⟩
  | .local _ .vmem, ⟨3, _⟩ => ⟨S128x2694, .f32⟩
  | .local _ .vmem, ⟨4, _⟩ => ⟨S128x2694, .f32⟩
  | .local _ .vmem, ⟨5, _⟩ => ⟨S128x2694, .f32⟩
  | .local _ .vmem, ⟨6, _⟩ => ⟨S128x2694, .f32⟩
  | .local _ .vmem, ⟨7, _⟩ => ⟨S128x2694, .f32⟩
  | .local _ .vmem, ⟨8, _⟩ => ⟨S128x2694, .f32⟩
  | .local _ .vmem, ⟨9, _⟩ => ⟨S128x2694, .f32⟩
  | .local _ .vmem, ⟨10, _⟩ => ⟨S128x2694, .f32⟩
  | .local _ .vmem, ⟨11, _⟩ => ⟨S128x2694, .f32⟩
  | .local _ .vmem, ⟨12, _⟩ => ⟨S128x2694, .f32⟩
  | .local _ .vmem, ⟨13, _⟩ => ⟨S128x2694, .f32⟩
  | _, _ => ⟨S512x2694, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2694 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2694 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2694 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2694 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2694 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2694 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2694 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S512x2694 : Shape := ⟨2, ![512, 2694]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2694, .f32⟩
  | .hbm, ⟨1, _⟩ => ⟨S512x2694, .f32⟩
  | .hbm, ⟨2, _⟩ => ⟨S512x2694, .f32⟩
  | .hbm, ⟨3, _⟩ => ⟨S512x2694, .f32⟩
  | .hbm, ⟨4, _⟩ => ⟨S_, .f32⟩
  | .hbm, ⟨5, _⟩ => ⟨S512x2694, .f32⟩
  | .hbm, ⟨6, _⟩ => ⟨S512x2694, .f32⟩
  | .hbm, ⟨7, _⟩ => ⟨S_, .f32⟩
  | .hbm, ⟨8, _⟩ => ⟨S512x2694, .f32⟩
  | .hbm, ⟨9, _⟩ => ⟨S512x2694, .f32⟩
  | .hbm, ⟨10, _⟩ => ⟨S512x2694, .f32⟩
  | .hbm, ⟨11, _⟩ => ⟨S_, .f32⟩
  | .hbm, ⟨12, _⟩ => ⟨S512x2694, .f32⟩
  | .hbm, ⟨13, _⟩ => ⟨S512x2694, .f32⟩
  | .hbm, ⟨14, _⟩ => ⟨S512x2694, .f32⟩
  | .hbm, ⟨15, _⟩ => ⟨S_, .f32⟩
  | .hbm, ⟨16, _⟩ => ⟨S512x2694, .f32⟩
  | .hbm, ⟨17, _⟩ => ⟨S512x2694, .f32⟩
  | .hbm, ⟨18, _⟩ => ⟨S512x2694, .f32⟩
  | .hbm, ⟨19, _⟩ => ⟨S_, .f32⟩
  | .hbm, ⟨20, _⟩ => ⟨S512x2694, .f32⟩
  | .hbm, ⟨21, _⟩ => ⟨S512x2694, .f32⟩
  | .hbm, ⟨22, _⟩ => ⟨S_, .f32⟩
  | .hbm, ⟨23, _⟩ => ⟨S512x2694, .f32⟩
  | .hbm, ⟨24, _⟩ => ⟨S512x2694, .f32⟩
  | .hbm, ⟨25, _⟩ => ⟨S512x2694, .f32⟩
  | .hbm, ⟨26, _⟩ => ⟨S_, .f32⟩
  | .hbm, ⟨27, _⟩ => ⟨S512x2694, .f32⟩
  | .hbm, ⟨28, _⟩ => ⟨S512x2694, .f32⟩
  | .hbm, ⟨29, _⟩ => ⟨S512x2694, .f32⟩
  | .hbm, ⟨30, _⟩ => ⟨S_, .f32⟩
  | .hbm, ⟨31, _⟩ => ⟨S512x2694, .f32⟩
  | .hbm, ⟨32, _⟩ => ⟨S512x2694, .f32⟩
  | .hbm, ⟨33, _⟩ => ⟨S512x2694, .f32⟩
  | .hbm, ⟨34, _⟩ => ⟨S_, .f32⟩
  | .hbm, ⟨35, _⟩ => ⟨S512x2694, .f32⟩
  | .hbm, ⟨36, _⟩ => ⟨S512x2694, .f32⟩
  | _, _ => ⟨S512x2694, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S1024x128 : Shape := ⟨2, ![1024, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S952x128 : Shape := ⟨2, ![952, 128]⟩

abbrev nBuf : Space → Nat
  | .hbm => 7
  | .vmem => 7
  | .smem => 0
  | _ => 0

abbrev bufTy : (tb : Table) → Fin (tcTables nBuf tb) → BufTy
  | .hbm, ⟨0, _⟩ => ⟨S952x128, .f32⟩
  | .hbm, ⟨1, _⟩ => ⟨S952x128, .f32⟩
  | .hbm, ⟨2, _⟩ => ⟨S952x128, .f32⟩
  | .hbm, ⟨3, _⟩ => ⟨S952x128, .f32⟩
  | .hbm, ⟨4, _⟩ => ⟨S952x128, .f32⟩
  | .hbm, ⟨5, _⟩ => ⟨S952x128, .f32⟩
  | .hbm, ⟨6, _⟩ => ⟨S952x128, .f32⟩
  | .local _ .vmem, ⟨0, _⟩ => ⟨S952x128, .f32⟩
  | .local _ .vmem, ⟨1, _⟩ => ⟨S952x128, .f32⟩
  | .local _ .vmem, ⟨2, _⟩ => ⟨S952x128, .f32⟩
  | .local _ .vmem, ⟨3, _⟩ => ⟨S952x128, .f32⟩
  | .local _ .vmem, ⟨4, _⟩ => ⟨S952x128, .f32⟩
  | .local _ .vmem, ⟨5, _⟩ => ⟨S952x128, .f32⟩
  | .local _ .vmem, ⟨6, _⟩ => ⟨S952x128, .f32⟩
  | _, _ => ⟨S952x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S952x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S952x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S952x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S952x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S952x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S952x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S952x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S952x128 : Shape := ⟨2, ![952, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S952x128, .f32⟩
  | .hbm, ⟨1, _⟩ => ⟨S952x128, .f32⟩
  | .hbm, ⟨2, _⟩ => ⟨S952x128, .f32⟩
  | .hbm, ⟨3, _⟩ => ⟨S952x128, .f32⟩
  | .hbm, ⟨4, _⟩ => ⟨S_, .f32⟩
  | .hbm, ⟨5, _⟩ => ⟨S952x128, .f32⟩
  | .hbm, ⟨6, _⟩ => ⟨S952x128, .f32⟩
  | .hbm, ⟨7, _⟩ => ⟨S_, .f32⟩
  | .hbm, ⟨8, _⟩ => ⟨S952x128, .f32⟩
  | .hbm, ⟨9, _⟩ => ⟨S952x128, .f32⟩
  | .hbm, ⟨10, _⟩ => ⟨S952x128, .f32⟩
  | .hbm, ⟨11, _⟩ => ⟨S_, .f32⟩
  | .hbm, ⟨12, _⟩ => ⟨S952x128, .f32⟩
  | .hbm, ⟨13, _⟩ => ⟨S952x128, .f32⟩
  | .hbm, ⟨14, _⟩ => ⟨S952x128, .f32⟩
  | .hbm, ⟨15, _⟩ => ⟨S_, .f32⟩
  | .hbm, ⟨16, _⟩ => ⟨S952x128, .f32⟩
  | .hbm, ⟨17, _⟩ => ⟨S952x128, .f32⟩
  | .hbm, ⟨18, _⟩ => ⟨S952x128, .f32⟩
  | .hbm, ⟨19, _⟩ => ⟨S_, .f32⟩
  | .hbm, ⟨20, _⟩ => ⟨S952x128, .f32⟩
  | .hbm, ⟨21, _⟩ => ⟨S952x128, .f32⟩
  | .hbm, ⟨22, _⟩ => ⟨S_, .f32⟩
  | .hbm, ⟨23, _⟩ => ⟨S952x128, .f32⟩
  | .hbm, ⟨24, _⟩ => ⟨S952x128, .f32⟩
  | .hbm, ⟨25, _⟩ => ⟨S952x128, .f32⟩
  | .hbm, ⟨26, _⟩ => ⟨S_, .f32⟩
  | .hbm, ⟨27, _⟩ => ⟨S952x128, .f32⟩
  | .hbm, ⟨28, _⟩ => ⟨S952x128, .f32⟩
  | .hbm, ⟨29, _⟩ => ⟨S952x128, .f32⟩
  | .hbm, ⟨30, _⟩ => ⟨S_, .f32⟩
  | .hbm, ⟨31, _⟩ => ⟨S952x128, .f32⟩
  | .hbm, ⟨32, _⟩ => ⟨S952x128, .f32⟩
  | .hbm, ⟨33, _⟩ => ⟨S952x128, .f32⟩
  | .hbm, ⟨34, _⟩ => ⟨S_, .f32⟩
  | .hbm, ⟨35, _⟩ => ⟨S952x128, .f32⟩
  | .hbm, ⟨36, _⟩ => ⟨S952x128, .f32⟩
  | _, _ => ⟨S952x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumOut.lean ====
abbrev S8x128x1024 : Shape := ⟨3, ![8, 128, 1024]⟩
abbrev S4x128x1024 : Shape := ⟨3, ![4, 128, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S4x128x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S8x64x1024, .f32⟩
  | .local _ .vmem, ⟨5, _⟩ => ⟨S8x64x1024, .f32⟩
  | .local _ .vmem, ⟨6, _⟩ => ⟨S8x64x1024, .f32⟩
  | .local _ .vmem, ⟨7, _⟩ => ⟨S8x64x1024, .f32⟩
  | .local _ .vmem, ⟨8, _⟩ => ⟨S1x64x1024, .f32⟩
  | .local _ .vmem, ⟨9, _⟩ => ⟨S1x64x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.muli v0 c2_i32
  let v2 : BitVec 32 := Scalar.addi arg1 v1
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let c0_i32_2 : BitVec 32 := 0#32
  let c0_i32_3 : BitVec 32 := 0#32
  ![c0_i32_1.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c2_i32 : BitVec 32 := 2#32
  let v1 : BitVec 32 := Scalar.muli v0 c2_i32
  let v2 : BitVec 32 := Scalar.addi arg1 v1
  let c0_i32 : BitVec 32 := 0#32
  let c1_i32_0 : BitVec 32 := 1#32
  let v3 : BitVec 32 := Scalar.maxsi c0_i32 v2
  let v4 : BitVec 32 := Scalar.minsi c1_i32_0 v3
  let c0_i32_1 : BitVec 32 := 0#32
  let c0_i32_2 : BitVec 32 := 0#32
  let c0_i32_3 : BitVec 32 := 0#32
  ![c0_i32_1.toNat, v4.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c2_i32_0 : BitVec 32 := 2#32
  let v1 : BitVec 32 := Scalar.muli v0 c2_i32_0
  let v2 : BitVec 32 := Scalar.addi arg1 v1
  let c0_i32 : BitVec 32 := 0#32
  let c1_i32 : BitVec 32 := 1#32
  let v3 : BitVec 32 := Scalar.maxsi c0_i32 v2
  let v4 : BitVec 32 := Scalar.minsi c1_i32 v3
  let c0_i32_1 : BitVec 32 := 0#32
  let c0_i32_2 : BitVec 32 := 0#32
  let c0_i32_3 : BitVec 32 := 0#32
  ![c0_i32_1.toNat, v4.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c2_i32 : BitVec 32 := 2#32
  let v1 : BitVec 32 := Scalar.muli v0 c2_i32
  let v2 : BitVec 32 := Scalar.addi arg1 v1
  let c0_i32 : BitVec 32 := 0#32
  let c1_i32 : BitVec 32 := 1#32
  let v3 : BitVec 32 := Scalar.maxsi c0_i32 v2
  let v4 : BitVec 32 := Scalar.minsi c1_i32 v3
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumOutRefIdeal.lean ====
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S4x128x1024 : Shape := ⟨3, ![4, 128, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S4x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumIn.lean ====
abbrev S8x128x2816 : Shape := ⟨3, ![8, 128, 2816]⟩
abbrev S4x128x2816 : Shape := ⟨3, ![4, 128, 2816]⟩
abbrev S8x32x2816 : Shape := ⟨3, ![8, 32, 2816]⟩
abbrev S1x32x2816 : Shape := ⟨3, ![1, 32, 2816]⟩
abbrev S32x2816 : Shape := ⟨2, ![32, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8x128x2816, .f32⟩
  | .hbm, ⟨1, _⟩ => ⟨S8x128x2816, .f32⟩
  | .hbm, ⟨2, _⟩ => ⟨S8x128x2816, .f32⟩
  | .hbm, ⟨3, _⟩ => ⟨S8x128x2816, .f32⟩
  | .hbm, ⟨4, _⟩ => ⟨S4x128x2816, .f32⟩
  | .local _ .vmem, ⟨0, _⟩ => ⟨S8x32x2816, .f32⟩
  | .local _ .vmem, ⟨1, _⟩ => ⟨S8x32x2816, .f32⟩
  | .local _ .vmem, ⟨2, _⟩ => ⟨S8x32x2816, .f32⟩
  | .local _ .vmem, ⟨3, _⟩ => ⟨S8x32x2816, .f32⟩
  | .local _ .vmem, ⟨4, _⟩ => ⟨S8x32x2816, .f32⟩
  | .local _ .vmem, ⟨5, _⟩ => ⟨S8x32x2816, .f32⟩
  | .local _ .vmem, ⟨6, _⟩ => ⟨S8x32x2816, .f32⟩
  | .local _ .vmem, ⟨7, _⟩ => ⟨S8x32x2816, .f32⟩
  | .local _ .vmem, ⟨8, _⟩ => ⟨S1x32x2816, .f32⟩
  | .local _ .vmem, ⟨9, _⟩ => ⟨S1x32x2816, .f32⟩
  | _, _ => ⟨S8x128x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi arg1 v1
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  let c0_i32_3 : BitVec 32 := 0#32
  ![c0_i32_1.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi arg1 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c4_i32 : BitVec 32 := 4#32
  let v1 : BitVec 32 := Scalar.muli v0 c4_i32
  let v2 : BitVec 32 := Scalar.addi arg1 v1
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c4_i32 : BitVec 32 := 4#32
  let v1 : BitVec 32 := Scalar.muli v0 c4_i32
  let v2 : BitVec 32 := Scalar.addi arg1 v1
  let c0_i32 : BitVec 32 := 0#32
  let c3_i32_0 : BitVec 32 := 3#32
  let v3 : BitVec 32 := Scalar.maxsi c0_i32 v2
  let v4 : BitVec 32 := Scalar.minsi c3_i32_0 v3
  let c0_i32_1 : BitVec 32 := 0#32
  let c0_i32_2 : BitVec 32 := 0#32
  let c0_i32_3 : BitVec 32 := 0#32
  ![c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumInRefIdeal.lean ====
abbrev S8x128x2816 : Shape := ⟨3, ![8, 128, 2816]⟩
abbrev S_ : Shape := ⟨0, ![]⟩
abbrev S128x2816 : Shape := ⟨2, ![128, 2816]⟩
abbrev S1x128x2816 : Shape := ⟨3, ![1, 128, 2816]⟩
abbrev S4x128x2816 : Shape := ⟨3, ![4, 128, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8x128x2816, .f32⟩
  | .hbm, ⟨1, _⟩ => ⟨S8x128x2816, .f32⟩
  | .hbm, ⟨2, _⟩ => ⟨S8x128x2816, .f32⟩
  | .hbm, ⟨3, _⟩ => ⟨S8x128x2816, .f32⟩
  | .hbm, ⟨4, _⟩ => ⟨S_, .f32⟩
  | .hbm, ⟨5, _⟩ => ⟨S128x2816, .f32⟩
  | .hbm, ⟨6, _⟩ => ⟨S_, .f32⟩
  | .hbm, ⟨7, _⟩ => ⟨S128x2816, .f32⟩
  | .hbm, ⟨8, _⟩ => ⟨S_, .f32⟩
  | .hbm, ⟨9, _⟩ => ⟨S128x2816, .f32⟩
  | .hbm, ⟨10, _⟩ => ⟨S_, .f32⟩
  | .hbm, ⟨11, _⟩ => ⟨S128x2816, .f32⟩
  | .hbm, ⟨12, _⟩ => ⟨S1x128x2816, .f32⟩
  | .hbm, ⟨13, _⟩ => ⟨S1x128x2816, .f32⟩
  | .hbm, ⟨14, _⟩ => ⟨S1x128x2816, .f32⟩
  | .hbm, ⟨15, _⟩ => ⟨S1x128x2816, .f32⟩
  | .hbm, ⟨16, _⟩ => ⟨S4x128x2816, .f32⟩
  | _, _ => ⟨S8x128x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumUp.lean ====
abbrev S8x1024x704 : Shape := ⟨3, ![8, 1024, 704]⟩
abbrev S4x1024x704 : Shape := ⟨3, ![4, 1024, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S8x1024x704, .f32⟩
  | .hbm, ⟨3, _⟩ => ⟨S8x1024x704, .f32⟩
  | .hbm, ⟨4, _⟩ => ⟨S4x1024x704, .f32⟩
  | .local _ .vmem, ⟨0, _⟩ => ⟨S8x128x704, .f32⟩
  | .local _ .vmem, ⟨1, _⟩ => ⟨S8x128x704, .f32⟩
  | .local _ .vmem, ⟨2, _⟩ => ⟨S8x128x704, .f32⟩
  | .local _ .vmem, ⟨3, _⟩ => ⟨S8x128x704, .f32⟩
  | .local _ .vmem, ⟨4, _⟩ => ⟨S8x128x704, .f32⟩
  | .local _ .vmem, ⟨5, _⟩ => ⟨S8x128x704, .f32⟩
  | .local _ .vmem, ⟨6, _⟩ => ⟨S8x128x704, .f32⟩
  | .local _ .vmem, ⟨7, _⟩ => ⟨S8x128x704, .f32⟩
  | .local _ .vmem, ⟨8, _⟩ => ⟨S1x128x704, .f32⟩
  | .local _ .vmem, ⟨9, _⟩ => ⟨S1x128x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c8_i32 : BitVec 32 := 8#32
  let v1 : BitVec 32 := Scalar.muli v0 c8_i32
  let v2 : BitVec 32 := Scalar.addi arg1 v1
  let c0_i32_0 : BitVec 32 := 0#32
  let c7_i32 : BitVec 32 := 7#32
  let v3 : BitVec 32 := Scalar.maxsi c0_i32_0 v2
  let v4 : BitVec 32 := Scalar.minsi c7_i32 v3
  let c0_i32_1 : BitVec 32 := 0#32
  let c0_i32_2 : BitVec 32 := 0#32
  let c0_i32_3 : BitVec 32 := 0#32
  ![c0_i32_1.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c8_i32 : BitVec 32 := 8#32
  let v1 : BitVec 32 := Scalar.muli v0 c8_i32
  let v2 : BitVec 32 := Scalar.addi arg1 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c8_i32 : BitVec 32 := 8#32
  let v1 : BitVec 32 := Scalar.muli v0 c8_i32
  let v2 : BitVec 32 := Scalar.addi arg1 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c8_i32 : BitVec 32 := 8#32
  let v1 : BitVec 32 := Scalar.muli v0 c8_i32
  let v2 : BitVec 32 := Scalar.addi arg1 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumUpRefIdeal.lean ====
abbrev S8x1024x704 : Shape := ⟨3, ![8, 1024, 704]⟩
abbrev S_ : Shape := ⟨0, ![]⟩
abbrev S1024x704 : Shape := ⟨2, ![1024, 704]⟩
abbrev S1x1024x704 : Shape := ⟨3, ![1, 1024, 704]⟩
abbrev S4x1024x704 : Shape := ⟨3, ![4, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S8x1024x704, .f32⟩
  | .hbm, ⟨2, _⟩ => ⟨S8x1024x704, .f32⟩
  | .hbm, ⟨3, _⟩ => ⟨S8x1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S4x1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumDown.lean ====
abbrev S8x352x1024 : Shape := ⟨3, ![8, 352, 1024]⟩
abbrev S4x352x1024 : Shape := ⟨3, ![4, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S8x352x1024, .f32⟩
  | .hbm, ⟨3, _⟩ => ⟨S8x352x1024, .f32⟩
  | .hbm, ⟨4, _⟩ => ⟨S4x352x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x32x1024, .f32⟩
  | .local _ .vmem, ⟨3, _⟩ => ⟨S8x32x1024, .f32⟩
  | .local _ .vmem, ⟨4, _⟩ => ⟨S8x32x1024, .f32⟩
  | .local _ .vmem, ⟨5, _⟩ => ⟨S8x32x1024, .f32⟩
  | .local _ .vmem, ⟨6, _⟩ => ⟨S8x32x1024, .f32⟩
  | .local _ .vmem, ⟨7, _⟩ => ⟨S8x32x1024, .f32⟩
  | .local _ .vmem, ⟨8, _⟩ => ⟨S1x32x1024, .f32⟩
  | .local _ .vmem, ⟨9, _⟩ => ⟨S1x32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c11_i32 : BitVec 32 := 11#32
  let v1 : BitVec 32 := Scalar.muli v0 c11_i32
  let v2 : BitVec 32 := Scalar.addi arg1 v1
  let c0_i32_0 : BitVec 32 := 0#32
  let c10_i32 : BitVec 32 := 10#32
  let v3 : BitVec 32 := Scalar.maxsi c0_i32_0 v2
  let v4 : BitVec 32 := Scalar.minsi c10_i32 v3
  let c0_i32_1 : BitVec 32 := 0#32
  let c0_i32_2 : BitVec 32 := 0#32
  let c0_i32_3 : BitVec 32 := 0#32
  ![c0_i32_1.toNat, v4.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c11_i32 : BitVec 32 := 11#32
  let v1 : BitVec 32 := Scalar.muli v0 c11_i32
  let v2 : BitVec 32 := Scalar.addi arg1 v1
  let c0_i32 : BitVec 32 := 0#32
  let c10_i32 : BitVec 32 := 10#32
  let v3 : BitVec 32 := Scalar.maxsi c0_i32 v2
  let v4 : BitVec 32 := Scalar.minsi c10_i32 v3
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c11_i32 : BitVec 32 := 11#32
  let v1 : BitVec 32 := Scalar.muli v0 c11_i32
  let v2 : BitVec 32 := Scalar.addi arg1 v1
  let c0_i32 : BitVec 32 := 0#32
  let c10_i32 : BitVec 32 := 10#32
  let v3 : BitVec 32 := Scalar.maxsi c0_i32 v2
  let v4 : BitVec 32 := Scalar.minsi c10_i32 v3
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c11_i32 : BitVec 32 := 11#32
  let v1 : BitVec 32 := Scalar.muli v0 c11_i32
  let v2 : BitVec 32 := Scalar.addi arg1 v1
  let c0_i32 : BitVec 32 := 0#32
  let c10_i32 : BitVec 32 := 10#32
  let v3 : BitVec 32 := Scalar.maxsi c0_i32 v2
  let v4 : BitVec 32 := Scalar.minsi c10_i32 v3
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumDownRefIdeal.lean ====
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S4x352x1024 : Shape := ⟨3, ![4, 352, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S8x352x1024, .f32⟩
  | .hbm, ⟨3, _⟩ => ⟨S8x352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S4x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SumProj.lean ====
abbrev S8x256x128 : Shape := ⟨3, ![8, 256, 128]⟩
abbrev S4x256x128 : Shape := ⟨3, ![4, 256, 128]⟩
abbrev S1x256x128 : Shape := ⟨3, ![1, 256, 128]⟩
abbrev S256x128 : Shape := ⟨2, ![256, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x128, .f32⟩
  | .hbm, ⟨3, _⟩ => ⟨S8x256x128, .f32⟩
  | .hbm, ⟨4, _⟩ => ⟨S4x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S8x256x128, .f32⟩
  | .local _ .vmem, ⟨7, _⟩ => ⟨S8x256x128, .f32⟩
  | .local _ .vmem, ⟨8, _⟩ => ⟨S1x256x128, .f32⟩
  | .local _ .vmem, ⟨9, _⟩ => ⟨S1x256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c1_i32_0 : BitVec 32 := 1#32
  let v1 : BitVec 32 := Scalar.muli v0 c1_i32_0
  let v2 : BitVec 32 := Scalar.addi arg1 v1
  let c0_i32 : BitVec 32 := 0#32
  let c0_i32_1 : BitVec 32 := 0#32
  let v3 : BitVec 32 := Scalar.maxsi c0_i32 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c1_i32 : BitVec 32 := 1#32
  let v1 : BitVec 32 := Scalar.muli v0 c1_i32
  let v2 : BitVec 32 := Scalar.addi arg1 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  let c0_i32_3 : BitVec 32 := 0#32
  ![c0_i32_1.toNat, v4.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c1_i32 : BitVec 32 := 1#32
  let v1 : BitVec 32 := Scalar.muli v0 c1_i32
  let v2 : BitVec 32 := Scalar.addi arg1 v1
  let c0_i32 : BitVec 32 := 0#32
  let c0_i32_0 : BitVec 32 := 0#32
  let v3 : BitVec 32 := Scalar.maxsi c0_i32 v2
  let v4 : BitVec 32 := Scalar.minsi c0_i32_0 v3
  let c0_i32_1 : BitVec 32 := 0#32
  let c0_i32_2 : BitVec 32 := 0#32
  let c0_i32_3 : BitVec 32 := 0#32
  ![c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SumProjRefIdeal.lean ====
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩
abbrev S4x256x128 : Shape := ⟨3, ![4, 256, 128]⟩

abbrev nBuf : Space → Nat
  | .hbm => 17
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x128, .f32⟩
  | .hbm, ⟨3, _⟩ => ⟨S8x256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S_, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S1x256x128, .f32⟩
  | .hbm, ⟨16, _⟩ => ⟨S4x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== SsdFwd.lean ====
abbrev S8192x2816 : Shape := ⟨2, ![8192, 2816]⟩
abbrev S4x896 : Shape := ⟨2, ![4, 896]⟩
abbrev S896 : Shape := ⟨1, ![896]⟩
abbrev S6 : Shape := ⟨1, ![6]⟩
abbrev S384 : Shape := ⟨1, ![384]⟩
abbrev S4x384 : Shape := ⟨2, ![4, 384]⟩
abbrev S4x512 : Shape := ⟨2, ![4, 512]⟩
abbrev S1x896 : Shape := ⟨2, ![1, 896]⟩
abbrev S1x384 : Shape := ⟨2, ![1, 384]⟩
abbrev S1x512 : Shape := ⟨2, ![1, 512]⟩
abbrev S_ : Shape := ⟨0, ![]⟩
abbrev S8x128 : Shape := ⟨2, ![8, 128]⟩
abbrev S1 : Shape := ⟨1, ![1]⟩
abbrev S2 : Shape := ⟨1, ![2]⟩
abbrev S8192x384 : Shape := ⟨2, ![8192, 384]⟩
abbrev S16x384x128 : Shape := ⟨3, ![16, 384, 128]⟩
abbrev S512x512 : Shape := ⟨2, ![512, 512]⟩
abbrev S8x512 : Shape := ⟨2, ![8, 512]⟩
abbrev S512x384 : Shape := ⟨2, ![512, 384]⟩
abbrev S8x384 : Shape := ⟨2, ![8, 384]⟩
abbrev S512x128 : Shape := ⟨2, ![512, 128]⟩
abbrev S1x384x128 : Shape := ⟨3, ![1, 384, 128]⟩
abbrev S384x128 : Shape := ⟨2, ![384, 128]⟩
abbrev S520x384 : Shape := ⟨2, ![520, 384]⟩
abbrev S520x512 : Shape := ⟨2, ![520, 512]⟩
abbrev S1x128 : Shape := ⟨2, ![1, 128]⟩
abbrev S128x512 : Shape := ⟨2, ![128, 512]⟩
abbrev S1x64x128 : Shape := ⟨3, ![1, 64, 128]⟩
abbrev S64x128 : Shape := ⟨2, ![64, 128]⟩
abbrev S512x64 : Shape := ⟨2, ![512, 64]⟩
abbrev S512x1 : Shape := ⟨2, ![512, 1]⟩
abbrev S1x1 : Shape := ⟨2, ![1, 1]⟩
abbrev S512 : Shape := ⟨1, ![512]⟩

abbrev nBuf : Space → Nat
  | .hbm => 37
  | .vmem => 26
  | .smem => 0
  | _ => 0

abbrev bufTy : (tb : Table) → Fin (tcTables nBuf tb) → BufTy
  | .hbm, ⟨0, _⟩ => ⟨S8192x2816, .f32⟩
  | .hbm, ⟨1, _⟩ => ⟨S4x896, .f32⟩
  | .hbm, ⟨2, _⟩ => ⟨S896, .f32⟩
  | .hbm, ⟨3, _⟩ => ⟨S6, .f32⟩
  | .hbm, ⟨4, _⟩ => ⟨S6, .f32⟩
  | .hbm, ⟨5, _⟩ => ⟨S6, .f32⟩
  | .hbm, ⟨6, _⟩ => ⟨S384, .f32⟩
  | .hbm, ⟨7, _⟩ => ⟨S4x384, .f32⟩
  | .hbm, ⟨8, _⟩ => ⟨S4x512, .f32⟩
  | .hbm, ⟨9, _⟩ => ⟨S1x896, .f32⟩
  | .hbm, ⟨10, _⟩ => ⟨S1x384, .f32⟩
  | .hbm, ⟨11, _⟩ => ⟨S1x512, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S6, .f32⟩
  | .hbm, ⟨21, _⟩ => ⟨S6, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x128, .f32⟩
  | .hbm, ⟨34, _⟩ => ⟨S1x384, .f32⟩
  | .hbm, ⟨35, _⟩ => ⟨S8192x384, .bf16⟩
  | .hbm, ⟨36, _⟩ => ⟨S16x384x128, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S8x384, .f32⟩
  | .local _ .vmem, ⟨9, _⟩ => ⟨S8x384, .f32⟩
  | .local _ .vmem, ⟨10, _⟩ => ⟨S512x128, .f32⟩
  | .local _ .vmem, ⟨11, _⟩ => ⟨S512x128, .f32⟩
  | .local _ .vmem, ⟨12, _⟩ => ⟨S4x384, .f32⟩
  | .local _ .vmem, ⟨13, _⟩ => ⟨S1x384, .f32⟩
  | .local _ .vmem, ⟨14, _⟩ => ⟨S4x512, .f32⟩
  | .local _ .vmem, ⟨15, _⟩ => ⟨S1x512, .f32⟩
  | .local _ .vmem, ⟨16, _⟩ => ⟨S8x128, .f32⟩
  | .local _ .vmem, ⟨17, _⟩ => ⟨S1x384, .f32⟩
  | .local _ .vmem, ⟨18, _⟩ => ⟨S512x384, .bf16⟩
  | .local _ .vmem, ⟨19, _⟩ => ⟨S512x384, .bf16⟩
  | .local _ .vmem, ⟨20, _⟩ => ⟨S1x384x128, .f32⟩
  | .local _ .vmem, ⟨21, _⟩ => ⟨S1x384x128, .f32⟩
  | .local _ .vmem, ⟨22, _⟩ => ⟨S384x128, .f32⟩
  | .local _ .vmem, ⟨23, _⟩ => ⟨S520x384, .f32⟩
  | .local _ .vmem, ⟨24, _⟩ => ⟨S520x512, .f32⟩
  | .local _ .vmem, ⟨25, _⟩ => ⟨S512x384, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c6_i32 : BitVec 32 := 6#32
  let c0_i32_0 : BitVec 32 := 0#32
  ![v4.toNat, c6_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c21_i32 : BitVec 32 := 21#32
  let c0_i32 : BitVec 32 := 0#32
  ![v1.toNat, c21_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x384x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.WgUp.lean ====
/- The gradient of the up projection in its weights: the tiled product equals the reference. -/
module

public import proofs.«01_k».proof.Defs
public import proofs.«01_k».proof.Proof.Gen.WgUpIdeal.Value
public import proofs.«01_k».proof.Proof.Gen.WgUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgUpIdeal.Tie

open Cert.WgUpIdeal Cert.WgUpIdeal.Gen

variable (m : (ℓ : Loc nD τ sig) → Buf (Elt Ideal) ℓ)

/-- The reference's term over its two arguments. -/
abbrev REF (x : FVec Ideal Cert.WgUpRefIdeal.S8192x1024 .f32) (d : FVec Ideal Cert.WgUpRefIdeal.S8192x5632 .bf16) :
    FVec Ideal Cert.WgUpRefIdeal.S1024x5632 .f32 :=
  transpose Cert.WgUpRefIdeal.S1024x5632 [1, 0]
    (Host.dotGeneral Cert.WgUpRefIdeal.dot_S8192x5632_S8192x1024_S5632x1024_0_0_1_1_n_n none
      (extf .f32 d Cert.WgUpRefIdeal.Gen.bitsLt_bf16_f32) x)
    Cert.WgUpRefIdeal.Gen.transposes_S5632x1024_S1024x5632_1_0

theorem hzero (j) : k0_pay1 (F := Ideal) j = 0 := by pointwise [k0_pay1]

theorem hpay (acc : Vec Ideal S1024x2816 .f32) (x : Vec Ideal S512x1024 .f32) (d : Vec Ideal S512x2816 .bf16) (j) :
    k0_pay2 acc x d j = acc j + ∑ k : Fin 512, x (ix2 k (j 0)) * d (ix2 k (j 1)) := by
  pointwise [k0_pay2]

theorem href (x d j) : REF x d j = ∑ l : Fin 8192, x (ix2 l (j 0)) * d (ix2 l (j 1)) := by
  pointwise [REF]
  exact Finset.sum_congr rfl fun l _ => mul_comm _ _

theorem idx : ∀ t : Fin cfg0.N, win0_0.index t = ![t.val % 16, 0]
    ∧ win0_1.index t = ![t.val % 16, t.val / 16]
    ∧ win0_2.index t = ![0, t.val / 16] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h15 : t.val % 16 = 15 := (flush0_2 t).mp hf
  have h2 : (outsAt0 m c t.val t.isLt).1 = (outsAt0 m c t.val t.isLt).2 := by
    rw [outsAt0_C m c t (by omega) h15]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t h15 _, zero_add]
  rw [href]
  refine Fin.sum_mul_add_congr fun s k hl => ?_
  blk_point [iblk, V, idx t, idx ⟨_, Pipeline.run_point_lt_of_flush t h15 s⟩]

theorem value : Cert.algebraic_WgUpIdeal_WgUpRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgUpRefIdeal.Value.run m' g')⟩

end Cert.WgUpIdeal.Tie

end
-- ==== Proof.DgUp.lean ====
/- The gradient of the up projection in its input: the tiled product equals the reference. -/
module

public import proofs.«01_k».proof.Defs
public import proofs.«01_k».proof.Proof.Gen.DgUpIdeal.Value
public import proofs.«01_k».proof.Proof.Gen.DgUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DgUpIdeal.Tie

open Cert.DgUpIdeal Cert.DgUpIdeal.Gen

variable (m : (ℓ : Loc nD τ sig) → Buf (Elt Ideal) ℓ)

/-- The reference's term over its three arguments. -/
abbrev REF (d : FVec Ideal Cert.DgUpRefIdeal.S8192x5632 .bf16) (w : FVec Ideal Cert.DgUpRefIdeal.S1024x5632 .bf16)
    (t : FVec Ideal Cert.DgUpRefIdeal.S8192x1024 .f32) : FVec Ideal Cert.DgUpRefIdeal.S8192x1024 .f32 :=
  addf t (Host.dotGeneral Cert.DgUpRefIdeal.dot_S8192x5632_S1024x5632_S8192x1024_1_1_0_0_n_n none
    (extf .f32 d Cert.DgUpRefIdeal.Gen.bitsLt_bf16_f32) (extf .f32 w Cert.DgUpRefIdeal.Gen.bitsLt_bf16_f32))

theorem hzero (j) : k0_pay1 (F := Ideal) j = 0 := by pointwise [k0_pay1]

theorem hpay (acc : Vec Ideal S1024x1024 .f32) (d : Vec Ideal S1024x1408 .bf16) (w : Vec Ideal S1024x1408 .bf16) (j) :
    k0_pay2 acc d w j = acc j + ∑ k : Fin 1408, d (ix2 (j 0) k) * w (ix2 (j 1) k) := by
  pointwise [k0_pay2]

theorem hout (acc t : Vec Ideal S1024x1024 .f32) (j) : k0_pay3 acc t j = acc j + t j := by
  pointwise [k0_pay3]

theorem href (d w t j) : REF d w t j = t j + ∑ l : Fin 5632, d (ix2 (j 0) l) * w (ix2 (j 1) l) := by
  pointwise [REF]

theorem idx : ∀ t : Fin cfg0.N, win0_0.index t = ![t.val / 4, t.val % 4]
    ∧ win0_1.index t = ![0, t.val % 4]
    ∧ win0_2.index t = ![t.val / 4, 0]
    ∧ win0_3.index t = ![t.val / 4, 0] :=
  (by decide +kernel : ∀ t : Fin grid0.N, _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hl : t.val % 4 = 3 := (flush0_3 t).mp hf
  have h2 : ∀ y, (outsAt0 m c t.val t.isLt).1 y = (outsAt0 m c t.val t.isLt).2 y + iblk m c 2 t y := by
    intro y
    rw [outsAt0_C m c t (by omega) hl]; frame_out; rw [hout]
  rw [after0_3, h2, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h' : t.val % 4 = 3
      · rw [outsAt0_C m c t h h']; frame_out; rw [read_unread_whole, hpay]
      · rw [outsAt0_B m c t h h']; frame_out; rw [read_unread_whole, hpay])
    t hl _, zero_add, href, add_comm]
  refine congrArg₂ (· + ·) rfl ?_
  refine Fin.sum_mul_add_congr fun s k hl' => ?_
  blk_point [iblk, V, idx t, idx ⟨_, Pipeline.run_point_lt_of_flush t hl s⟩]

theorem value : Cert.algebraic_DgUpIdeal_DgUpRefIdeal := by
  intro m g m' g' _ hag
  refine ⟨fun c => REF (m ((c.tc : Thread nD τ).loc main_arg0)) (m ((c.tc : Thread nD τ).loc main_arg1))
      (m ((c.tc : Thread nD τ).loc main_arg2)),
    (θ_run _ _ _).mono (fun r h c => ⟨(h c).1.trans (final m c), (h c).2⟩) (Value.run_blocks m g),
    (θ_run _ _ _).mono (fun r h c => ⟨(h c).1.trans (by rw [(hag c).1, (hag c).2.1, (hag c).2.2]), (h c).2⟩)
      (Cert.DgUpRefIdeal.Value.run m' g')⟩

end Cert.DgUpIdeal.Tie

end
-- ==== Proof.WgDown.lean ====
/- The weight gradient of a projection: the tiled product over the tokens equals the reference. -/
module

public import proofs.«01_k».proof.Defs
public import proofs.«01_k».proof.Proof.Gen.WgDownIdeal.Value
public import proofs.«01_k».proof.Proof.Gen.WgDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgDownIdeal.Tie

open Cert.WgDownIdeal Cert.WgDownIdeal.Gen

variable (m : (ℓ : Loc nD τ sig) → Buf (Elt Ideal) ℓ)

/-- The reference's term over its arguments. -/
abbrev REF (a0 : FVec Ideal Cert.WgDownRefIdeal.S8192x2816 .bf16) (a1 : FVec Ideal Cert.WgDownRefIdeal.S8192x1024 .f32) : FVec Ideal Cert.WgDownRefIdeal.S2816x1024 .f32 :=
  transpose Cert.WgDownRefIdeal.S2816x1024 [1, 0] (Host.dotGeneral Cert.WgDownRefIdeal.dot_S8192x1024_S8192x2816_S1024x2816_0_0_1_1_n_n none a1 (extf .f32 a0 Cert.WgDownRefIdeal.Gen.bitsLt_bf16_f32)) Cert.WgDownRefIdeal.Gen.transposes_S1024x2816_S2816x1024_1_0

theorem hzero (j) : k0_pay1 (F := Ideal) j = 0 := by pointwise [k0_pay1]

theorem hpay (acc : Vec Ideal S1408x1024 .f32) (x : Vec Ideal S512x1408 .bf16) (d : Vec Ideal S512x1024 .f32) (j) :
    k0_pay2 acc x d j = acc j + ∑ k : Fin 512, x (ix2 k (j 0)) * d (ix2 k (j 1)) := by
  pointwise [k0_pay2]

theorem href (a0 a1 j) : REF a0 a1 j = ∑ l : Fin 8192, a0 (ix2 l (j 0)) * a1 (ix2 l (j 1)) := by
  pointwise [REF]
  exact Finset.sum_congr rfl fun l _ => mul_comm _ _

theorem idx : ∀ t : Fin cfg0.N, win0_0.index t = ![t.val % 16, t.val / 16]
    ∧ win0_1.index t = ![t.val % 16, 0]
    ∧ win0_2.index t = ![t.val / 16, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hl : t.val % 16 = 15 := (flush0_2 t).mp hf
  have h2 : (outsAt0 m c t.val t.isLt).1 = (outsAt0 m c t.val t.isLt).2 := by
    rw [outsAt0_C m c t (by omega) hl]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t hl _, zero_add, href]
  refine Fin.sum_mul_add_congr fun s k hl' => ?_
  blk_point [iblk, V, idx t, idx ⟨_, Pipeline.run_point_lt_of_flush t hl s⟩]

theorem value : Cert.algebraic_WgDownIdeal_WgDownRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgDownRefIdeal.Value.run m' g')⟩

end Cert.WgDownIdeal.Tie

end
-- ==== Proof.DgDown.lean ====
/- The gradient of a projection in its input: the tiled product equals the reference. -/
module

public import proofs.«01_k».proof.Defs
public import proofs.«01_k».proof.Proof.Gen.DgDownIdeal.Value
public import proofs.«01_k».proof.Proof.Gen.DgDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DgDownIdeal.Tie

open Cert.DgDownIdeal Cert.DgDownIdeal.Gen

variable (m : (ℓ : Loc nD τ sig) → Buf (Elt Ideal) ℓ)

/-- The reference's term over its arguments. -/
abbrev REF (a0 : FVec Ideal Cert.DgDownRefIdeal.S8192x1024 .f32) (a1 : FVec Ideal Cert.DgDownRefIdeal.S2816x1024 .bf16) : FVec Ideal Cert.DgDownRefIdeal.S8192x2816 .f32 :=
  Host.dotGeneral Cert.DgDownRefIdeal.dot_S8192x1024_S2816x1024_S8192x2816_1_1_0_0_n_n none a0 (extf .f32 a1 Cert.DgDownRefIdeal.Gen.bitsLt_bf16_f32)

theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_DgDownIdeal_DgDownRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.DgDownRefIdeal.Value.run m' g')⟩

end Cert.DgDownIdeal.Tie

end
-- ==== Proof.WgIn.lean ====
/- The weight gradient of a projection: the tiled product over the tokens equals the reference. -/
module

public import proofs.«01_k».proof.Defs
public import proofs.«01_k».proof.Proof.Gen.WgInIdeal.Value
public import proofs.«01_k».proof.Proof.Gen.WgInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgInIdeal.Tie

open Cert.WgInIdeal Cert.WgInIdeal.Gen

variable (m : (ℓ : Loc nD τ sig) → Buf (Elt Ideal) ℓ)

/-- The reference's term over its arguments. -/
abbrev REF (a0 : FVec Ideal Cert.WgInRefIdeal.S8192x1024 .f32) (a1 : FVec Ideal Cert.WgInRefIdeal.S8192x2816 .bf16) : FVec Ideal Cert.WgInRefIdeal.S1024x2816 .f32 :=
  transpose Cert.WgInRefIdeal.S1024x2816 [1, 0] (Host.dotGeneral Cert.WgInRefIdeal.dot_S8192x2816_S8192x1024_S2816x1024_0_0_1_1_n_n none (extf .f32 a1 Cert.WgInRefIdeal.Gen.bitsLt_bf16_f32) a0) Cert.WgInRefIdeal.Gen.transposes_S2816x1024_S1024x2816_1_0

theorem hzero (j) : k0_pay1 (F := Ideal) j = 0 := by pointwise [k0_pay1]

theorem hpay (acc : Vec Ideal S1024x2816 .f32) (x : Vec Ideal S512x1024 .f32) (d : Vec Ideal S512x2816 .bf16) (j) :
    k0_pay2 acc x d j = acc j + ∑ k : Fin 512, x (ix2 k (j 0)) * d (ix2 k (j 1)) := by
  pointwise [k0_pay2]

theorem href (a0 a1 j) : REF a0 a1 j = ∑ l : Fin 8192, a0 (ix2 l (j 0)) * a1 (ix2 l (j 1)) := by
  pointwise [REF]
  exact Finset.sum_congr rfl fun l _ => mul_comm _ _

theorem idx : ∀ t : Fin cfg0.N, win0_0.index t = ![t.val, 0]
    ∧ win0_1.index t = ![t.val, 0]
    ∧ win0_2.index t = ![0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hl : t.val % 16 = 15 := (flush0_2 t).mp hf
  have h2 : (outsAt0 m c t.val t.isLt).1 = (outsAt0 m c t.val t.isLt).2 := by
    rw [outsAt0_C m c t (by omega) hl]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t hl _, zero_add, href]
  refine Fin.sum_mul_add_congr fun s k hl' => ?_
  blk_point [iblk, V, idx t, idx ⟨_, Pipeline.run_point_lt_of_flush t hl s⟩]

theorem value : Cert.algebraic_WgInIdeal_WgInRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgInRefIdeal.Value.run m' g')⟩

end Cert.WgInIdeal.Tie

end
-- ==== Proof.DgIn.lean ====
/- The gradient of a projection in its input: the tiled product equals the reference. -/
module

public import proofs.«01_k».proof.Defs
public import proofs.«01_k».proof.Proof.Gen.DgInIdeal.Value
public import proofs.«01_k».proof.Proof.Gen.DgInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DgInIdeal.Tie

open Cert.DgInIdeal Cert.DgInIdeal.Gen

variable (m : (ℓ : Loc nD τ sig) → Buf (Elt Ideal) ℓ)

/-- The reference's term over its arguments. -/
abbrev REF (a0 : FVec Ideal Cert.DgInRefIdeal.S8192x2816 .bf16) (a1 : FVec Ideal Cert.DgInRefIdeal.S1024x2816 .bf16) (a2 : FVec Ideal Cert.DgInRefIdeal.S8192x1024 .f32) : FVec Ideal Cert.DgInRefIdeal.S8192x1024 .f32 :=
  addf (mulf (broadcastInDim Cert.DgInRefIdeal.S8192x1024 ![] Cert.DgInRefIdeal.Gen.bcast_S_S8192x1024 (constant Cert.DgInRefIdeal.S_ .f32 0x3FD744FD#32)) a2) (Host.dotGeneral Cert.DgInRefIdeal.dot_S8192x2816_S1024x2816_S8192x1024_1_1_0_0_n_n none (extf .f32 a0 Cert.DgInRefIdeal.Gen.bitsLt_bf16_f32) (extf .f32 a1 Cert.DgInRefIdeal.Gen.bitsLt_bf16_f32))

theorem hzero (j) : k0_pay1 (F := Ideal) j = 0 := by pointwise [k0_pay1]

theorem hpay (acc : Vec Ideal S1024x1024 .f32) (x : Vec Ideal S1024x1408 .bf16) (d : Vec Ideal S1024x1408 .bf16) (j) :
    k0_pay2 acc x d j = acc j + ∑ k : Fin 1408, x (ix2 (j 0) k) * d (ix2 (j 1) k) := by
  pointwise [k0_pay2]

theorem hout (acc t : Vec Ideal S1024x1024 .f32) (j) : k0_pay3 acc t j = acc j + (Scalar.ofBits (F := Ideal) .f32 0x3FD744FD#32 : EReal) * t j := by
  pointwise [k0_pay3]

theorem href (a0 a1 a2 j) : REF a0 a1 a2 j = (Scalar.ofBits (F := Ideal) .f32 0x3FD744FD#32 : EReal) * a2 j + ∑ l : Fin 2816, a0 (ix2 (j 0) l) * a1 (ix2 (j 1) l) := by
  pointwise [REF]

theorem idx : ∀ t : Fin cfg0.N, win0_0.index t = ![t.val / 2, t.val % 2]
    ∧ win0_1.index t = ![0, t.val % 2]
    ∧ win0_2.index t = ![t.val / 2, 0]
    ∧ win0_3.index t = ![t.val / 2, 0] :=
  (by decide +kernel : ∀ t : Fin grid0.N, _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hl : t.val % 2 = 1 := (flush0_3 t).mp hf
  have h2 : ∀ y, (outsAt0 m c t.val t.isLt).1 y = (outsAt0 m c t.val t.isLt).2 y + (Scalar.ofBits (F := Ideal) .f32 0x3FD744FD#32 : EReal) * iblk m c 2 t y := by
    intro y
    rw [outsAt0_B m c t (by omega) hl]; frame_out; rw [hout]
  rw [after0_3, h2, Pipeline.eq_sum_fin_of_reset_step_apply_of_flush (fun n h => (outsAt0 m c n h).2) 2 (fun _ => 0) _
    (fun t h j => by rw [outsAt0_A m c t h (by omega)]; frame_out; rw [hpay, hzero])
    (fun t h j => by
      rw [outsAt0_B m c t h (by omega)]; frame_out; rw [read_unread_whole, hpay])
    t hl _, zero_add, href, add_comm]
  refine congrArg₂ (· + ·) rfl ?_
  refine Fin.sum_mul_add_congr fun s k hl' => ?_
  blk_point [iblk, V, idx t, idx ⟨_, Pipeline.run_point_lt_of_flush t hl s⟩]

theorem value : Cert.algebraic_DgInIdeal_DgInRefIdeal := by
  intro m g m' g' _ hag
  refine ⟨fun c => REF (m ((c.tc : Thread nD τ).loc main_arg0)) (m ((c.tc : Thread nD τ).loc main_arg1)) (m ((c.tc : Thread nD τ).loc main_arg2)),
    (θ_run _ _ _).mono (fun r h c => ⟨(h c).1.trans (final m c), (h c).2⟩) (Value.run_blocks m g),
    (θ_run _ _ _).mono (fun r h c => ⟨(h c).1.trans (by rw [(hag c).1, (hag c).2.1, (hag c).2.2]), (h c).2⟩)
      (Cert.DgInRefIdeal.Value.run m' g')⟩

end Cert.DgInIdeal.Tie

end
-- ==== Proof.WgOut.lean ====
/- The weight gradient of a projection: the tiled product over the tokens equals the reference. -/
module

public import proofs.«01_k».proof.Defs
public import proofs.«01_k».proof.Proof.Gen.WgOutIdeal.Value
public import proofs.«01_k».proof.Proof.Gen.WgOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgOutIdeal.Tie

open Cert.WgOutIdeal Cert.WgOutIdeal.Gen

variable (m : (ℓ : Loc nD τ sig) → Buf (Elt Ideal) ℓ)

/-- The reference's term over its arguments. -/
abbrev REF (a0 : FVec Ideal Cert.WgOutRefIdeal.S8192x1024 .bf16) (a1 : FVec Ideal Cert.WgOutRefIdeal.S8192x1024 .f32) : FVec Ideal Cert.WgOutRefIdeal.S1024x1024 .f32 :=
  transpose Cert.WgOutRefIdeal.S1024x1024 [1, 0] (Host.dotGeneral Cert.WgOutRefIdeal.dot_S8192x1024_S8192x1024_S1024x1024_0_0_1_1_n_n none a1 (extf .f32 a0 Cert.WgOutRefIdeal.Gen.bitsLt_bf16_f32)) Cert.WgOutRefIdeal.Gen.transposes_S1024x1024_S1024x1024_1_0

theorem hzero (j) : k0_pay1 (F := Ideal) j = 0 := by pointwise [k0_pay1]

theorem hpay (acc : Vec Ideal S1024x1024 .f32) (x : Vec Ideal S512x1024 .bf16) (d : Vec Ideal S512x1024 .f32) (j) :
    k0_pay2 acc x d j = acc j + ∑ k : Fin 512, x (ix2 k (j 0)) * d (ix2 k (j 1)) := by
  pointwise [k0_pay2]

theorem href (a0 a1 j) : REF a0 a1 j = ∑ l : Fin 8192, a0 (ix2 l (j 0)) * a1 (ix2 l (j 1)) := by
  pointwise [REF]
  exact Finset.sum_congr rfl fun l _ => mul_comm _ _

theorem idx : ∀ t : Fin cfg0.N, win0_0.index t = ![t.val, 0]
    ∧ win0_1.index t = ![t.val, 0]
    ∧ win0_2.index t = ![0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hl : t.val % 16 = 15 := (flush0_2 t).mp hf
  have h2 : (outsAt0 m c t.val t.isLt).1 = (outsAt0 m c t.val t.isLt).2 := by
    rw [outsAt0_C m c t (by omega) hl]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t hl _, zero_add, href]
  refine Fin.sum_mul_add_congr fun s k hl' => ?_
  blk_point [iblk, V, idx t, idx ⟨_, Pipeline.run_point_lt_of_flush t hl s⟩]

theorem value : Cert.algebraic_WgOutIdeal_WgOutRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgOutRefIdeal.Value.run m' g')⟩

end Cert.WgOutIdeal.Tie

end
-- ==== Proof.DgOut.lean ====
/- The gradient of a projection in its input: the tiled product equals the reference. -/
module

public import proofs.«01_k».proof.Defs
public import proofs.«01_k».proof.Proof.Gen.DgOutIdeal.Value
public import proofs.«01_k».proof.Proof.Gen.DgOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DgOutIdeal.Tie

open Cert.DgOutIdeal Cert.DgOutIdeal.Gen

variable (m : (ℓ : Loc nD τ sig) → Buf (Elt Ideal) ℓ)

/-- The reference's term over its arguments. -/
abbrev REF (a0 : FVec Ideal Cert.DgOutRefIdeal.S8192x1024 .f32) (a1 : FVec Ideal Cert.DgOutRefIdeal.S1024x1024 .bf16) : FVec Ideal Cert.DgOutRefIdeal.S8192x1024 .f32 :=
  Host.dotGeneral Cert.DgOutRefIdeal.dot_S8192x1024_S1024x1024_S8192x1024_1_1_0_0_n_n none a0 (extf .f32 a1 Cert.DgOutRefIdeal.Gen.bitsLt_bf16_f32)

theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_DgOutIdeal_DgOutRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.DgOutRefIdeal.Value.run m' g')⟩

end Cert.DgOutIdeal.Tie

end
-- ==== Proof.WgGate.lean ====
/- The weight gradient of a projection: the tiled product over the tokens equals the reference. -/
module

public import proofs.«01_k».proof.Defs
public import proofs.«01_k».proof.Proof.Gen.WgGateIdeal.Value
public import proofs.«01_k».proof.Proof.Gen.WgGateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgGateIdeal.Tie

open Cert.WgGateIdeal Cert.WgGateIdeal.Gen

variable (m : (ℓ : Loc nD τ sig) → Buf (Elt Ideal) ℓ)

/-- The reference's term over its arguments. -/
abbrev REF (a0 : FVec Ideal Cert.WgGateRefIdeal.S8192x1024 .f32) (a1 : FVec Ideal Cert.WgGateRefIdeal.S8192x1024 .bf16) : FVec Ideal Cert.WgGateRefIdeal.S1024x1024 .f32 :=
  transpose Cert.WgGateRefIdeal.S1024x1024 [1, 0] (Host.dotGeneral Cert.WgGateRefIdeal.dot_S8192x1024_S8192x1024_S1024x1024_0_0_1_1_n_n none (extf .f32 a1 Cert.WgGateRefIdeal.Gen.bitsLt_bf16_f32) a0) Cert.WgGateRefIdeal.Gen.transposes_S1024x1024_S1024x1024_1_0

theorem hzero (j) : k0_pay1 (F := Ideal) j = 0 := by pointwise [k0_pay1]

theorem hpay (acc : Vec Ideal S1024x1024 .f32) (x : Vec Ideal S512x1024 .f32) (d : Vec Ideal S512x1024 .bf16) (j) :
    k0_pay2 acc x d j = acc j + ∑ k : Fin 512, x (ix2 k (j 0)) * d (ix2 k (j 1)) := by
  pointwise [k0_pay2]

theorem href (a0 a1 j) : REF a0 a1 j = ∑ l : Fin 8192, a0 (ix2 l (j 0)) * a1 (ix2 l (j 1)) := by
  pointwise [REF]
  exact Finset.sum_congr rfl fun l _ => mul_comm _ _

theorem idx : ∀ t : Fin cfg0.N, win0_0.index t = ![t.val, 0]
    ∧ win0_1.index t = ![t.val, 0]
    ∧ win0_2.index t = ![0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hl : t.val % 16 = 15 := (flush0_2 t).mp hf
  have h2 : (outsAt0 m c t.val t.isLt).1 = (outsAt0 m c t.val t.isLt).2 := by
    rw [outsAt0_C m c t (by omega) hl]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t hl _, zero_add, href]
  refine Fin.sum_mul_add_congr fun s k hl' => ?_
  blk_point [iblk, V, idx t, idx ⟨_, Pipeline.run_point_lt_of_flush t hl s⟩]

theorem value : Cert.algebraic_WgGateIdeal_WgGateRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgGateRefIdeal.Value.run m' g')⟩

end Cert.WgGateIdeal.Tie

end
-- ==== Proof.DgGate.lean ====
/- The gradient of a projection in its input: the tiled product equals the reference. -/
module

public import proofs.«01_k».proof.Defs
public import proofs.«01_k».proof.Proof.Gen.DgGateIdeal.Value
public import proofs.«01_k».proof.Proof.Gen.DgGateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.DgGateIdeal.Tie

open Cert.DgGateIdeal Cert.DgGateIdeal.Gen

variable (m : (ℓ : Loc nD τ sig) → Buf (Elt Ideal) ℓ)

/-- The reference's term over its arguments. -/
abbrev REF (a0 : FVec Ideal Cert.DgGateRefIdeal.S8192x1024 .bf16) (a1 : FVec Ideal Cert.DgGateRefIdeal.S1024x1024 .bf16) (a2 : FVec Ideal Cert.DgGateRefIdeal.S8192x1024 .f32) : FVec Ideal Cert.DgGateRefIdeal.S8192x1024 .f32 :=
  addf (mulf (broadcastInDim Cert.DgGateRefIdeal.S8192x1024 ![] Cert.DgGateRefIdeal.Gen.bcast_S_S8192x1024 (constant Cert.DgGateRefIdeal.S_ .f32 0x3FD744FD#32)) a2) (Host.dotGeneral Cert.DgGateRefIdeal.dot_S8192x1024_S1024x1024_S8192x1024_1_1_0_0_n_n none (extf .f32 a0 Cert.DgGateRefIdeal.Gen.bitsLt_bf16_f32) (extf .f32 a1 Cert.DgGateRefIdeal.Gen.bitsLt_bf16_f32))

theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

theorem value : Cert.algebraic_DgGateIdeal_DgGateRefIdeal := by
  intro m g m' g' _ hag
  refine ⟨fun c => REF (m ((c.tc : Thread nD τ).loc main_arg0)) (m ((c.tc : Thread nD τ).loc main_arg1)) (m ((c.tc : Thread nD τ).loc main_arg2)),
    (θ_run _ _ _).mono (fun r h c => ⟨(h c).1.trans (final m c), (h c).2⟩) (Value.run_blocks m g),
    (θ_run _ _ _).mono (fun r h c => ⟨(h c).1.trans (by rw [(hag c).1, (hag c).2.1, (hag c).2.2]), (h c).2⟩)
      (Cert.DgGateRefIdeal.Value.run m' g')⟩

end Cert.DgGateIdeal.Tie

end
-- ==== Proof.WgProj.lean ====
/- The weight gradient of a projection: the tiled product over the tokens equals the reference. -/
module

public import proofs.«01_k».proof.Defs
public import proofs.«01_k».proof.Proof.Gen.WgProjIdeal.Value
public import proofs.«01_k».proof.Proof.Gen.WgProjRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.WgProjIdeal.Tie

open Cert.WgProjIdeal Cert.WgProjIdeal.Gen

variable (m : (ℓ : Loc nD τ sig) → Buf (Elt Ideal) ℓ)

/-- The reference's term over its arguments. -/
abbrev REF (a0 : FVec Ideal Cert.WgProjRefIdeal.S8192x256 .f32) (a1 : FVec Ideal Cert.WgProjRefIdeal.S8192x1024 .bf16) : FVec Ideal Cert.WgProjRefIdeal.S256x1024 .f32 :=
  transpose Cert.WgProjRefIdeal.S256x1024 [1, 0] (Host.dotGeneral Cert.WgProjRefIdeal.dot_S8192x1024_S8192x256_S1024x256_0_0_1_1_n_n none (extf .f32 a1 Cert.WgProjRefIdeal.Gen.bitsLt_bf16_f32) a0) Cert.WgProjRefIdeal.Gen.transposes_S1024x256_S256x1024_1_0

theorem hzero (j) : k0_pay1 (F := Ideal) j = 0 := by pointwise [k0_pay1]

theorem hpay (acc : Vec Ideal S256x1024 .f32) (x : Vec Ideal S512x256 .f32) (d : Vec Ideal S512x1024 .bf16) (j) :
    k0_pay2 acc x d j = acc j + ∑ k : Fin 512, x (ix2 k (j 0)) * d (ix2 k (j 1)) := by
  pointwise [k0_pay2]

theorem href (a0 a1 j) : REF a0 a1 j = ∑ l : Fin 8192, a0 (ix2 l (j 0)) * a1 (ix2 l (j 1)) := by
  pointwise [REF]
  exact Finset.sum_congr rfl fun l _ => mul_comm _ _

theorem idx : ∀ t : Fin cfg0.N, win0_0.index t = ![t.val, 0]
    ∧ win0_1.index t = ![t.val, 0]
    ∧ win0_2.index t = ![0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hl : t.val % 16 = 15 := (flush0_2 t).mp hf
  have h2 : (outsAt0 m c t.val t.isLt).1 = (outsAt0 m c t.val t.isLt).2 := by
    rw [outsAt0_C m c t (by omega) hl]; frame_out
  rw [after0_2, h2, Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h' : t.val % 16 = 15
      · rw [outsAt0_C m c t h h']; frame_out; rw [read_unread_whole, hpay]
      · rw [outsAt0_B m c t h h']; frame_out; rw [read_unread_whole, hpay])
    t hl _, zero_add, href]
  refine Fin.sum_mul_add_congr fun s k hl' => ?_
  blk_point [iblk, V, idx t, idx ⟨_, Pipeline.run_point_lt_of_flush t hl s⟩]

theorem value : Cert.algebraic_WgProjIdeal_WgProjRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.WgProjRefIdeal.Value.run m' g')⟩

end Cert.WgProjIdeal.Tie

end
-- ==== Proof.MmIn.lean ====
/- The product of a projection: the tiled product equals the reference. -/
module

public import proofs.«01_k».proof.Defs
public import proofs.«01_k».proof.Proof.Gen.MmInIdeal.Value
public import proofs.«01_k».proof.Proof.Gen.MmInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MmInIdeal.Tie

open Cert.MmInIdeal Cert.MmInIdeal.Gen

variable (m : (ℓ : Loc nD τ sig) → Buf (Elt Ideal) ℓ)

/-- The reference's term over its arguments. -/
abbrev REF (a0 : FVec Ideal Cert.MmInRefIdeal.S8192x1024 .f32) (a1 : FVec Ideal Cert.MmInRefIdeal.S1024x2816 .bf16) : FVec Ideal Cert.MmInRefIdeal.S8192x2816 .f32 :=
  Host.dotGeneral Cert.MmInRefIdeal.dot_S8192x1024_S1024x2816_S8192x2816_1_0_0_1_n_n none a0 (extf .f32 a1 Cert.MmInRefIdeal.Gen.bitsLt_bf16_f32)

theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_MmInIdeal_MmInRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.MmInRefIdeal.Value.run m' g')⟩

end Cert.MmInIdeal.Tie

end
-- ==== Proof.MmUp.lean ====
/- The product of a projection: the tiled product equals the reference. -/
module

public import proofs.«01_k».proof.Defs
public import proofs.«01_k».proof.Proof.Gen.MmUpIdeal.Value
public import proofs.«01_k».proof.Proof.Gen.MmUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MmUpIdeal.Tie

open Cert.MmUpIdeal Cert.MmUpIdeal.Gen

variable (m : (ℓ : Loc nD τ sig) → Buf (Elt Ideal) ℓ)

/-- The reference's term over its arguments. -/
abbrev REF (a0 : FVec Ideal Cert.MmUpRefIdeal.S8192x1024 .f32) (a1 : FVec Ideal Cert.MmUpRefIdeal.S1024x5632 .bf16) : FVec Ideal Cert.MmUpRefIdeal.S8192x5632 .f32 :=
  Host.dotGeneral Cert.MmUpRefIdeal.dot_S8192x1024_S1024x5632_S8192x5632_1_0_0_1_n_n none a0 (extf .f32 a1 Cert.MmUpRefIdeal.Gen.bitsLt_bf16_f32)

theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_MmUpIdeal_MmUpRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.MmUpRefIdeal.Value.run m' g')⟩

end Cert.MmUpIdeal.Tie

end
-- ==== Proof.MmGate.lean ====
/- The product of a projection: the tiled product equals the reference. -/
module

public import proofs.«01_k».proof.Defs
public import proofs.«01_k».proof.Proof.Gen.MmGateIdeal.Value
public import proofs.«01_k».proof.Proof.Gen.MmGateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MmGateIdeal.Tie

open Cert.MmGateIdeal Cert.MmGateIdeal.Gen

variable (m : (ℓ : Loc nD τ sig) → Buf (Elt Ideal) ℓ)

/-- The reference's term over its arguments. -/
abbrev REF (a0 : FVec Ideal Cert.MmGateRefIdeal.S8192x1024 .f32) (a1 : FVec Ideal Cert.MmGateRefIdeal.S1024x1024 .bf16) : FVec Ideal Cert.MmGateRefIdeal.S8192x1024 .f32 :=
  Host.dotGeneral Cert.MmGateRefIdeal.dot_S8192x1024_S1024x1024_S8192x1024_1_0_0_1_n_n none a0 (extf .f32 a1 Cert.MmGateRefIdeal.Gen.bitsLt_bf16_f32)

theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_MmGateIdeal_MmGateRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.MmGateRefIdeal.Value.run m' g')⟩

end Cert.MmGateIdeal.Tie

end
-- ==== Proof.MmProj.lean ====
/- The product of a projection: the tiled product equals the reference. -/
module

public import proofs.«01_k».proof.Defs
public import proofs.«01_k».proof.Proof.Gen.MmProjIdeal.Value
public import proofs.«01_k».proof.Proof.Gen.MmProjRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MmProjIdeal.Tie

open Cert.MmProjIdeal Cert.MmProjIdeal.Gen

variable (m : (ℓ : Loc nD τ sig) → Buf (Elt Ideal) ℓ)

/-- The reference's term over its arguments. -/
abbrev REF (a0 : FVec Ideal Cert.MmProjRefIdeal.S8192x256 .f32) (a1 : FVec Ideal Cert.MmProjRefIdeal.S256x1024 .bf16) : FVec Ideal Cert.MmProjRefIdeal.S8192x1024 .f32 :=
  Host.dotGeneral Cert.MmProjRefIdeal.dot_S8192x256_S256x1024_S8192x1024_1_0_0_1_n_n none a0 (extf .f32 a1 Cert.MmProjRefIdeal.Gen.bitsLt_bf16_f32)

theorem idx : ∀ t : Fin cfg0.N, win0_0.index t = ![t.val, 0]
    ∧ win0_1.index t = ![0, 0]
    ∧ win0_2.index t = ![t.val, 0] :=
  (by decide +kernel : ∀ t : Fin grid0.N, _)

theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

theorem value : Cert.algebraic_MmProjIdeal_MmProjRefIdeal := by
  intro m g m' g' _ hag
  refine ⟨fun c => REF (m ((c.tc : Thread nD τ).loc main_arg0)) (m ((c.tc : Thread nD τ).loc main_arg1)),
    (θ_run _ _ _).mono (fun r h c => ⟨(h c).1.trans (final m c), (h c).2⟩) (Value.run_blocks m g),
    (θ_run _ _ _).mono (fun r h c => ⟨(h c).1.trans (by rw [(hag c).1, (hag c).2]), (h c).2⟩)
      (Cert.MmProjRefIdeal.Value.run m' g')⟩

end Cert.MmProjIdeal.Tie

end
-- ==== Proof.LnRow.lean ====
/- One row of the gradient of a layer norm: the form the kernel computes and the form that the
   reference computes are the same extended reals when the scaled cotangents are finite. -/
module

public import Idealize.ShloMosaic.PureOps
public import Idealize.ShloMosaic.Lib.StableHlo
public import Idealize.ShloMosaic.Lib.IdealHost
public import Idealize.ShloMosaic.Lib.Pipeline.ValueKit

@[expose] public section

noncomputable section

open Idealize.ShloMosaic
open scoped BigOperators

namespace LnRow

/-- The row's length 1024, as both programs spell it. -/
abbrev N : EReal := Ideal.ofBits .f32 0x44800000#32
/-- The small number under the root. -/
abbrev E : EReal := Ideal.ofBits .f32 0x3727C5AC#32
/-- Minus one half, of the derivative of the root. -/
abbrev H : EReal := Ideal.ofBits .f32 0xBF000000#32
/-- Two, of the derivative of the square. -/
abbrev T : EReal := Ideal.ofBits .f32 0x40000000#32

theorem N_eq : N = ((1024 : ℝ) : EReal) := by
  simp [N, Ideal.ofBits, Ideal.ieee, -EReal.coe_mul]; norm_num
theorem T_eq : T = ((2 : ℝ) : EReal) := by
  simp [T, Ideal.ofBits, Ideal.ieee, -EReal.coe_mul]; norm_num
theorem H_eq : H = ((-(1 / 2) : ℝ) : EReal) := by
  simp [H, Ideal.ofBits, Ideal.ieee, -EReal.coe_mul, -EReal.coe_neg]; norm_num
theorem E_eq : ∃ e : ℝ, 0 < e ∧ E = ((e : ℝ) : EReal) := by
  refine ⟨10995116 * 2 ^ (-40 : ℤ), by positivity, ?_⟩
  simp [E, Ideal.ofBits, Ideal.ieee, -EReal.coe_mul]

theorem coe_sum {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := by
    intro s
    induction s using Finset.cons_induction with
    | empty => simp
    | cons a s ha ih => rw [Finset.sum_cons, Finset.sum_cons, ih, EReal.coe_add]
  exact h _

/-- The mean of a row. -/
def mean (r : Fin 1024 → EReal) : EReal := Ideal.div (∑ k, r k) N
/-- A row less its mean. -/
def cen (r : Fin 1024 → EReal) (l : Fin 1024) : EReal := r l - mean r
/-- The variance of a row and the small number. -/
def vare (r : Fin 1024 → EReal) : EReal := Ideal.div (∑ k, cen r k * cen r k) N + E
/-- The reciprocal root of it. -/
def rstd (r : Fin 1024 → EReal) : EReal := Ideal.rsqrt (vare r)
/-- The normalised row. -/
def hat (r : Fin 1024 → EReal) (l : Fin 1024) : EReal := cen r l * rstd r

/-- The kernel's row: `d` is the cotangent times the gain. -/
def kernelRow (r d : Fin 1024 → EReal) (l : Fin 1024) : EReal :=
  rstd r * ((d l - Ideal.div (∑ k, d k) N) - hat r l * Ideal.div (∑ k, d k * hat r k) N)

/-- What reaches the centred row through the variance, in the reference. -/
def through (r d : Fin 1024 → EReal) (l : Fin 1024) : EReal :=
  Ideal.div ((∑ k, cen r k * d k) * (H * Ideal.div (rstd r) (vare r))) N * (T * cen r l)

/-- The reference's row. -/
def refRow (r d : Fin 1024 → EReal) (l : Fin 1024) : EReal :=
  (d l * rstd r + through r d l) + Ideal.div ((∑ k, -(d k * rstd r)) + ∑ k, -(through r d k)) N

theorem div_N (x : ℝ) : Ideal.div (x : EReal) N = ((x / 1024 : ℝ) : EReal) := by
  rw [N_eq, Ideal.div_coe (by norm_num)]; norm_cast; congr 1; ring

/-- The two forms agree over the reals. -/
theorem real_row (x d : Fin 1024 → ℝ) (w s : ℝ) (hx : ∑ k, x k = 0) (hs : s * s * w = 1) (hw : w ≠ 0) (l : Fin 1024) :
    s * ((d l - (∑ k, d k) / 1024) - x l * s * ((∑ k, d k * (x k * s)) / 1024))
      = (d l * s + (∑ k, x k * d k) * (-(1 / 2) * (s / w)) / 1024 * (2 * x l))
        + ((∑ k, -(d k * s)) + ∑ k, -((∑ k, x k * d k) * (-(1 / 2) * (s / w)) / 1024 * (2 * x k))) / 1024 := by
  have h1 : ∑ k, d k * (x k * s) = s * ∑ k, x k * d k := by
    rw [Finset.mul_sum]; exact Finset.sum_congr rfl fun k _ => by ring
  have h2 : ∑ k, -(d k * s) = -(s * ∑ k, d k) := by
    rw [Finset.mul_sum, ← Finset.sum_neg_distrib]; exact Finset.sum_congr rfl fun k _ => by ring
  have h3 : ∀ a : ℝ, ∑ k, -(a * (2 * x k)) = 0 := by
    intro a
    have : ∑ k, -(a * (2 * x k)) = -(2 * a) * ∑ k, x k := by
      rw [Finset.mul_sum]; exact Finset.sum_congr rfl fun k _ => by ring
    rw [this, hx, mul_zero]
  have h4 : s / w = s * s * s := by
    rw [div_eq_iff hw]; linear_combination (-s) * hs
  rw [h1, h2, h3, h4]
  ring

theorem rsqrt_top : Ideal.rsqrt ⊤ = 0 := rfl
theorem rsqrt_coe {w : ℝ} (hw : 0 < w) : Ideal.rsqrt (w : EReal) = (((Real.sqrt w)⁻¹ : ℝ) : EReal) := by
  show (if w < 0 then (⊥ : EReal) else if w = 0 then ⊤ else (((Real.sqrt w)⁻¹ : ℝ) : EReal)) = _
  rw [if_neg (not_lt.2 hw.le), if_neg hw.ne']

/-- A sum with a term `⊤` of terms none of which is `⊥` is `⊤`. -/
theorem sum_top {n : ℕ} (f : Fin n → EReal) (hb : ∀ k, f k ≠ ⊥) (i : Fin n) (hi : f i = ⊤) : ∑ k, f k = ⊤ := by
  rw [← Finset.add_sum_erase _ _ (Finset.mem_univ i), hi]
  refine EReal.top_add_of_ne_bot ?_
  have : ∀ s : Finset (Fin n), ∑ k ∈ s, f k ≠ ⊥ := by
    intro s
    induction s using Finset.cons_induction with
    | empty => simp
    | cons a s ha ih =>
      rw [Finset.sum_cons]
      exact fun h => (EReal.add_eq_bot_iff.1 h).elim (hb a) ih
  exact this _

theorem sum_bot {n : ℕ} (f : Fin n → EReal) (i : Fin n) (hi : f i = ⊥) : ∑ k, f k = ⊥ := by
  rw [← Finset.add_sum_erase _ _ (Finset.mem_univ i), hi, EReal.bot_add]

theorem div_top : Ideal.div ⊤ N = ⊤ := by
  rw [N_eq, Ideal.div_coe (by norm_num)]; exact EReal.top_mul_coe_of_pos (by norm_num)
theorem div_bot : Ideal.div ⊥ N = ⊥ := by
  rw [N_eq, Ideal.div_coe (by norm_num)]; exact EReal.bot_mul_coe_of_pos (by norm_num)

/-- A square is never `⊥`. -/
theorem sq_ne_bot (a : EReal) : a * a ≠ ⊥ := by
  induction a with
  | bot => simp
  | top => simp
  | coe a => rw [← EReal.coe_mul]; exact EReal.coe_ne_bot _

/-- A row that isn't finite: its variance is infinite, and its reciprocal root is zero. -/
theorem vare_top (r : Fin 1024 → EReal) (h : ¬ ∀ k, ∃ a : ℝ, r k = a) : vare r = ⊤ := by
  have key : ∃ k, cen r k = ⊤ ∨ cen r k = ⊥ := by
    by_cases hb : ∃ k, r k = ⊥
    · obtain ⟨k, hk⟩ := hb
      exact ⟨k, Or.inr (by rw [cen, hk, sub_eq_add_neg, EReal.bot_add])⟩
    · have hb' : ∀ k, r k ≠ ⊥ := fun k hk => hb ⟨k, hk⟩
      obtain ⟨k, hk⟩ := not_forall.1 h
      have hk' : r k = ⊤ := by
        have := hb' k
        revert hk this
        induction r k with
        | bot => intro _ h; exact absurd rfl h
        | top => intros; rfl
        | coe a => intro h _; exact absurd ⟨a, rfl⟩ h
      refine ⟨k, Or.inr ?_⟩
      rw [cen, mean, sum_top r hb' k hk', div_top, sub_eq_add_neg, EReal.neg_top, EReal.add_bot]
  obtain ⟨k, hk⟩ := key
  have : ∑ k, cen r k * cen r k = ⊤ := by
    refine sum_top _ (fun k => sq_ne_bot _) k ?_
    rcases hk with hk | hk <;> rw [hk] <;> simp
  obtain ⟨e, -, he⟩ := E_eq
  rw [vare, this, div_top, he]; exact EReal.top_add_coe e

/-- The two rows are the same, whatever the normalised array holds, if the scaled cotangents are finite. -/
theorem row_eq (r d : Fin 1024 → EReal) (hd : ∀ k, ∃ a : ℝ, d k = a) (l : Fin 1024) : kernelRow r d l = refRow r d l := by
  choose d' hd' using hd
  obtain rfl : d = fun k => ((d' k : ℝ) : EReal) := funext hd'
  by_cases h : ∀ k, ∃ a : ℝ, r k = a
  · choose r' hr' using h
    obtain rfl : r = fun k => ((r' k : ℝ) : EReal) := funext hr'
    obtain ⟨e, he, hE⟩ := E_eq
    have hc : cen (fun k => ((r' k : ℝ) : EReal)) = fun l => ((r' l - (∑ k, r' k) / 1024 : ℝ) : EReal) := by
      funext l; simp only [cen, mean]; rw [coe_sum, div_N, EReal.coe_sub]
    set x : Fin 1024 → ℝ := fun l => r' l - (∑ k, r' k) / 1024 with hx
    have hx0 : ∑ k, x k = 0 := by
      simp only [hx, Finset.sum_sub_distrib, Finset.sum_const, Finset.card_univ, Fintype.card_fin]
      simp; ring
    set w : ℝ := (∑ k, x k * x k) / 1024 + e with hw
    have hw0 : 0 < w := by
      have : 0 ≤ ∑ k, x k * x k := Finset.sum_nonneg fun k _ => mul_self_nonneg _
      positivity
    have hv : vare (fun k => ((r' k : ℝ) : EReal)) = ((w : ℝ) : EReal) := by
      simp only [vare, hc]
      rw [show ∑ k, ((x k : ℝ) : EReal) * ((x k : ℝ) : EReal) = ((∑ k, x k * x k : ℝ) : EReal) by
        rw [← coe_sum]; exact Finset.sum_congr rfl fun k _ => (EReal.coe_mul _ _).symm, div_N, hE, ← EReal.coe_add]
    set s : ℝ := (Real.sqrt w)⁻¹ with hs
    have hs1 : s * s * w = 1 := by
      have := Real.mul_self_sqrt hw0.le
      have h0 : Real.sqrt w ≠ 0 := (Real.sqrt_pos.2 hw0).ne'
      rw [hs]; field_simp; nlinarith
    have hr : rstd (fun k => ((r' k : ℝ) : EReal)) = ((s : ℝ) : EReal) := by rw [rstd, hv, rsqrt_coe hw0]
    have hq : Ideal.div ((s : ℝ) : EReal) ((w : ℝ) : EReal) = ((s / w : ℝ) : EReal) := by
      rw [Ideal.div_coe hw0.ne', ← EReal.coe_mul]; congr 1; ring
    simp only [kernelRow, refRow, through, hat, hc, hr, hv, hq, H_eq, T_eq]
    simp only [← EReal.coe_mul, coe_sum, div_N, ← EReal.coe_sub, ← EReal.coe_neg, ← EReal.coe_add]
    exact congrArg _ (real_row x d' w s hx0 hs1 hw0.ne' l)
  · have hv := vare_top r h
    have hr : rstd r = 0 := by rw [rstd, hv]; rfl
    have h0 : Ideal.div 0 N = 0 := by rw [N_eq, Ideal.div_coe (by norm_num), zero_mul]
    have ht : Ideal.div 0 (⊤ : EReal) = 0 := by
      rw [Ideal.div, if_neg EReal.top_ne_zero, zero_mul]
    simp only [kernelRow, refRow, through, hr, hv, ht, h0, mul_zero, zero_mul, neg_zero, Finset.sum_const_zero, add_zero]

/-- The precondition's comparison, read as a real number. -/
theorem real_of_cmp {x : EReal} (h : Ideal.cmp .olt (max x (-x)) (Ideal.ofBits .f32 0x7F800000#32) = 1#1) : ∃ a : ℝ, x = a := by
  have ht : Ideal.ofBits .f32 0x7F800000#32 = ⊤ := by simp [Ideal.ofBits, Ideal.ieee]
  rw [ht] at h
  induction x with
  | bot => simp [Ideal.cmp] at h
  | top => simp [Ideal.cmp] at h
  | coe a => exact ⟨a, rfl⟩

theorem zero_sub_e (x : EReal) : 0 - x = -x := by rw [sub_eq_add_neg, zero_add]

end LnRow

end
-- ==== Proof.Ln2.lean ====
/- The gradient of the second layer norm and of the gated embedding beside it. -/
module

public import proofs.«01_k».proof.Proof.LnRow
public import proofs.«01_k».proof.Defs
public import proofs.«01_k».proof.Proof.Gen.Pre_ln2_cotangent_finite
public import proofs.«01_k».proof.Proof.Gen.Ln2Ideal.Value
public import proofs.«01_k».proof.Proof.Gen.Ln2RefIdeal.Run
public import Idealize.ShloMosaic.Lib.Pipeline.ValueKit
public import Idealize.ShloMosaic.Lib.Pipeline.ReadBack
public import Idealize.ShloMosaic.Lib.Claim

@[expose] public section

set_option maxRecDepth 16384
noncomputable section

open Idealize.ShloMosaic Idealize.ShloMosaic.TcCoe Idealize.SL.Sem
open scoped BigOperators

namespace Cert.Ln2Ideal.Tie

open Cert.Ln2Ideal Cert.Ln2Ideal.Gen LnRow

theorem pay_cen (x : Vec Ideal S512x1024 .f32) (i : Fin 512) (l : Fin 1024) :
    k0_pay2 x (ix2 i l) = cen (fun k => x (ix2 i k)) l := by
  unfold cen mean
  pointwise [k0_pay2]

theorem pay_rstd (x : Vec Ideal S512x1024 .f32) (i : Fin 512) (l : Fin 1) :
    k0_pay3 x (ix2 i l) = rstd (fun k => x (ix2 i k)) := by
  unfold rstd vare
  pointwise [k0_pay3]
  simp only [pay_cen]
theorem pay_hat (x : Vec Ideal S512x1024 .f32) (i : Fin 512) (l : Fin 1024) :
    k0_pay4 x (ix2 i l) = hat (fun k => x (ix2 i k)) l := by
  unfold hat
  pointwise [k0_pay4]
  simp only [pay_cen, pay_rstd]

theorem pay_row (x dy : Vec Ideal S512x1024 .f32) (g : Vec Ideal S1x1024 .f32) (i : Fin 512) (l : Fin 1024) :
    k0_pay5 x dy g (ix2 i l) = kernelRow (fun k => x (ix2 i k)) (fun k => dy (ix2 i k) * g (ix2 0 k)) l := by
  unfold kernelRow
  pointwise [k0_pay5]
  simp only [pay_hat, pay_rstd]

theorem ref_row (m' : (ℓ : Loc Cert.Ln2RefIdeal.nD Cert.Ln2RefIdeal.τ Cert.Ln2RefIdeal.sig) → Buf (Elt Ideal) ℓ)
    (c : Dev Cert.Ln2RefIdeal.nD) (a0 a3 : FVec Ideal Cert.Ln2RefIdeal.S8192x1024 .f32) (a1 : FVec Ideal Cert.Ln2RefIdeal.S1024 .f32)
    (h0 : m' ((c.tc : Thread Cert.Ln2RefIdeal.nD Cert.Ln2RefIdeal.τ).loc Cert.Ln2RefIdeal.main_arg0) = a0)
    (h1 : m' ((c.tc : Thread Cert.Ln2RefIdeal.nD Cert.Ln2RefIdeal.τ).loc Cert.Ln2RefIdeal.main_arg1) = a1)
    (h3 : m' ((c.tc : Thread Cert.Ln2RefIdeal.nD Cert.Ln2RefIdeal.τ).loc Cert.Ln2RefIdeal.main_arg3) = a3)
    (i : Fin 8192) (l : Fin 1024) :
    Cert.Ln2RefIdeal.Value.res_main_v62 m' c (ix2 i l)
      = refRow (fun k => a0 (ix2 i k)) (fun k => a3 (ix2 i k) * a1 (ix1 k)) l := by
  unfold Cert.Ln2RefIdeal.Value.res_main_v62
  simp only [h0, h1, h3]
  unfold refRow through rstd vare cen mean
  pointwise
  simp only [Fin.sum_univ_one]

/-- The reference's gradient of the rows, over the arguments. -/
def OUT (a0 : FVec Ideal Cert.Ln2RefIdeal.S8192x1024 .f32) (a1 : FVec Ideal Cert.Ln2RefIdeal.S1024 .f32)
    (a3 : FVec Ideal Cert.Ln2RefIdeal.S8192x1024 .f32) : FVec Ideal Cert.Ln2RefIdeal.S8192x1024 .f32 :=
  fun y => refRow (fun k => a0 (ix2 (y 0) k)) (fun k => a3 (ix2 (y 0) k) * a1 (ix1 k)) (y 1)

/-- The gradients of the gain and of the offset, as two rows. -/
def STATS (a0 a3 : FVec Ideal Cert.Ln2RefIdeal.S8192x1024 .f32) : FVec Ideal Cert.Ln2RefIdeal.S2x1024 .f32 :=
  fun y => if (y 0 : ℕ) = 0 then ∑ n : Fin 8192, a3 (ix2 n (y 1)) * hat (fun k => a0 (ix2 n k)) (y 1) else ∑ n : Fin 8192, a3 (ix2 n (y 1))

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![t.val, 0]
    ∧ win0_8.index t = ![0, 0] :=
  (by decide +kernel : ∀ t : Fin grid0.N, _)

/-- A row of the grid point `t`, in the whole array. -/
abbrev rowAt (t : Fin cfg0.N) (i : Fin 512) : Fin 8192 := ⟨t.val * 512 + i.val, by have := lt_of_lt_of_eq t.isLt N_0; omega⟩

theorem read_x (c : Dev nD) (t : Fin cfg0.N) (i : Fin 512) (k : Fin 1024) :
    iblk m c 0 t (ix2 i k) = m ((c : Thread nD τ).loc main_arg0) (ix2 (rowAt t i) k) := by
  blk_point [iblk, V, idx_val t]

theorem read_dy (c : Dev nD) (t : Fin cfg0.N) (i : Fin 512) (k : Fin 1024) :
    iblk m c 1 t (ix2 i k) = m ((c : Thread nD τ).loc main_arg3) (ix2 (rowAt t i) k) := by
  blk_point [iblk, V, idx_val t]

theorem read_gp (c : Dev nD) (t : Fin cfg0.N) (i : Fin 512) (k : Fin 1024) :
    iblk m c 2 t (ix2 i k) = m ((c : Thread nD τ).loc main_arg4) (ix2 (rowAt t i) k) := by
  blk_point [iblk, V, idx_val t]

theorem read_pp (c : Dev nD) (t : Fin cfg0.N) (i : Fin 512) (k : Fin 1024) :
    iblk m c 3 t (ix2 i k) = m ((c : Thread nD τ).loc main_arg5) (ix2 (rowAt t i) k) := by
  blk_point [iblk, V, idx_val t]

theorem read_g (c : Dev nD) (t : Fin cfg0.N) (k : Fin 1024) :
    View.ld (iblk m c 4 t) (Rect.unit ![0, 0] ![1, 1024] inb_S2x1024_S1x1024_0_0) (ix2 0 k)
      = m ((c : Thread nD τ).loc main_arg1) (ix1 k) := by
  blk_simp [iblk, idx_val t]
  entry_read
  pointwise
  have h : (win0_4.blk t).view.emb (ix2 0 k) = ix2 0 k := by blk_ext [idx_val t]
  refine (congrArg (concatenate S2x1024 0 [⟨S1x1024, broadcastInDim S1x1024 ![1] bcast_S1024_S1x1024_1 (m ((c : Thread nD τ).loc main_arg1))⟩, ⟨S1x1024, broadcastInDim S1x1024 ![1] bcast_S1024_S1x1024_1 (m ((c : Thread nD τ).loc main_arg2))⟩] concatenates_S1x1024_S1x1024_S2x1024_d0) h).trans ?_
  pointwise

/-- A finite scaled cotangent, by the row of its grid point. -/
abbrev Fine (a1 : FVec Ideal Cert.Ln2RefIdeal.S1024 .f32) (a3 : FVec Ideal Cert.Ln2RefIdeal.S8192x1024 .f32) : Prop :=
  ∀ (n : Fin 8192) (k : Fin 1024), ∃ a : ℝ, a3 (ix2 n k) * a1 (ix1 k) = a

theorem pay_gp (x v w : Vec Ideal S512x1024 .f32) (j : S512x1024.Idx) :
    k0_pay8 x v w j = (x j * w j) * (Ideal.logistic (v j) * (1 - Ideal.logistic (v j))) := by
  rw [← mul_assoc]
  unfold Ideal.logistic
  pointwise [k0_pay8, k0_pay7]
  simp only [Ideal.ofBits_one_f32, zero_sub_e]

theorem pay_pp (x v : Vec Ideal S512x1024 .f32) (j : S512x1024.Idx) :
    k0_pay9 x v j = x j * Ideal.logistic (v j) := by
  unfold Ideal.logistic
  pointwise [k0_pay9, k0_pay7]
  simp only [Ideal.ofBits_one_f32, zero_sub_e]

/-- The reference's gradients of the gate and of the projection, over the arguments. -/
def GP (dr a4 a5 : FVec Ideal Cert.Ln2RefIdeal.S8192x1024 .f32) : FVec Ideal Cert.Ln2RefIdeal.S8192x1024 .bf16 :=
  fun y => (dr y * a5 y) * (Ideal.logistic (a4 y) * (1 - Ideal.logistic (a4 y)))
def PP (dr a4 : FVec Ideal Cert.Ln2RefIdeal.S8192x1024 .f32) : FVec Ideal Cert.Ln2RefIdeal.S8192x1024 .bf16 :=
  fun y => dr y * Ideal.logistic (a4 y)

theorem point (c : Dev nD) (hf : Fine (m ((c : Thread nD τ).loc main_arg1)) (m ((c : Thread nD τ).loc main_arg3))) (t : Fin cfg0.N) (y) :
    k0_pay5 (iblk m c 0 t) (iblk m c 1 t) (View.ld (iblk m c 4 t) (Rect.unit ![0, 0] ![1, 1024] inb_S2x1024_S1x1024_0_0)) y
      = OUT (m ((c : Thread nD τ).loc main_arg0)) (m ((c : Thread nD τ).loc main_arg1)) (m ((c : Thread nD τ).loc
        main_arg3)) (((cfg0.win 5).blk t).view.emb y) := by
  idx_vars y
  have h : ((cfg0.win 5).blk t).view.emb (ix2 y0 y1) = ix2 (rowAt t y0) y1 := by
    blk_ext [idx_val t]
  refine Eq.trans ?_ (congrArg (OUT _ _ _) h).symm
  rw [pay_row]
  simp only [read_x, read_dy, read_g]
  exact row_eq _ _ (fun k => hf _ k) y1

theorem final_5 (c : Dev nD) (hf : Fine (m ((c : Thread nD τ).loc main_arg1)) (m ((c : Thread nD τ).loc main_arg3))) :
    (dats m 0 c).arrAt 5 (cfgs 0).N = OUT (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp; rw [after0_5]
  by_cases h : t.val % 16 = 0
  · rw [outsAt0_A m c t h]; frame_out; exact point m c hf t y
  · rw [outsAt0_B m c t h]; frame_out; exact point m c hf t y

theorem point_6 (c : Dev nD) (hf : Fine (m ((c : Thread nD τ).loc main_arg1)) (m ((c : Thread nD τ).loc main_arg3))) (t : Fin cfg0.N) (y) :
    k0_pay8 (k0_pay5 (iblk m c 0 t) (iblk m c 1 t) (View.ld (iblk m c 4 t) (Rect.unit ![0, 0] ![1, 1024] inb_S2x1024_S1x1024_0_0))) (iblk m c 2 t) (iblk m c 3 t) y
      = GP (OUT (m ((c : Thread nD τ).loc main_arg0)) (m ((c : Thread nD τ).loc main_arg1)) (m ((c : Thread nD τ).loc main_arg3))) (m ((c : Thread nD τ).loc main_arg4)) (m ((c : Thread nD τ).loc main_arg5)) (((cfg0.win 6).blk t).view.emb y) := by
  idx_vars y
  have h : ((cfg0.win 6).blk t).view.emb (ix2 y0 y1) = ix2 (rowAt t y0) y1 := by
    blk_ext [idx_val t]
  have h5 : ((cfg0.win 5).blk t).view.emb (ix2 y0 y1) = ix2 (rowAt t y0) y1 := by
    blk_ext [idx_val t]
  refine Eq.trans ?_ (congrArg (GP _ _ _) h).symm
  rw [pay_gp, point m c hf t, read_gp, read_pp]
  exact congrArg (fun z => (OUT _ _ _ z * _) * _) h5

theorem final_6 (c : Dev nD) (hf : Fine (m ((c : Thread nD τ).loc main_arg1)) (m ((c : Thread nD τ).loc main_arg3))) :
    (dats m 0 c).arrAt 6 (cfgs 0).N = GP (OUT (m ((c : Thread nD τ).loc main_arg0)) (m ((c : Thread nD τ).loc main_arg1)) (m ((c : Thread nD τ).loc main_arg3))) (m ((c : Thread nD τ).loc main_arg4)) (m ((c : Thread nD τ).loc main_arg5)) := by
  refine (dats m 0 c).arrAt_eq_of_covers 6 _ (by decide +kernel) fun t _ y => ?_
  blk_simp; rw [after0_6]
  by_cases h : t.val % 16 = 0
  · rw [outsAt0_A m c t h]; frame_out; exact point_6 m c hf t y
  · rw [outsAt0_B m c t h]; frame_out; exact point_6 m c hf t y

theorem point_7 (c : Dev nD) (hf : Fine (m ((c : Thread nD τ).loc main_arg1)) (m ((c : Thread nD τ).loc main_arg3))) (t : Fin cfg0.N) (y) :
    k0_pay9 (k0_pay5 (iblk m c 0 t) (iblk m c 1 t) (View.ld (iblk m c 4 t) (Rect.unit ![0, 0] ![1, 1024] inb_S2x1024_S1x1024_0_0))) (iblk m c 2 t) y
      = PP (OUT (m ((c : Thread nD τ).loc main_arg0)) (m ((c : Thread nD τ).loc main_arg1)) (m ((c : Thread nD τ).loc main_arg3))) (m ((c : Thread nD τ).loc main_arg4)) (((cfg0.win 7).blk t).view.emb y) := by
  idx_vars y
  have h : ((cfg0.win 7).blk t).view.emb (ix2 y0 y1) = ix2 (rowAt t y0) y1 := by
    blk_ext [idx_val t]
  have h5 : ((cfg0.win 5).blk t).view.emb (ix2 y0 y1) = ix2 (rowAt t y0) y1 := by
    blk_ext [idx_val t]
  refine Eq.trans ?_ (congrArg (PP _ _) h).symm
  rw [pay_pp, point m c hf t, read_gp]
  exact congrArg (fun z => OUT _ _ _ z * _) h5

theorem final_7 (c : Dev nD) (hf : Fine (m ((c : Thread nD τ).loc main_arg1)) (m ((c : Thread nD τ).loc main_arg3))) :
    (dats m 0 c).arrAt 7 (cfgs 0).N = PP (OUT (m ((c : Thread nD τ).loc main_arg0)) (m ((c : Thread nD τ).loc main_arg1)) (m ((c : Thread nD τ).loc main_arg3))) (m ((c : Thread nD τ).loc main_arg4)) := by
  refine (dats m 0 c).arrAt_eq_of_covers 7 _ (by decide +kernel) fun t _ y => ?_
  blk_simp; rw [after0_7]
  by_cases h : t.val % 16 = 0
  · rw [outsAt0_A m c t h]; frame_out; exact point_7 m c hf t y
  · rw [outsAt0_B m c t h]; frame_out; exact point_7 m c hf t y

theorem hzero (j : S2x1024.Idx) : k0_pay1 (F := Ideal) j = 0 := by
  pointwise! [k0_pay1]

theorem hpay (v4 : Vec Ideal S512x1024 .f32) (v20 : FVec Ideal S512x1024 .f32) (v48 : Vec Ideal S2x1024 .f32) (j : S2x1024.Idx) :
    k0_pay6 v4 v20 v48 j = v48 j + k0_pay6 v4 v20 (fun _ => 0) j := by
  pointwise [k0_pay6]

theorem pay_stats (v4 : Vec Ideal S512x1024 .f32) (v20 : FVec Ideal S512x1024 .f32) (y0 : Fin 2) (y1 : Fin 1024) :
    k0_pay6 v4 v20 (fun _ => 0) (ix2 y0 y1) = if (y0 : ℕ) = 0 then ∑ n : Fin 512, v4 (ix2 n y1) * v20 (ix2 n y1) else ∑ n : Fin 512, v4 (ix2 n y1) := by
  pointwise [k0_pay6]
  fin_cases y0 <;> simp [Scalar.select, IntOp.cmpi]

theorem final_8 (c : Dev nD) : (dats m 0 c).arrAt 8 (cfgs 0).N = STATS (m ((c : Thread nD τ).loc main_arg0)) (m ((c : Thread nD τ).loc main_arg3)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  idx_vars j
  simp only [pay_stats, pay_hat, read_x, read_dy]
  show _ = if (j0 : ℕ) = 0 then _ else _
  by_cases hj : (j0 : ℕ) = 0
  · simp only [if_pos hj]
    refine Fin.sum_mul_add_congr fun s k hl => ?_
    rfl
  · simp only [if_neg hj]
    refine Fin.sum_mul_add_congr fun s k hl => ?_
    rfl

theorem fine (hpre : Cert.Pre_Ln2Ideal_ln2_cotangent_finite m) (c : Dev nD) :
    Fine (m ((c.tc : Thread nD τ).loc main_arg1)) (m ((c.tc : Thread nD τ).loc main_arg3)) := by
  intro n k
  have h := congrFun (hpre c) (ix2 n k)
  unfold Cert.Pre_ln2_cotangent_finite.fn at h
  generalize m ((c.tc : Thread nD τ).loc main_arg1) = a1 at h ⊢
  generalize m ((c.tc : Thread nD τ).loc main_arg3) = a3 at h ⊢
  pointwise at h
  exact real_of_cmp h

section
open Cert.Ln2RefIdeal.Gen

/-- The reference's logistic, as it prints. -/
abbrev SG (a : FVec Ideal Cert.Ln2RefIdeal.S8192x1024 .f32) : FVec Ideal Cert.Ln2RefIdeal.S8192x1024 .f32 :=
  Host.divf (broadcastInDim _ ![] bcast_S_S8192x1024 (constant Cert.Ln2RefIdeal.S_ .f32 0x3F800000#32))
    (addf (broadcastInDim _ ![] bcast_S_S8192x1024 (constant Cert.Ln2RefIdeal.S_ .f32 0x3F800000#32)) (Host.exp (Host.negf a)))

theorem gp_eq (dr a4 a5 : FVec Ideal Cert.Ln2RefIdeal.S8192x1024 .f32) :
    truncf .bf16 (mulf (mulf dr a5) (mulf (SG a4) (subf (broadcastInDim _ ![] bcast_S_S8192x1024
      (constant Cert.Ln2RefIdeal.S_ .f32 0x3F800000#32)) (SG a4)))) Cert.Ln2RefIdeal.Gen.bitsLt_bf16_f32 = GP dr a4 a5 := by
  funext y
  idx_vars y
  unfold GP Ideal.logistic
  pointwise [SG]
  try simp only [Ideal.ofBits_one_f32]

theorem pp_eq (dr a4 : FVec Ideal Cert.Ln2RefIdeal.S8192x1024 .f32) :
    truncf .bf16 (mulf (SG a4) dr) Cert.Ln2RefIdeal.Gen.bitsLt_bf16_f32 = PP dr a4 := by
  funext y
  idx_vars y
  unfold PP Ideal.logistic
  rw [mul_comm]
  pointwise [SG]
  try simp only [Ideal.ofBits_one_f32]

end

/-- The reference's gated results, from its gradient of the rows. -/
theorem ref_gp (m' : (ℓ : Loc Cert.Ln2RefIdeal.nD Cert.Ln2RefIdeal.τ Cert.Ln2RefIdeal.sig) → Buf (Elt Ideal) ℓ)
    (c : Dev Cert.Ln2RefIdeal.nD) (a4 a5 : FVec Ideal Cert.Ln2RefIdeal.S8192x1024 .f32)
    (h4 : m' ((c.tc : Thread Cert.Ln2RefIdeal.nD Cert.Ln2RefIdeal.τ).loc Cert.Ln2RefIdeal.main_arg4) = a4)
    (h5 : m' ((c.tc : Thread Cert.Ln2RefIdeal.nD Cert.Ln2RefIdeal.τ).loc Cert.Ln2RefIdeal.main_arg5) = a5) :
    Cert.Ln2RefIdeal.Value.res_main_v76 m' c = GP (Cert.Ln2RefIdeal.Value.res_main_v62 m' c) a4 a5 := by
  subst h4 h5
  exact Eq.trans (by unfold Cert.Ln2RefIdeal.Value.res_main_v76 Cert.Ln2RefIdeal.Value.res_main_v62; rfl) (gp_eq _ _ _)

theorem ref_pp (m' : (ℓ : Loc Cert.Ln2RefIdeal.nD Cert.Ln2RefIdeal.τ Cert.Ln2RefIdeal.sig) → Buf (Elt Ideal) ℓ)
    (c : Dev Cert.Ln2RefIdeal.nD) (a4 : FVec Ideal Cert.Ln2RefIdeal.S8192x1024 .f32)
    (h4 : m' ((c.tc : Thread Cert.Ln2RefIdeal.nD Cert.Ln2RefIdeal.τ).loc Cert.Ln2RefIdeal.main_arg4) = a4) :
    Cert.Ln2RefIdeal.Value.res_main_v77 m' c = PP (Cert.Ln2RefIdeal.Value.res_main_v62 m' c) a4 := by
  subst h4
  exact Eq.trans (by unfold Cert.Ln2RefIdeal.Value.res_main_v77 Cert.Ln2RefIdeal.Value.res_main_v62; rfl) (pp_eq _ _)

theorem value : Cert.algebraic_Ln2Ideal_Ln2RefIdeal_pre_ln2_cotangent_finite := by
  intro m g m' g' hpre hag
  have hout : ∀ c, Cert.Ln2RefIdeal.Value.res_main_v62 m' c = OUT (m ((c.tc : Thread nD τ).loc main_arg0)) (m ((c.tc : Thread nD τ).loc main_arg1)) (m ((c.tc : Thread nD τ).loc main_arg3)) := by
    intro c
    obtain ⟨h0, h1, h2, h3, h4, h5⟩ := hag c
    funext y
    exact (congrArg (Cert.Ln2RefIdeal.Value.res_main_v62 m' c) (by idx_vars y)).trans (ref_row m' c _ _ _ h0 h1 h3 (y 0) (y 1))
  refine ⟨fun c => OUT (m ((c.tc : Thread nD τ).loc main_arg0)) (m ((c.tc : Thread nD τ).loc main_arg1)) (m ((c.tc : Thread nD τ).loc main_arg3)),
    fun c => GP (OUT (m ((c.tc : Thread nD τ).loc main_arg0)) (m ((c.tc : Thread nD τ).loc main_arg1)) (m ((c.tc : Thread nD τ).loc main_arg3))) (m ((c.tc : Thread nD τ).loc main_arg4)) (m ((c.tc : Thread nD τ).loc main_arg5)),
    fun c => PP (OUT (m ((c.tc : Thread nD τ).loc main_arg0)) (m ((c.tc : Thread nD τ).loc main_arg1)) (m ((c.tc : Thread nD τ).loc main_arg3))) (m ((c.tc : Thread nD τ).loc main_arg4)),
    fun c => STATS (m ((c.tc : Thread nD τ).loc main_arg0)) (m ((c.tc : Thread nD τ).loc main_arg3)),
    (θ_run _ _ _).mono (fun r h c => ⟨(h c).1.trans (final_5 m c (fine m hpre c)), (h c).2.1.trans (final_6 m c (fine m hpre c)),
      (h c).2.2.1.trans (final_7 m c (fine m hpre c)), (h c).2.2.2.1.trans (final_8 m c), (h c).2.2.2.2⟩) (Value.run_blocks m g),
    (θ_run _ _ _).mono (fun r h c => ⟨(h c).1.trans (hout c), (h c).2.1.trans ?_, (h c).2.2.1.trans ?_, (h c).2.2.2.1.trans ?_, (h c).2.2.2.2⟩)
      (Cert.Ln2RefIdeal.Value.run m' g')⟩
  · obtain ⟨h0, h1, h2, h3, h4, h5⟩ := hag c
    exact (ref_gp m' c _ _ h4 h5).trans (congrArg (fun z => GP z _ _) (hout c))
  · obtain ⟨h0, h1, h2, h3, h4, h5⟩ := hag c
    exact (ref_pp m' c _ h4).trans (congrArg (fun z => PP z _) (hout c))
  · obtain ⟨h0, h1, h2, h3, h4, h5⟩ := hag c
    obtain ⟨a0, ha0⟩ : ∃ a : FVec Ideal Cert.Ln2RefIdeal.S8192x1024 .f32, a = m ((c.tc : Thread nD τ).loc main_arg0) := ⟨_, rfl⟩
    obtain ⟨a3, ha3⟩ : ∃ a : FVec Ideal Cert.Ln2RefIdeal.S8192x1024 .f32, a = m ((c.tc : Thread nD τ).loc main_arg3) := ⟨_, rfl⟩
    refine Eq.trans ?_ (congrArg₂ STATS ha0 ha3)
    rw [h0.trans ha0.symm, h3.trans ha3.symm]
    clear * -
    funext y
    idx_vars y
    unfold STATS hat cen rstd vare cen mean
    pointwise
    simp only [Fin.sum_univ_one]
    by_cases hj : (y0 : ℕ) = 0
    · rw [dif_pos (by omega), if_pos hj]
      exact Finset.sum_congr rfl fun n _ => mul_comm _ _
    · rw [dif_neg (by omega), if_neg hj]

end Cert.Ln2Ideal.Tie

end
-- ==== Proof.Ln1.lean ====
/- pure -/
module

public import proofs.«01_k».proof.Proof.LnRow
public import proofs.«01_k».proof.Defs
public import proofs.«01_k».proof.Proof.Gen.Pre_ln1_cotangent_finite
public import proofs.«01_k».proof.Proof.Gen.Ln1Ideal.Value
public import proofs.«01_k».proof.Proof.Gen.Ln1RefIdeal.Run
public import Idealize.ShloMosaic.Lib.Pipeline.ValueKit
public import Idealize.ShloMosaic.Lib.Pipeline.ReadBack
public import Idealize.ShloMosaic.Lib.Claim

@[expose] public section

set_option maxRecDepth 16384
noncomputable section

open Idealize.ShloMosaic Idealize.ShloMosaic.TcCoe Idealize.SL.Sem
open scoped BigOperators

namespace Cert.Ln1Ideal.Tie

open Cert.Ln1Ideal Cert.Ln1Ideal.Gen LnRow

theorem pay_cen (x : Vec Ideal S512x1024 .f32) (i : Fin 512) (l : Fin 1024) :
    k0_pay3 x (ix2 i l) = cen (fun k => x (ix2 i k)) l := by
  unfold cen mean
  pointwise [k0_pay3]

theorem pay_rstd (x : Vec Ideal S512x1024 .f32) (i : Fin 512) (l : Fin 1) :
    k0_pay4 x (ix2 i l) = rstd (fun k => x (ix2 i k)) := by
  unfold rstd vare
  pointwise [k0_pay4]
  simp only [pay_cen]
theorem pay_hat (x : Vec Ideal S512x1024 .f32) (i : Fin 512) (l : Fin 1024) :
    k0_pay5 x (ix2 i l) = hat (fun k => x (ix2 i k)) l := by
  unfold hat
  pointwise [k0_pay5]
  simp only [pay_cen, pay_rstd]

theorem pay_row (x dy : Vec Ideal S512x1024 .f32) (g : Vec Ideal S1x1024 .f32) (i : Fin 512) (l : Fin 1024) :
    k0_pay6 x dy g (ix2 i l) = kernelRow (fun k => x (ix2 i k)) (fun k => dy (ix2 i k) * g (ix2 0 k)) l := by
  unfold kernelRow
  pointwise [k0_pay6]
  simp only [pay_hat, pay_rstd]

theorem ref_row (m' : (ℓ : Loc Cert.Ln1RefIdeal.nD Cert.Ln1RefIdeal.τ Cert.Ln1RefIdeal.sig) → Buf (Elt Ideal) ℓ)
    (c : Dev Cert.Ln1RefIdeal.nD) (a0 a3 : FVec Ideal Cert.Ln1RefIdeal.S8192x1024 .f32) (a1 : FVec Ideal Cert.Ln1RefIdeal.S1024 .f32)
    (h0 : m' ((c.tc : Thread Cert.Ln1RefIdeal.nD Cert.Ln1RefIdeal.τ).loc Cert.Ln1RefIdeal.main_arg0) = a0)
    (h1 : m' ((c.tc : Thread Cert.Ln1RefIdeal.nD Cert.Ln1RefIdeal.τ).loc Cert.Ln1RefIdeal.main_arg1) = a1)
    (h3 : m' ((c.tc : Thread Cert.Ln1RefIdeal.nD Cert.Ln1RefIdeal.τ).loc Cert.Ln1RefIdeal.main_arg3) = a3)
    (i : Fin 8192) (l : Fin 1024) :
    Cert.Ln1RefIdeal.Value.res_main_v62 m' c (ix2 i l)
      = refRow (fun k => a0 (ix2 i k)) (fun k => a3 (ix2 i k) * a1 (ix1 k)) l := by
  unfold Cert.Ln1RefIdeal.Value.res_main_v62
  simp only [h0, h1, h3]
  unfold refRow through rstd vare cen mean
  pointwise
  simp only [Fin.sum_univ_one]

/-- The reference's gradient of the rows, over the arguments. -/
def OUT (a0 : FVec Ideal Cert.Ln1RefIdeal.S8192x1024 .f32) (a1 : FVec Ideal Cert.Ln1RefIdeal.S1024 .f32)
    (a3 : FVec Ideal Cert.Ln1RefIdeal.S8192x1024 .f32) : FVec Ideal Cert.Ln1RefIdeal.S8192x1024 .f32 :=
  fun y => refRow (fun k => a0 (ix2 (y 0) k)) (fun k => a3 (ix2 (y 0) k) * a1 (ix1 k)) (y 1)

/-- The gradients of the gain and of the offset, as two rows. -/
def STATS (a0 a3 : FVec Ideal Cert.Ln1RefIdeal.S8192x1024 .f32) : FVec Ideal Cert.Ln1RefIdeal.S2x1024 .f32 :=
  fun y => if (y 0 : ℕ) = 0 then ∑ n : Fin 8192, a3 (ix2 n (y 1)) * hat (fun k => a0 (ix2 n k)) (y 1) else ∑ n : Fin 8192, a3 (ix2 n (y 1))

variable (m : (ℓ : Loc nD τ sig) → Buf (Elt Ideal) ℓ)

theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

/-- A row of the grid point `t`, in the whole array. -/
abbrev rowAt (t : Fin cfg0.N) (i : Fin 512) : Fin 8192 := ⟨t.val * 512 + i.val, by have := lt_of_lt_of_eq t.isLt N_0; omega⟩

theorem read_x (c : Dev nD) (t : Fin cfg0.N) (i : Fin 512) (k : Fin 1024) :
    iblk m c 0 t (ix2 i k) = m ((c : Thread nD τ).loc main_arg0) (ix2 (rowAt t i) k) := by
  blk_point [iblk, V, idx_val t]

theorem read_dy (c : Dev nD) (t : Fin cfg0.N) (i : Fin 512) (k : Fin 1024) :
    iblk m c 1 t (ix2 i k) = m ((c : Thread nD τ).loc main_arg3) (ix2 (rowAt t i) k) := by
  blk_point [iblk, V, idx_val t]

theorem read_g (c : Dev nD) (t : Fin cfg0.N) (k : Fin 1024) :
    View.ld (iblk m c 2 t) (Rect.unit ![0, 0] ![1, 1024] inb_S2x1024_S1x1024_0_0) (ix2 0 k)
      = m ((c : Thread nD τ).loc main_arg1) (ix1 k) := by
  blk_simp [iblk, idx_val t]
  entry_read
  pointwise
  have h : (win0_2.blk t).view.emb (ix2 0 k) = ix2 0 k := by blk_ext [idx_val t]
  refine (congrArg (concatenate S2x1024 0 [⟨S1x1024, broadcastInDim S1x1024 ![1] bcast_S1024_S1x1024_1 (m ((c : Thread nD τ).loc main_arg1))⟩, ⟨S1x1024, broadcastInDim S1x1024 ![1] bcast_S1024_S1x1024_1 (m ((c : Thread nD τ).loc main_arg2))⟩] concatenates_S1x1024_S1x1024_S2x1024_d0) h).trans ?_
  pointwise

/-- A finite scaled cotangent, by the row of its grid point. -/
abbrev Fine (a1 : FVec Ideal Cert.Ln1RefIdeal.S1024 .f32) (a3 : FVec Ideal Cert.Ln1RefIdeal.S8192x1024 .f32) : Prop :=
  ∀ (n : Fin 8192) (k : Fin 1024), ∃ a : ℝ, a3 (ix2 n k) * a1 (ix1 k) = a

theorem point (c : Dev nD) (hf : Fine (m ((c : Thread nD τ).loc main_arg1)) (m ((c : Thread nD τ).loc main_arg3))) (t : Fin cfg0.N) (y) :
    k0_pay6 (iblk m c 0 t) (iblk m c 1 t) (View.ld (iblk m c 2 t) (Rect.unit ![0, 0] ![1, 1024] inb_S2x1024_S1x1024_0_0)) y
      = OUT (m ((c : Thread nD τ).loc main_arg0)) (m ((c : Thread nD τ).loc main_arg1)) (m ((c : Thread nD τ).loc
        main_arg3)) (((cfg0.win 3).blk t).view.emb y) := by
  idx_vars y
  have h : ((cfg0.win 3).blk t).view.emb (ix2 y0 y1) = ix2 (rowAt t y0) y1 := by
    blk_ext [idx_val t]
  refine Eq.trans ?_ (congrArg (OUT _ _ _) h).symm
  rw [pay_row]
  simp only [read_x, read_dy, read_g]
  exact row_eq _ _ (fun k => hf _ k) y1

theorem final_3 (c : Dev nD) (hf : Fine (m ((c : Thread nD τ).loc main_arg1)) (m ((c : Thread nD τ).loc main_arg3))) :
    (dats m 0 c).arrAt 3 (cfgs 0).N = OUT (m ((c : Thread nD τ).loc main_arg0)) (m ((c : Thread nD τ).loc main_arg1)) (m ((c : Thread nD τ).loc main_arg3)) := by
  refine (dats m 0 c).arrAt_eq_of_covers 3 _ (by decide +kernel) fun t _ y => ?_
  blk_simp; rw [after0_3]
  by_cases h : t.val % 16 = 0
  · rw [outsAt0_A m c t h]; frame_out; exact point m c hf t y
  · rw [outsAt0_B m c t h]; frame_out; exact point m c hf t y

theorem hzero (j : S2x1024.Idx) : k0_pay2 (F := Ideal) j = 0 := by
  pointwise! [k0_pay2]

theorem hpay (v4 : Vec Ideal S512x1024 .f32) (v20 : FVec Ideal S512x1024 .f32) (v48 : Vec Ideal S2x1024 .f32) (j : S2x1024.Idx) :
    k0_pay1 v4 v20 v48 j = v48 j + k0_pay1 v4 v20 (fun _ => 0) j := by
  pointwise [k0_pay1]

theorem pay_stats (v4 : Vec Ideal S512x1024 .f32) (v20 : FVec Ideal S512x1024 .f32) (y0 : Fin 2) (y1 : Fin 1024) :
    k0_pay1 v4 v20 (fun _ => 0) (ix2 y0 y1) = if (y0 : ℕ) = 0 then ∑ n : Fin 512, v4 (ix2 n y1) * v20 (ix2 n y1) else ∑ n : Fin 512, v4 (ix2 n y1) := by
  pointwise [k0_pay1]
  fin_cases y0 <;> simp [Scalar.select, IntOp.cmpi]

theorem final_4 (c : Dev nD) : (dats m 0 c).arrAt 4 (cfgs 0).N = STATS (m ((c : Thread nD τ).loc main_arg0)) (m ((c : Thread nD τ).loc main_arg3)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  idx_vars j
  simp only [pay_stats, pay_hat, read_x, read_dy]
  show _ = if (j0 : ℕ) = 0 then _ else _
  by_cases hj : (j0 : ℕ) = 0
  · simp only [if_pos hj]
    refine Fin.sum_mul_add_congr fun s k hl => ?_
    rfl
  · simp only [if_neg hj]
    refine Fin.sum_mul_add_congr fun s k hl => ?_
    rfl

theorem fine (hpre : Cert.Pre_Ln1Ideal_ln1_cotangent_finite m) (c : Dev nD) :
    Fine (m ((c.tc : Thread nD τ).loc main_arg1)) (m ((c.tc : Thread nD τ).loc main_arg3)) := by
  intro n k
  have h := congrFun (hpre c) (ix2 n k)
  unfold Cert.Pre_ln1_cotangent_finite.fn at h
  generalize m ((c.tc : Thread nD τ).loc main_arg1) = a1 at h ⊢
  generalize m ((c.tc : Thread nD τ).loc main_arg3) = a3 at h ⊢
  pointwise at h
  exact real_of_cmp h

theorem value : Cert.algebraic_Ln1Ideal_Ln1RefIdeal_pre_ln1_cotangent_finite := by
  intro m g m' g' hpre hag
  refine ⟨fun c => OUT (m ((c.tc : Thread nD τ).loc main_arg0)) (m ((c.tc : Thread nD τ).loc main_arg1)) (m ((c.tc : Thread nD τ).loc main_arg3)),
    fun c => STATS (m ((c.tc : Thread nD τ).loc main_arg0)) (m ((c.tc : Thread nD τ).loc main_arg3)),
    (θ_run _ _ _).mono (fun r h c => ⟨(h c).1.trans (final_3 m c (fine m hpre c)), (h c).2.1.trans (final_4 m c), (h c).2.2⟩) (Value.run_blocks m g),
    (θ_run _ _ _).mono (fun r h c => ⟨(h c).1.trans ?_, (h c).2.1.trans ?_, (h c).2.2⟩)
      (Cert.Ln1RefIdeal.Value.run m' g')⟩
  · funext y
    obtain ⟨h0, h1, h2, h3⟩ := hag c
    exact (congrArg (Cert.Ln1RefIdeal.Value.res_main_v62 m' c) (by idx_vars y)).trans (ref_row m' c _ _ _ h0 h1 h3 (y 0) (y 1))
  · obtain ⟨h0, h1, h2, h3⟩ := hag c
    obtain ⟨a0, ha0⟩ : ∃ a : FVec Ideal Cert.Ln1RefIdeal.S8192x1024 .f32, a = m ((c.tc : Thread nD τ).loc main_arg0) := ⟨_, rfl⟩
    obtain ⟨a3, ha3⟩ : ∃ a : FVec Ideal Cert.Ln1RefIdeal.S8192x1024 .f32, a = m ((c.tc : Thread nD τ).loc main_arg3) := ⟨_, rfl⟩
    refine Eq.trans ?_ (congrArg₂ STATS ha0 ha3)
    rw [h0.trans ha0.symm, h3.trans ha3.symm]
    clear * -
    funext y
    idx_vars y
    unfold STATS hat cen rstd vare cen mean
    pointwise
    simp only [Fin.sum_univ_one]
    by_cases hj : (y0 : ℕ) = 0
    · rw [dif_pos (by omega), if_pos hj]
      exact Finset.sum_congr rfl fun n _ => mul_comm _ _
    · rw [dif_neg (by omega), if_neg hj]

end Cert.Ln1Ideal.Tie

end
-- ==== Proof.OutLn1.lean ====
/- The mixer's output product, the residual branch and the layer norm: the tiled kernel equals the reference. -/
module

public import proofs.«01_k».proof.Proof.LnRow
public import proofs.«01_k».proof.Defs
public import proofs.«01_k».proof.Proof.Gen.OutLn1Ideal.Value
public import proofs.«01_k».proof.Proof.Gen.OutLn1RefIdeal.Run
public import Idealize.ShloMosaic.Lib.Pipeline.ValueKit
public import Idealize.ShloMosaic.Lib.Pipeline.ReadBack
public import Idealize.ShloMosaic.Lib.Claim

@[expose] public section

set_option maxRecDepth 16384
noncomputable section

open Idealize.ShloMosaic Idealize.ShloMosaic.TcCoe Idealize.SL.Sem
open scoped BigOperators

namespace Cert.OutLn1Ideal.Tie

open Cert.OutLn1Ideal Cert.OutLn1Ideal.Gen LnRow

/-- The residual branch's factor. -/
abbrev ALPHA : EReal := Ideal.ofBits .f32 0x3FD744FD#32

/-- The row that the layer norm gets. -/
def res (a0 : FVec Ideal Cert.OutLn1RefIdeal.S8192x1024 .bf16) (a1 : FVec Ideal Cert.OutLn1RefIdeal.S1024x1024 .bf16)
    (a2 : FVec Ideal Cert.OutLn1RefIdeal.S8192x1024 .f32) (n : Fin 8192) (l : Fin 1024) : EReal :=
  ALPHA * a2 (ix2 n l) + ∑ k : Fin 1024, a0 (ix2 n k) * a1 (ix2 k l)

def RES (a0 : FVec Ideal Cert.OutLn1RefIdeal.S8192x1024 .bf16) (a1 : FVec Ideal Cert.OutLn1RefIdeal.S1024x1024 .bf16)
    (a2 : FVec Ideal Cert.OutLn1RefIdeal.S8192x1024 .f32) : FVec Ideal Cert.OutLn1RefIdeal.S8192x1024 .f32 :=
  fun y => res a0 a1 a2 (y 0) (y 1)

def OUT (a0 : FVec Ideal Cert.OutLn1RefIdeal.S8192x1024 .bf16) (a1 : FVec Ideal Cert.OutLn1RefIdeal.S1024x1024 .bf16)
    (a2 : FVec Ideal Cert.OutLn1RefIdeal.S8192x1024 .f32) (a3 a4 : FVec Ideal Cert.OutLn1RefIdeal.S1024 .f32) :
    FVec Ideal Cert.OutLn1RefIdeal.S8192x1024 .f32 :=
  fun y => hat (res a0 a1 a2 (y 0)) (y 1) * a3 (ix1 (y 1)) + a4 (ix1 (y 1))

theorem pay_r (x p : Vec Ideal S1024x1024 .f32) (i : Fin 1024) (l : Fin 1024) :
    k0_pay3 x p (ix2 i l) = ALPHA * x (ix2 i l) + p (ix2 i l) := by
  pointwise [k0_pay3]

theorem pay_y (x p : Vec Ideal S1024x1024 .f32) (g b : Vec Ideal S1x1024 .f32) (i : Fin 1024) (l : Fin 1024) :
    k0_pay4 x p g b (ix2 i l) = hat (fun k => ALPHA * x (ix2 i k) + p (ix2 i k)) l * g (ix2 0 l) + b (ix2 0 l) := by
  unfold hat rstd vare cen mean
  pointwise [k0_pay4]
  simp only [pay_r]

theorem pay_p (v3 : Vec Ideal S1024x1024 .f32) (v4 v5 : Vec Ideal S1024x1024 .bf16) (i : Fin 1024) (l : Fin 1024) :
    k0_pay2 v3 v4 v5 (ix2 i l) = v3 (ix2 i l) + ∑ k : Fin 1024, v4 (ix2 i k) * v5 (ix2 k l) := by
  pointwise [k0_pay2]

theorem pay_0 (i : Fin 1024) (l : Fin 1024) : k0_pay1 (F := Ideal) (ix2 i l) = 0 := by
  pointwise! [k0_pay1]

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- A row of the grid point `t`, in the whole array. -/
abbrev rowAt (t : Fin cfg0.N) (i : Fin 1024) : Fin 8192 := ⟨t.val * 1024 + i.val, by have := lt_of_lt_of_eq t.isLt N_0; omega⟩

theorem read_a (c : Dev nD) (t : Fin cfg0.N) (i k : Fin 1024) :
    iblk m c 0 t (ix2 i k) = m ((c : Thread nD τ).loc main_arg0) (ix2 (rowAt t i) k) := by
  blk_point [iblk, V, idx_val t]
theorem read_w (c : Dev nD) (t : Fin cfg0.N) (i k : Fin 1024) :
    iblk m c 1 t (ix2 i k) = m ((c : Thread nD τ).loc main_arg1) (ix2 i k) := by
  blk_point [iblk, V, idx_val t]
theorem read_x (c : Dev nD) (t : Fin cfg0.N) (i k : Fin 1024) :
    iblk m c 2 t (ix2 i k) = m ((c : Thread nD τ).loc main_arg2) (ix2 (rowAt t i) k) := by
  blk_point [iblk, V, idx_val t]

theorem read_g (c : Dev nD) (t : Fin cfg0.N) (k : Fin 1024) :
    View.ld (iblk m c 3 t) (Rect.unit ![0, 0] ![1, 1024] inb_S2x1024_S1x1024_0_0) (ix2 0 k)
      = m ((c : Thread nD τ).loc main_arg3) (ix1 k) := by
  blk_simp [iblk, idx_val t]
  entry_read
  pointwise
  have h : (win0_3.blk t).view.emb (ix2 0 k) = ix2 0 k := by blk_ext [idx_val t]
  refine (congrArg (concatenate S2x1024 0 [⟨S1x1024, broadcastInDim S1x1024 ![1] bcast_S1024_S1x1024_1 (m ((c : Thread nD τ).loc main_arg3))⟩, ⟨S1x1024, broadcastInDim S1x1024 ![1] bcast_S1024_S1x1024_1 (m ((c : Thread nD τ).loc main_arg4))⟩] concatenates_S1x1024_S1x1024_S2x1024_d0) h).trans ?_
  pointwise

theorem read_b (c : Dev nD) (t : Fin cfg0.N) (k : Fin 1024) :
    View.ld (iblk m c 3 t) (Rect.unit ![1, 0] ![1, 1024] inb_S2x1024_S1x1024_1_0) (ix2 0 k)
      = m ((c : Thread nD τ).loc main_arg4) (ix1 k) := by
  blk_simp [iblk, idx_val t]
  entry_read
  pointwise
  have h : (win0_3.blk t).view.emb (ix2 1 k) = ix2 1 k := by blk_ext [idx_val t]
  refine (congrArg (concatenate S2x1024 0 [⟨S1x1024, broadcastInDim S1x1024 ![1] bcast_S1024_S1x1024_1 (m ((c : Thread nD τ).loc main_arg3))⟩, ⟨S1x1024, broadcastInDim S1x1024 ![1] bcast_S1024_S1x1024_1 (m ((c : Thread nD τ).loc main_arg4))⟩] concatenates_S1x1024_S1x1024_S2x1024_d0) h).trans ?_
  pointwise

theorem final_5 (c : Dev nD) : (dats m 0 c).arrAt 5 (cfgs 0).N
    = RES (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; simp only [outsAt0]; frame_out
  idx_vars y
  have h : ((cfg0.win 5).blk t).view.emb (ix2 y0 y1) = ix2 (rowAt t y0) y1 := by
    blk_ext [idx_val t]
  refine Eq.trans ?_ (congrArg (RES _ _ _) h).symm
  simp only [pay_r, pay_p, pay_0, read_a, read_w, read_x, zero_add]
  rfl

theorem final_4 (c : Dev nD) : (dats m 0 c).arrAt 4 (cfgs 0).N
    = OUT (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t hf y => ?_
  blk_simp; rw [after0_4]; simp only [outsAt0]; frame_out
  idx_vars y
  have h : ((cfg0.win 4).blk t).view.emb (ix2 y0 y1) = ix2 (rowAt t y0) y1 := by
    blk_ext [idx_val t]
  refine Eq.trans ?_ (congrArg (OUT _ _ _ _ _) h).symm
  rw [pay_y, read_g, read_b]
  simp only [pay_p, pay_0, read_a, read_w, read_x, zero_add]
  rfl

theorem value : Cert.algebraic_OutLn1Ideal_OutLn1RefIdeal := by
  intro m g m' g' _ hag
  refine ⟨fun c => OUT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    fun c => RES (m ((c.tc : Thread nD τ).loc main_arg0)) (m ((c.tc : Thread nD τ).loc main_arg1)) (m ((c.tc : Thread nD τ).loc main_arg2)),
    (θ_run _ _ _).mono (fun r h c => ⟨(h c).1.trans (final_4 m c), (h c).2.1.trans (final_5 m c), (h c).2.2⟩) (Value.run_blocks m g),
    (θ_run _ _ _).mono (fun r h c => ⟨(h c).1.trans ?_, (h c).2.1.trans ?_, (h c).2.2⟩)
      (Cert.OutLn1RefIdeal.Value.run m' g')⟩
  · rw [(hag c).1, (hag c).2.1, (hag c).2.2.1, (hag c).2.2.2.1, (hag c).2.2.2.2]
    funext y
    idx_vars y
    unfold OUT hat rstd vare cen mean res
    pointwise
  · rw [(hag c).1, (hag c).2.1, (hag c).2.2.1]
    funext y
    idx_vars y
    unfold RES res
    pointwise

end Cert.OutLn1Ideal.Tie

end
-- ==== Proof.DownLn2.lean ====
/- The down projection's product with the residual branch, the per-layer embedding branch and the layer norm. -/
module

public import proofs.«01_k».proof.Proof.LnRow
public import proofs.«01_k».proof.Defs
public import proofs.«01_k».proof.Proof.Gen.DownLn2Ideal.Value
public import proofs.«01_k».proof.Proof.Gen.DownLn2RefIdeal.Run
public import Idealize.ShloMosaic.Lib.Pipeline.ValueKit
public import Idealize.ShloMosaic.Lib.Pipeline.ReadBack
public import Idealize.ShloMosaic.Lib.Claim

@[expose] public section

set_option maxRecDepth 16384
noncomputable section

open Idealize.ShloMosaic Idealize.ShloMosaic.TcCoe Idealize.SL.Sem
open scoped BigOperators

namespace Cert.DownLn2Ideal.Tie

open Cert.DownLn2Ideal Cert.DownLn2Ideal.Gen LnRow

/-- The residual branch's factor. -/
abbrev ALPHA : EReal := Ideal.ofBits .f32 0x3FD744FD#32

/-- The product. -/
def prod (a0 : FVec Ideal Cert.DownLn2RefIdeal.S8192x2816 .bf16) (a1 : FVec Ideal Cert.DownLn2RefIdeal.S2816x1024 .bf16) (n : Fin 8192) (l : Fin 1024) : EReal :=
  ∑ k : Fin 2816, a0 (ix2 n k) * a1 (ix2 k l)

/-- The row that the layer norm gets. -/
def res (a0 : FVec Ideal Cert.DownLn2RefIdeal.S8192x2816 .bf16) (a1 : FVec Ideal Cert.DownLn2RefIdeal.S2816x1024 .bf16)
    (a2 a3 a4 : FVec Ideal Cert.DownLn2RefIdeal.S8192x1024 .f32) (n : Fin 8192) (l : Fin 1024) : EReal :=
  ALPHA * a2 (ix2 n l) + prod a0 a1 n l + Ideal.logistic (a3 (ix2 n l)) * a4 (ix2 n l)

def RES (a0 : FVec Ideal Cert.DownLn2RefIdeal.S8192x2816 .bf16) (a1 : FVec Ideal Cert.DownLn2RefIdeal.S2816x1024 .bf16)
    (a2 a3 a4 : FVec Ideal Cert.DownLn2RefIdeal.S8192x1024 .f32) : FVec Ideal Cert.DownLn2RefIdeal.S8192x1024 .f32 :=
  fun y => res a0 a1 a2 a3 a4 (y 0) (y 1)

def OUT (a0 : FVec Ideal Cert.DownLn2RefIdeal.S8192x2816 .bf16) (a1 : FVec Ideal Cert.DownLn2RefIdeal.S2816x1024 .bf16)
    (a2 a3 a4 : FVec Ideal Cert.DownLn2RefIdeal.S8192x1024 .f32) (a5 a6 : FVec Ideal Cert.DownLn2RefIdeal.S1024 .f32) :
    FVec Ideal Cert.DownLn2RefIdeal.S8192x1024 .f32 :=
  fun y => hat (res a0 a1 a2 a3 a4 (y 0)) (y 1) * a5 (ix1 (y 1)) + a6 (ix1 (y 1))

theorem one_eq : Ideal.ofBits .f32 0x3F800000#32 = 1 := Ideal.ofBits_one_f32

theorem pay_r (x p g q : Vec Ideal S512x1024 .f32) (i : Fin 512) (l : Fin 1024) :
    k0_pay4 x p g q (ix2 i l) = ALPHA * x (ix2 i l) + p (ix2 i l) + Ideal.logistic (g (ix2 i l)) * q (ix2 i l) := by
  unfold Ideal.logistic
  pointwise [k0_pay4]
  simp only [zero_sub_e, one_eq]

theorem pay_h (x p g q : Vec Ideal S512x1024 .f32) (w : Vec Ideal S1x1024 .f32) (i : Fin 512) (l : Fin 1024) :
    k0_pay5 x p g q w (ix2 i l) = hat (fun k => ALPHA * x (ix2 i k) + p (ix2 i k) + Ideal.logistic (g (ix2 i k)) * q (ix2 i k)) l * w (ix2 0 l) := by
  unfold hat rstd vare cen mean
  pointwise [k0_pay5]
  simp only [pay_r]

theorem pay_y (u : FVec Ideal S512x1024 .f32) (w : Vec Ideal S1x1024 .f32) (i : Fin 512) (l : Fin 1024) :
    k0_pay3 u (k0_pay6 w) (ix2 i l) = u (ix2 i l) + w (ix2 0 l) := by
  pointwise [k0_pay3, k0_pay6]

theorem pay_p (v3 : Vec Ideal S512x1024 .f32) (v4 : Vec Ideal S512x1408 .bf16) (v5 : Vec Ideal S1408x1024 .bf16) (i : Fin 512) (l : Fin 1024) :
    k0_pay2 v3 v4 v5 (ix2 i l) = v3 (ix2 i l) + ∑ k : Fin 1408, v4 (ix2 i k) * v5 (ix2 k l) := by
  pointwise [k0_pay2]

theorem pay_0 (i : Fin 512) (l : Fin 1024) : k0_pay1 (F := Ideal) (ix2 i l) = 0 := by
  pointwise! [k0_pay1]

variable (m : (ℓ : Loc nD τ sig) → Buf (Elt Ideal) ℓ)

theorem idx_val : ∀ t : Fin cfg0.N, win0_0.index t = ![t.val / 2, t.val % 2]
    ∧ win0_1.index t = ![t.val % 2, 0]
    ∧ win0_2.index t = ![t.val / 2, 0]
    ∧ win0_3.index t = ![t.val / 2, 0]
    ∧ win0_4.index t = ![t.val / 2, 0]
    ∧ win0_5.index t = ![0, 0]
    ∧ win0_6.index t = ![t.val / 2, 0]
    ∧ win0_7.index t = ![t.val / 2, 0] :=
  (by decide +kernel : ∀ t : Fin grid0.N, _)

/-- A row of the grid point `t`, in the whole array. -/
abbrev rowAt (t : Fin cfg0.N) (i : Fin 512) : Fin 8192 := ⟨t.val / 2 * 512 + i.val, by have := lt_of_lt_of_eq t.isLt N_0; omega⟩
/-- A place of the summed axis at the grid point `t`. -/
abbrev midAt (t : Fin cfg0.N) (k : Fin 1408) : Fin 2816 := ⟨t.val % 2 * 1408 + k.val, by omega⟩

theorem read_a (c : Dev nD) (t : Fin cfg0.N) (i : Fin 512) (k : Fin 1408) :
    iblk m c 0 t (ix2 i k) = m ((c : Thread nD τ).loc main_arg0) (ix2 (rowAt t i) (midAt t k)) := by
  blk_point [iblk, V, idx_val t]
theorem read_w (c : Dev nD) (t : Fin cfg0.N) (k : Fin 1408) (l : Fin 1024) :
    iblk m c 1 t (ix2 k l) = m ((c : Thread nD τ).loc main_arg1) (ix2 (midAt t k) l) := by
  blk_point [iblk, V, idx_val t]
theorem read_x (c : Dev nD) (t : Fin cfg0.N) (i : Fin 512) (k : Fin 1024) :
    iblk m c 2 t (ix2 i k) = m ((c : Thread nD τ).loc main_arg2) (ix2 (rowAt t i) k) := by
  blk_point [iblk, V, idx_val t]
theorem read_gp (c : Dev nD) (t : Fin cfg0.N) (i : Fin 512) (k : Fin 1024) :
    iblk m c 3 t (ix2 i k) = m ((c : Thread nD τ).loc main_arg3) (ix2 (rowAt t i) k) := by
  blk_point [iblk, V, idx_val t]
theorem read_pp (c : Dev nD) (t : Fin cfg0.N) (i : Fin 512) (k : Fin 1024) :
    iblk m c 4 t (ix2 i k) = m ((c : Thread nD τ).loc main_arg4) (ix2 (rowAt t i) k) := by
  blk_point [iblk, V, idx_val t]

theorem read_g (c : Dev nD) (t : Fin cfg0.N) (k : Fin 1024) :
    View.ld (iblk m c 5 t) (Rect.unit ![0, 0] ![1, 1024] inb_S2x1024_S1x1024_0_0) (ix2 0 k)
      = m ((c : Thread nD τ).loc main_arg5) (ix1 k) := by
  blk_simp [iblk, idx_val t]
  entry_read
  pointwise
  have h : (win0_5.blk t).view.emb (ix2 0 k) = ix2 0 k := by blk_ext [idx_val t]
  refine (congrArg (concatenate S2x1024 0 [⟨S1x1024, broadcastInDim S1x1024 ![1] bcast_S1024_S1x1024_1 (m ((c : Thread nD τ).loc main_arg5))⟩, ⟨S1x1024, broadcastInDim S1x1024 ![1] bcast_S1024_S1x1024_1 (m ((c : Thread nD τ).loc main_arg6))⟩] concatenates_S1x1024_S1x1024_S2x1024_d0) h).trans ?_
  pointwise

theorem read_b (c : Dev nD) (t : Fin cfg0.N) (k : Fin 1024) :
    View.ld (iblk m c 5 t) (Rect.unit ![1, 0] ![1, 1024] inb_S2x1024_S1x1024_1_0) (ix2 0 k)
      = m ((c : Thread nD τ).loc main_arg6) (ix1 k) := by
  blk_simp [iblk, idx_val t]
  entry_read
  pointwise
  have h : (win0_5.blk t).view.emb (ix2 1 k) = ix2 1 k := by blk_ext [idx_val t]
  refine (congrArg (concatenate S2x1024 0 [⟨S1x1024, broadcastInDim S1x1024 ![1] bcast_S1024_S1x1024_1 (m ((c : Thread nD τ).loc main_arg5))⟩, ⟨S1x1024, broadcastInDim S1x1024 ![1] bcast_S1024_S1x1024_1 (m ((c : Thread nD τ).loc main_arg6))⟩] concatenates_S1x1024_S1x1024_S2x1024_d0) h).trans ?_
  pointwise

/-- The summed axis in its two halves. -/
theorem sum_halves (f : Fin 2816 → EReal) :
    ∑ k : Fin 1408, f ⟨k.val, by omega⟩ + ∑ k : Fin 1408, f ⟨1408 + k.val, by omega⟩ = ∑ k, f k :=
  (Fin.sum_univ_add (a := 1408) (b := 1408) f).symm

theorem sums (c : Dev nD) (t s : Fin cfg0.N) (hs : s.val + 1 = t.val) (h1 : t.val % 2 = 1) (i : Fin 512) (l : Fin 1024) :
    k0_pay2 (k0_pay2 k0_pay1 (iblk m c 0 s) (iblk m c 1 s)) (iblk m c 0 t) (iblk m c 1 t) (ix2 i l)
      = prod (m ((c : Thread nD τ).loc main_arg0)) (m ((c : Thread nD τ).loc main_arg1)) (rowAt t i) l := by
  unfold prod
  rw [pay_p, pay_p, pay_0, zero_add, ← sum_halves]
  simp only [read_a, read_w]
  have e : rowAt s i = rowAt t i := Fin.ext (by show s.val / 2 * 512 + i.val = t.val / 2 * 512 + i.val; omega)
  have e0 : ∀ k : Fin 1408, midAt s k = ⟨k.val, by omega⟩ := fun k => Fin.ext (by show s.val % 2 * 1408 + k.val = k.val; omega)
  have e1 : ∀ k : Fin 1408, midAt t k = ⟨1408 + k.val, by omega⟩ := fun k => Fin.ext (by show t.val % 2 * 1408 + k.val = 1408 + k.val; omega)
  simp only [e, e0, e1]

theorem final_7 (c : Dev nD) : (dats m 0 c).arrAt 7 (cfgs 0).N
    = RES (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have h1 := (flush0_7 t).1 hf
  blk_simp; rw [after0_7, outsAt0_B m c t (by omega) h1]; frame_out
  rw [outsAt0_A m c ⟨t.val - 1, by omega⟩ (by show (t.val - 1) % 2 = 0; omega) (by show ¬(t.val - 1) % 2 = 1; omega)]; frame_out
  simp only [read_unread_whole]
  idx_vars y
  have h : ((cfg0.win 7).blk t).view.emb (ix2 y0 y1) = ix2 (rowAt t y0) y1 := by
    blk_ext [idx_val t]
  refine Eq.trans ?_ (congrArg (RES _ _ _ _ _) h).symm
  simp only [pay_r, sums m c t ⟨t.val - 1, by omega⟩ (by show t.val - 1 + 1 = t.val; omega) h1, read_x, read_gp, read_pp]
  rfl

theorem final_6 (c : Dev nD) : (dats m 0 c).arrAt 6 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  have h1 := (flush0_6 t).1 hf
  blk_simp; rw [after0_6, outsAt0_B m c t (by omega) h1]; frame_out
  rw [outsAt0_A m c ⟨t.val - 1, by omega⟩ (by show (t.val - 1) % 2 = 0; omega) (by show ¬(t.val - 1) % 2 = 1; omega)]; frame_out
  simp only [read_unread_whole]
  idx_vars y
  have h : ((cfg0.win 6).blk t).view.emb (ix2 y0 y1) = ix2 (rowAt t y0) y1 := by
    blk_ext [idx_val t]
  refine Eq.trans ?_ (congrArg (OUT _ _ _ _ _ _ _) h).symm
  rw [pay_y, pay_h, read_g, read_b]
  simp only [sums m c t ⟨t.val - 1, by omega⟩ (by show t.val - 1 + 1 = t.val; omega) h1, read_x, read_gp, read_pp]
  rfl

theorem value : Cert.algebraic_DownLn2Ideal_DownLn2RefIdeal := by
  intro m g m' g' _ hag
  refine ⟨fun c => OUT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)),
    fun c => RES (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    (θ_run _ _ _).mono (fun r h c => ⟨(h c).1.trans (final_6 m c), (h c).2.1.trans (final_7 m c), (h c).2.2⟩) (Value.run_blocks m g),
    (θ_run _ _ _).mono (fun r h c => ⟨(h c).1.trans ?_, (h c).2.1.trans ?_, (h c).2.2⟩)
      (Cert.DownLn2RefIdeal.Value.run m' g')⟩
  · unfold Cert.DownLn2RefIdeal.Value.res_main_v37
    rw [(hag c).1, (hag c).2.1, (hag c).2.2.1, (hag c).2.2.2.1, (hag c).2.2.2.2.1, (hag c).2.2.2.2.2.1, (hag c).2.2.2.2.2.2]
    funext y
    idx_vars y
    unfold OUT hat rstd vare cen mean res prod Ideal.logistic
    pointwise
  · rw [(hag c).1, (hag c).2.1, (hag c).2.2.1, (hag c).2.2.2.1, (hag c).2.2.2.2.1]
    funext y
    idx_vars y
    unfold RES res prod Ideal.logistic
    pointwise

end Cert.DownLn2Ideal.Tie

end
-- ==== Proof.DownLoss.lean ====
/- The down projection's product with the residual branch, the per-layer embedding branch the layer norm and the loss. -/
module

public import proofs.«01_k».proof.Proof.LnRow
public import proofs.«01_k».proof.Defs
public import proofs.«01_k».proof.Proof.Gen.DownLossIdeal.Value
public import proofs.«01_k».proof.Proof.Gen.DownLossRefIdeal.Run
public import Idealize.ShloMosaic.Lib.Pipeline.ValueKit
public import Idealize.ShloMosaic.Lib.Pipeline.ReadBack
public import Idealize.ShloMosaic.Lib.Claim

@[expose] public section

set_option maxRecDepth 16384
noncomputable section

open Idealize.ShloMosaic Idealize.ShloMosaic.TcCoe Idealize.SL.Sem
open scoped BigOperators

namespace Cert.DownLossIdeal.Tie

open Cert.DownLossIdeal Cert.DownLossIdeal.Gen LnRow

/-- The residual branch's factor. -/
abbrev ALPHA : EReal := Ideal.ofBits .f32 0x3FD744FD#32

/-- The product. -/
def prod (a0 : FVec Ideal Cert.DownLossRefIdeal.S8192x2816 .bf16) (a1 : FVec Ideal Cert.DownLossRefIdeal.S2816x1024 .bf16) (n : Fin 8192) (l : Fin 1024) : EReal :=
  ∑ k : Fin 2816, a0 (ix2 n k) * a1 (ix2 k l)

/-- The row that the layer norm gets. -/
def res (a0 : FVec Ideal Cert.DownLossRefIdeal.S8192x2816 .bf16) (a1 : FVec Ideal Cert.DownLossRefIdeal.S2816x1024 .bf16)
    (a2 a3 a4 : FVec Ideal Cert.DownLossRefIdeal.S8192x1024 .f32) (n : Fin 8192) (l : Fin 1024) : EReal :=
  ALPHA * a2 (ix2 n l) + prod a0 a1 n l + Ideal.logistic (a3 (ix2 n l)) * a4 (ix2 n l)

def RES (a0 : FVec Ideal Cert.DownLossRefIdeal.S8192x2816 .bf16) (a1 : FVec Ideal Cert.DownLossRefIdeal.S2816x1024 .bf16)
    (a2 a3 a4 : FVec Ideal Cert.DownLossRefIdeal.S8192x1024 .f32) : FVec Ideal Cert.DownLossRefIdeal.S8192x1024 .f32 :=
  fun y => res a0 a1 a2 a3 a4 (y 0) (y 1)

/-- The residual of the normalised rows against the target. -/
def err (a0 : FVec Ideal Cert.DownLossRefIdeal.S8192x2816 .bf16) (a1 : FVec Ideal Cert.DownLossRefIdeal.S2816x1024 .bf16)
    (a2 a3 a4 a5 : FVec Ideal Cert.DownLossRefIdeal.S8192x1024 .f32) (a6 a7 : FVec Ideal Cert.DownLossRefIdeal.S1024 .f32) (n : Fin 8192) (l : Fin 1024) : EReal :=
  hat (res a0 a1 a2 a3 a4 n) l * a6 (ix1 l) + a7 (ix1 l) - a5 (ix2 n l)

/-- One over the row's length. -/
abbrev I : EReal := Ideal.ofBits .f32 0x3A800000#32
/-- One half. -/
abbrev HALF : EReal := Ideal.ofBits .f32 0x3F000000#32

theorem I_eq : I = ((1 / 1024 : ℝ) : EReal) := by
  simp [I, Ideal.ofBits, Ideal.ieee, -EReal.coe_mul]; norm_num
theorem HALF_eq : HALF = ((1 / 2 : ℝ) : EReal) := by
  simp [HALF, Ideal.ofBits, Ideal.ieee, -EReal.coe_mul]; norm_num

def DY (a0 : FVec Ideal Cert.DownLossRefIdeal.S8192x2816 .bf16) (a1 : FVec Ideal Cert.DownLossRefIdeal.S2816x1024 .bf16)
    (a2 a3 a4 a5 : FVec Ideal Cert.DownLossRefIdeal.S8192x1024 .f32) (a6 a7 : FVec Ideal Cert.DownLossRefIdeal.S1024 .f32) :
    FVec Ideal Cert.DownLossRefIdeal.S8192x1024 .f32 :=
  fun y => err a0 a1 a2 a3 a4 a5 a6 a7 (y 0) (y 1) * I

/-- The mean square of a row. -/
def sq (e : Fin 1024 → EReal) : EReal := Ideal.div (∑ k, e k * e k) N

def LOSS (a0 : FVec Ideal Cert.DownLossRefIdeal.S8192x2816 .bf16) (a1 : FVec Ideal Cert.DownLossRefIdeal.S2816x1024 .bf16)
    (a2 a3 a4 a5 : FVec Ideal Cert.DownLossRefIdeal.S8192x1024 .f32) (a6 a7 : FVec Ideal Cert.DownLossRefIdeal.S1024 .f32) :
    FVec Ideal Cert.DownLossRefIdeal.S8x128 .f32 :=
  fun _ => HALF * ∑ n : Fin 8192, sq (err a0 a1 a2 a3 a4 a5 a6 a7 n)

/-- The scale of the gradient as the reference spells it. -/
theorem scale (e : EReal) : Ideal.div HALF N * (LnRow.T * e) = e * I := by
  rw [HALF_eq, div_N, T_eq, ← mul_assoc, ← EReal.coe_mul, I_eq, mul_comm]
  norm_num

/-- One half of a sum. -/
theorem half_sum {n : ℕ} (f : Fin n → EReal) : ∑ k, HALF * f k = HALF * ∑ k, f k := by
  have h : ∀ s : Finset (Fin n), ∑ k ∈ s, HALF * f k = HALF * ∑ k ∈ s, f k := by
    intro s
    induction s using Finset.cons_induction with
    | empty => simp
    | cons a s ha ih =>
      rw [Finset.sum_cons, Finset.sum_cons, ih, HALF_eq,
        EReal.left_distrib_of_nonneg_of_ne_top (by exact_mod_cast (by norm_num : (0 : ℝ) ≤ 1 / 2)) (EReal.coe_ne_top _)]
  exact h _

theorem one_eq : Ideal.ofBits .f32 0x3F800000#32 = 1 := Ideal.ofBits_one_f32

theorem pay_r (x p g q : Vec Ideal S512x1024 .f32) (i : Fin 512) (l : Fin 1024) :
    k0_pay7 x p g q (ix2 i l) = ALPHA * x (ix2 i l) + p (ix2 i l) + Ideal.logistic (g (ix2 i l)) * q (ix2 i l) := by
  unfold Ideal.logistic
  pointwise [k0_pay7]
  simp only [zero_sub_e, one_eq]

theorem pay_h (x p g q : Vec Ideal S512x1024 .f32) (w : Vec Ideal S1x1024 .f32) (i : Fin 512) (l : Fin 1024) :
    k0_pay8 x p g q w (ix2 i l) = hat (fun k => ALPHA * x (ix2 i k) + p (ix2 i k) + Ideal.logistic (g (ix2 i k)) * q (ix2 i k)) l * w (ix2 0 l) := by
  unfold hat rstd vare cen mean
  pointwise [k0_pay8]
  simp only [pay_r]

theorem pay_e (u : FVec Ideal S512x1024 .f32) (w : Vec Ideal S1x1024 .f32) (t : Vec Ideal S512x1024 .f32) (i : Fin 512) (l : Fin 1024) :
    k0_pay4 u (k0_pay9 w) t (ix2 i l) = u (ix2 i l) + w (ix2 0 l) - t (ix2 i l) := by
  pointwise [k0_pay4, k0_pay9]

theorem pay_dy (u w t : FVec Ideal S512x1024 .f32) (i : Fin 512) (l : Fin 1024) :
    k0_pay5 u w t (ix2 i l) = k0_pay4 u w t (ix2 i l) * I := by
  pointwise [k0_pay5]

theorem pay_l (u w t : FVec Ideal S512x1024 .f32) (v : Vec Ideal S8x128 .f32) (i : Fin 8) (l : Fin 128) :
    k0_pay6 u w t v (ix2 i l) = v (ix2 i l) + HALF * ∑ n : Fin 512, sq (fun k => k0_pay4 u w t (ix2 n k)) := by
  unfold sq
  pointwise [k0_pay6]

theorem pay_l0 (i : Fin 8) (l : Fin 128) : k0_pay1 (F := Ideal) (ix2 i l) = 0 := by
  pointwise! [k0_pay1]

theorem pay_p (v3 : Vec Ideal S512x1024 .f32) (v4 : Vec Ideal S512x1408 .bf16) (v5 : Vec Ideal S1408x1024 .bf16) (i : Fin 512) (l : Fin 1024) :
    k0_pay3 v3 v4 v5 (ix2 i l) = v3 (ix2 i l) + ∑ k : Fin 1408, v4 (ix2 i k) * v5 (ix2 k l) := by
  pointwise [k0_pay3]

theorem pay_0 (i : Fin 512) (l : Fin 1024) : k0_pay2 (F := Ideal) (ix2 i l) = 0 := by
  pointwise! [k0_pay2]

variable (m : (ℓ : Loc nD τ sig) → Buf (Elt Ideal) ℓ)

theorem idx_val : ∀ t : Fin cfg0.N, win0_0.index t = ![t.val / 2, t.val % 2]
    ∧ win0_1.index t = ![t.val % 2, 0]
    ∧ win0_2.index t = ![t.val / 2, 0]
    ∧ win0_3.index t = ![t.val / 2, 0]
    ∧ win0_4.index t = ![t.val / 2, 0]
    ∧ win0_5.index t = ![t.val / 2, 0]
    ∧ win0_6.index t = ![0, 0]
    ∧ win0_7.index t = ![t.val / 2, 0]
    ∧ win0_8.index t = ![t.val / 2, 0]
    ∧ win0_9.index t = ![0, 0] :=
  (by decide +kernel : ∀ t : Fin grid0.N, _)

/-- A row of the grid point `t`, in the whole array. -/
abbrev rowAt (t : Fin cfg0.N) (i : Fin 512) : Fin 8192 := ⟨t.val / 2 * 512 + i.val, by have := lt_of_lt_of_eq t.isLt N_0; omega⟩
/-- A place of the summed axis at the grid point `t`. -/
abbrev midAt (t : Fin cfg0.N) (k : Fin 1408) : Fin 2816 := ⟨t.val % 2 * 1408 + k.val, by omega⟩

theorem read_a (c : Dev nD) (t : Fin cfg0.N) (i : Fin 512) (k : Fin 1408) :
    iblk m c 0 t (ix2 i k) = m ((c : Thread nD τ).loc main_arg0) (ix2 (rowAt t i) (midAt t k)) := by
  blk_point [iblk, V, idx_val t]
theorem read_w (c : Dev nD) (t : Fin cfg0.N) (k : Fin 1408) (l : Fin 1024) :
    iblk m c 1 t (ix2 k l) = m ((c : Thread nD τ).loc main_arg1) (ix2 (midAt t k) l) := by
  blk_point [iblk, V, idx_val t]
theorem read_x (c : Dev nD) (t : Fin cfg0.N) (i : Fin 512) (k : Fin 1024) :
    iblk m c 2 t (ix2 i k) = m ((c : Thread nD τ).loc main_arg2) (ix2 (rowAt t i) k) := by
  blk_point [iblk, V, idx_val t]
theorem read_gp (c : Dev nD) (t : Fin cfg0.N) (i : Fin 512) (k : Fin 1024) :
    iblk m c 3 t (ix2 i k) = m ((c : Thread nD τ).loc main_arg3) (ix2 (rowAt t i) k) := by
  blk_point [iblk, V, idx_val t]
theorem read_pp (c : Dev nD) (t : Fin cfg0.N) (i : Fin 512) (k : Fin 1024) :
    iblk m c 4 t (ix2 i k) = m ((c : Thread nD τ).loc main_arg4) (ix2 (rowAt t i) k) := by
  blk_point [iblk, V, idx_val t]

theorem read_t (c : Dev nD) (t : Fin cfg0.N) (i : Fin 512) (k : Fin 1024) :
    iblk m c 5 t (ix2 i k) = m ((c : Thread nD τ).loc main_arg5) (ix2 (rowAt t i) k) := by
  blk_point [iblk, V, idx_val t]

theorem read_g (c : Dev nD) (t : Fin cfg0.N) (k : Fin 1024) :
    View.ld (iblk m c 6 t) (Rect.unit ![0, 0] ![1, 1024] inb_S2x1024_S1x1024_0_0) (ix2 0 k)
      = m ((c : Thread nD τ).loc main_arg6) (ix1 k) := by
  blk_simp [iblk, idx_val t]
  entry_read
  pointwise
  have h : (win0_6.blk t).view.emb (ix2 0 k) = ix2 0 k := by blk_ext [idx_val t]
  refine (congrArg (concatenate S2x1024 0 [⟨S1x1024, broadcastInDim S1x1024 ![1] bcast_S1024_S1x1024_1 (m ((c : Thread nD τ).loc main_arg6))⟩, ⟨S1x1024, broadcastInDim S1x1024 ![1] bcast_S1024_S1x1024_1 (m ((c : Thread nD τ).loc main_arg7))⟩] concatenates_S1x1024_S1x1024_S2x1024_d0) h).trans ?_
  pointwise

theorem read_b (c : Dev nD) (t : Fin cfg0.N) (k : Fin 1024) :
    View.ld (iblk m c 6 t) (Rect.unit ![1, 0] ![1, 1024] inb_S2x1024_S1x1024_1_0) (ix2 0 k)
      = m ((c : Thread nD τ).loc main_arg7) (ix1 k) := by
  blk_simp [iblk, idx_val t]
  entry_read
  pointwise
  have h : (win0_6.blk t).view.emb (ix2 1 k) = ix2 1 k := by blk_ext [idx_val t]
  refine (congrArg (concatenate S2x1024 0 [⟨S1x1024, broadcastInDim S1x1024 ![1] bcast_S1024_S1x1024_1 (m ((c : Thread nD τ).loc main_arg6))⟩, ⟨S1x1024, broadcastInDim S1x1024 ![1] bcast_S1024_S1x1024_1 (m ((c : Thread nD τ).loc main_arg7))⟩] concatenates_S1x1024_S1x1024_S2x1024_d0) h).trans ?_
  pointwise

/-- The summed axis in its two halves. -/
theorem sum_halves (f : Fin 2816 → EReal) :
    ∑ k : Fin 1408, f ⟨k.val, by omega⟩ + ∑ k : Fin 1408, f ⟨1408 + k.val, by omega⟩ = ∑ k, f k :=
  (Fin.sum_univ_add (a := 1408) (b := 1408) f).symm

theorem sums (c : Dev nD) (t s : Fin cfg0.N) (hs : s.val + 1 = t.val) (h1 : t.val % 2 = 1) (i : Fin 512) (l : Fin 1024) :
    k0_pay3 (k0_pay3 k0_pay2 (iblk m c 0 s) (iblk m c 1 s)) (iblk m c 0 t) (iblk m c 1 t) (ix2 i l)
      = prod (m ((c : Thread nD τ).loc main_arg0)) (m ((c : Thread nD τ).loc main_arg1)) (rowAt t i) l := by
  unfold prod
  rw [pay_p, pay_p, pay_0, zero_add, ← sum_halves]
  simp only [read_a, read_w]
  have e : rowAt s i = rowAt t i := Fin.ext (by show s.val / 2 * 512 + i.val = t.val / 2 * 512 + i.val; omega)
  have e0 : ∀ k : Fin 1408, midAt s k = ⟨k.val, by omega⟩ := fun k => Fin.ext (by show s.val % 2 * 1408 + k.val = k.val; omega)
  have e1 : ∀ k : Fin 1408, midAt t k = ⟨1408 + k.val, by omega⟩ := fun k => Fin.ext (by show t.val % 2 * 1408 + k.val = 1408 + k.val; omega)
  simp only [e, e0, e1]

/-- What the product's accumulator is at an even point. -/
theorem acc_even (c : Dev nD) (s : Fin cfg0.N) (h1 : s.val % 2 = 0) :
    (outsAt0 m c s.val s.isLt).2.2.2 = k0_pay3 k0_pay2 (iblk m c 0 s) (iblk m c 1 s) := by
  by_cases h0 : s.val % 32 = 0
  · rw [outsAt0_A m c s h0 h1 (by omega)]; frame_out
  · rw [outsAt0_C m c s h0 h1 (by omega)]; frame_out

/-- The residual row, from the blocks of the grid point `t`. -/
theorem at_r (c : Dev nD) (t s : Fin cfg0.N) (hs : s.val + 1 = t.val) (h1 : t.val % 2 = 1) (i : Fin 512) (l : Fin 1024) :
    k0_pay7 (iblk m c 2 t) (k0_pay3 (k0_pay3 k0_pay2 (iblk m c 0 s) (iblk m c 1 s)) (iblk m c 0 t) (iblk m c 1 t)) (iblk m c 3 t) (iblk m c 4 t) (ix2 i l)
      = res (m ((c : Thread nD τ).loc main_arg0)) (m ((c : Thread nD τ).loc main_arg1)) (m ((c : Thread nD τ).loc main_arg2)) (m ((c : Thread nD τ).loc main_arg3)) (m ((c : Thread nD τ).loc main_arg4)) (rowAt t i) l := by
  simp only [pay_r, sums m c t s hs h1, read_x, read_gp, read_pp]
  rfl

/-- The error row, from the blocks of the grid point `t`. -/
theorem at_e (c : Dev nD) (t s : Fin cfg0.N) (hs : s.val + 1 = t.val) (h1 : t.val % 2 = 1) (i : Fin 512) (l : Fin 1024) :
    k0_pay4 (k0_pay8 (iblk m c 2 t) (k0_pay3 (k0_pay3 k0_pay2 (iblk m c 0 s) (iblk m c 1 s)) (iblk m c 0 t) (iblk m c 1 t)) (iblk m c 3 t) (iblk m c 4 t)
        (View.ld (iblk m c 6 t) (Rect.unit ![0, 0] ![1, 1024] inb_S2x1024_S1x1024_0_0)))
      (k0_pay9 (View.ld (iblk m c 6 t) (Rect.unit ![1, 0] ![1, 1024] inb_S2x1024_S1x1024_1_0))) (iblk m c 5 t) (ix2 i l)
      = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowAt t i) l := by
  rw [pay_e, pay_h, read_g, read_b, read_t]
  simp only [sums m c t s hs h1, read_x, read_gp, read_pp]
  rfl

theorem final_8 (c : Dev nD) : (dats m 0 c).arrAt 8 (cfgs 0).N = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h1 := (flush0_8 t).1 hf
  have h0 : ¬t.val % 32 = 0 := by omega
  blk_simp; rw [after0_8, outsAt0_B m c t h0 (by omega) h1]; frame_out
  have e := acc_even m c ⟨t.val - 1, by omega⟩ (by show (t.val - 1) % 2 = 0; omega)
  simp only [e]
  idx_vars y
  have h : ((cfg0.win 8).blk t).view.emb (ix2 y0 y1) = ix2 (rowAt t y0) y1 := by
    blk_ext [idx_val t]
  refine Eq.trans ?_ (congrArg (RES _ _ _ _ _) h).symm
  simp only [read_unread_whole]
  exact at_r m c t ⟨t.val - 1, by omega⟩ (by show t.val - 1 + 1 = t.val; omega) h1 y0 y1

theorem final_7 (c : Dev nD) : (dats m 0 c).arrAt 7 (cfgs 0).N = DY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  have h1 := (flush0_7 t).1 hf
  have h0 : ¬t.val % 32 = 0 := by omega
  blk_simp; rw [after0_7, outsAt0_B m c t h0 (by omega) h1]; frame_out
  have e := acc_even m c ⟨t.val - 1, by omega⟩ (by show (t.val - 1) % 2 = 0; omega)
  simp only [e]
  idx_vars y
  have h : ((cfg0.win 7).blk t).view.emb (ix2 y0 y1) = ix2 (rowAt t y0) y1 := by
    blk_ext [idx_val t]
  refine Eq.trans ?_ (congrArg (DY _ _ _ _ _ _ _ _) h).symm
  simp only [read_unread_whole]
  rw [pay_dy]
  exact congrArg (· * I) (at_e m c t ⟨t.val - 1, by omega⟩ (by show t.val - 1 + 1 = t.val; omega) h1 y0 y1)

/-- What a point leaves depends on the point only. -/
theorem outs_congr (c : Dev nD) (s : Fin cfg0.N) (n : ℕ) (hn : n < cfg0.N) (e : n = s.val) : outsAt0 m c n hn = outsAt0 m c s.val s.isLt := by
  subst e; rfl

/-- The loss that an odd point adds. -/
theorem loss_odd (c : Dev nD) (t s : Fin cfg0.N) (hs : s.val + 1 = t.val) (h1 : t.val % 2 = 1) (i : Fin 8) (l : Fin 128) :
    (outsAt0 m c t.val t.isLt).2.2.1 (ix2 i l)
      = (outsAt0 m c s.val s.isLt).2.2.1 (ix2 i l) + HALF * ∑ n : Fin 512, sq (err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowAt t n)) := by
  rw [outsAt0_B m c t (by omega) (by omega) h1]; frame_out
  rw [outs_congr m c s _ _ (by omega)]
  have e := acc_even m c s (by omega)
  simp only [e, read_unread_whole]
  rw [pay_l]
  refine congrArg (fun z => (outsAt0 m c s.val s.isLt).2.2.1 (ix2 i l) + HALF * z) ?_
  refine Finset.sum_congr rfl fun n _ => congrArg sq (funext fun k => ?_)
  exact at_e m c t s hs h1 n k

/-- The first point starts at nothing. -/
theorem loss_first (c : Dev nD) (t : Fin cfg0.N) (h0 : t.val % 32 = 0) (i : Fin 8) (l : Fin 128) :
    (outsAt0 m c t.val t.isLt).2.2.1 (ix2 i l) = 0 := by
  rw [outsAt0_A m c t h0 (by omega) (by omega)]; frame_out
  rw [pay_l0]

/-- A later even point keeps the loss. -/
theorem loss_even (c : Dev nD) (t s : Fin cfg0.N) (hs : s.val + 1 = t.val) (h0 : ¬t.val % 32 = 0) (h1 : t.val % 2 = 0) (i : Fin 8) (l : Fin 128) :
    (outsAt0 m c t.val t.isLt).2.2.1 (ix2 i l) = (outsAt0 m c s.val s.isLt).2.2.1 (ix2 i l) := by
  rw [outsAt0_C m c t h0 h1 (by omega), outs_congr m c s _ _ (by omega)]
  rfl

/-- A row of block `s`. -/
abbrev rowOf (s : ℕ) (hs : s < 16) (i : Fin 512) : Fin 8192 := ⟨s * 512 + i.val, by omega⟩

theorem row_odd (t : Fin cfg0.N) (k : ℕ) (hk : k < 16) (ht : t.val = 2 * k + 1) (n : Fin 512) : rowAt t n = rowOf k hk n :=
  Fin.ext (by show t.val / 2 * 512 + n.val = k * 512 + n.val; omega)

/-- The loss of the first `k + 1` blocks. -/
theorem partial_loss (c : Dev nD) (i : Fin 8) (l : Fin 128) (k : ℕ) : ∀ (hk : k < 16) (t : Fin cfg0.N) (ht : t.val = 2 * k + 1),
    (outsAt0 m c t.val t.isLt).2.2.1 (ix2 i l)
      = ∑ s : Fin (k + 1), HALF * ∑ n : Fin 512, sq (err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf s.val (by omega) n)) := by
  induction k with
  | zero =>
    intro hk t ht
    have e1 : t.val % 2 = 1 := by omega
    have e2 : t.val - 1 + 1 = t.val := by omega
    have e3 : (t.val - 1) % 32 = 0 := by omega
    rw [loss_odd m c t ⟨t.val - 1, by omega⟩ e2 e1 i l, loss_first m c ⟨t.val - 1, by omega⟩ e3 i l, zero_add, Fin.sum_univ_one]
    simp only [row_odd t 0 hk ht]
    rfl
  | succ k ih =>
    intro hk t ht
    have e1 : t.val % 2 = 1 := by omega
    have e2 : t.val - 1 + 1 = t.val := by omega
    have e3 : ¬(t.val - 1) % 32 = 0 := by omega
    have e4 : (t.val - 1) % 2 = 0 := by omega
    have e5 : t.val - 2 + 1 = t.val - 1 := by omega
    rw [loss_odd m c t ⟨t.val - 1, by omega⟩ e2 e1 i l, loss_even m c ⟨t.val - 1, by omega⟩ ⟨t.val - 2, by omega⟩ e5 e3 e4 i l,
      ih (by omega) ⟨t.val - 2, by omega⟩ (by show t.val - 2 = 2 * k + 1; omega), Fin.sum_univ_castSucc (n := k + 1)]
    simp only [row_odd t (k + 1) hk ht]
    rfl

/-- The last point. -/
def tLast : Fin cfg0.N := ⟨31, lt_of_lt_of_eq (by omega) N_0.symm⟩

theorem final_9 (c : Dev nD) : (dats m 0 c).arrAt 9 (cfgs 0).N = LOSS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 tLast (by decide +kernel) _ fun j => ?_
  blk_simp
  rw [after0_9]
  idx_vars j
  rw [partial_loss m c _ _ 15 (by omega) tLast rfl, half_sum]
  show HALF * _ = HALF * _
  refine congrArg (HALF * ·) ?_
  refine Fin.sum_mul_add_congr fun s k hl => ?_
  rfl

theorem value : Cert.algebraic_DownLossIdeal_DownLossRefIdeal := by
  intro m g m' g' _ hag
  refine ⟨fun c => DY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), fun c => RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => LOSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    (θ_run _ _ _).mono (fun r h c => ⟨(h c).1.trans (final_7 m c), (h c).2.1.trans (final_8 m c), (h c).2.2.1.trans (final_9 m c), (h c).2.2.2⟩) (Value.run_blocks m g),
    (θ_run _ _ _).mono (fun r h c => ⟨(h c).1.trans ?_, (h c).2.1.trans ?_, (h c).2.2.1.trans ?_, (h c).2.2.2⟩)
      (Cert.DownLossRefIdeal.Value.run m' g')⟩
  · unfold Cert.DownLossRefIdeal.Value.res_main_v52
    rw [(hag c).1, (hag c).2.1, (hag c).2.2.1, (hag c).2.2.2.1, (hag c).2.2.2.2.1, (hag c).2.2.2.2.2.1, (hag c).2.2.2.2.2.2.1, (hag c).2.2.2.2.2.2.2]
    funext y
    idx_vars y
    unfold DY err hat rstd vare cen mean res prod Ideal.logistic
    pointwise
    exact scale _
  · rw [(hag c).1, (hag c).2.1, (hag c).2.2.1, (hag c).2.2.2.1, (hag c).2.2.2.2.1]
    funext y
    idx_vars y
    unfold RES res prod Ideal.logistic
    pointwise
  · unfold Cert.DownLossRefIdeal.Value.res_main_v53
    rw [(hag c).1, (hag c).2.1, (hag c).2.2.1, (hag c).2.2.2.1, (hag c).2.2.2.2.1, (hag c).2.2.2.2.2.1, (hag c).2.2.2.2.2.2.1, (hag c).2.2.2.2.2.2.2]
    funext y
    idx_vars y
    unfold LOSS sq err hat rstd vare cen mean res prod Ideal.logistic
    pointwise

end Cert.DownLossIdeal.Tie

end
-- ==== Proof.GluRow.lean ====
/- The short causal convolution along one column of one sequence, and the gate. -/
module

public import proofs.«01_k».proof.Defs
public import proofs.«01_k».proof.Proof.LnRow
public import Idealize.ShloMosaic.Lib.WordCmp
public import Idealize.ShloMosaic.Lib.Pipeline.ValueKit
public import Idealize.ShloMosaic.Lib.Pipeline.ReadBack

@[expose] public section

noncomputable section

open Idealize.ShloMosaic
open scoped BigOperators

namespace Cert.GluRow

/-- A column of one sequence. -/
abbrev Seq := Fin 2048 → EReal

/-- The column moved down by `k` rows, zero above. -/
def back (k : ℕ) (x : Seq) (r : Fin 2048) : EReal := if k ≤ r.val then x ⟨r.val - k, by omega⟩ else 0

/-- The column moved up by `k` rows, zero below. -/
def fore (k : ℕ) (x : Seq) (r : Fin 2048) : EReal := if h : r.val + k < 2048 then x ⟨r.val + k, h⟩ else 0

/-- The causal convolution with three taps and an offset. -/
def conv (w0 w1 w2 b : EReal) (x : Seq) (r : Fin 2048) : EReal := b + w2 * x r + w1 * back 1 x r + w0 * back 2 x r

/-- The logistic function. -/
def sg (v : EReal) : EReal := Ideal.div 1 (1 + Ideal.exp (-v))

/-- The gate of two channels. -/
def glu (g v : EReal) : EReal := g * sg g * v

/-- The gradient by the gate channel, `x` the cotangent times the other channel. -/
def dgate (x g : EReal) : EReal := x * (sg g * (1 + g * (1 - sg g)))

/-- The same, as a derivative of the product. -/
def rgate (x g : EReal) : EReal := x * sg g + g * x * (sg g * (1 - sg g))

/-- The gradient by the other channel. -/
def dval (d g : EReal) : EReal := d * (g * sg g)

/-- Where the column `l` of tile `j` stands among the channels. -/
abbrev chan (j : ℕ) (hj : j < 11) (l : Fin 512) : Fin 5632 := ⟨l.val / 256 * 2816 + j * 256 + l.val % 256, by omega⟩

/-- Rows of sequence `b`. -/
abbrev rowOf (b : ℕ) (hb : b < 4) (i : Fin 2048) : Fin 8192 := ⟨b * 2048 + i.val, by omega⟩

theorem ge_iff (r : Fin 2048) (k : ℕ) (hk : k < 2048) :
    (IntOp.cmpi .sge (BitVec.ofNat 32 r.val) (BitVec.ofNat 32 k) = 1) ↔ k ≤ r.val :=
  WordCmp.cmpi_sge_ofNat_eq_one_iff (by omega) (by omega)

theorem lt_iff (r : Fin 2048) (k : ℕ) (hk : k ≤ 2048) :
    (IntOp.cmpi .slt (BitVec.ofNat 32 r.val) (BitVec.ofNat 32 k) = 1) ↔ r.val < k :=
  WordCmp.cmpi_slt_ofNat_eq_one_iff (by omega) (by omega)

/-- The rotated column with the wrapped rows set to zero. -/
theorem sel_back (k : ℕ) (hk : k < 2048) (x : Seq) (r : Fin 2048) (h : (r.val + 2048 - k) % 2048 < 2048) :
    Scalar.select (IntOp.cmpi .sge (BitVec.ofNat 32 r.val) (BitVec.ofNat 32 k)) (x ⟨(r.val + 2048 - k) % 2048, h⟩) 0 = back k x r := by
  unfold back
  by_cases hr : k ≤ r.val
  · rw [if_pos hr, Scalar.select_of_eq_one ((ge_iff r k hk).mpr hr)]
    exact congrArg x (Fin.ext (by show (r.val + 2048 - k) % 2048 = r.val - k; omega))
  · rw [if_neg hr, Scalar.select_of_ne_one fun e => hr ((ge_iff r k hk).mp e)]

theorem mul_sel_back (k : ℕ) (hk : k < 2048) (w : EReal) (x : Seq) (r : Fin 2048) (h : (r.val + 2048 - k) % 2048 < 2048) :
    Scalar.select (IntOp.cmpi .sge (BitVec.ofNat 32 r.val) (BitVec.ofNat 32 k)) (w * x ⟨(r.val + 2048 - k) % 2048, h⟩) 0 = w * back k x r := by
  rw [← sel_back k hk x r h, Scalar.select_def, Scalar.select_def]
  split <;> simp

/-- The column rotated the other way. -/
theorem sel_fore (k : ℕ) (hk : 0 < k) (h2 : k ≤ 2048) (x : Seq) (r : Fin 2048) (h : (r.val + 2048 - (2048 - k)) % 2048 < 2048) :
    Scalar.select (IntOp.cmpi .slt (BitVec.ofNat 32 r.val) (BitVec.ofNat 32 (2048 - k))) (x ⟨(r.val + 2048 - (2048 - k)) % 2048, h⟩) 0 = fore k x r := by
  unfold fore
  by_cases hr : r.val + k < 2048
  · rw [dif_pos hr, Scalar.select_of_eq_one ((lt_iff r (2048 - k) (by omega)).mpr (by omega))]
    exact congrArg x (Fin.ext (by show (r.val + 2048 - (2048 - k)) % 2048 = r.val + k; omega))
  · rw [dif_neg hr, Scalar.select_of_ne_one fun e => hr (by have := (lt_iff r (2048 - k) (by omega)).mp e; omega)]

theorem mul_sel_fore (k : ℕ) (hk : 0 < k) (h2 : k ≤ 2048) (w : EReal) (x : Seq) (r : Fin 2048) (h : (r.val + 2048 - (2048 - k)) % 2048 < 2048) :
    Scalar.select (IntOp.cmpi .slt (BitVec.ofNat 32 r.val) (BitVec.ofNat 32 (2048 - k))) (w * x ⟨(r.val + 2048 - (2048 - k)) % 2048, h⟩) 0 = w * fore k x r := by
  rw [← sel_fore k hk h2 x r h, Scalar.select_def, Scalar.select_def]
  split <;> simp

/-- The two spellings of the gradient by the gate agree where the cotangent times the other channel is a number. -/
theorem dgate_eq (a : ℝ) (g : EReal) : dgate (a : EReal) g = rgate (a : EReal) g := by
  unfold dgate rgate
  induction g with
  | bot =>
    have e : sg ⊥ = 0 := by
      have t : (1 : EReal) + ⊤ = ⊤ := by rw [← EReal.coe_one, EReal.coe_add_top]
      simp [sg, Ideal.div, t]
    rw [e]; simp
  | top =>
    have e : sg ⊤ = 1 := by
      unfold sg
      rw [EReal.neg_top, Ideal.exp_bot, add_zero]
      have := Ideal.div_coe (y := 1) one_ne_zero 1
      simpa using this
    have z : (1 : EReal) - 1 = 0 := by
      rw [← EReal.coe_one, ← EReal.coe_sub, sub_self, EReal.coe_zero]
    rw [e, z]; simp
  | coe g =>
    obtain ⟨s, hs⟩ : ∃ s : ℝ, sg (g : EReal) = (s : EReal) := by
      unfold sg
      rw [← EReal.coe_neg, Ideal.exp_coe, ← EReal.coe_one, ← EReal.coe_add, Ideal.div_coe (by positivity), ← EReal.coe_mul]
      exact ⟨_, rfl⟩
    rw [hs, ← EReal.coe_one]
    simp only [← EReal.coe_mul, ← EReal.coe_add, ← EReal.coe_sub]
    exact congrArg _ (by ring)

/-- A sum over the two leading axes, entry by entry. -/
theorem sum_front {n0 n1 n2 : ℕ} (h : (⟨3, ![n0, n1, n2]⟩ : Shape).ReducesTo [0, 1] ⟨1, ![n2]⟩) (v : (⟨3, ![n0, n1, n2]⟩ : Shape).Idx → EReal) (k : Fin n2) :
    Ideal.hostReduceAdd h v 0 (ix1 k) = ∑ a : Fin n0, ∑ b : Fin n1, v (ix3 a b k) := by
  have hf : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  refine (congrArg ((0 : EReal) + ·) (Finset.sum_filter_eq_sum_of_fiber _ (fun p : Fin n0 × Fin n1 => ix3 p.1 p.2 k)
    (fun _ _ e => Prod.ext (congrFun e 0) (congrFun e 1)) hf v)).trans ?_
  simp only [Fintype.sum_prod_type, zero_add]

end Cert.GluRow

end
-- ==== Proof.Glu.lean ====
/- The gradient of the short convolution with its gate: the tiled kernel equals the reference. -/
module

public import proofs.«01_k».proof.Defs
public import proofs.«01_k».proof.Proof.GluRow
public import proofs.«01_k».proof.Proof.Gen.Pre_glu_cotangent_finite
public import proofs.«01_k».proof.Proof.Gen.GluIdeal.Value
public import proofs.«01_k».proof.Proof.Gen.GluRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GluIdeal.Tie

open Cert.GluIdeal Cert.GluIdeal.Gen Cert.GluRow

variable (m : (ℓ : Loc nD τ sig) → Buf (Elt Ideal) ℓ)

theorem pay_3 (x : Vec Ideal S2048x512 .f32) (i : Fin 2048) (l : Fin 512) : k0_pay3 x (ix2 i l) = back 1 (fun n => x (ix2 n l)) i := by
  pointwise [k0_pay3]
  exact sel_back 1 (by omega) (fun n => x (ix2 n l)) i _

theorem pay_4 (x : Vec Ideal S2048x512 .f32) (i : Fin 2048) (l : Fin 512) : k0_pay4 x (ix2 i l) = back 2 (fun n => x (ix2 n l)) i := by
  pointwise [k0_pay4]
  exact sel_back 2 (by omega) (fun n => x (ix2 n l)) i _

theorem pay_5 (x : Vec Ideal S2048x512 .f32) (b w2 w1 w0 : Vec Ideal S1x512 .f32) (r : Fin 2048) (l : Fin 512) :
    k0_pay5 x b w2 w1 w0 (ix2 r l) = conv (w0 (ix2 0 l)) (w1 (ix2 0 l)) (w2 (ix2 0 l)) (b (ix2 0 l)) (fun i => x (ix2 i l)) r := by
  unfold conv
  pointwise [k0_pay5]
  rw [pay_3, pay_4]

theorem pay_6 (x : Vec Ideal S2048x512 .f32) (b w2 w1 w0 : Vec Ideal S1x512 .f32) (r : Fin 2048) (q : Fin 256) :
    k0_pay6 x b w2 w1 w0 (ix2 r q) = k0_pay5 x b w2 w1 w0 (ix2 r ⟨q.val, by omega⟩) := by
  pointwise [k0_pay6]

theorem pay_7 (x : Vec Ideal S2048x512 .f32) (b w2 w1 w0 : Vec Ideal S1x512 .f32) (d : Vec Ideal S2048x256 .f32) (r : Fin 2048) (q : Fin 256) :
    k0_pay7 x b w2 w1 w0 d (ix2 r q) = d (ix2 r q) * k0_pay5 x b w2 w1 w0 (ix2 r ⟨256 + q.val, by omega⟩) := by
  pointwise [k0_pay7]

theorem pay_8 (g : FVec Ideal S2048x256 .f32) (d : Vec Ideal S2048x256 .f32) (x : FVec Ideal S2048x256 .f32) (r : Fin 2048) (l : Fin 512) :
    k0_pay8 g d x (ix2 r l) = if h : l.val < 256 then dgate (x (ix2 r ⟨l.val, h⟩)) (g (ix2 r ⟨l.val, h⟩))
      else dval (d (ix2 r ⟨l.val - 256, by omega⟩)) (g (ix2 r ⟨l.val - 256, by omega⟩)) := by
  unfold dgate dval sg
  pointwise [k0_pay8]
  simp only [LnRow.zero_sub_e]

theorem pay_9 (g : FVec Ideal S2048x256 .f32) (d : Vec Ideal S2048x256 .f32) (x : FVec Ideal S2048x256 .f32) (w2 w1 : Vec Ideal S1x512 .f32) (i : Fin 2048) (l : Fin 512) :
    k0_pay9 (iota Kind.tc S2048x512 32 [0] iota_S2048x512_d0_w32) g d x w2 w1 (ix2 i l)
      = w2 (ix2 0 l) * k0_pay8 g d x (ix2 i l) + w1 (ix2 0 l) * fore 1 (fun n => k0_pay8 g d x (ix2 n l)) i := by
  pointwise [k0_pay9]
  exact congrArg₂ (· + ·) rfl (mul_sel_fore 1 (by omega) (by omega) _ (fun n => k0_pay8 g d x (ix2 n l)) i _)

theorem pay_12 (D e : FVec Ideal S2048x512 .f32) (w : Vec Ideal S1x512 .f32) (i : Fin 2048) (l : Fin 512) :
    k0_pay12 D e (k0_pay10 w) (k0_pay11 (iota Kind.tc S2048x512 32 [0] iota_S2048x512_d0_w32)) (ix2 i l)
      = e (ix2 i l) + w (ix2 0 l) * fore 2 (fun n => D (ix2 n l)) i := by
  pointwise [k0_pay12, k0_pay10, k0_pay11]
  exact congrArg₂ (· + ·) rfl (mul_sel_fore 2 (by omega) (by omega) _ (fun n => D (ix2 n l)) i _)

/-- What one sequence adds to the sums of a channel with cotangent `D` and input `X`. -/
def part (D X : Seq) (j : Fin 8) : EReal :=
  if j.val = 0 then ∑ n, D n * back 2 X n else if j.val = 1 then ∑ n, D n * back 1 X n
  else if j.val = 2 then ∑ n, D n * X n else if j.val = 3 then ∑ n, D n else 0

theorem pay_1 (x : Vec Ideal S2048x512 .f32) (D : FVec Ideal S2048x512 .f32) (acc : Vec Ideal S8x512 .f32) (j : Fin 8) (l : Fin 512) :
    k0_pay1 (iota Kind.tc S8x512 32 [0] iota_S8x512_d0_w32) (k0_pay13 D) (k0_pay14 acc) (k0_pay15 x (k0_pay3 x) (k0_pay4 x) D) 3#32 (ix2 j l)
      = acc (ix2 j l) + part (fun n => D (ix2 n l)) (fun n => x (ix2 n l)) j := by
  unfold part
  pointwise [k0_pay1, k0_pay13, k0_pay14, k0_pay15]
  simp only [pay_3, pay_4]
  have e : ∀ (k : ℕ) (hk : k < 8) (v : EReal), Scalar.select (IntOp.cmpi CmpIPredicate.eq (BitVec.ofNat 32 j.val) (BitVec.ofNat 32 k)) v 0 = if j.val = k then v else 0 := by
    intro k hk v
    rw [Scalar.select_def]
    exact if_congr (WordCmp.cmpi_eq_ofNat_eq_one_iff (by omega) (by omega)) rfl rfl
  rw [e 0 (by omega), e 1 (by omega), e 2 (by omega), e 3 (by omega)]
  refine congrArg (_ + ·) ?_
  by_cases h0 : j.val = 0
  · rw [if_pos h0, if_neg (by omega), if_neg (by omega), if_neg (by omega), if_pos h0, add_zero, add_zero, add_zero]
  by_cases h1 : j.val = 1
  · rw [if_neg h0, if_pos h1, if_neg (by omega), if_neg (by omega), if_neg h0, if_pos h1, zero_add, add_zero, add_zero]
  by_cases h2 : j.val = 2
  · rw [if_neg h0, if_neg h1, if_pos h2, if_neg (by omega), if_neg h0, if_neg h1, if_pos h2, zero_add, zero_add, add_zero]
  · rw [if_neg h0, if_neg h1, if_neg h2, if_neg h0, if_neg h1, if_neg h2, zero_add, zero_add, zero_add]

theorem idx_val : ∀ t : Fin cfg0.N, win0_0.index t = ![t.val % 4, t.val / 4]
    ∧ win0_1.index t = ![t.val % 4, t.val / 4]
    ∧ win0_2.index t = ![0, t.val / 4]
    ∧ win0_3.index t = ![0, t.val / 4]
    ∧ win0_4.index t = ![t.val % 4, t.val / 4]
    ∧ win0_5.index t = ![0, t.val / 4] :=
  (by decide +kernel : ∀ t : Fin grid0.N, _)

/-- The tile of a point. -/
theorem tile_lt (t : Fin cfg0.N) : t.val / 4 < 11 := by
  have := lt_of_lt_of_eq t.isLt N_0
  omega

theorem read_x (c : Dev nD) (t : Fin cfg0.N) (i : Fin 2048) (l : Fin 512) :
    iblk m c 0 t (ix2 i l) = m ((c : Thread nD τ).loc main_arg0) (ix2 (rowOf (t.val % 4) (by omega) i) ⟨t.val / 4 * 512 + l.val, by have := tile_lt t; omega⟩) := by
  blk_point [iblk, V, idx_val t]

theorem read_w (c : Dev nD) (t : Fin cfg0.N) (a : Fin 3) (l : Fin 512) :
    iblk m c 2 t (ix2 a l) = m ((c : Thread nD τ).loc main_arg2) (ix2 a (chan (t.val / 4) (tile_lt t) l)) := by
  blk_simp [iblk, idx_val t]
  entry_read
  have h : (win0_2.blk t).view.emb (ix2 a l) = ix2 a (⟨t.val / 4 * 512 + l.val, by have := tile_lt t; omega⟩ : Fin 5632) := by blk_ext [idx_val t]
  rw [show ((View.whole main_v2).slice (win0_2.rect t)).emb (ix2 a l) = _ from h]
  pointwise
  have := tile_lt t
  exact congrArg (m ((c : Thread nD τ).loc main_arg2)) (congrArg (ix2 a) (Fin.ext (by
    show (t.val / 4 * 512 + l.val) / 256 % 2 * 2816 + (t.val / 4 * 512 + l.val) / 512 * 256 + (t.val / 4 * 512 + l.val) % 256 = l.val / 256 * 2816 + t.val / 4 * 256 + l.val % 256
    omega)))

theorem read_b (c : Dev nD) (t : Fin cfg0.N) (l : Fin 512) :
    iblk m c 3 t (ix2 0 l) = m ((c : Thread nD τ).loc main_arg3) (ix1 (chan (t.val / 4) (tile_lt t) l)) := by
  blk_simp [iblk, idx_val t]
  entry_read
  have h : (win0_3.blk t).view.emb (ix2 0 l) = ix2 0 (⟨t.val / 4 * 512 + l.val, by have := tile_lt t; omega⟩ : Fin 5632) := by blk_ext [idx_val t]
  rw [show ((View.whole main_v6).slice (win0_3.rect t)).emb (ix2 0 l) = _ from h]
  pointwise
  have := tile_lt t
  exact congrArg (m ((c : Thread nD τ).loc main_arg3)) (congrArg ix1 (Fin.ext (by
    show (t.val / 4 * 512 + l.val) / 256 % 2 * 2816 + (t.val / 4 * 512 + l.val) / 512 * 256 + (t.val / 4 * 512 + l.val) % 256 = l.val / 256 * 2816 + t.val / 4 * 256 + l.val % 256
    omega)))

theorem read_d (c : Dev nD) (t : Fin cfg0.N) (i : Fin 2048) (q : Fin 256) :
    iblk m c 1 t (ix2 i q) = m ((c : Thread nD τ).loc main_arg1) (ix2 (rowOf (t.val % 4) (by omega) i) ⟨t.val / 4 * 256 + q.val, by have := tile_lt t; omega⟩) := by
  blk_point [iblk, V, idx_val t]

/-- The column of a channel. -/
abbrev colOf (k : Fin 5632) : Fin 5632 := ⟨k.val % 2816 / 256 * 512 + k.val / 2816 * 256 + k.val % 256, by omega⟩

/-- The channel of a column. -/
abbrev chanOf (k : Fin 5632) : Fin 5632 := ⟨k.val / 256 % 2 * 2816 + k.val / 512 * 256 + k.val % 256, by omega⟩

/-- A channel of one sequence of the input. -/
def XS (x : FVec Ideal S8192x5632 .f32) (b : Fin 4) (ch : Fin 5632) : Seq := fun n => x (ix2 (rowOf b.val b.isLt n) (colOf ch))

/-- The convolution of a channel of one sequence. -/
def CV (x : FVec Ideal S8192x5632 .f32) (w : FVec Ideal S3x5632 .f32) (o : FVec Ideal S5632 .f32) (b : Fin 4) (ch : Fin 5632) : Seq := fun i =>
  conv (w (ix2 0 ch)) (w (ix2 1 ch)) (w (ix2 2 ch)) (o (ix1 ch)) (XS x b ch) i

/-- The gradient by the convolution. -/
def DC (x : FVec Ideal S8192x5632 .f32) (d : FVec Ideal S8192x2816 .f32) (w : FVec Ideal S3x5632 .f32) (o : FVec Ideal S5632 .f32) (b : Fin 4) (ch : Fin 5632) : Seq := fun i =>
  if h : ch.val < 2816 then dgate (d (ix2 (rowOf b.val b.isLt i) ⟨ch.val, h⟩) * CV x w o b ⟨2816 + ch.val, by omega⟩ i) (CV x w o b ch i)
  else dval (d (ix2 (rowOf b.val b.isLt i) ⟨ch.val - 2816, by omega⟩)) (CV x w o b ⟨ch.val - 2816, by omega⟩ i)

/-- The gradient by the input. -/
def DU (x : FVec Ideal S8192x5632 .f32) (d : FVec Ideal S8192x2816 .f32) (w : FVec Ideal S3x5632 .f32) (o : FVec Ideal S5632 .f32) (b : Fin 4) (ch : Fin 5632) : Seq := fun i =>
  w (ix2 2 ch) * DC x d w o b ch i + w (ix2 1 ch) * fore 1 (DC x d w o b ch) i + w (ix2 0 ch) * fore 2 (DC x d w o b ch) i

/-- The gradient by the input, laid out. -/
def OUT (x : FVec Ideal S8192x5632 .f32) (d : FVec Ideal S8192x2816 .f32) (w : FVec Ideal S3x5632 .f32) (o : FVec Ideal S5632 .f32) : FVec Ideal S8192x5632 .bf16 := fun y =>
  DU x d w o ⟨(y 0).val / 2048, by have : (y 0).val < 8192 := (y 0).isLt; omega⟩ (chanOf (y 1)) ⟨(y 0).val % 2048, by omega⟩

/-- The sums, laid out. -/
def STATS (x : FVec Ideal S8192x5632 .f32) (d : FVec Ideal S8192x2816 .f32) (w : FVec Ideal S3x5632 .f32) (o : FVec Ideal S5632 .f32) : FVec Ideal S8x5632 .f32 := fun y =>
  ∑ b : Fin 4, part (DC x d w o b (chanOf (y 1))) (XS x b (chanOf (y 1))) (y 0)

/-- The block of gradients at a point. -/
abbrev DB (c : Dev nD) (t : Fin cfg0.N) : FVec Ideal S2048x512 .f32 :=
  k0_pay8 (k0_pay6 (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0))) (iblk m c 1 t) (k0_pay7 (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0)) (iblk m c 1 t))

/-- The sequence of a point. -/
abbrev seqOf (t : Fin cfg0.N) : Fin 4 := ⟨t.val % 4, by omega⟩

theorem col_chan (j : ℕ) (hj : j < 11) (l : Fin 512) : colOf (chan j hj l) = ⟨j * 512 + l.val, by omega⟩ :=
  Fin.ext (by show (l.val / 256 * 2816 + j * 256 + l.val % 256) % 2816 / 256 * 512 + (l.val / 256 * 2816 + j * 256 + l.val % 256) / 2816 * 256 + (l.val / 256 * 2816 + j * 256 + l.val % 256) % 256 = j * 512 + l.val; omega)

theorem chan_col (j : ℕ) (hj : j < 11) (l : Fin 512) : chanOf ⟨j * 512 + l.val, by omega⟩ = chan j hj l :=
  Fin.ext (by show (j * 512 + l.val) / 256 % 2 * 2816 + (j * 512 + l.val) / 512 * 256 + (j * 512 + l.val) % 256 = l.val / 256 * 2816 + j * 256 + l.val % 256; omega)

theorem read_xs (c : Dev nD) (t : Fin cfg0.N) (i : Fin 2048) (l : Fin 512) :
    iblk m c 0 t (ix2 i l) = XS (m ((c : Thread nD τ).loc main_arg0)) (seqOf t) (chan (t.val / 4) (tile_lt t) l) i := by
  rw [read_x]
  unfold XS
  rw [col_chan]

theorem read_conv (c : Dev nD) (t : Fin cfg0.N) (i : Fin 2048) (l : Fin 512) :
    k0_pay5 (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0)) (ix2 i l) = CV (m ((c : Thread nD τ).loc main_arg0)) (m ((c : Thread nD τ).loc main_arg2)) (m ((c : Thread nD τ).loc main_arg3)) (seqOf t) (chan (t.val / 4) (tile_lt t) l) i := by
  have l2 : View.ld (iblk m c 2 t) (Rect.unit ![2, 0] ![1, 512] inb_S3x512_S1x512_2_0) (ix2 0 l) = iblk m c 2 t (ix2 2 l) := by pointwise
  have l3 : View.ld (iblk m c 2 t) (Rect.unit ![1, 0] ![1, 512] inb_S3x512_S1x512_1_0) (ix2 0 l) = iblk m c 2 t (ix2 1 l) := by pointwise
  have l4 : View.ld (iblk m c 2 t) (Rect.unit ![0, 0] ![1, 512] inb_S3x512_S1x512_0_0) (ix2 0 l) = iblk m c 2 t (ix2 0 l) := by pointwise
  rw [pay_5, l2, l3, l4, read_w, read_w, read_w, read_b]
  unfold CV
  exact congrArg (fun z => conv _ _ _ _ z i) (funext fun n => read_xs m c t n l)

theorem read_D (c : Dev nD) (t : Fin cfg0.N) (i : Fin 2048) (l : Fin 512) :
    DB m c t (ix2 i l) = DC (m ((c : Thread nD τ).loc main_arg0)) (m ((c : Thread nD τ).loc main_arg1)) (m ((c : Thread nD τ).loc main_arg2)) (m ((c : Thread nD τ).loc main_arg3)) (seqOf t) (chan (t.val / 4) (tile_lt t) l) i := by
  have ht := tile_lt t
  unfold DB DC
  rw [pay_8]
  by_cases h : l.val < 256
  · have h2 : (chan (t.val / 4) ht l).val < 2816 := by show l.val / 256 * 2816 + t.val / 4 * 256 + l.val % 256 < 2816; omega
    rw [dif_pos h, dif_pos h2, pay_6, pay_7, read_conv, read_conv, read_d]
    have e1 : (⟨t.val / 4 * 256 + l.val, by omega⟩ : Fin 2816) = ⟨(chan (t.val / 4) ht l).val, h2⟩ := Fin.ext (by show t.val / 4 * 256 + l.val = l.val / 256 * 2816 + t.val / 4 * 256 + l.val % 256; omega)
    have e2 : chan (t.val / 4) ht ⟨256 + l.val, by omega⟩ = ⟨2816 + (chan (t.val / 4) ht l).val, by omega⟩ := Fin.ext (by show (256 + l.val) / 256 * 2816 + t.val / 4 * 256 + (256 + l.val) % 256 = 2816 + (l.val / 256 * 2816 + t.val / 4 * 256 + l.val % 256); omega)
    simp only [e1, e2]
  · have h2 : ¬(chan (t.val / 4) ht l).val < 2816 := by show ¬(l.val / 256 * 2816 + t.val / 4 * 256 + l.val % 256 < 2816); omega
    rw [dif_neg h, dif_neg h2, pay_6, read_conv, read_d]
    have e1 : (⟨t.val / 4 * 256 + (l.val - 256), by omega⟩ : Fin 2816) = ⟨(chan (t.val / 4) ht l).val - 2816, by omega⟩ := Fin.ext (by show t.val / 4 * 256 + (l.val - 256) = l.val / 256 * 2816 + t.val / 4 * 256 + l.val % 256 - 2816; omega)
    have e2 : chan (t.val / 4) ht ⟨l.val - 256, by omega⟩ = ⟨(chan (t.val / 4) ht l).val - 2816, by omega⟩ := Fin.ext (by show (l.val - 256) / 256 * 2816 + t.val / 4 * 256 + (l.val - 256) % 256 = l.val / 256 * 2816 + t.val / 4 * 256 + l.val % 256 - 2816; omega)
    simp only [e1, e2]

theorem point_4 (c : Dev nD) (t : Fin cfg0.N) (i : Fin 2048) (l : Fin 512) :
    k0_pay12 (DB m c t)
      (k0_pay9 (iota Kind.tc S2048x512 32 [0] iota_S2048x512_d0_w32) (k0_pay6 (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0))) (iblk m c 1 t) (k0_pay7 (iblk m c 0 t) (iblk m c 3 t)
      (View.ld (iblk m c 2 t) (Rect.unit ![2, 0] ![1, 512] inb_S3x512_S1x512_2_0))
      (View.ld (iblk m c 2 t) (Rect.unit ![1, 0] ![1, 512] inb_S3x512_S1x512_1_0))
      (View.ld (iblk m c 2 t) (Rect.unit ![0, 0] ![1, 512] inb_S3x512_S1x512_0_0)) (iblk m c 1 t))
        (View.ld (iblk m c 2 t) (Rect.unit ![2, 0] ![1, 512] inb_S3x512_S1x512_2_0))
        (View.ld (iblk m c 2 t) (Rect.unit ![1, 0] ![1, 512] inb_S3x512_S1x512_1_0)))
      (k0_pay10 (View.ld (iblk m c 2 t) (Rect.unit ![0, 0] ![1, 512] inb_S3x512_S1x512_0_0)))
      (k0_pay11 (iota Kind.tc S2048x512 32 [0] iota_S2048x512_d0_w32)) (ix2 i l)
      = DU (m ((c : Thread nD τ).loc main_arg0)) (m ((c : Thread nD τ).loc main_arg1)) (m ((c : Thread nD τ).loc main_arg2)) (m ((c : Thread nD τ).loc main_arg3)) (seqOf t) (chan (t.val / 4) (tile_lt t) l) i := by
  have l2 : View.ld (iblk m c 2 t) (Rect.unit ![2, 0] ![1, 512] inb_S3x512_S1x512_2_0) (ix2 0 l) = iblk m c 2 t (ix2 2 l) := by pointwise
  have l3 : View.ld (iblk m c 2 t) (Rect.unit ![1, 0] ![1, 512] inb_S3x512_S1x512_1_0) (ix2 0 l) = iblk m c 2 t (ix2 1 l) := by pointwise
  have l4 : View.ld (iblk m c 2 t) (Rect.unit ![0, 0] ![1, 512] inb_S3x512_S1x512_0_0) (ix2 0 l) = iblk m c 2 t (ix2 0 l) := by pointwise
  have hD : (fun n => DB m c t (ix2 n l)) = DC (m ((c : Thread nD τ).loc main_arg0)) (m ((c : Thread nD τ).loc main_arg1)) (m ((c : Thread nD τ).loc main_arg2)) (m ((c : Thread nD τ).loc main_arg3)) (seqOf t) (chan (t.val / 4) (tile_lt t) l) := funext fun n => read_D m c t n l
  rw [pay_12, pay_9, l2, l3, l4, read_w, read_w, read_w]
  have h0 := read_D m c t i l
  unfold DB at hD h0
  unfold DB DU
  rw [hD, h0]

theorem emb_4 (t : Fin cfg0.N) (i : Fin 2048) (l : Fin 512) :
    ((cfg0.win 4).blk t).view.emb (ix2 i l) = ix2 (rowOf (t.val % 4) (by omega) i) (⟨t.val / 4 * 512 + l.val, by have := tile_lt t; omega⟩ : Fin 5632) := by
  blk_ext [idx_val t]

theorem out_at (x : FVec Ideal S8192x5632 .f32) (d : FVec Ideal S8192x2816 .f32) (w : FVec Ideal S3x5632 .f32) (o : FVec Ideal S5632 .f32)
    (b : Fin 4) (j : ℕ) (hj : j < 11) (i : Fin 2048) (l : Fin 512) :
    OUT x d w o (ix2 (rowOf b.val b.isLt i) ⟨j * 512 + l.val, by omega⟩) = DU x d w o b (chan j hj l) i := by
  show DU x d w o ⟨(b.val * 2048 + i.val) / 2048, _⟩ (chanOf ⟨j * 512 + l.val, _⟩) ⟨(b.val * 2048 + i.val) % 2048, _⟩ = _
  rw [chan_col j hj l]
  have e1 : (⟨(b.val * 2048 + i.val) / 2048, by omega⟩ : Fin 4) = b := Fin.ext (by show (b.val * 2048 + i.val) / 2048 = b.val; omega)
  have e2 : (⟨(b.val * 2048 + i.val) % 2048, by omega⟩ : Fin 2048) = i := Fin.ext (by show (b.val * 2048 + i.val) % 2048 = i.val; omega)
  rw [e1, e2]

theorem final_4 (c : Dev nD) : (dats m 0 c).arrAt 4 (cfgs 0).N = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 4 = 0
  · rw [outsAt0_A m c t h]; frame_out
    idx_vars y
    refine Eq.trans ?_ (congrArg (OUT _ _ _ _) (emb_4 t y0 y1)).symm
    exact (point_4 m c t y0 y1).trans (out_at _ _ _ _ (seqOf t) _ (tile_lt t) y0 y1).symm
  · rw [outsAt0_B m c t h]; frame_out
    idx_vars y
    refine Eq.trans ?_ (congrArg (OUT _ _ _ _) (emb_4 t y0 y1)).symm
    exact (point_4 m c t y0 y1).trans (out_at _ _ _ _ (seqOf t) _ (tile_lt t) y0 y1).symm

theorem point_5 (c : Dev nD) (t : Fin cfg0.N) (acc : Vec Ideal S8x512 .f32) (j : S8x512.Idx) :
    k0_pay1 (iota Kind.tc S8x512 32 [0] iota_S8x512_d0_w32) (k0_pay13 (DB m c t)) (k0_pay14 acc)
      (k0_pay15 (iblk m c 0 t) (k0_pay3 (iblk m c 0 t)) (k0_pay4 (iblk m c 0 t)) (DB m c t)) 3#32 j
      = acc j + part (DC (m ((c : Thread nD τ).loc main_arg0)) (m ((c : Thread nD τ).loc main_arg1)) (m ((c : Thread nD τ).loc main_arg2)) (m ((c : Thread nD τ).loc main_arg3)) (seqOf t) (chan (t.val / 4) (tile_lt t) (j 1))) (XS (m ((c : Thread nD τ).loc main_arg0)) (seqOf t) (chan (t.val / 4) (tile_lt t) (j 1))) (j 0) := by
  idx_vars j
  rw [pay_1]
  have hD : (fun n => DB m c t (ix2 n j1)) = DC (m ((c : Thread nD τ).loc main_arg0)) (m ((c : Thread nD τ).loc main_arg1)) (m ((c : Thread nD τ).loc main_arg2)) (m ((c : Thread nD τ).loc main_arg3)) (seqOf t) (chan (t.val / 4) (tile_lt t) j1) := funext fun n => read_D m c t n j1
  have hX : (fun n => iblk m c 0 t (ix2 n j1)) = XS (m ((c : Thread nD τ).loc main_arg0)) (seqOf t) (chan (t.val / 4) (tile_lt t) j1) := funext fun n => read_xs m c t n j1
  exact congrArg₂ (fun p q => acc (ix2 j0 j1) + part p q j0) hD hX

theorem emb_5 (t : Fin cfg0.N) (i : Fin 8) (l : Fin 512) :
    ((cfg0.win 5).blk t).view.emb (ix2 i l) = ix2 i (⟨t.val / 4 * 512 + l.val, by have := tile_lt t; omega⟩ : Fin 5632) := by
  blk_ext [idx_val t]

theorem final_5 (c : Dev nD) : (dats m 0 c).arrAt 5 (cfgs 0).N = STATS (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0)
    (fun t j => part (DC (m ((c : Thread nD τ).loc main_arg0)) (m ((c : Thread nD τ).loc main_arg1)) (m ((c : Thread nD τ).loc main_arg2)) (m ((c : Thread nD τ).loc main_arg3)) (seqOf t) (chan (t.val / 4) (tile_lt t) (j 1))) (XS (m ((c : Thread nD τ).loc main_arg0)) (seqOf t) (chan (t.val / 4) (tile_lt t) (j 1))) (j 0))
    (fun t h j => by
      rw [outsAt0_A m c t h]; frame_out
      refine (point_5 m c t (k0_pay2 (F := Ideal)) j).trans (congrArg (· + _) ?_)
      pointwise [k0_pay2])
    (fun t h j => by
      rw [outsAt0_B m c t h]; frame_out
      exact point_5 m c t _ j)
    t ((flush0_5 t).mp hf) _, zero_add]
  idx_vars y
  refine Eq.trans ?_ (congrArg (STATS _ _ _ _) (emb_5 t y0 y1)).symm
  have ht := tile_lt t
  show _ = ∑ b : Fin 4, part (DC (m ((c : Thread nD τ).loc main_arg0)) (m ((c : Thread nD τ).loc main_arg1)) (m ((c : Thread nD τ).loc main_arg2)) (m ((c : Thread nD τ).loc main_arg3)) b (chanOf ⟨t.val / 4 * 512 + y1.val, _⟩)) (XS (m ((c : Thread nD τ).loc main_arg0)) b (chanOf ⟨t.val / 4 * 512 + y1.val, _⟩)) y0
  rw [chan_col _ ht]
  refine Finset.sum_congr rfl fun b _ => ?_
  have e1 : seqOf ⟨4 * (t.val / 4) + b.val, by exact lt_of_lt_of_eq (by omega : 4 * (t.val / 4) + b.val < 44) N_0.symm⟩ = b := Fin.ext (by show (4 * (t.val / 4) + b.val) % 4 = b.val; omega)
  have e2 : chan ((4 * (t.val / 4) + b.val) / 4) (by omega) y1 = chan (t.val / 4) ht y1 := Fin.ext (by show y1.val / 256 * 2816 + (4 * (t.val / 4) + b.val) / 4 * 256 + y1.val % 256 = y1.val / 256 * 2816 + t.val / 4 * 256 + y1.val % 256; omega)
  exact (congrArg₂ (fun p q => part (DC _ _ _ _ p q) (XS _ p q) y0) e1 e2)

end Cert.GluIdeal.Tie

end
-- ==== Proof.GluGrad.lean ====
/- The gradient of the short convolution with its gate: the reference, entry by entry, and the claim. -/
module

public import proofs.«01_k».proof.Proof.Glu
public import proofs.«01_k».proof.Proof.Gen.GluRefIdeal.Run
public import proofs.«01_k».proof.Proof.Gen.Pre_glu_cotangent_finite

@[expose] public section

set_option maxRecDepth 16384

noncomputable section

open Idealize.ShloMosaic Idealize.ShloMosaic.TcCoe Idealize.SL.Sem
open Idealize.ShloMosaic.Pipeline (Dat)
open scoped BigOperators

namespace Cert.GluIdeal.Tie

open Cert.GluIdeal Cert.GluIdeal.Gen Cert.GluRow

variable (m : (ℓ : Loc nD τ sig) → Buf (Elt Ideal) ℓ)

open Cert.GluRefIdeal.Gen in
/-- The sequences with the channels in order. -/
def refX (x : FVec Ideal Cert.GluRefIdeal.S8192x5632 .f32) : FVec Ideal Cert.GluRefIdeal.S4x2048x5632 .f32 :=
  shapeCast _ (transpose Cert.GluRefIdeal.S4x2048x2x11x256 [0, 1, 3, 2, 4] (shapeCast _ x shapeCasts_S8192x5632_S4x2048x11x2x256) transposes_S4x2048x11x2x256_S4x2048x2x11x256_0_1_3_2_4) shapeCasts_S4x2048x2x11x256_S4x2048x5632

theorem refX_at (x : FVec Ideal Cert.GluRefIdeal.S8192x5632 .f32) (b : Fin 4) (i : Fin 2048) (k : Fin 5632) :
    refX x (ix3 b i k) = x (ix2 (rowOf b.val b.isLt i) (colOf k)) := by
  unfold refX
  pointwise
  exact congrArg x (congrArg (ix2 _) (Fin.ext (by
    show k.val / 256 % 11 * 512 + k.val / 2816 * 256 + k.val % 256 = k.val % 2816 / 256 * 512 + k.val / 2816 * 256 + k.val % 256
    omega)))

open Cert.GluRefIdeal.Gen in
/-- Two rows of zeros above. -/
def refCat (x : FVec Ideal Cert.GluRefIdeal.S4x2048x5632 .f32) : FVec Ideal Cert.GluRefIdeal.S4x2050x5632 .f32 :=
  concatenate Cert.GluRefIdeal.S4x2050x5632 1 [⟨Cert.GluRefIdeal.S4x2x5632, (broadcastInDim Cert.GluRefIdeal.S4x2x5632 ![] bcast_S_S4x2x5632 (constant Cert.GluRefIdeal.S_ .f32 0x00000000#32))⟩, ⟨Cert.GluRefIdeal.S4x2048x5632, x⟩] concatenates_S4x2x5632_S4x2048x5632_S4x2050x5632_d1

theorem refCat_at (x : FVec Ideal Cert.GluRefIdeal.S4x2048x5632 .f32) (b : Fin 4) (i : Fin 2050) (k : Fin 5632) :
    refCat x (ix3 b i k) = if h : 2 ≤ i.val then x (ix3 b ⟨i.val - 2, by omega⟩ k) else 0 := by
  unfold refCat
  pointwise
  by_cases h : i.val < 2
  · rw [dif_pos h, dif_neg (by omega)]
  · rw [dif_neg h, dif_pos (by omega)]

open Cert.GluRefIdeal.Gen in
/-- The convolution, as the reference writes it. -/
def refC (x : FVec Ideal Cert.GluRefIdeal.S4x2050x5632 .f32) (W : FVec Ideal Cert.GluRefIdeal.S3x5632 .f32) (B : FVec Ideal Cert.GluRefIdeal.S5632 .f32) : FVec Ideal Cert.GluRefIdeal.S4x2048x5632 .f32 :=
  addf (addf (addf (broadcastInDim Cert.GluRefIdeal.S4x2048x5632 ![0, 1, 2] bcast_S1x1x5632_S4x2048x5632_0_1_2 (broadcastInDim Cert.GluRefIdeal.S1x1x5632 ![2] bcast_S5632_S1x1x5632_2 B)) (mulf (extractStridedSlice Cert.GluRefIdeal.S4x2048x5632 ![0, 0, 0] x slices_S4x2050x5632_S4x2048x5632_0_0_0) (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![0, 0] W slices_S3x5632_S1x5632_0_0) shapeCasts_S1x5632_S5632))))) (mulf (extractStridedSlice Cert.GluRefIdeal.S4x2048x5632 ![0, 1, 0] x slices_S4x2050x5632_S4x2048x5632_0_1_0) (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![1, 0] W slices_S3x5632_S1x5632_1_0) shapeCasts_S1x5632_S5632))))) (mulf (extractStridedSlice Cert.GluRefIdeal.S4x2048x5632 ![0, 2, 0] x slices_S4x2050x5632_S4x2048x5632_0_2_0) (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![2, 0] W slices_S3x5632_S1x5632_2_0) shapeCasts_S1x5632_S5632))))

theorem refC_at (x : FVec Ideal Cert.GluRefIdeal.S8192x5632 .f32) (W : FVec Ideal Cert.GluRefIdeal.S3x5632 .f32) (B : FVec Ideal Cert.GluRefIdeal.S5632 .f32)
    (b : Fin 4) (i : Fin 2048) (k : Fin 5632) :
    refC (refCat (refX x)) W B (ix3 b i k) = conv (W (ix2 0 k)) (W (ix2 1 k)) (W (ix2 2 k)) (B (ix1 k)) (fun n => x (ix2 (rowOf b.val b.isLt n) (colOf k))) i := by
  obtain ⟨X, hX⟩ : ∃ X, X = refX x := ⟨_, rfl⟩
  obtain ⟨Y, hY⟩ : ∃ Y, Y = refCat X := ⟨_, rfl⟩
  have h0 : ∀ (j : ℕ) (hj : j ≤ 2) (h : j + i.val < 2050), Y (ix3 b ⟨j + i.val, h⟩ k) = back (2 - j) (fun n => x (ix2 (rowOf b.val b.isLt n) (colOf k))) i := by
    intro j hj h
    rw [hY, refCat_at]
    unfold back
    by_cases hi : 2 ≤ j + i.val
    · rw [dif_pos hi, if_pos (by omega), hX, refX_at]
      exact congrArg (fun n => x (ix2 (rowOf b.val b.isLt n) (colOf k))) (Fin.ext (by show j + i.val - 2 = i.val - (2 - j); omega))
    · rw [dif_neg hi, if_neg (by omega)]
  have e0 := h0 0 (by omega) (by omega)
  have e1 := h0 1 (by omega) (by omega)
  have e2 := h0 2 (by omega) (by omega)
  have e3 : back 0 (fun n => x (ix2 (rowOf b.val b.isLt n) (colOf k))) i = x (ix2 (rowOf b.val b.isLt i) (colOf k)) := if_pos (Nat.zero_le _)
  rw [← hX, ← hY]
  unfold refC conv
  pointwise
  simp only [Nat.zero_add] at e0
  simp only [show 2 - 0 = 2 from rfl, show 2 - 1 = 1 from rfl, show 2 - 2 = 0 from rfl] at e0 e1 e2
  rw [e0, e1, e2, e3]
  simp only [mul_comm, add_comm, add_left_comm, add_assoc]

/-- The padded sequence, read at an offset. -/
theorem cat_off (x : FVec Ideal Cert.GluRefIdeal.S8192x5632 .f32) (b : Fin 4) (i : Fin 2048) (k : Fin 5632) (j : ℕ) (hj : j ≤ 2) (h : j + i.val < 2050) :
    refCat (refX x) (ix3 b ⟨j + i.val, h⟩ k) = back (2 - j) (XS x b k) i := by
  rw [refCat_at]
  unfold back XS
  by_cases hi : 2 ≤ j + i.val
  · rw [dif_pos hi, if_pos (by omega), refX_at]
    exact congrArg (fun n => x (ix2 (rowOf b.val b.isLt n) (colOf k))) (Fin.ext (by show j + i.val - 2 = i.val - (2 - j); omega))
  · rw [dif_neg hi, if_neg (by omega)]

theorem cat_off' (x : FVec Ideal Cert.GluRefIdeal.S8192x5632 .f32) (b : Fin 4) (i : Fin 2048) (k : Fin 5632) (h : i.val < 2050) :
    refCat (refX x) (ix3 b ⟨i.val, h⟩ k) = back 2 (XS x b k) i := by
  refine Eq.trans (congrArg (fun n => refCat (refX x) (ix3 b n k)) (Fin.ext ?_)) (cat_off x b i k 0 (by omega) (by omega))
  exact (Nat.zero_add _).symm

open Cert.GluRefIdeal.Gen in
/-- The gradient by the convolution, as the reference writes it. -/
def refD (C : FVec Ideal Cert.GluRefIdeal.S4x2048x5632 .f32) (A1 : FVec Ideal Cert.GluRefIdeal.S8192x2816 .f32) : FVec Ideal Cert.GluRefIdeal.S4x2048x5632 .f32 :=
  (addf (pad Cert.GluRefIdeal.S4x2048x5632 ![0, 0, 2816] ![0, 0, 0] ![0, 0, 0] (mulf (mulf (extractStridedSlice Cert.GluRefIdeal.S4x2048x2816 ![0, 0, 0] C slices_S4x2048x5632_S4x2048x2816_0_0_0) (Host.divf (broadcastInDim Cert.GluRefIdeal.S4x2048x2816 ![] bcast_S_S4x2048x2816 (constant Cert.GluRefIdeal.S_ .f32 0x3F800000#32)) (addf (broadcastInDim Cert.GluRefIdeal.S4x2048x2816 ![] bcast_S_S4x2048x2816 (constant Cert.GluRefIdeal.S_ .f32 0x3F800000#32)) (Host.exp (Host.negf (extractStridedSlice Cert.GluRefIdeal.S4x2048x2816 ![0, 0, 0] C slices_S4x2048x5632_S4x2048x2816_0_0_0)))))) (shapeCast _ A1 shapeCasts_S8192x2816_S4x2048x2816)) (constant Cert.GluRefIdeal.S_ .f32 0x00000000#32) pads_S4x2048x2816_S4x2048x5632_000_000_281600 Cert.GluRefIdeal.Gen.h_S_) (pad Cert.GluRefIdeal.S4x2048x5632 ![0, 0, 0] ![0, 0, 2816] ![0, 0, 0] (addf (mulf (mulf (shapeCast _ A1 shapeCasts_S8192x2816_S4x2048x2816) (extractStridedSlice Cert.GluRefIdeal.S4x2048x2816 ![0, 0, 2816] C slices_S4x2048x5632_S4x2048x2816_0_0_2816)) (Host.divf (broadcastInDim Cert.GluRefIdeal.S4x2048x2816 ![] bcast_S_S4x2048x2816 (constant Cert.GluRefIdeal.S_ .f32 0x3F800000#32)) (addf (broadcastInDim Cert.GluRefIdeal.S4x2048x2816 ![] bcast_S_S4x2048x2816 (constant Cert.GluRefIdeal.S_ .f32 0x3F800000#32)) (Host.exp (Host.negf (extractStridedSlice Cert.GluRefIdeal.S4x2048x2816 ![0, 0, 0] C slices_S4x2048x5632_S4x2048x2816_0_0_0)))))) (mulf (mulf (extractStridedSlice Cert.GluRefIdeal.S4x2048x2816 ![0, 0, 0] C slices_S4x2048x5632_S4x2048x2816_0_0_0) (mulf (shapeCast _ A1 shapeCasts_S8192x2816_S4x2048x2816) (extractStridedSlice Cert.GluRefIdeal.S4x2048x2816 ![0, 0, 2816] C slices_S4x2048x5632_S4x2048x2816_0_0_2816))) (mulf (Host.divf (broadcastInDim Cert.GluRefIdeal.S4x2048x2816 ![] bcast_S_S4x2048x2816 (constant Cert.GluRefIdeal.S_ .f32 0x3F800000#32)) (addf (broadcastInDim Cert.GluRefIdeal.S4x2048x2816 ![] bcast_S_S4x2048x2816 (constant Cert.GluRefIdeal.S_ .f32 0x3F800000#32)) (Host.exp (Host.negf (extractStridedSlice Cert.GluRefIdeal.S4x2048x2816 ![0, 0, 0] C slices_S4x2048x5632_S4x2048x2816_0_0_0))))) (subf (broadcastInDim Cert.GluRefIdeal.S4x2048x2816 ![] bcast_S_S4x2048x2816 (constant Cert.GluRefIdeal.S_ .f32 0x3F800000#32)) (Host.divf (broadcastInDim Cert.GluRefIdeal.S4x2048x2816 ![] bcast_S_S4x2048x2816 (constant Cert.GluRefIdeal.S_ .f32 0x3F800000#32)) (addf (broadcastInDim Cert.GluRefIdeal.S4x2048x2816 ![] bcast_S_S4x2048x2816 (constant Cert.GluRefIdeal.S_ .f32 0x3F800000#32)) (Host.exp (Host.negf (extractStridedSlice Cert.GluRefIdeal.S4x2048x2816 ![0, 0, 0] C slices_S4x2048x5632_S4x2048x2816_0_0_0))))))))) (constant Cert.GluRefIdeal.S_ .f32 0x00000000#32) pads_S4x2048x2816_S4x2048x5632_000_000_028160 Cert.GluRefIdeal.Gen.h_S_))

theorem refD_at (C : FVec Ideal Cert.GluRefIdeal.S4x2048x5632 .f32) (A1 : FVec Ideal Cert.GluRefIdeal.S8192x2816 .f32) (b : Fin 4) (i : Fin 2048) (k : Fin 5632) :
    refD C A1 (ix3 b i k) = if h : k.val < 2816 then
      rgate (A1 (ix2 (rowOf b.val b.isLt i) ⟨k.val, h⟩) * C (ix3 b i ⟨2816 + k.val, by omega⟩)) (C (ix3 b i k))
      else dval (A1 (ix2 (rowOf b.val b.isLt i) ⟨k.val - 2816, by omega⟩)) (C (ix3 b i ⟨k.val - 2816, by omega⟩)) := by
  unfold refD rgate dval sg
  pointwise
  by_cases h : k.val < 2816
  · rw [dif_neg (by omega), dif_pos (by omega), dif_pos h, zero_add]
  · rw [dif_pos (by omega), dif_neg (by omega), dif_neg h, add_zero]
    exact mul_comm _ _

open Cert.GluRefIdeal.Gen in
/-- The gradient by the padded input, as the reference writes it. -/
def refPad (D : FVec Ideal Cert.GluRefIdeal.S4x2048x5632 .f32) (W : FVec Ideal Cert.GluRefIdeal.S3x5632 .f32) : FVec Ideal Cert.GluRefIdeal.S4x2048x5632 .f32 :=
  (extractStridedSlice Cert.GluRefIdeal.S4x2048x5632 ![0, 2, 0] (addf (addf (pad Cert.GluRefIdeal.S4x2050x5632 ![0, 2, 0] ![0, 0, 0] ![0, 0, 0] (mulf D (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![2, 0] W slices_S3x5632_S1x5632_2_0) shapeCasts_S1x5632_S5632)))) (constant Cert.GluRefIdeal.S_ .f32 0x00000000#32) pads_S4x2048x5632_S4x2050x5632_000_200_000 Cert.GluRefIdeal.Gen.h_S_) (pad Cert.GluRefIdeal.S4x2050x5632 ![0, 1, 0] ![0, 1, 0] ![0, 0, 0] (mulf D (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![1, 0] W slices_S3x5632_S1x5632_1_0) shapeCasts_S1x5632_S5632)))) (constant Cert.GluRefIdeal.S_ .f32 0x00000000#32) pads_S4x2048x5632_S4x2050x5632_000_110_000 Cert.GluRefIdeal.Gen.h_S_)) (pad Cert.GluRefIdeal.S4x2050x5632 ![0, 0, 0] ![0, 2, 0] ![0, 0, 0] (mulf D (broadcastInDim Cert.GluRefIdeal.S4x2048x5632 ![0, 1, 2] bcast_S1x1x5632_S4x2048x5632_0_1_2 (broadcastInDim Cert.GluRefIdeal.S1x1x5632 ![2] bcast_S5632_S1x1x5632_2 (shapeCast _ (extractStridedSlice Cert.GluRefIdeal.S1x5632 ![0, 0] W slices_S3x5632_S1x5632_0_0) shapeCasts_S1x5632_S5632)))) (constant Cert.GluRefIdeal.S_ .f32 0x00000000#32) pads_S4x2048x5632_S4x2050x5632_000_020_000 Cert.GluRefIdeal.Gen.h_S_)) slices_S4x2050x5632_S4x2048x5632_0_2_0)

theorem refPad_at (D : FVec Ideal Cert.GluRefIdeal.S4x2048x5632 .f32) (W : FVec Ideal Cert.GluRefIdeal.S3x5632 .f32) (b : Fin 4) (i : Fin 2048) (q : Fin 5632) :
    refPad D W (ix3 b i q) = W (ix2 2 q) * D (ix3 b i q) + W (ix2 1 q) * fore 1 (fun n => D (ix3 b n q)) i + W (ix2 0 q) * fore 2 (fun n => D (ix3 b n q)) i := by
  unfold refPad
  pointwise
  unfold fore
  refine congrArg₂ (· + ·) (congrArg₂ (· + ·) ?_ ?_) ?_
  · exact mul_comm _ _
  · by_cases hi : i.val + 1 < 2048
    · rw [dif_pos (by omega), dif_pos hi, mul_comm]
      exact congrArg (fun n => W (ix2 1 q) * D (ix3 b n q)) (Fin.ext (by show 2 + i.val - 1 = i.val + 1; omega))
    · rw [dif_neg (by omega), dif_neg hi, mul_zero]
  · by_cases hi : i.val + 2 < 2048
    · rw [dif_pos (by omega), dif_pos hi, mul_comm]
      exact congrArg (fun n => W (ix2 0 q) * D (ix3 b n q)) (Fin.ext (by show 2 + i.val = i.val + 2; omega))
    · rw [dif_neg (by omega), dif_neg hi, mul_zero]

open Cert.GluRefIdeal.Gen in
/-- The gradient by the input, laid out and rounded. -/
def layPad (Z : FVec Ideal Cert.GluRefIdeal.S4x2048x5632 .f32) : FVec Ideal Cert.GluRefIdeal.S8192x5632 .bf16 :=
  truncf .bf16 (shapeCast _ (transpose Cert.GluRefIdeal.S4x2048x11x2x256 [0, 1, 3, 2, 4] (shapeCast _ Z shapeCasts_S4x2048x5632_S4x2048x2x11x256) transposes_S4x2048x2x11x256_S4x2048x11x2x256_0_1_3_2_4) shapeCasts_S4x2048x11x2x256_S8192x5632) Cert.GluRefIdeal.Gen.bitsLt_bf16_f32

theorem layPad_at (Z : FVec Ideal Cert.GluRefIdeal.S4x2048x5632 .f32) (r : Fin 8192) (k : Fin 5632) :
    layPad Z (ix2 r k) = Z (ix3 ⟨r.val / 2048, by omega⟩ ⟨r.val % 2048, by omega⟩ (chanOf k)) := by
  unfold layPad
  pointwise

/-- The gradient by the input, as the reference writes it. -/
def refU (D : FVec Ideal Cert.GluRefIdeal.S4x2048x5632 .f32) (W : FVec Ideal Cert.GluRefIdeal.S3x5632 .f32) : FVec Ideal Cert.GluRefIdeal.S8192x5632 .bf16 := layPad (refPad D W)

theorem refU_at (D : FVec Ideal Cert.GluRefIdeal.S4x2048x5632 .f32) (W : FVec Ideal Cert.GluRefIdeal.S3x5632 .f32) (r : Fin 8192) (k : Fin 5632) (b : Fin 4) (i : Fin 2048) (h1 : r.val / 2048 = b.val) (h2 : r.val % 2048 = i.val) :
    refU D W (ix2 r k) = W (ix2 2 (chanOf k)) * D (ix3 b i (chanOf k)) + W (ix2 1 (chanOf k)) * fore 1 (fun n => D (ix3 b n (chanOf k))) i + W (ix2 0 (chanOf k)) * fore 2 (fun n => D (ix3 b n (chanOf k))) i := by
  have hb : (⟨r.val / 2048, by omega⟩ : Fin 4) = b := Fin.ext h1
  have hi : (⟨r.val % 2048, by omega⟩ : Fin 2048) = i := Fin.ext h2
  refine (layPad_at _ r k).trans ?_
  rw [hb, hi]
  exact refPad_at D W b i (chanOf k)

open Cert.GluRefIdeal.Gen in
/-- The sum over sequences and positions, as the reference takes it. -/
def refRed (Z : FVec Ideal Cert.GluRefIdeal.S4x2048x5632 .f32) : FVec Ideal Cert.GluRefIdeal.S5632 .f32 :=
  (Host.reduceAdd (shapeCast _ (Host.reduceAdd Z (constant Cert.GluRefIdeal.S_ .f32 0x00000000#32) reducesTo_S4x2048x5632_S5632_d0_1 Cert.GluRefIdeal.Gen.h_S_) shapeCasts_S5632_S1x1x5632) (constant Cert.GluRefIdeal.S_ .f32 0x00000000#32) reducesTo_S1x1x5632_S5632_d0_1 Cert.GluRefIdeal.Gen.h_S_)

theorem refRed_at (Z : FVec Ideal Cert.GluRefIdeal.S4x2048x5632 .f32) (k : Fin 5632) : refRed Z (ix1 k) = ∑ b : Fin 4, ∑ i : Fin 2048, Z (ix3 b i k) := by
  unfold refRed
  pointwise
  rw [sum_front]
  pointwise
  rw [sum_front]
  simp

open Cert.GluRefIdeal.Gen in
/-- The rows of sums, one above the other. -/
def refStack (R2 R1 R0 RD : FVec Ideal Cert.GluRefIdeal.S5632 .f32) : FVec Ideal Cert.GluRefIdeal.S8x5632 .f32 :=
  (concatenate Cert.GluRefIdeal.S8x5632 0 [⟨Cert.GluRefIdeal.S3x5632, ((addf (addf (pad Cert.GluRefIdeal.S3x5632 ![2, 0] ![0, 0] ![0, 0] (broadcastInDim Cert.GluRefIdeal.S1x5632 ![1] Cert.GluRefIdeal.Gen.bcast_S5632_S1x5632_1 R2) (constant Cert.GluRefIdeal.S_ .f32 0x00000000#32) pads_S1x5632_S3x5632_200_000 Cert.GluRefIdeal.Gen.h_S_) (pad Cert.GluRefIdeal.S3x5632 ![1, 0] ![1, 0] ![0, 0] (broadcastInDim Cert.GluRefIdeal.S1x5632 ![1] Cert.GluRefIdeal.Gen.bcast_S5632_S1x5632_1 R1) (constant Cert.GluRefIdeal.S_ .f32 0x00000000#32) pads_S1x5632_S3x5632_110_000 Cert.GluRefIdeal.Gen.h_S_)) (pad Cert.GluRefIdeal.S3x5632 ![0, 0] ![2, 0] ![0, 0] (broadcastInDim Cert.GluRefIdeal.S1x5632 ![1] Cert.GluRefIdeal.Gen.bcast_S5632_S1x5632_1 R0) (constant Cert.GluRefIdeal.S_ .f32 0x00000000#32) pads_S1x5632_S3x5632_020_000 Cert.GluRefIdeal.Gen.h_S_)))⟩, ⟨Cert.GluRefIdeal.S1x5632, ((broadcastInDim Cert.GluRefIdeal.S1x5632 ![1] Cert.GluRefIdeal.Gen.bcast_S5632_S1x5632_1 RD))⟩, ⟨Cert.GluRefIdeal.S4x5632, ((broadcastInDim Cert.GluRefIdeal.S4x5632 ![] bcast_S_S4x5632 (constant Cert.GluRefIdeal.S_ .f32 0x00000000#32)))⟩] concatenates_S3x5632_S1x5632_S4x5632_S8x5632_d0)

theorem stack_at (R2 R1 R0 RD : FVec Ideal Cert.GluRefIdeal.S5632 .f32) (j : Fin 8) (q : Fin 5632) :
    refStack R2 R1 R0 RD (ix2 j q) = if j.val = 0 then R0 (ix1 q) else if j.val = 1 then R1 (ix1 q) else if j.val = 2 then R2 (ix1 q) else
      if j.val = 3 then RD (ix1 q) else 0 := by
  unfold refStack
  pointwise
  by_cases h0 : j.val = 0
  · rw [dif_pos (by omega), if_pos h0, dif_neg (by omega), dif_neg (by omega), dif_pos (by omega), zero_add, zero_add]
  rw [if_neg h0]
  by_cases h1 : j.val = 1
  · rw [dif_pos (by omega), if_pos h1, dif_neg (by omega), dif_pos (by omega), dif_neg (by omega), zero_add, add_zero]
  rw [if_neg h1]
  by_cases h2 : j.val = 2
  · rw [dif_pos (by omega), if_pos h2, dif_pos (by omega), dif_neg (by omega), dif_neg (by omega), add_zero, add_zero]
  rw [if_neg h2]
  by_cases h3 : j.val = 3
  · rw [dif_neg (by omega), dif_pos (by omega), if_pos h3]
  · rw [dif_neg (by omega), dif_neg (by omega), if_neg h3]

open Cert.GluRefIdeal.Gen in
/-- The columns of the rows of sums, laid out. -/
def layRows (Z : FVec Ideal Cert.GluRefIdeal.S8x5632 .f32) : FVec Ideal Cert.GluRefIdeal.S8x5632 .f32 :=
  shapeCast _ (transpose Cert.GluRefIdeal.S8x11x2x256 [0, 2, 1, 3] (shapeCast _ (Z) shapeCasts_S8x5632_S8x2x11x256) transposes_S8x2x11x256_S8x11x2x256_0_2_1_3) shapeCasts_S8x11x2x256_S8x5632

theorem layRows_at (Z : FVec Ideal Cert.GluRefIdeal.S8x5632 .f32) (j : Fin 8) (k : Fin 5632) : layRows Z (ix2 j k) = Z (ix2 j (chanOf k)) := by
  unfold layRows
  pointwise

/-- The rows of sums, laid out by the reference. -/
def refRows (R2 R1 R0 RD : FVec Ideal Cert.GluRefIdeal.S5632 .f32) : FVec Ideal Cert.GluRefIdeal.S8x5632 .f32 := layRows (refStack R2 R1 R0 RD)

theorem rows_at (R2 R1 R0 RD : FVec Ideal Cert.GluRefIdeal.S5632 .f32) (j : Fin 8) (k : Fin 5632) :
    refRows R2 R1 R0 RD (ix2 j k) = if j.val = 0 then R0 (ix1 (chanOf k)) else if j.val = 1 then R1 (ix1 (chanOf k)) else if j.val = 2 then R2 (ix1 (chanOf k)) else
      if j.val = 3 then RD (ix1 (chanOf k)) else 0 :=
  (layRows_at _ j k).trans (stack_at R2 R1 R0 RD j (chanOf k))

open Cert.GluRefIdeal.Gen in
/-- The sums, as the reference writes them. -/
def refS (D : FVec Ideal Cert.GluRefIdeal.S4x2048x5632 .f32) (Y : FVec Ideal Cert.GluRefIdeal.S4x2050x5632 .f32) : FVec Ideal Cert.GluRefIdeal.S8x5632 .f32 :=
  refRows (refRed (mulf (extractStridedSlice Cert.GluRefIdeal.S4x2048x5632 ![0, 2, 0] Y slices_S4x2050x5632_S4x2048x5632_0_2_0) D)) (refRed (mulf (extractStridedSlice Cert.GluRefIdeal.S4x2048x5632 ![0, 1, 0] Y slices_S4x2050x5632_S4x2048x5632_0_1_0) D)) (refRed (mulf (extractStridedSlice Cert.GluRefIdeal.S4x2048x5632 ![0, 0, 0] Y slices_S4x2050x5632_S4x2048x5632_0_0_0) D)) (refRed D)

theorem refS_at (D : FVec Ideal Cert.GluRefIdeal.S4x2048x5632 .f32) (x : FVec Ideal Cert.GluRefIdeal.S8192x5632 .f32) (j : Fin 8) (k : Fin 5632) :
    refS D (refCat (refX x)) (ix2 j k) = ∑ b : Fin 4, part (fun n => D (ix3 b n (chanOf k))) (XS x b (chanOf k)) j := by
  obtain ⟨Y, hY⟩ : ∃ Y, Y = refCat (refX x) := ⟨_, rfl⟩
  rw [← hY]
  unfold refS
  have s2 : refRed (mulf (extractStridedSlice Cert.GluRefIdeal.S4x2048x5632 ![0, 2, 0] Y Cert.GluRefIdeal.Gen.slices_S4x2050x5632_S4x2048x5632_0_2_0) D) (ix1 (chanOf k))
      = ∑ b : Fin 4, ∑ i : Fin 2048, D (ix3 b i (chanOf k)) * XS x b (chanOf k) i := by
    rw [refRed_at]
    refine Finset.sum_congr rfl fun b _ => Finset.sum_congr rfl fun i _ => ?_
    pointwise
    rw [hY, cat_off x b i (chanOf k) 2 (by omega) (by omega), mul_comm]
    rfl
  have s1 : refRed (mulf (extractStridedSlice Cert.GluRefIdeal.S4x2048x5632 ![0, 1, 0] Y Cert.GluRefIdeal.Gen.slices_S4x2050x5632_S4x2048x5632_0_1_0) D) (ix1 (chanOf k))
      = ∑ b : Fin 4, ∑ i : Fin 2048, D (ix3 b i (chanOf k)) * back 1 (XS x b (chanOf k)) i := by
    rw [refRed_at]
    refine Finset.sum_congr rfl fun b _ => Finset.sum_congr rfl fun i _ => ?_
    pointwise
    rw [hY, cat_off x b i (chanOf k) 1 (by omega) (by omega), mul_comm]
  have s0 : refRed (mulf (extractStridedSlice Cert.GluRefIdeal.S4x2048x5632 ![0, 0, 0] Y Cert.GluRefIdeal.Gen.slices_S4x2050x5632_S4x2048x5632_0_0_0) D) (ix1 (chanOf k))
      = ∑ b : Fin 4, ∑ i : Fin 2048, D (ix3 b i (chanOf k)) * back 2 (XS x b (chanOf k)) i := by
    rw [refRed_at]
    refine Finset.sum_congr rfl fun b _ => Finset.sum_congr rfl fun i _ => ?_
    pointwise
    rw [hY, cat_off' x b i (chanOf k), mul_comm]
  have sD := refRed_at D (chanOf k)
  revert s0 s1 s2 sD
  generalize refRed (mulf (extractStridedSlice Cert.GluRefIdeal.S4x2048x5632 ![0, 2, 0] Y Cert.GluRefIdeal.Gen.slices_S4x2050x5632_S4x2048x5632_0_2_0) D) = R2
  generalize refRed (mulf (extractStridedSlice Cert.GluRefIdeal.S4x2048x5632 ![0, 1, 0] Y Cert.GluRefIdeal.Gen.slices_S4x2050x5632_S4x2048x5632_0_1_0) D) = R1
  generalize refRed (mulf (extractStridedSlice Cert.GluRefIdeal.S4x2048x5632 ![0, 0, 0] Y Cert.GluRefIdeal.Gen.slices_S4x2050x5632_S4x2048x5632_0_0_0) D) = R0
  generalize refRed D = RD
  intro s2 s1 s0 sD
  rw [rows_at]
  unfold part
  by_cases h0 : j.val = 0
  · simp only [if_pos h0, s0]
  by_cases h1 : j.val = 1
  · simp only [if_neg h0, if_pos h1, s1]
  by_cases h2 : j.val = 2
  · simp only [if_neg h0, if_neg h1, if_pos h2, s2]
  by_cases h3 : j.val = 3
  · simp only [if_neg h0, if_neg h1, if_neg h2, if_pos h3, sD]
  · simp only [if_neg h0, if_neg h1, if_neg h2, if_neg h3, Finset.sum_const_zero]

theorem ref_eq (m' : (ℓ : Loc Cert.GluRefIdeal.nD Cert.GluRefIdeal.τ Cert.GluRefIdeal.sig) → Buf (Elt Ideal) ℓ) (c : Dev nD) :
    Cert.GluRefIdeal.Value.res_main_v94 m' c = refU (refD (refC (refCat (refX (m' ((c : Thread nD τ).loc Cert.GluRefIdeal.main_arg0)))) (m' ((c : Thread nD τ).loc Cert.GluRefIdeal.main_arg2)) (m' ((c : Thread nD τ).loc Cert.GluRefIdeal.main_arg3))) (m' ((c : Thread nD τ).loc Cert.GluRefIdeal.main_arg1))) (m' ((c : Thread nD τ).loc Cert.GluRefIdeal.main_arg2)) := rfl

theorem ref_eq_sums (m' : (ℓ : Loc Cert.GluRefIdeal.nD Cert.GluRefIdeal.τ Cert.GluRefIdeal.sig) → Buf (Elt Ideal) ℓ) (c : Dev nD) :
    Cert.GluRefIdeal.Value.res_main_v97 m' c = refS (refD (refC (refCat (refX (m' ((c : Thread nD τ).loc Cert.GluRefIdeal.main_arg0)))) (m' ((c : Thread nD τ).loc Cert.GluRefIdeal.main_arg2)) (m' ((c : Thread nD τ).loc Cert.GluRefIdeal.main_arg3))) (m' ((c : Thread nD τ).loc Cert.GluRefIdeal.main_arg1))) (refCat (refX (m' ((c : Thread nD τ).loc Cert.GluRefIdeal.main_arg0)))) := rfl

open Cert.GluRefIdeal.Gen in
/-- The bound on the cotangent, as the precondition writes it. -/
def refFin (C : FVec Ideal Cert.GluRefIdeal.S4x2048x5632 .f32) (A1 : FVec Ideal Cert.GluRefIdeal.S8192x2816 .f32) : IVec Cert.GluRefIdeal.S4x2048x2816 1 :=
  cmpf .olt (Host.absf (mulf (shapeCast Cert.GluRefIdeal.S4x2048x2816 A1 shapeCasts_S8192x2816_S4x2048x2816)
    (extractStridedSlice Cert.GluRefIdeal.S4x2048x2816 ![0, 0, 2816] C slices_S4x2048x5632_S4x2048x2816_0_0_2816)))
    (broadcastInDim Cert.GluRefIdeal.S4x2048x2816 ![] bcast_S_S4x2048x2816 (constant Cert.GluRefIdeal.S_ .f32 0x7F800000#32))

theorem fin_at (C : FVec Ideal Cert.GluRefIdeal.S4x2048x5632 .f32) (A1 : FVec Ideal Cert.GluRefIdeal.S8192x2816 .f32) (b : Fin 4) (i : Fin 2048) (k : Fin 2816)
    (h : refFin C A1 (ix3 b i k) = 1#1) : ∃ a : ℝ, A1 (ix2 (rowOf b.val b.isLt i) k) * C (ix3 b i ⟨2816 + k.val, by omega⟩) = (a : EReal) := by
  unfold refFin at h
  pointwise at h
  exact LnRow.real_of_cmp h

theorem fin_eq (x : FVec Ideal Cert.GluRefIdeal.S8192x5632 .f32) (d : FVec Ideal Cert.GluRefIdeal.S8192x2816 .f32) (w : FVec Ideal Cert.GluRefIdeal.S3x5632 .f32) (o : FVec Ideal Cert.GluRefIdeal.S5632 .f32) :
    Cert.Pre_glu_cotangent_finite.fn x d w o = refFin (refC (refCat (refX x)) w o) d := rfl

theorem ref_D (x : FVec Ideal Cert.GluRefIdeal.S8192x5632 .f32) (d : FVec Ideal Cert.GluRefIdeal.S8192x2816 .f32) (w : FVec Ideal Cert.GluRefIdeal.S3x5632 .f32) (o : FVec Ideal Cert.GluRefIdeal.S5632 .f32)
    (h : ∀ y, Cert.Pre_glu_cotangent_finite.fn x d w o y = 1#1) (b : Fin 4) (i : Fin 2048) (k : Fin 5632) :
    refD (refC (refCat (refX x)) w o) d (ix3 b i k) = DC x d w o b k i := by
  have hc : ∀ q, refC (refCat (refX x)) w o (ix3 b i q) = CV x w o b q i := fun q => refC_at x w o b i q
  rw [refD_at]
  unfold DC
  by_cases hk : k.val < 2816
  · rw [dif_pos hk, dif_pos hk]
    have hb := h (ix3 b i ⟨k.val, hk⟩)
    rw [fin_eq] at hb
    obtain ⟨a, ha⟩ := fin_at _ _ _ _ _ hb
    have ha' := ha
    rw [hc] at ha'
    rw [hc, hc]
    refine Eq.trans ?_ (congrArg (fun z => dgate z _) ha').symm
    rw [dgate_eq]
    exact congrArg (fun z => rgate z _) ha'
  · rw [dif_neg hk, dif_neg hk, hc]

theorem ref_out (x : FVec Ideal Cert.GluRefIdeal.S8192x5632 .f32) (d : FVec Ideal Cert.GluRefIdeal.S8192x2816 .f32) (w : FVec Ideal Cert.GluRefIdeal.S3x5632 .f32) (o : FVec Ideal Cert.GluRefIdeal.S5632 .f32)
    (h : ∀ y, Cert.Pre_glu_cotangent_finite.fn x d w o y = 1#1) :
    refU (refD (refC (refCat (refX x)) w o) d) w = OUT x d w o := by
  funext y
  idx_vars y
  rw [refU_at _ _ _ _ ⟨y0.val / 2048, by omega⟩ ⟨y0.val % 2048, by omega⟩ rfl rfl]
  simp only [ref_D x d w o h]
  rfl

theorem ref_sums (x : FVec Ideal Cert.GluRefIdeal.S8192x5632 .f32) (d : FVec Ideal Cert.GluRefIdeal.S8192x2816 .f32) (w : FVec Ideal Cert.GluRefIdeal.S3x5632 .f32) (o : FVec Ideal Cert.GluRefIdeal.S5632 .f32)
    (h : ∀ y, Cert.Pre_glu_cotangent_finite.fn x d w o y = 1#1) :
    refS (refD (refC (refCat (refX x)) w o) d) (refCat (refX x)) = STATS x d w o := by
  funext y
  idx_vars y
  rw [refS_at]
  simp only [ref_D x d w o h]
  rfl

theorem value : Cert.algebraic_GluIdeal_GluRefIdeal_pre_glu_cotangent_finite := by
  intro m g m' g' hpre hag
  refine ⟨fun c => OUT (m ((c.tc : Thread nD τ).loc main_arg0)) (m ((c.tc : Thread nD τ).loc main_arg1)) (m ((c.tc : Thread nD τ).loc main_arg2)) (m ((c.tc : Thread nD τ).loc main_arg3)),
    fun c => STATS (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final_4 m c), (h c).2.1.trans (final_5 m c), (h c).2.2⟩) (Value.run_blocks m g),
    (θ_run _ _ _).mono (fun r h c => ⟨(h c).1.trans (by rw [ref_eq, (hag c).1, (hag c).2.1, (hag c).2.2.1, (hag c).2.2.2]; exact ref_out _ _ _ _ (fun y => congrFun (hpre c) y)),
      (h c).2.1.trans (by rw [ref_eq_sums, (hag c).1, (hag c).2.1, (hag c).2.2.1, (hag c).2.2.2]; exact ref_sums _ _ _ _ (fun y => congrFun (hpre c) y)), (h c).2.2⟩)
      (Cert.GluRefIdeal.Value.run m' g')⟩

end Cert.GluIdeal.Tie

end
-- ==== Proof.GluFwd.lean ====
/- The short convolution with its gate: the tiled kernel equals the reference. -/
module

public import proofs.«01_k».proof.Defs
public import proofs.«01_k».proof.Proof.GluRow
public import proofs.«01_k».proof.Proof.Gen.GluFwdIdeal.Value
public import proofs.«01_k».proof.Proof.Gen.GluFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.GluFwdIdeal.Tie

open Cert.GluFwdIdeal Cert.GluFwdIdeal.Gen Cert.GluRow

variable (m : (ℓ : Loc nD τ sig) → Buf (Elt Ideal) ℓ)

theorem pay_2 (x : Vec Ideal S2048x512 .f32) (b w2 w1 w0 : Vec Ideal S1x512 .f32) (r : Fin 2048) (l : Fin 512) :
    k0_pay2 x b w2 w1 w0 (ix2 r l) = conv (w0 (ix2 0 l)) (w1 (ix2 0 l)) (w2 (ix2 0 l)) (b (ix2 0 l)) (fun i => x (ix2 i l)) r := by
  unfold conv
  pointwise [k0_pay2]
  exact congrArg₂ (· + ·) (congrArg₂ (· + ·) rfl (mul_sel_back 1 (by omega) _ (fun i => x (ix2 i l)) r _)) (mul_sel_back 2 (by omega) _ (fun i => x (ix2 i l)) r _)

theorem pay_1 (x : Vec Ideal S2048x512 .f32) (b w2 w1 w0 : Vec Ideal S1x512 .f32) (r : Fin 2048) (q : Fin 256) :
    k0_pay1 (k0_pay2 x b w2 w1 w0) (k0_pay3 x b w2 w1 w0) (ix2 r q) =
    glu (k0_pay2 x b w2 w1 w0 (ix2 r ⟨q.val, by omega⟩)) (k0_pay2 x b w2 w1 w0 (ix2 r ⟨256 + q.val, by omega⟩)) := by
  unfold glu sg
  pointwise [k0_pay1, k0_pay3]
  rw [LnRow.zero_sub_e]

theorem idx_val : ∀ t : Fin cfg0.N, win0_0.index t = ![t.val % 4, t.val / 4]
    ∧ win0_1.index t = ![0, t.val / 4]
    ∧ win0_2.index t = ![0, t.val / 4]
    ∧ win0_3.index t = ![t.val % 4, t.val / 4] :=
  (by decide +kernel : ∀ t : Fin grid0.N, _)

/-- The tile of a point. -/
theorem tile_lt (t : Fin cfg0.N) : t.val / 4 < 11 := by
  have := lt_of_lt_of_eq t.isLt N_0
  omega

theorem read_x (c : Dev nD) (t : Fin cfg0.N) (i : Fin 2048) (l : Fin 512) :
    iblk m c 0 t (ix2 i l) = m ((c : Thread nD τ).loc main_arg0) (ix2 (rowOf (t.val % 4) (by omega) i) ⟨t.val / 4 * 512 + l.val, by have := tile_lt t; omega⟩) := by
  blk_point [iblk, V, idx_val t]

theorem read_w (c : Dev nD) (t : Fin cfg0.N) (a : Fin 3) (l : Fin 512) :
    iblk m c 1 t (ix2 a l) = m ((c : Thread nD τ).loc main_arg1) (ix2 a (chan (t.val / 4) (tile_lt t) l)) := by
  blk_simp [iblk, idx_val t]
  entry_read
  have h : (win0_1.blk t).view.emb (ix2 a l) = ix2 a (⟨t.val / 4 * 512 + l.val, by have := tile_lt t; omega⟩ : Fin 5632) := by blk_ext [idx_val t]
  rw [show ((View.whole main_v2).slice (win0_1.rect t)).emb (ix2 a l) = _ from h]
  pointwise
  have := tile_lt t
  exact congrArg (m ((c : Thread nD τ).loc main_arg1)) (congrArg (ix2 a) (Fin.ext (by
    show (t.val / 4 * 512 + l.val) / 256 % 2 * 2816 + (t.val / 4 * 512 + l.val) / 512 * 256 + (t.val / 4 * 512 + l.val) % 256 = l.val / 256 * 2816 + t.val / 4 * 256 + l.val % 256
    omega)))

theorem read_b (c : Dev nD) (t : Fin cfg0.N) (l : Fin 512) :
    iblk m c 2 t (ix2 0 l) = m ((c : Thread nD τ).loc main_arg2) (ix1 (chan (t.val / 4) (tile_lt t) l)) := by
  blk_simp [iblk, idx_val t]
  entry_read
  have h : (win0_2.blk t).view.emb (ix2 0 l) = ix2 0 (⟨t.val / 4 * 512 + l.val, by have := tile_lt t; omega⟩ : Fin 5632) := by blk_ext [idx_val t]
  rw [show ((View.whole main_v6).slice (win0_2.rect t)).emb (ix2 0 l) = _ from h]
  pointwise
  have := tile_lt t
  exact congrArg (m ((c : Thread nD τ).loc main_arg2)) (congrArg ix1 (Fin.ext (by
    show (t.val / 4 * 512 + l.val) / 256 % 2 * 2816 + (t.val / 4 * 512 + l.val) / 512 * 256 + (t.val / 4 * 512 + l.val) % 256 = l.val / 256 * 2816 + t.val / 4 * 256 + l.val % 256
    omega)))

/-- The convolution of channel `ch`, read from column `col`, at row `r`. -/
def CONV (x : FVec Ideal S8192x5632 .f32) (w : FVec Ideal S3x5632 .f32) (b : FVec Ideal S5632 .f32) (r : Fin 8192) (ch col : Fin 5632) : EReal :=
  conv (w (ix2 0 ch)) (w (ix2 1 ch)) (w (ix2 2 ch)) (b (ix1 ch)) (fun i => x (ix2 (rowOf (r.val / 2048) (by omega) i) col)) ⟨r.val % 2048, by omega⟩

/-- The gated convolution of one channel at one row. -/
def AT (x : FVec Ideal S8192x5632 .f32) (w : FVec Ideal S3x5632 .f32) (b : FVec Ideal S5632 .f32) (r : Fin 8192) (k : Fin 2816) : EReal :=
  glu (CONV x w b r ⟨k.val, by omega⟩ ⟨k.val / 256 * 512 + k.val % 256, by omega⟩)
    (CONV x w b r ⟨2816 + k.val, by omega⟩ ⟨k.val / 256 * 512 + 256 + k.val % 256, by omega⟩)

/-- All of them. -/
def OUT (x : FVec Ideal S8192x5632 .f32) (w : FVec Ideal S3x5632 .f32) (b : FVec Ideal S5632 .f32) : FVec Ideal S8192x2816 .bf16 := fun y =>
  AT x w b (y 0) (y 1)

open Cert.GluFwdRefIdeal.Gen in
/-- The sequences with the channels in order. -/
def refX (x : FVec Ideal Cert.GluFwdRefIdeal.S8192x5632 .f32) : FVec Ideal Cert.GluFwdRefIdeal.S4x2048x5632 .f32 :=
  shapeCast _ (transpose Cert.GluFwdRefIdeal.S4x2048x2x11x256 [0, 1, 3, 2, 4] (shapeCast _ x shapeCasts_S8192x5632_S4x2048x11x2x256) transposes_S4x2048x11x2x256_S4x2048x2x11x256_0_1_3_2_4) shapeCasts_S4x2048x2x11x256_S4x2048x5632

/-- The column of a channel. -/
abbrev colOf (k : Fin 5632) : Fin 5632 := ⟨k.val % 2816 / 256 * 512 + k.val / 2816 * 256 + k.val % 256, by omega⟩

theorem refX_at (x : FVec Ideal Cert.GluFwdRefIdeal.S8192x5632 .f32) (b : Fin 4) (i : Fin 2048) (k : Fin 5632) :
    refX x (ix3 b i k) = x (ix2 (rowOf b.val b.isLt i) (colOf k)) := by
  unfold refX
  pointwise
  exact congrArg x (congrArg (ix2 _) (Fin.ext (by
    show k.val / 256 % 11 * 512 + k.val / 2816 * 256 + k.val % 256 = k.val % 2816 / 256 * 512 + k.val / 2816 * 256 + k.val % 256
    omega)))

open Cert.GluFwdRefIdeal.Gen in
/-- Two rows of zeros above. -/
def refCat (x : FVec Ideal Cert.GluFwdRefIdeal.S4x2048x5632 .f32) : FVec Ideal Cert.GluFwdRefIdeal.S4x2050x5632 .f32 :=
  concatenate Cert.GluFwdRefIdeal.S4x2050x5632 1 [⟨Cert.GluFwdRefIdeal.S4x2x5632, (broadcastInDim Cert.GluFwdRefIdeal.S4x2x5632 ![] bcast_S_S4x2x5632 (constant Cert.GluFwdRefIdeal.S_ .f32 0x00000000#32))⟩, ⟨Cert.GluFwdRefIdeal.S4x2048x5632, x⟩] concatenates_S4x2x5632_S4x2048x5632_S4x2050x5632_d1

theorem refCat_at (x : FVec Ideal Cert.GluFwdRefIdeal.S4x2048x5632 .f32) (b : Fin 4) (i : Fin 2050) (k : Fin 5632) :
    refCat x (ix3 b i k) = if h : 2 ≤ i.val then x (ix3 b ⟨i.val - 2, by omega⟩ k) else 0 := by
  unfold refCat
  pointwise
  by_cases h : i.val < 2
  · rw [dif_pos h, dif_neg (by omega)]
  · rw [dif_neg h, dif_pos (by omega)]

open Cert.GluFwdRefIdeal.Gen in
/-- The convolution, as the reference writes it. -/
def refC (x : FVec Ideal Cert.GluFwdRefIdeal.S4x2050x5632 .f32) (W : FVec Ideal Cert.GluFwdRefIdeal.S3x5632 .f32) (B : FVec Ideal Cert.GluFwdRefIdeal.S5632 .f32) : FVec Ideal Cert.GluFwdRefIdeal.S4x2048x5632 .f32 :=
  addf (addf (addf (broadcastInDim Cert.GluFwdRefIdeal.S4x2048x5632 ![0, 1, 2] bcast_S1x1x5632_S4x2048x5632_0_1_2 (broadcastInDim Cert.GluFwdRefIdeal.S1x1x5632 ![2] bcast_S5632_S1x1x5632_2 B)) (mulf (extractStridedSlice Cert.GluFwdRefIdeal.S4x2048x5632 ![0, 0, 0] x slices_S4x2050x5632_S4x2048x5632_0_0_0) (broadcastInDim Cert.GluFwdRefIdeal.S4x2048x5632 ![0, 1, 2] bcast_S1x1x5632_S4x2048x5632_0_1_2 (broadcastInDim Cert.GluFwdRefIdeal.S1x1x5632 ![2] bcast_S5632_S1x1x5632_2 (shapeCast _ (extractStridedSlice Cert.GluFwdRefIdeal.S1x5632 ![0, 0] W slices_S3x5632_S1x5632_0_0) shapeCasts_S1x5632_S5632))))) (mulf (extractStridedSlice Cert.GluFwdRefIdeal.S4x2048x5632 ![0, 1, 0] x slices_S4x2050x5632_S4x2048x5632_0_1_0) (broadcastInDim Cert.GluFwdRefIdeal.S4x2048x5632 ![0, 1, 2] bcast_S1x1x5632_S4x2048x5632_0_1_2 (broadcastInDim Cert.GluFwdRefIdeal.S1x1x5632 ![2] bcast_S5632_S1x1x5632_2 (shapeCast _ (extractStridedSlice Cert.GluFwdRefIdeal.S1x5632 ![1, 0] W slices_S3x5632_S1x5632_1_0) shapeCasts_S1x5632_S5632))))) (mulf (extractStridedSlice Cert.GluFwdRefIdeal.S4x2048x5632 ![0, 2, 0] x slices_S4x2050x5632_S4x2048x5632_0_2_0) (broadcastInDim Cert.GluFwdRefIdeal.S4x2048x5632 ![0, 1, 2] bcast_S1x1x5632_S4x2048x5632_0_1_2 (broadcastInDim Cert.GluFwdRefIdeal.S1x1x5632 ![2] bcast_S5632_S1x1x5632_2 (shapeCast _ (extractStridedSlice Cert.GluFwdRefIdeal.S1x5632 ![2, 0] W slices_S3x5632_S1x5632_2_0) shapeCasts_S1x5632_S5632))))

theorem refC_at (x : FVec Ideal Cert.GluFwdRefIdeal.S8192x5632 .f32) (W : FVec Ideal Cert.GluFwdRefIdeal.S3x5632 .f32) (B : FVec Ideal Cert.GluFwdRefIdeal.S5632 .f32)
    (b : Fin 4) (i : Fin 2048) (k : Fin 5632) :
    refC (refCat (refX x)) W B (ix3 b i k) = conv (W (ix2 0 k)) (W (ix2 1 k)) (W (ix2 2 k)) (B (ix1 k)) (fun n => x (ix2 (rowOf b.val b.isLt n) (colOf k))) i := by
  obtain ⟨X, hX⟩ : ∃ X, X = refX x := ⟨_, rfl⟩
  obtain ⟨Y, hY⟩ : ∃ Y, Y = refCat X := ⟨_, rfl⟩
  have h0 : ∀ (j : ℕ) (hj : j ≤ 2) (h : j + i.val < 2050), Y (ix3 b ⟨j + i.val, h⟩ k) = back (2 - j) (fun n => x (ix2 (rowOf b.val b.isLt n) (colOf k))) i := by
    intro j hj h
    rw [hY, refCat_at]
    unfold back
    by_cases hi : 2 ≤ j + i.val
    · rw [dif_pos hi, if_pos (by omega), hX, refX_at]
      exact congrArg (fun n => x (ix2 (rowOf b.val b.isLt n) (colOf k))) (Fin.ext (by show j + i.val - 2 = i.val - (2 - j); omega))
    · rw [dif_neg hi, if_neg (by omega)]
  have e0 := h0 0 (by omega) (by omega)
  have e1 := h0 1 (by omega) (by omega)
  have e2 := h0 2 (by omega) (by omega)
  have e3 : back 0 (fun n => x (ix2 (rowOf b.val b.isLt n) (colOf k))) i = x (ix2 (rowOf b.val b.isLt i) (colOf k)) := if_pos (Nat.zero_le _)
  rw [← hX, ← hY]
  unfold refC conv
  pointwise
  simp only [Nat.zero_add] at e0
  simp only [show 2 - 0 = 2 from rfl, show 2 - 1 = 1 from rfl, show 2 - 2 = 0 from rfl] at e0 e1 e2
  rw [e0, e1, e2, e3]
  simp only [mul_comm, add_comm, add_left_comm, add_assoc]

open Cert.GluFwdRefIdeal.Gen in
/-- The gate, as the reference writes it. -/
def refG (C : FVec Ideal Cert.GluFwdRefIdeal.S4x2048x5632 .f32) : FVec Ideal Cert.GluFwdRefIdeal.S8192x2816 .bf16 :=
  truncf .bf16 (shapeCast _ (mulf (mulf (extractStridedSlice Cert.GluFwdRefIdeal.S4x2048x2816 ![0, 0, 0] C slices_S4x2048x5632_S4x2048x2816_0_0_0) (Host.divf (broadcastInDim Cert.GluFwdRefIdeal.S4x2048x2816 ![] bcast_S_S4x2048x2816 (constant Cert.GluFwdRefIdeal.S_ .f32 0x3F800000#32)) (addf (broadcastInDim Cert.GluFwdRefIdeal.S4x2048x2816 ![] bcast_S_S4x2048x2816 (constant Cert.GluFwdRefIdeal.S_ .f32 0x3F800000#32)) (Host.exp (Host.negf (extractStridedSlice Cert.GluFwdRefIdeal.S4x2048x2816 ![0, 0, 0] C slices_S4x2048x5632_S4x2048x2816_0_0_0)))))) (extractStridedSlice Cert.GluFwdRefIdeal.S4x2048x2816 ![0, 0, 2816] C slices_S4x2048x5632_S4x2048x2816_0_0_2816)) shapeCasts_S4x2048x2816_S8192x2816) Cert.GluFwdRefIdeal.Gen.bitsLt_bf16_f32

theorem refG_at (C : FVec Ideal Cert.GluFwdRefIdeal.S4x2048x5632 .f32) (r : Fin 8192) (k : Fin 2816) :
    refG C (ix2 r k) = glu (C (ix3 ⟨r.val / 2048, by omega⟩ ⟨r.val % 2048, by omega⟩ ⟨k.val, by omega⟩)) (C (ix3 ⟨r.val / 2048, by omega⟩ ⟨r.val % 2048, by omega⟩ ⟨2816 + k.val, by omega⟩)) := by
  unfold refG glu sg
  pointwise

theorem ref_eq (m' : (ℓ : Loc Cert.GluFwdRefIdeal.nD Cert.GluFwdRefIdeal.τ Cert.GluFwdRefIdeal.sig) → Buf (Elt Ideal) ℓ) (c : Dev nD) :
    Cert.GluFwdRefIdeal.Value.res_main_v39 m' c = refG (refC (refCat (refX (m' ((c : Thread nD τ).loc Cert.GluFwdRefIdeal.main_arg0)))) (m' ((c : Thread nD τ).loc Cert.GluFwdRefIdeal.main_arg1)) (m' ((c : Thread nD τ).loc Cert.GluFwdRefIdeal.main_arg2))) := rfl

theorem col_gate (k : ℕ) (hk : k < 2816) : k % 2816 / 256 * 512 + k / 2816 * 256 + k % 256 = k / 256 * 512 + k % 256 := by omega

theorem col_val (k : ℕ) (hk : k < 2816) : (2816 + k) % 2816 / 256 * 512 + (2816 + k) / 2816 * 256 + (2816 + k) % 256 = k / 256 * 512 + 256 + k % 256 := by omega

theorem ref_out (x : FVec Ideal S8192x5632 .f32) (w : FVec Ideal S3x5632 .f32) (b : FVec Ideal S5632 .f32) :
    refG (refC (refCat (refX x)) w b) = OUT x w b := by
  funext y
  idx_vars y
  rw [refG_at, refC_at, refC_at]
  show _ = AT x w b y0 y1
  unfold AT CONV
  have e1 : colOf ⟨y1.val, by omega⟩ = ⟨y1.val / 256 * 512 + y1.val % 256, by omega⟩ := Fin.ext (col_gate _ y1.isLt)
  have e2 : colOf ⟨2816 + y1.val, by omega⟩ = ⟨y1.val / 256 * 512 + 256 + y1.val % 256, by omega⟩ := Fin.ext (col_val _ y1.isLt)
  rw [e1, e2]

theorem point (c : Dev nD) (t : Fin cfg0.N) (i : Fin 2048) (q : Fin 256) :
    k0_pay1 (k0_pay2 (iblk m c 0 t) (iblk m c 2 t) (View.ld (iblk m c 1 t) r0_2) (View.ld (iblk m c 1 t) r0_3)
      (View.ld (iblk m c 1 t) r0_4)) (k0_pay3 (iblk m c 0 t) (iblk m c 2 t) (View.ld (iblk m c 1 t) r0_2) (View.ld (iblk
      m c 1 t) r0_3) (View.ld (iblk m c 1 t) r0_4)) (ix2 i q)
      = AT (m ((c : Thread nD τ).loc main_arg0)) (m ((c : Thread nD τ).loc main_arg1)) (m ((c : Thread nD τ).loc main_arg2))
        (rowOf (t.val % 4) (by omega) i) ⟨t.val / 4 * 256 + q.val, by have := tile_lt t; omega⟩ := by
  have l2 : ∀ l : Fin 512, View.ld (iblk m c 1 t) r0_2 (ix2 0 l) = iblk m c 1 t (ix2 2 l) := fun l => by pointwise
  have l3 : ∀ l : Fin 512, View.ld (iblk m c 1 t) r0_3 (ix2 0 l) = iblk m c 1 t (ix2 1 l) := fun l => by pointwise
  have l4 : ∀ l : Fin 512, View.ld (iblk m c 1 t) r0_4 (ix2 0 l) = iblk m c 1 t (ix2 0 l) := fun l => by pointwise
  have ht := tile_lt t
  rw [pay_1, pay_2, pay_2]
  simp only [l2, l3, l4, read_w, read_b, read_x]
  unfold AT CONV
  have r1 : (⟨(rowOf (t.val % 4) (by omega) i).val % 2048, by omega⟩ : Fin 2048) = i := Fin.ext (by show (t.val % 4 * 2048 + i.val) % 2048 = i.val; omega)
  have r2 : ∀ n, rowOf ((rowOf (t.val % 4) (by omega) i).val / 2048) (by omega) n = rowOf (t.val % 4) (by omega) n := fun n => Fin.ext (by show (t.val % 4 * 2048 + i.val) / 2048 * 2048 + n.val = t.val % 4 * 2048 + n.val; omega)
  have c1 : chan (t.val / 4) ht ⟨q.val, by omega⟩ = (⟨t.val / 4 * 256 + q.val, by omega⟩ : Fin 5632) := Fin.ext (by show q.val / 256 * 2816 + t.val / 4 * 256 + q.val % 256 = t.val / 4 * 256 + q.val; omega)
  have c2 : chan (t.val / 4) ht ⟨256 + q.val, by omega⟩ = (⟨2816 + (t.val / 4 * 256 + q.val), by omega⟩ : Fin 5632) := Fin.ext (by show (256 + q.val) / 256 * 2816 + t.val / 4 * 256 + (256 + q.val) % 256 = 2816 + (t.val / 4 * 256 + q.val); omega)
  have d1 : (⟨t.val / 4 * 512 + q.val, by omega⟩ : Fin 5632) = ⟨(t.val / 4 * 256 + q.val) / 256 * 512 + (t.val / 4 * 256 + q.val) % 256, by omega⟩ := Fin.ext (by show t.val / 4 * 512 + q.val = (t.val / 4 * 256 + q.val) / 256 * 512 + (t.val / 4 * 256 + q.val) % 256; omega)
  have d2 : (⟨t.val / 4 * 512 + (256 + q.val), by omega⟩ : Fin 5632) = ⟨(t.val / 4 * 256 + q.val) / 256 * 512 + 256 + (t.val / 4 * 256 + q.val) % 256, by omega⟩ := Fin.ext (by show t.val / 4 * 512 + (256 + q.val) = (t.val / 4 * 256 + q.val) / 256 * 512 + 256 + (t.val / 4 * 256 + q.val) % 256; omega)
  simp only [r1, r2, c1, c2, d1, d2]

theorem final (c : Dev nD) : (dats m 0 c).arrAt 3 (cfgs 0).N = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  idx_vars y
  have h : ((cfg0.win 3).blk t).view.emb (ix2 y0 y1) = ix2 (rowOf (t.val % 4) (by omega) y0) (⟨t.val / 4 * 256 + y1.val, by have := tile_lt t; omega⟩ : Fin 2816) := by blk_ext [idx_val t]
  refine Eq.trans ?_ (congrArg (OUT _ _ _) h).symm
  exact point m c t y0 y1

theorem value : Cert.algebraic_GluFwdIdeal_GluFwdRefIdeal := by
  intro m g m' g' _ hag
  refine ⟨fun c => OUT (m ((c.tc : Thread nD τ).loc main_arg0)) (m ((c.tc : Thread nD τ).loc main_arg1)) (m ((c.tc : Thread nD τ).loc main_arg2)),
    (θ_run _ _ _).mono (fun r h c => ⟨(h c).1.trans (final m c), (h c).2⟩) (Value.run_blocks m g),
    (θ_run _ _ _).mono (fun r h c => ⟨(h c).1.trans (by rw [ref_eq, (hag c).1, (hag c).2.1, (hag c).2.2]; exact ref_out _ _ _), (h c).2⟩)
      (Cert.GluFwdRefIdeal.Value.run m' g')⟩

end Cert.GluFwdIdeal.Tie

end
-- ==== Proof.PoolRow.lean ====
/- Trailing and leading sums of a window along one column of one sequence. -/
module

public import proofs.«01_k».proof.Defs
public import proofs.«01_k».proof.Proof.GluRow

@[expose] public section

noncomputable section

open Idealize.ShloMosaic
open scoped BigOperators

namespace Cert.PoolRow

open Cert.GluRow

/-- The sum of the last `w` entries up to `r`. -/
def tsum (w : ℕ) (x : Seq) (r : Fin 2048) : EReal := ∑ s : Fin 2048, if s.val ≤ r.val ∧ r.val < s.val + w then x s else 0

/-- The sum of the next `w` entries from `r` on. -/
def fsum (w : ℕ) (x : Seq) (r : Fin 2048) : EReal := ∑ s : Fin 2048, if r.val ≤ s.val ∧ s.val < r.val + w then x s else 0

theorem tsum_one (x : Seq) : tsum 1 x = x := by
  funext r
  unfold tsum
  rw [Finset.sum_eq_single r (fun s _ h => if_neg fun e => h (Fin.ext (by omega))) (fun h => absurd (Finset.mem_univ r) h)]
  exact if_pos ⟨le_refl _, by omega⟩

theorem fsum_one (x : Seq) : fsum 1 x = x := by
  funext r
  unfold fsum
  rw [Finset.sum_eq_single r (fun s _ h => if_neg fun e => h (Fin.ext (by omega))) (fun h => absurd (Finset.mem_univ r) h)]
  exact if_pos ⟨le_refl _, by omega⟩

theorem tsum_add (a b : ℕ) (x : Seq) (r : Fin 2048) : tsum (a + b) x r = tsum a x r + back a (tsum b x) r := by
  unfold back
  by_cases h : a ≤ r.val
  · rw [if_pos h]
    unfold tsum
    rw [← Finset.sum_add_distrib]
    refine Finset.sum_congr rfl fun s _ => ?_
    dsimp only
    by_cases h1 : s.val ≤ r.val ∧ r.val < s.val + a
    · rw [if_pos h1, if_pos (by omega), if_neg (by omega), add_zero]
    · rw [if_neg h1, zero_add]
      by_cases h2 : s.val ≤ r.val ∧ r.val < s.val + (a + b)
      · rw [if_pos h2, if_pos (by omega)]
      · rw [if_neg h2, if_neg (by omega)]
  · rw [if_neg h, add_zero]
    unfold tsum
    refine Finset.sum_congr rfl fun s _ => ?_
    by_cases h1 : s.val ≤ r.val ∧ r.val < s.val + a
    · rw [if_pos h1, if_pos (by omega)]
    · rw [if_neg h1, if_neg (by omega)]

theorem fsum_add (a b : ℕ) (x : Seq) (r : Fin 2048) : fsum (a + b) x r = fsum a x r + fore a (fsum b x) r := by
  unfold fore
  by_cases h : r.val + a < 2048
  · rw [dif_pos h]
    unfold fsum
    rw [← Finset.sum_add_distrib]
    refine Finset.sum_congr rfl fun s _ => ?_
    dsimp only
    by_cases h1 : r.val ≤ s.val ∧ s.val < r.val + a
    · rw [if_pos h1, if_pos (by omega), if_neg (by omega), add_zero]
    · rw [if_neg h1, zero_add]
      by_cases h2 : r.val ≤ s.val ∧ s.val < r.val + (a + b)
      · rw [if_pos h2, if_pos (by omega)]
      · rw [if_neg h2, if_neg (by omega)]
  · rw [dif_neg h, add_zero]
    unfold fsum
    refine Finset.sum_congr rfl fun s _ => ?_
    have := s.isLt
    by_cases h1 : r.val ≤ s.val ∧ s.val < r.val + a
    · rw [if_pos h1, if_pos (by omega)]
    · rw [if_neg h1, if_neg (by omega)]

/-- The window of a group of columns. -/
def win (g : Fin 4) : ℕ := if g = 0 then 2 else if g = 1 then 4 else if g = 2 then 8 else 16

/-- The window, as a word. -/
def winW (g : BitVec 32) : BitVec 32 :=
  Scalar.select (IntOp.cmpi .eq g 0#32) 2#32 (Scalar.select (IntOp.cmpi .eq g 1#32) 4#32 (Scalar.select (IntOp.cmpi .eq g 2#32) 8#32 16#32))

theorem winW_eq : ∀ g : Fin 4, winW (BitVec.ofNat 32 g.val) = BitVec.ofNat 32 (win g) := by decide

/-- The group of a column out of 256, as a word: the quotient by 64, rounded down. -/
def grpW (l : BitVec 32) : BitVec 32 :=
  Scalar.select (IntOp.andi (IntOp.cmpi .ne (IntOp.subi (BitVec.setWidth 32 (IntOp.cmpi .sgt l 0#32)) (BitVec.setWidth 32 (IntOp.cmpi .slt l 0#32)))
      (Scalar.subi (Scalar.extui (Scalar.cmpi .sgt 64#32 0#32)) (Scalar.extui (Scalar.cmpi .slt 64#32 0#32))))
    (IntOp.cmpi .ne (IntOp.remsi .vector l 64#32) 0#32)) (IntOp.subi (IntOp.divsi .vector l 64#32) 1#32) (IntOp.divsi .vector l 64#32)

/-- The group of a column. -/
abbrev grp (l : Fin 256) : Fin 4 := ⟨l.val / 64, by omega⟩

/-- Its place in the group. -/
abbrev plc (l : Fin 256) : Fin 64 := ⟨l.val % 64, by omega⟩

/-- The column at a place of a group. -/
abbrev colAt (g : Fin 4) (c : Fin 64) : Fin 256 := ⟨g.val * 64 + c.val, by omega⟩

theorem grpW_eq : ∀ l : Fin 256, grpW (BitVec.ofNat 32 l.val) = BitVec.ofNat 32 (grp l).val := by decide +kernel

/-- A choice by the group. -/
theorem pick (g : Fin 4) (f : ℕ → EReal) :
    Scalar.select (IntOp.cmpi .eq (BitVec.ofNat 32 g.val) 0#32) (f 2) (Scalar.select (IntOp.cmpi .eq (BitVec.ofNat 32 g.val) 1#32) (f 4)
      (Scalar.select (IntOp.cmpi .eq (BitVec.ofNat 32 g.val) 2#32) (f 8) (f 16))) = f (win g) := by
  match g with
  | ⟨0, _⟩ => rfl
  | ⟨1, _⟩ => rfl
  | ⟨2, _⟩ => rfl
  | ⟨3, _⟩ => rfl

/-- How many entries a window has at a row. -/
def cnt (r : Fin 2048) (g : Fin 4) : EReal := FloatOps.sitofp (F := Ideal) .f32 (IntOp.minsi (IntOp.addi (BitVec.ofNat 32 r.val) 1#32) (winW (BitVec.ofNat 32 g.val)))

/-- The mean over the trailing window less the entry itself. -/
def pooled (u : Fin 2048 → Fin 256 → EReal) (r : Fin 2048) (l : Fin 256) : EReal :=
  Ideal.div (tsum (win (grp l)) (fun i => u i l) r) (cnt r (grp l)) - u r l

/-- One row times the weights of its groups. -/
def mix (p : Fin 256 → EReal) (w : Fin 4 → Fin 64 → Fin 64 → EReal) (l : Fin 256) : EReal := ∑ c : Fin 64, p (colAt (grp l) c) * w (grp l) c (plc l)

/-- The block diagonal. -/
def diag (w : Fin 4 → Fin 64 → Fin 64 → EReal) (a l : Fin 256) : EReal := if a.val / 64 = l.val / 64 then w (grp a) (plc a) (plc l) else 0

theorem sum_groups (f : Fin 256 → EReal) : ∑ x : Fin 256, f x = ∑ g : Fin 4, ∑ c : Fin 64, f (colAt g c) := by
  rw [← Fintype.sum_prod_type' (fun g c => f (colAt g c)), ← (finProdFinEquiv (m := 4) (n := 64)).sum_comp f]
  exact Finset.sum_congr rfl fun p _ => congrArg f (Fin.ext (by show p.2.val + 64 * p.1.val = p.1.val * 64 + p.2.val; omega))

/-- The row times the block diagonal. -/
theorem sum_diag (p : Fin 256 → EReal) (w : Fin 4 → Fin 64 → Fin 64 → EReal) (l : Fin 256) : ∑ x : Fin 256, p x * diag w x l = mix p w l := by
  rw [sum_groups]
  unfold mix
  rw [Finset.sum_eq_single (grp l) (fun g _ hg => Finset.sum_eq_zero fun c _ => ?_) (fun h => absurd (Finset.mem_univ _) h)]
  · refine Finset.sum_congr rfl fun c _ => congrArg (p (colAt (grp l) c) * ·) ?_
    have e1 : grp (colAt (grp l) c) = grp l := Fin.ext (by show (l.val / 64 * 64 + c.val) / 64 = l.val / 64; omega)
    have e2 : plc (colAt (grp l) c) = c := Fin.ext (by show (l.val / 64 * 64 + c.val) % 64 = c.val; omega)
    unfold diag
    rw [if_pos (show (l.val / 64 * 64 + c.val) / 64 = l.val / 64 by omega), e1, e2]
  · unfold diag
    rw [if_neg (show ¬(g.val * 64 + c.val) / 64 = l.val / 64 from fun e => hg (Fin.ext (by show g.val = l.val / 64; omega))), mul_zero]

/-- A square of weights. -/
abbrev Sq : Shape := ⟨2, ![256, 256]⟩

/-- A block of it. -/
abbrev Bl : Shape := ⟨2, ![64, 64]⟩

theorem upd_at (x : Sq.Idx → EReal) (u : Bl.Idx → EReal) (g : ℕ) (hg : g < 4) (f : Fin 2 → ℤ) (hf : ∀ a, f a = ((64 * g : ℕ) : ℤ)) (hu : Sq.Slices (fun _ => 0) Bl) (a l : Fin 256) :
    Host.dynamicUpdateSlice x u f hu (ix2 a l) = if a.val / 64 = g ∧ l.val / 64 = g then u (ix2 ⟨a.val % 64, by omega⟩ ⟨l.val % 64, by omega⟩) else x (ix2 a l) := by
  rw [WordCmp.dynamicUpdateSlice_eq_update x u f hu (fun _ => 64 * g) ⟨rfl, fun b => by match b with | ⟨0, _⟩ => (show 64 * g + 64 ≤ 256; omega) | ⟨1, _⟩ => (show 64 * g + 64 ≤ 256; omega)⟩ hf]
  pointwise
  by_cases h : a.val / 64 = g ∧ l.val / 64 = g
  · rw [if_pos h, dif_pos (by omega)]
    exact congrArg u (congrArg₂ ix2 (Fin.ext (by show a.val - 64 * g = a.val % 64; omega)) (Fin.ext (by show l.val - 64 * g = l.val % 64; omega)))
  · rw [if_neg h, dif_neg (by omega)]

/-- Four blocks put one after the other on the diagonal. -/
theorem four_blocks (w : Fin 4 → Fin 64 → Fin 64 → EReal) (x0 x1 x2 x3 : Sq.Idx → EReal) (u0 u1 u2 u3 : Bl.Idx → EReal) (z : Sq.Idx → EReal) (hu : Sq.Slices (fun _ => 0) Bl)
    (h0 : ∀ a b, u0 (ix2 a b) = w 0 a b) (h1 : ∀ a b, u1 (ix2 a b) = w 1 a b) (h2 : ∀ a b, u2 (ix2 a b) = w 2 a b) (h3 : ∀ a b, u3 (ix2 a b) = w 3 a b)
    (hz : ∀ a l, z (ix2 a l) = 0)
    (e0 : x0 = Host.dynamicUpdateSlice z u0 (fun _ => (0#32 : BitVec 32).toInt) hu) (e1 : x1 = Host.dynamicUpdateSlice x0 u1 (fun _ => (64#32 : BitVec 32).toInt) hu)
    (e2 : x2 = Host.dynamicUpdateSlice x1 u2 (fun _ => (128#32 : BitVec 32).toInt) hu) (e3 : x3 = Host.dynamicUpdateSlice x2 u3 (fun _ => (192#32 : BitVec 32).toInt) hu)
    (a l : Fin 256) : x3 (ix2 a l) = diag w a l := by
  rw [e3, upd_at _ _ 3 (by omega) _ (fun _ => by decide), e2, upd_at _ _ 2 (by omega) _ (fun _ => by decide), e1, upd_at _ _ 1 (by omega) _ (fun _ => by decide),
    e0, upd_at _ _ 0 (by omega) _ (fun _ => by decide), h0, h1, h2, h3, hz]
  unfold diag
  have hg : ∀ g : Fin 4, a.val / 64 = g.val → grp a = g := fun g h => Fin.ext h
  by_cases c3 : a.val / 64 = 3 ∧ l.val / 64 = 3
  · rw [if_pos c3, if_pos (by omega), hg 3 c3.1]
  rw [if_neg c3]
  by_cases c2 : a.val / 64 = 2 ∧ l.val / 64 = 2
  · rw [if_pos c2, if_pos (by omega), hg 2 c2.1]
  rw [if_neg c2]
  by_cases c1 : a.val / 64 = 1 ∧ l.val / 64 = 1
  · rw [if_pos c1, if_pos (by omega), hg 1 c1.1]
  rw [if_neg c1]
  by_cases c0 : a.val / 64 = 0 ∧ l.val / 64 = 0
  · rw [if_pos c0, if_pos (by omega), hg 0 c0.1]
  rw [if_neg c0, if_neg (by omega)]

/-- Whether an entry is in the window of a row, as the reference asks. -/
theorem inside_eq (g : Fin 4) (t s : Fin 2048) :
    (Scalar.select (IntOp.andi (IntOp.cmpi .sle (BitVec.ofNat 32 s.val) (BitVec.ofNat 32 t.val))
      (IntOp.cmpi .slt (BitVec.ofNat 32 t.val) (IntOp.addi (BitVec.ofNat 32 s.val) (winW (BitVec.ofNat 32 g.val))))) (1 : EReal) 0)
      = if s.val ≤ t.val ∧ t.val < s.val + win g then 1 else 0 := by
  have hw : win g ≤ 16 := by revert g; decide
  have ea : IntOp.addi (BitVec.ofNat 32 s.val) (BitVec.ofNat 32 (win g)) = BitVec.ofNat 32 (s.val + win g) := (BitVec.ofNat_add ..).symm
  rw [winW_eq, ea]
  have h1 : IntOp.cmpi .sle (BitVec.ofNat 32 s.val) (BitVec.ofNat 32 t.val) = 1 ↔ s.val ≤ t.val := WordCmp.cmpi_sle_ofNat_eq_one_iff (by omega) (by omega)
  have h2 : IntOp.cmpi .slt (BitVec.ofNat 32 t.val) (BitVec.ofNat 32 (s.val + win g)) = 1 ↔ t.val < s.val + win g := WordCmp.cmpi_slt_ofNat_eq_one_iff (by omega) (by omega)
  have h3 : ∀ x y : BitVec 1, IntOp.andi x y = 1 ↔ x = 1 ∧ y = 1 := by decide
  by_cases h : s.val ≤ t.val ∧ t.val < s.val + win g
  · rw [if_pos h, Scalar.select_of_eq_one ((h3 _ _).mpr ⟨h1.mpr h.1, h2.mpr h.2⟩)]
  · rw [if_neg h, Scalar.select_of_ne_one fun e => h ⟨h1.mp ((h3 _ _).mp e).1, h2.mp ((h3 _ _).mp e).2⟩]

end Cert.PoolRow

end
-- ==== Proof.Pool.lean ====
/- The gradient of the pooling over trailing windows: the tiled kernel equals the reference. -/
module

public import proofs.«01_k».proof.Defs
public import proofs.«01_k».proof.Proof.PoolRow
public import proofs.«01_k».proof.Proof.Gen.PoolIdeal.Value
public import proofs.«01_k».proof.Proof.Gen.On_diagonal_blocks
public import proofs.«01_k».proof.Proof.Gen.PoolRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PoolIdeal.Tie

open Cert.PoolIdeal Cert.PoolIdeal.Gen Cert.GluRow Cert.PoolRow

variable (m : (ℓ : Loc nD τ sig) → Buf (Elt Ideal) ℓ)

/-- The columns' numbers. -/
abbrev LN : IVec S2048x256 32 := iota Kind.tc S2048x256 32 [1] iota_S2048x256_d1_w32

/-- The rows' numbers. -/
abbrev RW : IVec S2048x256 32 := iota Kind.tc S2048x256 32 [0] iota_S2048x256_d0_w32

/-- How many entries each window has. -/
abbrev CN : FVec Ideal S2048x256 .f32 := k0_pay12 LN k0_pay8 64#32 k0_pay9 k0_pay10 k0_pay11

theorem LN_at (r : Fin 2048) (l : Fin 256) : LN (ix2 r l) = BitVec.ofNat 32 l.val := by pointwise

theorem RW_at (r : Fin 2048) (l : Fin 256) : RW (ix2 r l) = BitVec.ofNat 32 r.val := by pointwise

theorem CN_at (r : Fin 2048) (l : Fin 256) : CN (ix2 r l) = cnt r (grp l) := by
  unfold cnt
  rw [← grpW_eq l]
  pointwise [k0_pay12, k0_pay8, k0_pay9, k0_pay10, k0_pay11]
  rfl

theorem pay_4 (x : Vec Ideal S2048x256 .f32) (r : Fin 2048) (l : Fin 256) : k0_pay4 x (ix2 r l) = tsum 2 (fun i => x (ix2 i l)) r := by
  rw [show (2 : ℕ) = 1 + 1 from rfl, tsum_add, tsum_one]
  pointwise [k0_pay4]
  exact congrArg (x (ix2 r l) + ·) (sel_back 1 (by omega) (fun i => x (ix2 i l)) r _)

theorem pay_5 (x : Vec Ideal S2048x256 .f32) (r : Fin 2048) (l : Fin 256) : k0_pay5 x (ix2 r l) = tsum 4 (fun i => x (ix2 i l)) r := by
  have e : tsum 2 (fun i => x (ix2 i l)) = fun i => k0_pay4 x (ix2 i l) := funext fun i => (pay_4 x i l).symm
  rw [show (4 : ℕ) = 2 + 2 from rfl, tsum_add, e]
  clear e
  unfold k0_pay5
  generalize k0_pay4 x = y
  pointwise
  exact congrArg (y (ix2 r l) + ·) (sel_back 2 (by omega) (fun i => y (ix2 i l)) r _)

theorem pay_6 (x : Vec Ideal S2048x256 .f32) (r : Fin 2048) (l : Fin 256) : k0_pay6 x (ix2 r l) = tsum 8 (fun i => x (ix2 i l)) r := by
  have e : tsum 4 (fun i => x (ix2 i l)) = fun i => k0_pay5 x (ix2 i l) := funext fun i => (pay_5 x i l).symm
  rw [show (8 : ℕ) = 4 + 4 from rfl, tsum_add, e]
  clear e
  unfold k0_pay6
  generalize k0_pay5 x = y
  pointwise
  exact congrArg (y (ix2 r l) + ·) (sel_back 4 (by omega) (fun i => y (ix2 i l)) r _)

theorem pay_7 (x : Vec Ideal S2048x256 .f32) (r : Fin 2048) (l : Fin 256) : k0_pay7 x (ix2 r l) = tsum 16 (fun i => x (ix2 i l)) r := by
  have e : tsum 8 (fun i => x (ix2 i l)) = fun i => k0_pay6 x (ix2 i l) := funext fun i => (pay_6 x i l).symm
  rw [show (16 : ℕ) = 8 + 8 from rfl, tsum_add, e]
  clear e
  unfold k0_pay7
  generalize k0_pay6 x = y
  pointwise
  exact congrArg (y (ix2 r l) + ·) (sel_back 8 (by omega) (fun i => y (ix2 i l)) r _)

/-- The row times the transposed block diagonal. -/
def dpool (p : Fin 256 → EReal) (w : Fin 4 → Fin 64 → Fin 64 → EReal) (l : Fin 256) : EReal := ∑ c : Fin 64, p (colAt (grp l) c) * w (grp l) (plc l) c

theorem sum_diag_right (p : Fin 256 → EReal) (w : Fin 4 → Fin 64 → Fin 64 → EReal) (l : Fin 256) : ∑ x : Fin 256, p x * diag w l x = dpool p w l := by
  rw [sum_groups]
  unfold dpool
  rw [Finset.sum_eq_single (grp l) (fun g _ hg => Finset.sum_eq_zero fun c _ => ?_) (fun h => absurd (Finset.mem_univ _) h)]
  · refine Finset.sum_congr rfl fun c _ => congrArg (p (colAt (grp l) c) * ·) ?_
    have e2 : plc (colAt (grp l) c) = c := Fin.ext (by show (l.val / 64 * 64 + c.val) % 64 = c.val; omega)
    unfold diag
    rw [if_pos (show l.val / 64 = (l.val / 64 * 64 + c.val) / 64 by omega), e2]
  · unfold diag
    rw [if_neg (show ¬l.val / 64 = (g.val * 64 + c.val) / 64 from fun e => hg (Fin.ext (by show g.val = l.val / 64; omega))), mul_zero]

theorem pay_15 (x : Vec Ideal S2048x256 .f32) (r : Fin 2048) (l : Fin 256) :
    k0_pay15 x LN (k0_pay4 x) (k0_pay5 x) (k0_pay6 x) (k0_pay7 x) CN 64#32 (k0_pay13 LN) (k0_pay14 LN) 1#32 0#32 (ix2 r l) = pooled (fun i l => x (ix2 i l)) r l := by
  unfold pooled
  rw [← CN_at, ← pick (grp l) (fun n => tsum n (fun i => x (ix2 i l)) r), ← grpW_eq l]
  dsimp only
  rw [← pay_4, ← pay_5, ← pay_6, ← pay_7]
  generalize k0_pay4 x = a4
  generalize k0_pay5 x = a5
  generalize k0_pay6 x = a6
  generalize k0_pay7 x = a7
  generalize CN = cn
  pointwise [k0_pay15, k0_pay13, k0_pay14]
  rfl

theorem pay_16 (x : Vec Ideal S2048x256 .f32) (s2 s4 s8 s16 cn : FVec Ideal S2048x256 .f32) (a b : IVec S2048x256 32) (p q z : BitVec 32) (wb : Vec Ideal S256x256 .bf16)
    (d : Vec Ideal S2048x256 .f32) (acc : Vec Ideal S1x256 .f32) (l : Fin 256) :
    k0_pay16 x LN s2 s4 s8 s16 cn z a b p q wb d acc (ix2 0 l)
      = acc (ix2 0 l) + ∑ r : Fin 2048, d (ix2 r l) * ∑ k : Fin 256, k0_pay15 x LN s2 s4 s8 s16 cn z a b p q (ix2 r k) * wb (ix2 k l) := by
  unfold k0_pay16
  generalize k0_pay15 x LN s2 s4 s8 s16 cn z a b p q = y
  pointwise

theorem pay_17 (d : Vec Ideal S2048x256 .f32) (sc : Vec Ideal S1x256 .f32) (r : Fin 2048) (l : Fin 256) : k0_pay17 d sc (ix2 r l) = d (ix2 r l) * sc (ix2 0 l) := by
  pointwise [k0_pay17]

theorem pay_18 (p d : FVec Ideal S2048x256 .f32) (acc : Vec Ideal S256x256 .f32) (k l : Fin 256) :
    k0_pay18 p d acc (ix2 k l) = acc (ix2 k l) + ∑ r : Fin 2048, p (ix2 r k) * d (ix2 r l) := by
  pointwise [k0_pay18]

theorem pay_19 (d : FVec Ideal S2048x256 .f32) (wb : Vec Ideal S256x256 .bf16) (r : Fin 2048) (l : Fin 256) :
    k0_pay19 d wb (ix2 r l) = ∑ x : Fin 256, d (ix2 r x) * wb (ix2 l x) := by
  pointwise [k0_pay19]

/-- The gradient by the mean. -/
abbrev qv (d : FVec Ideal S2048x256 .f32) (wb : Vec Ideal S256x256 .bf16) (l : Fin 256) : Seq := fun i => Ideal.div (k0_pay19 d wb (ix2 i l)) (CN (ix2 i l))

theorem pay_20 (d : FVec Ideal S2048x256 .f32) (wb : Vec Ideal S256x256 .bf16) (r : Fin 2048) (l : Fin 256) :
    k0_pay20 RW CN d wb (ix2 r l) = fsum 2 (qv d wb l) r := by
  rw [show (2 : ℕ) = 1 + 1 from rfl, fsum_add, fsum_one]
  unfold k0_pay20 qv
  generalize k0_pay19 d wb = y
  generalize CN = cn
  pointwise
  exact congrArg (Ideal.div (y (ix2 r l)) (cn (ix2 r l)) + ·) (sel_fore 1 (by omega) (by omega) (fun i => Ideal.div (y (ix2 i l)) (cn (ix2 i l))) r _)

theorem pay_21 (d : FVec Ideal S2048x256 .f32) (wb : Vec Ideal S256x256 .bf16) (r : Fin 2048) (l : Fin 256) :
    k0_pay21 RW CN d wb (ix2 r l) = fsum 4 (qv d wb l) r := by
  have e : fsum 2 (qv d wb l) = fun i => k0_pay20 RW CN d wb (ix2 i l) := funext fun i => (pay_20 d wb i l).symm
  rw [show (4 : ℕ) = 2 + 2 from rfl, fsum_add, e]
  clear e
  unfold k0_pay21
  generalize k0_pay20 RW CN d wb = y
  pointwise
  exact congrArg (y (ix2 r l) + ·) (sel_fore 2 (by omega) (by omega) (fun i => y (ix2 i l)) r _)

theorem pay_22 (d : FVec Ideal S2048x256 .f32) (wb : Vec Ideal S256x256 .bf16) (r : Fin 2048) (l : Fin 256) :
    k0_pay22 RW CN d wb (ix2 r l) = fsum 8 (qv d wb l) r := by
  have e : fsum 4 (qv d wb l) = fun i => k0_pay21 RW CN d wb (ix2 i l) := funext fun i => (pay_21 d wb i l).symm
  rw [show (8 : ℕ) = 4 + 4 from rfl, fsum_add, e]
  clear e
  unfold k0_pay22
  generalize k0_pay21 RW CN d wb = y
  pointwise
  exact congrArg (y (ix2 r l) + ·) (sel_fore 4 (by omega) (by omega) (fun i => y (ix2 i l)) r _)

theorem pay_23 (d : FVec Ideal S2048x256 .f32) (wb : Vec Ideal S256x256 .bf16) (r : Fin 2048) (l : Fin 256) :
    k0_pay23 RW CN d wb (ix2 r l) = fsum 16 (qv d wb l) r := by
  have e : fsum 8 (qv d wb l) = fun i => k0_pay22 RW CN d wb (ix2 i l) := funext fun i => (pay_22 d wb i l).symm
  rw [show (16 : ℕ) = 8 + 8 from rfl, fsum_add, e]
  clear e
  unfold k0_pay23
  generalize k0_pay22 RW CN d wb = y
  pointwise
  exact congrArg (y (ix2 r l) + ·) (sel_fore 8 (by omega) (by omega) (fun i => y (ix2 i l)) r _)

theorem pay_1 (d : FVec Ideal S2048x256 .f32) (wb : Vec Ideal S256x256 .bf16) (r : Fin 2048) (l : Fin 256) :
    k0_pay1 LN (k0_pay19 d wb) (k0_pay20 RW CN d wb) (k0_pay21 RW CN d wb) (k0_pay22 RW CN d wb) (k0_pay23 RW CN d wb) 64#32 (k0_pay24 LN) k0_pay25 (ix2 r l)
      = fsum (win (grp l)) (qv d wb l) r - k0_pay19 d wb (ix2 r l) := by
  rw [← pick (grp l) (fun n => fsum n (qv d wb l) r), ← grpW_eq l]
  rw [← pay_20, ← pay_21, ← pay_22, ← pay_23]
  generalize k0_pay20 RW CN d wb = a4
  generalize k0_pay21 RW CN d wb = a5
  generalize k0_pay22 RW CN d wb = a6
  generalize k0_pay23 RW CN d wb = a7
  generalize k0_pay19 d wb = y
  pointwise [k0_pay1, k0_pay24, k0_pay25]
  rfl

theorem idx_val : ∀ t : Fin cfg0.N, win0_0.index t = ![t.val, 2]
    ∧ win0_1.index t = ![t.val, 3]
    ∧ win0_2.index t = ![0, 0]
    ∧ win0_3.index t = ![0, 0]
    ∧ win0_4.index t = ![t.val, 0]
    ∧ win0_5.index t = ![0, 0]
    ∧ win0_6.index t = ![0, 0] :=
  (by decide +kernel : ∀ t : Fin grid0.N, _)

theorem t_lt (t : Fin cfg0.N) : t.val < 4 := lt_of_lt_of_eq t.isLt N_0

theorem read_x (c : Dev nD) (t : Fin cfg0.N) (i : Fin 2048) (l : Fin 256) :
    iblk m c 0 t (ix2 i l) = m ((c : Thread nD τ).loc main_arg0) (ix2 (rowOf t.val (t_lt t) i) ⟨512 + l.val, by omega⟩) := by
  blk_point [iblk, V, idx_val t]

theorem read_d (c : Dev nD) (t : Fin cfg0.N) (i : Fin 2048) (l : Fin 256) :
    iblk m c 1 t (ix2 i l) = m ((c : Thread nD τ).loc main_arg1) (ix2 (rowOf t.val (t_lt t) i) ⟨768 + l.val, by omega⟩) := by
  blk_point [iblk, V, idx_val t]

theorem upd_congr (f g : Fin 2 → ℤ) (x y : FVec Ideal S256x256 .f32) (u v : FVec Ideal S64x64 .f32) (hx : x = y) (hu : u = v) (h0 : f 0 = g 0) (h1 : f 1 = g 1) :
    Host.dynamicUpdateSlice x u f updateFits_S256x256_S64x64 = Host.dynamicUpdateSlice y v g updateFits_S256x256_S64x64 := by
  have : f = g := funext fun k => by
    match k with
    | ⟨0, _⟩ => exact h0
    | ⟨1, _⟩ => exact h1
  rw [this, hx, hu]

/-- A block, as the host takes it from the weights. -/
def b0 (w : FVec Ideal S4x64x64 .f32) : FVec Ideal S64x64 .f32 := shapeCast S64x64 (extractStridedSlice S1x64x64 ![0, 0, 0] w slices_S4x64x64_S1x64x64_0_0_0) shapeCasts_S1x64x64_S64x64
/-- The second block. -/
def b1 (w : FVec Ideal S4x64x64 .f32) : FVec Ideal S64x64 .f32 := shapeCast S64x64 (extractStridedSlice S1x64x64 ![1, 0, 0] w slices_S4x64x64_S1x64x64_1_0_0) shapeCasts_S1x64x64_S64x64
/-- The third block. -/
def b2 (w : FVec Ideal S4x64x64 .f32) : FVec Ideal S64x64 .f32 := shapeCast S64x64 (extractStridedSlice S1x64x64 ![2, 0, 0] w slices_S4x64x64_S1x64x64_2_0_0) shapeCasts_S1x64x64_S64x64
/-- The fourth block. -/
def b3 (w : FVec Ideal S4x64x64 .f32) : FVec Ideal S64x64 .f32 := shapeCast S64x64 (extractStridedSlice S1x64x64 ![3, 0, 0] w slices_S4x64x64_S1x64x64_3_0_0) shapeCasts_S1x64x64_S64x64

theorem b0_at (w : FVec Ideal S4x64x64 .f32) (a b : Fin 64) : b0 w (ix2 a b) = w (ix3 0 a b) := by unfold b0; pointwise
theorem b1_at (w : FVec Ideal S4x64x64 .f32) (a b : Fin 64) : b1 w (ix2 a b) = w (ix3 1 a b) := by unfold b1; pointwise
theorem b2_at (w : FVec Ideal S4x64x64 .f32) (a b : Fin 64) : b2 w (ix2 a b) = w (ix3 2 a b) := by unfold b2; pointwise
theorem b3_at (w : FVec Ideal S4x64x64 .f32) (a b : Fin 64) : b3 w (ix2 a b) = w (ix3 3 a b) := by unfold b3; pointwise

/-- The block diagonal, as the host writes it. -/
def wbd (w : FVec Ideal S4x64x64 .f32) : FVec Ideal S256x256 .bf16 :=
  truncf .bf16 (Host.dynamicUpdateSlice (Host.dynamicUpdateSlice (Host.dynamicUpdateSlice (Host.dynamicUpdateSlice (broadcastInDim S256x256 ![] bcast_S_S256x256 (constant S_ .f32 0x00000000#32))
    (b0 w) (fun _ => (0#32 : BitVec 32).toInt) updateFits_S256x256_S64x64) (b1 w) (fun _ => (64#32 : BitVec 32).toInt) updateFits_S256x256_S64x64)
    (b2 w) (fun _ => (128#32 : BitVec 32).toInt) updateFits_S256x256_S64x64) (b3 w) (fun _ => (192#32 : BitVec 32).toInt) updateFits_S256x256_S64x64) bitsLt_bf16_f32

theorem wbd_at (w : FVec Ideal S4x64x64 .f32) (a l : Fin 256) : wbd w (ix2 a l) = diag (fun g x y => w (ix3 g x y)) a l :=
  four_blocks (fun g x y => w (ix3 g x y)) _ _ _ _ (b0 w) (b1 w) (b2 w) (b3 w) (broadcastInDim S256x256 ![] bcast_S_S256x256 (constant (F := Ideal) S_ .f32 0x00000000#32)) updateFits_S256x256_S64x64
    (b0_at w) (b1_at w) (b2_at w) (b3_at w) (fun a l => by pointwise) rfl rfl rfl rfl a l

theorem V_13 (c : Dev nD) : (V m c main_v13 : FVec Ideal S256x256 .bf16) = wbd (m ((c : Thread nD τ).loc main_arg2)) := by
  entry_read
  unfold wbd b0 b1 b2 b3
  refine congrArg (truncf .bf16 · bitsLt_bf16_f32) (upd_congr _ _ _ _ _ _ ?_ rfl rfl rfl)
  refine (upd_congr _ _ _ _ _ _ ?_ rfl rfl rfl)
  refine (upd_congr _ _ _ _ _ _ ?_ rfl rfl rfl)
  refine (upd_congr _ _ _ _ _ _ ?_ rfl rfl rfl)
  rfl

theorem read_w (c : Dev nD) (t : Fin cfg0.N) (a l : Fin 256) :
    iblk m c 2 t (ix2 a l) = diag (fun g x y => m ((c : Thread nD τ).loc main_arg2) (ix3 g x y)) a l := by
  blk_simp [iblk, idx_val t]
  have h : (win0_2.blk t).view.emb (ix2 a l) = ix2 a l := by blk_ext [idx_val t]
  refine (congrArg (V m c main_v13) h).trans ?_
  rw [V_13, wbd_at]

theorem read_s (c : Dev nD) (t : Fin cfg0.N) (l : Fin 256) :
    iblk m c 3 t (ix2 0 l) = m ((c : Thread nD τ).loc main_arg3) (ix1 l) := by
  blk_simp [iblk, idx_val t]
  entry_read
  have h : (win0_3.blk t).view.emb (ix2 0 l) = ix2 0 l := by blk_ext [idx_val t]
  rw [show ((View.whole main_v14).slice (win0_3.rect t)).emb (ix2 0 l) = _ from h]
  pointwise

/-- One sequence of the pooled columns. -/
def seqOf (h : FVec Ideal S8192x2816 .f32) (b : ℕ) (hb : b < 4) (i : Fin 2048) (l : Fin 256) : EReal := h (ix2 (rowOf b hb i) ⟨512 + l.val, by omega⟩)

/-- One sequence of the cotangent. -/
def ctOf (d : FVec Ideal S8192x1024 .f32) (b : ℕ) (hb : b < 4) (i : Fin 2048) (l : Fin 256) : EReal := d (ix2 (rowOf b hb i) ⟨768 + l.val, by omega⟩)

/-- One sequence of the gradient by the pooled columns, at one row. -/
def dpOf (d : FVec Ideal S8192x1024 .f32) (w : FVec Ideal S4x64x64 .f32) (sc : FVec Ideal S256 .f32) (b : ℕ) (hb : b < 4) (i : Fin 2048) (l : Fin 256) : EReal :=
  dpool (fun x => ctOf d b hb i x * sc (ix1 x)) (fun g x y => w (ix3 g x y)) l

/-- The gradient by the columns at one row. -/
def DUAT (d : FVec Ideal S8192x1024 .f32) (w : FVec Ideal S4x64x64 .f32) (sc : FVec Ideal S256 .f32) (b : ℕ) (hb : b < 4) (i : Fin 2048) (l : Fin 256) : EReal :=
  fsum (win (grp l)) (fun n => Ideal.div (dpOf d w sc b hb n l) (cnt n (grp l))) i - dpOf d w sc b hb i l

/-- All of it. -/
def DU (d : FVec Ideal S8192x1024 .f32) (w : FVec Ideal S4x64x64 .f32) (sc : FVec Ideal S256 .f32) : FVec Ideal S8192x256 .bf16 := fun y =>
  DUAT d w sc ((y 0).val / 2048) (by have := (y 0).isLt; simp only [Matrix.cons_val_zero] at this; omega) ⟨(y 0).val % 2048, by omega⟩ (y 1)

/-- One sequence's part of the gradient by the weights. -/
def dwOf (h : FVec Ideal S8192x2816 .f32) (d : FVec Ideal S8192x1024 .f32) (sc : FVec Ideal S256 .f32) (b : ℕ) (hb : b < 4) (k l : Fin 256) : EReal :=
  ∑ i : Fin 2048, pooled (seqOf h b hb) i k * (ctOf d b hb i l * sc (ix1 l))

/-- The gradient by the weights: every pair of columns. -/
def DW (h : FVec Ideal S8192x2816 .f32) (d : FVec Ideal S8192x1024 .f32) (sc : FVec Ideal S256 .f32) : FVec Ideal S256x256 .f32 := fun y =>
  ∑ b : Fin 4, dwOf h d sc b.val b.isLt (y 0) (y 1)

/-- One sequence's part of the gradient by the scale. -/
def dsOf (h : FVec Ideal S8192x2816 .f32) (d : FVec Ideal S8192x1024 .f32) (w : FVec Ideal S4x64x64 .f32) (b : ℕ) (hb : b < 4) (l : Fin 256) : EReal :=
  ∑ i : Fin 2048, ctOf d b hb i l * mix (pooled (seqOf h b hb) i) (fun g x y => w (ix3 g x y)) l

/-- The gradient by the scale. -/
def DS (h : FVec Ideal S8192x2816 .f32) (d : FVec Ideal S8192x1024 .f32) (w : FVec Ideal S4x64x64 .f32) : FVec Ideal S1x256 .f32 := fun y =>
  ∑ b : Fin 4, dsOf h d w b.val b.isLt (y 1)

theorem rows_x (c : Dev nD) (t : Fin cfg0.N) : (fun (i : Fin 2048) (l : Fin 256) => iblk m c 0 t (ix2 i l)) = seqOf (m ((c : Thread nD τ).loc main_arg0)) t.val (t_lt t) :=
  funext fun i => funext fun l => read_x m c t i l

theorem read_dm (c : Dev nD) (t : Fin cfg0.N) (i : Fin 2048) (l : Fin 256) : k0_pay17 (iblk m c 1 t) (iblk m c 3 t) (ix2 i l) = ctOf (m ((c : Thread nD τ).loc main_arg1)) t.val (t_lt t) i l * (m ((c : Thread nD τ).loc main_arg3)) (ix1 l) := by
  rw [pay_17, read_d, read_s]; rfl

theorem read_dp (c : Dev nD) (t : Fin cfg0.N) (i : Fin 2048) (l : Fin 256) :
    k0_pay19 (k0_pay17 (iblk m c 1 t) (iblk m c 3 t)) (iblk m c 2 t) (ix2 i l) = dpOf (m ((c : Thread nD τ).loc main_arg1)) (m ((c : Thread nD τ).loc main_arg2)) (m ((c : Thread nD τ).loc main_arg3)) t.val (t_lt t) i l := by
  rw [pay_19]
  unfold dpOf
  rw [← sum_diag_right]
  exact Finset.sum_congr rfl fun x _ => by rw [read_dm, read_w]

theorem point_4 (c : Dev nD) (t : Fin cfg0.N) (i : Fin 2048) (l : Fin 256) :
    k0_pay1 LN (k0_pay19 (k0_pay17 (iblk m c 1 t) (iblk m c 3 t)) (iblk m c 2 t)) (k0_pay20 RW CN (k0_pay17 (iblk m c 1 t) (iblk m c 3 t)) (iblk m c 2 t)) (k0_pay21 RW CN (k0_pay17 (iblk m c 1 t) (iblk m c 3 t)) (iblk m c 2 t))
      (k0_pay22 RW CN (k0_pay17 (iblk m c 1 t) (iblk m c 3 t)) (iblk m c 2 t)) (k0_pay23 RW CN (k0_pay17 (iblk m c 1 t) (iblk m c 3 t)) (iblk m c 2 t)) 64#32 (k0_pay24 LN) k0_pay25 (ix2 i l)
      = DUAT (m ((c : Thread nD τ).loc main_arg1)) (m ((c : Thread nD τ).loc main_arg2)) (m ((c : Thread nD τ).loc main_arg3)) t.val (t_lt t) i l := by
  rw [pay_1, read_dp]
  unfold DUAT
  refine congrArg (fun f => fsum (win (grp l)) f i - _) (funext fun n => ?_)
  show Ideal.div (k0_pay19 (F := Ideal) _ _ (ix2 n l)) (CN (ix2 n l)) = _
  rw [read_dp, CN_at]

theorem point_5 (c : Dev nD) (t : Fin cfg0.N) (acc : Vec Ideal S256x256 .f32) (j : S256x256.Idx) :
    k0_pay18 (k0_pay15 (iblk m c 0 t) LN (k0_pay4 (iblk m c 0 t)) (k0_pay5 (iblk m c 0 t)) (k0_pay6 (iblk m c 0 t)) (k0_pay7 (iblk m c 0 t)) CN 64#32 (k0_pay13 LN) (k0_pay14 LN) 1#32 0#32)
      (k0_pay17 (iblk m c 1 t) (iblk m c 3 t)) acc j
      = acc j + dwOf (m ((c : Thread nD τ).loc main_arg0)) (m ((c : Thread nD τ).loc main_arg1)) (m ((c : Thread nD τ).loc main_arg3)) t.val (t_lt t) (j 0) (j 1) := by
  idx_vars j
  rw [pay_18]
  refine congrArg (acc (ix2 j0 j1) + ·) (Finset.sum_congr rfl fun i _ => ?_)
  rw [pay_15, read_dm, rows_x]

theorem point_6 (c : Dev nD) (t : Fin cfg0.N) (acc : Vec Ideal S1x256 .f32) (j : S1x256.Idx) :
    k0_pay16 (iblk m c 0 t) LN (k0_pay4 (iblk m c 0 t)) (k0_pay5 (iblk m c 0 t)) (k0_pay6 (iblk m c 0 t)) (k0_pay7 (iblk m c 0 t)) CN 64#32 (k0_pay13 LN) (k0_pay14 LN) 1#32 0#32
      (iblk m c 2 t) (iblk m c 1 t) acc j
      = acc j + dsOf (m ((c : Thread nD τ).loc main_arg0)) (m ((c : Thread nD τ).loc main_arg1)) (m ((c : Thread nD τ).loc main_arg2)) t.val (t_lt t) (j 1) := by
  idx_vars j
  obtain rfl : j0 = 0 := Subsingleton.elim _ _
  rw [pay_16]
  refine congrArg (acc (ix2 0 j1) + ·) (Finset.sum_congr rfl fun i _ => ?_)
  rw [read_d]
  refine congrArg (fun z : EReal => (ctOf (m ((c : Thread nD τ).loc main_arg1)) t.val (t_lt t) i j1 : EReal) * z) ?_
  refine Eq.trans (Finset.sum_congr rfl fun x _ => ?_) (sum_diag _ _ j1)
  rw [pay_15, rows_x, read_w]

theorem final_4 (c : Dev nD) : (dats m 0 c).arrAt 4 (cfgs 0).N = DU (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  idx_vars y
  have h : ((cfg0.win 4).blk t).view.emb (ix2 y0 y1) = ix2 (rowOf t.val (t_lt t) y0) y1 := by blk_ext [idx_val t]
  refine Eq.trans ?_ (congrArg (DU _ _ _) h).symm
  have e1 : (t.val * 2048 + y0.val) / 2048 = t.val := by omega
  have e2 : (t.val * 2048 + y0.val) % 2048 = y0.val := by omega
  have e3 : DU (m ((c : Thread nD τ).loc main_arg1)) (m ((c : Thread nD τ).loc main_arg2)) (m ((c : Thread nD τ).loc main_arg3)) (ix2 (rowOf t.val (t_lt t) y0) y1) = DUAT (m ((c : Thread nD τ).loc main_arg1)) (m ((c : Thread nD τ).loc main_arg2)) (m ((c : Thread nD τ).loc main_arg3)) t.val (t_lt t) y0 y1 := by
    show DUAT _ _ _ ((t.val * 2048 + y0.val) / 2048) _ ⟨(t.val * 2048 + y0.val) % 2048, _⟩ y1 = _
    simp only [e1, e2]
  rw [e3]
  by_cases hc : t.val % 4 = 0
  · rw [outsAt0_A m c t hc]; frame_out
    exact point_4 m c t y0 y1
  · rw [outsAt0_B m c t hc]; frame_out
    exact point_4 m c t y0 y1

theorem final_5 (c : Dev nD) : (dats m 0 c).arrAt 5 (cfgs 0).N = DW (m ((c : Thread nD τ).loc main_arg0)) (m ((c : Thread nD τ).loc main_arg1)) (m ((c : Thread nD τ).loc main_arg3)) := by
  refine (dats m 0 c).arrAt_eq_of_after_last 5 t0_3 (by decide +kernel) _ fun j => ?_
  blk_simp
  rw [after0_5, Pipeline.eq_sum_fin_of_reset_step_apply_last (fun n h => (outsAt0 m c n h).2.1) 4 (fun _ => 0)
    (fun t j => dwOf (m ((c : Thread nD τ).loc main_arg0)) (m ((c : Thread nD τ).loc main_arg1)) (m ((c : Thread nD τ).loc main_arg3)) t.val (t_lt t) (j 0) (j 1))
    (fun t h j => by
      rw [outsAt0_A m c t h]; frame_out
      refine (point_5 m c t (k0_pay2 (F := Ideal)) j).trans (congrArg (· + _) ?_)
      pointwise [k0_pay2])
    (fun t h j => by
      rw [outsAt0_B m c t h]; frame_out
      exact point_5 m c t _ j)
    (le_of_eq N_0) t0_3 rfl j, zero_add]
  exact Fintype.sum_equiv (M := EReal) (finCongr N_0) (fun p : Fin cfg0.N => dwOf (m ((c : Thread nD τ).loc main_arg0)) (m ((c : Thread nD τ).loc main_arg1)) (m ((c : Thread nD τ).loc main_arg3)) p.val (t_lt p) (j 0) (j 1)) (fun b : Fin 4 => dwOf (m ((c : Thread nD τ).loc main_arg0)) (m ((c : Thread nD τ).loc main_arg1)) (m ((c : Thread nD τ).loc main_arg3)) b.val b.isLt (j 0) (j 1)) fun p => rfl

theorem final_6 (c : Dev nD) : (dats m 0 c).arrAt 6 (cfgs 0).N = DS (m ((c : Thread nD τ).loc main_arg0)) (m ((c : Thread nD τ).loc main_arg1)) (m ((c : Thread nD τ).loc main_arg2)) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0)
    (fun t j => dsOf (m ((c : Thread nD τ).loc main_arg0)) (m ((c : Thread nD τ).loc main_arg1)) (m ((c : Thread nD τ).loc main_arg2)) t.val (t_lt t) (j 1))
    (fun t h j => by
      rw [outsAt0_A m c t h]; frame_out
      refine (point_6 m c t (k0_pay3 (F := Ideal)) j).trans (congrArg (· + _) ?_)
      pointwise [k0_pay3])
    (fun t h j => by
      rw [outsAt0_B m c t h]; frame_out
      exact point_6 m c t _ j)
    (le_of_eq N_0) t0_3 rfl j, zero_add]
  exact Fintype.sum_equiv (M := EReal) (finCongr N_0) (fun p : Fin cfg0.N => dsOf (m ((c : Thread nD τ).loc main_arg0)) (m ((c : Thread nD τ).loc main_arg1)) (m ((c : Thread nD τ).loc main_arg2)) p.val (t_lt p) (j 1)) (fun b : Fin 4 => dsOf (m ((c : Thread nD τ).loc main_arg0)) (m ((c : Thread nD τ).loc main_arg1)) (m ((c : Thread nD τ).loc main_arg2)) b.val b.isLt (j 1)) fun p => rfl

open Cert.PoolRefIdeal.Gen in
/-- The pooled columns, by groups. -/
def refU (h : FVec Ideal Cert.PoolRefIdeal.S8192x2816 .f32) : FVec Ideal Cert.PoolRefIdeal.S4x2048x4x64 .f32 :=
  shapeCast _ (shapeCast _ (extractStridedSlice Cert.PoolRefIdeal.S8192x256 ![0, 512] h slices_S8192x2816_S8192x256_0_512) shapeCasts_S8192x256_S4x2048x256) shapeCasts_S4x2048x256_S4x2048x4x64

theorem refU_at (h : FVec Ideal Cert.PoolRefIdeal.S8192x2816 .f32) (b : Fin 4) (i : Fin 2048) (g : Fin 4) (x : Fin 64) :
    refU h (ix4 b i g x) = seqOf h b.val b.isLt i (colAt g x) := by
  unfold refU seqOf
  pointwise

open Cert.PoolRefIdeal.Gen in
/-- Which entries are in the window of a row. -/
def refMask : FVec Ideal Cert.PoolRefIdeal.S4x2048x2048 .f32 :=
  select (andi (cmpi .sle (iotaInDim Cert.PoolRefIdeal.S4x2048x2048 32 2) (iotaInDim Cert.PoolRefIdeal.S4x2048x2048 32 1)) (cmpi .slt (iotaInDim Cert.PoolRefIdeal.S4x2048x2048 32 1) (addi (iotaInDim Cert.PoolRefIdeal.S4x2048x2048 32 2) (id (select (cmpi .eq (iotaInDim Cert.PoolRefIdeal.S4x2048x2048 32 0) (broadcastInDim Cert.PoolRefIdeal.S4x2048x2048 ![] Cert.PoolRefIdeal.Gen.bcast_S_S4x2048x2048 (constantI Cert.PoolRefIdeal.S_ 32 0#32))) (broadcastInDim Cert.PoolRefIdeal.S4x2048x2048 ![] Cert.PoolRefIdeal.Gen.bcast_S_S4x2048x2048 (constantI Cert.PoolRefIdeal.S_ 32 2#32)) (select (cmpi .eq (iotaInDim Cert.PoolRefIdeal.S4x2048x2048 32 0) (broadcastInDim Cert.PoolRefIdeal.S4x2048x2048 ![] Cert.PoolRefIdeal.Gen.bcast_S_S4x2048x2048 (constantI Cert.PoolRefIdeal.S_ 32 1#32))) (broadcastInDim Cert.PoolRefIdeal.S4x2048x2048 ![] Cert.PoolRefIdeal.Gen.bcast_S_S4x2048x2048 (constantI Cert.PoolRefIdeal.S_ 32 4#32)) (select (cmpi .eq (iotaInDim Cert.PoolRefIdeal.S4x2048x2048 32 0) (broadcastInDim Cert.PoolRefIdeal.S4x2048x2048 ![] Cert.PoolRefIdeal.Gen.bcast_S_S4x2048x2048 (constantI Cert.PoolRefIdeal.S_ 32 2#32))) (broadcastInDim Cert.PoolRefIdeal.S4x2048x2048 ![] Cert.PoolRefIdeal.Gen.bcast_S_S4x2048x2048 (constantI Cert.PoolRefIdeal.S_ 32 8#32)) (broadcastInDim Cert.PoolRefIdeal.S4x2048x2048 ![] Cert.PoolRefIdeal.Gen.bcast_S_S4x2048x2048 (constantI Cert.PoolRefIdeal.S_ 32 16#32))))))))) (broadcastInDim Cert.PoolRefIdeal.S4x2048x2048 ![] Cert.PoolRefIdeal.Gen.bcast_S_S4x2048x2048 (constant Cert.PoolRefIdeal.S_ .f32 0x3F800000#32)) (broadcastInDim Cert.PoolRefIdeal.S4x2048x2048 ![] Cert.PoolRefIdeal.Gen.bcast_S_S4x2048x2048 (constant Cert.PoolRefIdeal.S_ .f32 0x00000000#32))

theorem refMask_at (g : Fin 4) (t s : Fin 2048) : refMask (ix3 g t s) = if s.val ≤ t.val ∧ t.val < s.val + win g then 1 else 0 := by
  rw [← inside_eq]
  unfold refMask winW
  pointwise
  rfl

open Cert.PoolRefIdeal.Gen in
/-- How many they are. -/
def refCnt : FVec Ideal Cert.PoolRefIdeal.S2048x4 .f32 :=
  sitofp .f32 (minsi (addi (iotaInDim Cert.PoolRefIdeal.S2048x4 32 0) (broadcastInDim Cert.PoolRefIdeal.S2048x4 ![] Cert.PoolRefIdeal.Gen.bcast_S_S2048x4 (constantI Cert.PoolRefIdeal.S_ 32 1#32))) (id (select (cmpi .eq (iotaInDim Cert.PoolRefIdeal.S2048x4 32 1) (broadcastInDim Cert.PoolRefIdeal.S2048x4 ![] Cert.PoolRefIdeal.Gen.bcast_S_S2048x4 (constantI Cert.PoolRefIdeal.S_ 32 0#32))) (broadcastInDim Cert.PoolRefIdeal.S2048x4 ![] Cert.PoolRefIdeal.Gen.bcast_S_S2048x4 (constantI Cert.PoolRefIdeal.S_ 32 2#32)) (select (cmpi .eq (iotaInDim Cert.PoolRefIdeal.S2048x4 32 1) (broadcastInDim Cert.PoolRefIdeal.S2048x4 ![] Cert.PoolRefIdeal.Gen.bcast_S_S2048x4 (constantI Cert.PoolRefIdeal.S_ 32 1#32))) (broadcastInDim Cert.PoolRefIdeal.S2048x4 ![] Cert.PoolRefIdeal.Gen.bcast_S_S2048x4 (constantI Cert.PoolRefIdeal.S_ 32 4#32)) (select (cmpi .eq (iotaInDim Cert.PoolRefIdeal.S2048x4 32 1) (broadcastInDim Cert.PoolRefIdeal.S2048x4 ![] Cert.PoolRefIdeal.Gen.bcast_S_S2048x4 (constantI Cert.PoolRefIdeal.S_ 32 2#32))) (broadcastInDim Cert.PoolRefIdeal.S2048x4 ![] Cert.PoolRefIdeal.Gen.bcast_S_S2048x4 (constantI Cert.PoolRefIdeal.S_ 32 8#32)) (broadcastInDim Cert.PoolRefIdeal.S2048x4 ![] Cert.PoolRefIdeal.Gen.bcast_S_S2048x4 (constantI Cert.PoolRefIdeal.S_ 32 16#32)))))))

theorem refCnt_at (t : Fin 2048) (g : Fin 4) : refCnt (ix2 t g) = cnt t g := by
  unfold refCnt cnt winW
  pointwise
  rfl

open Cert.PoolRefIdeal.Gen in
/-- Their mean less the entry. -/
def refPool (U : FVec Ideal Cert.PoolRefIdeal.S4x2048x4x64 .f32) (M : FVec Ideal Cert.PoolRefIdeal.S4x2048x2048 .f32) (C : FVec Ideal Cert.PoolRefIdeal.S2048x4 .f32) : FVec Ideal Cert.PoolRefIdeal.S4x2048x4x64 .f32 :=
  subf (Host.divf (transpose Cert.PoolRefIdeal.S4x2048x4x64 [1, 3, 0, 2] (Host.dotGeneral Cert.PoolRefIdeal.dot_S4x2048x4x64_S4x2048x2048_S4x4x64x2048_1_2_03_1_2_0 none U M) transposes_S4x4x64x2048_S4x2048x4x64_1_3_0_2) (broadcastInDim Cert.PoolRefIdeal.S4x2048x4x64 ![0, 1, 2, 3] bcast_S1x2048x4x1_S4x2048x4x64_0_1_2_3 (broadcastInDim Cert.PoolRefIdeal.S1x2048x4x1 ![1, 2] bcast_S2048x4_S1x2048x4x1_1_2 C))) U

theorem refPool_at (U : FVec Ideal Cert.PoolRefIdeal.S4x2048x4x64 .f32) (M : FVec Ideal Cert.PoolRefIdeal.S4x2048x2048 .f32) (C : FVec Ideal Cert.PoolRefIdeal.S2048x4 .f32) (b : Fin 4) (i : Fin 2048) (g : Fin 4) (x : Fin 64) :
    refPool U M C (ix4 b i g x) = Ideal.div (∑ s : Fin 2048, U (ix4 b s g x) * M (ix3 g i s)) (C (ix2 i g)) - U (ix4 b i g x) := by
  unfold refPool
  pointwise

theorem ref_pool (h : FVec Ideal S8192x2816 .f32) (b : Fin 4) (i : Fin 2048) (g : Fin 4) (x : Fin 64) :
    refPool (refU h) refMask refCnt (ix4 b i g x) = pooled (seqOf h b.val b.isLt) i (colAt g x) := by
  rw [refPool_at, refCnt_at, refU_at]
  have e1 : grp (colAt g x) = g := Fin.ext (by show (g.val * 64 + x.val) / 64 = g.val; omega)
  unfold pooled
  rw [e1]
  refine congrArg (fun v => Ideal.div v (cnt i g) - seqOf h b.val b.isLt i (colAt g x)) ?_
  unfold Cert.PoolRow.tsum
  refine Finset.sum_congr rfl fun s _ => ?_
  rw [refU_at, refMask_at, mul_ite, mul_one, mul_zero]

open Cert.PoolRefIdeal.Gen in
/-- The cotangent, by sequences. -/
def refD (a1 : FVec Ideal Cert.PoolRefIdeal.S8192x1024 .f32) : FVec Ideal Cert.PoolRefIdeal.S4x2048x256 .f32 :=
  shapeCast _ (extractStridedSlice Cert.PoolRefIdeal.S8192x256 ![0, 768] a1 slices_S8192x1024_S8192x256_0_768) shapeCasts_S8192x256_S4x2048x256

theorem refD_at (a1 : FVec Ideal Cert.PoolRefIdeal.S8192x1024 .f32) (b : Fin 4) (i : Fin 2048) (l : Fin 256) : refD a1 (ix3 b i l) = ctOf a1 b.val b.isLt i l := by
  unfold refD ctOf
  pointwise

open Cert.PoolRefIdeal.Gen in
/-- The cotangent times the scale, by groups. -/
def refE (D : FVec Ideal Cert.PoolRefIdeal.S4x2048x256 .f32) (a3 : FVec Ideal Cert.PoolRefIdeal.S256 .f32) : FVec Ideal Cert.PoolRefIdeal.S4x2048x4x64 .f32 :=
  shapeCast _ (mulf D (broadcastInDim Cert.PoolRefIdeal.S4x2048x256 ![0, 1, 2] bcast_S1x1x256_S4x2048x256_0_1_2 (broadcastInDim Cert.PoolRefIdeal.S1x1x256 ![2] bcast_S256_S1x1x256_2 a3))) shapeCasts_S4x2048x256_S4x2048x4x64

theorem refE_at (D : FVec Ideal Cert.PoolRefIdeal.S4x2048x256 .f32) (a3 : FVec Ideal Cert.PoolRefIdeal.S256 .f32) (b : Fin 4) (i : Fin 2048) (g : Fin 4) (x : Fin 64) :
    refE D a3 (ix4 b i g x) = D (ix3 b i (colAt g x)) * a3 (ix1 (colAt g x)) := by
  unfold refE
  pointwise

open Cert.PoolRefIdeal.Gen in
/-- The gradient by the pooled columns. -/
def refG (E : FVec Ideal Cert.PoolRefIdeal.S4x2048x4x64 .f32) (a2 : FVec Ideal Cert.PoolRefIdeal.S4x64x64 .f32) : FVec Ideal Cert.PoolRefIdeal.S4x2048x4x64 .f32 :=
  transpose Cert.PoolRefIdeal.S4x2048x4x64 [1, 2, 0, 3] (Host.dotGeneral Cert.PoolRefIdeal.dot_S4x64x4x2048_S4x64x64_S4x4x2048x64_1_2_23_1_0_0 none (transpose Cert.PoolRefIdeal.S4x64x4x2048 [2, 3, 0, 1] E transposes_S4x2048x4x64_S4x64x4x2048_2_3_0_1) a2) transposes_S4x4x2048x64_S4x2048x4x64_1_2_0_3

theorem refG_at (E : FVec Ideal Cert.PoolRefIdeal.S4x2048x4x64 .f32) (a2 : FVec Ideal Cert.PoolRefIdeal.S4x64x64 .f32) (b : Fin 4) (i : Fin 2048) (g : Fin 4) (x : Fin 64) :
    refG E a2 (ix4 b i g x) = ∑ d : Fin 64, E (ix4 b i g d) * a2 (ix3 g x d) := by
  unfold refG
  pointwise

open Cert.PoolRefIdeal.Gen in
/-- It over the number of entries. -/
def refQ (G : FVec Ideal Cert.PoolRefIdeal.S4x2048x4x64 .f32) (C : FVec Ideal Cert.PoolRefIdeal.S2048x4 .f32) : FVec Ideal Cert.PoolRefIdeal.S4x2048x4x64 .f32 :=
  Host.divf G (broadcastInDim Cert.PoolRefIdeal.S4x2048x4x64 ![0, 1, 2, 3] bcast_S1x2048x4x1_S4x2048x4x64_0_1_2_3 (broadcastInDim Cert.PoolRefIdeal.S1x2048x4x1 ![1, 2] bcast_S2048x4_S1x2048x4x1_1_2 C))

theorem refQ_at (G : FVec Ideal Cert.PoolRefIdeal.S4x2048x4x64 .f32) (C : FVec Ideal Cert.PoolRefIdeal.S2048x4 .f32) (b : Fin 4) (i : Fin 2048) (g : Fin 4) (x : Fin 64) :
    refQ G C (ix4 b i g x) = Ideal.div (G (ix4 b i g x)) (C (ix2 i g)) := by
  unfold refQ
  pointwise

open Cert.PoolRefIdeal.Gen in
/-- The gradient by the columns. -/
def refDu (G Q : FVec Ideal Cert.PoolRefIdeal.S4x2048x4x64 .f32) (M : FVec Ideal Cert.PoolRefIdeal.S4x2048x2048 .f32) : FVec Ideal Cert.PoolRefIdeal.S8192x256 .bf16 :=
  truncf .bf16 (shapeCast _ (shapeCast _ (addf (Host.negf G) (transpose Cert.PoolRefIdeal.S4x2048x4x64 [1, 3, 0, 2] (Host.dotGeneral Cert.PoolRefIdeal.dot_S4x4x64x2048_S4x2048x2048_S4x4x64x2048_3_1_12_2_0_0 none (transpose Cert.PoolRefIdeal.S4x4x64x2048 [2, 0, 3, 1] Q transposes_S4x2048x4x64_S4x4x64x2048_2_0_3_1) M) transposes_S4x4x64x2048_S4x2048x4x64_1_3_0_2)) shapeCasts_S4x2048x4x64_S4x2048x256) shapeCasts_S4x2048x256_S8192x256) Cert.PoolRefIdeal.Gen.bitsLt_bf16_f32

theorem refDu_at (G Q : FVec Ideal Cert.PoolRefIdeal.S4x2048x4x64 .f32) (M : FVec Ideal Cert.PoolRefIdeal.S4x2048x2048 .f32) (r : Fin 8192) (l : Fin 256) :
    refDu G Q M (ix2 r l) = -G (ix4 ⟨r.val / 2048, by omega⟩ ⟨r.val % 2048, by omega⟩ (grp l) (plc l))
      + ∑ t : Fin 2048, Q (ix4 ⟨r.val / 2048, by omega⟩ t (grp l) (plc l)) * M (ix3 (grp l) t ⟨r.val % 2048, by omega⟩) := by
  unfold refDu
  pointwise

open Cert.PoolRefIdeal.Gen in
/-- The gradient by the weights. -/
def refDw (E P : FVec Ideal Cert.PoolRefIdeal.S4x2048x4x64 .f32) : FVec Ideal Cert.PoolRefIdeal.S256x256 .f32 :=
  shapeCast _ (broadcastInDim Cert.PoolRefIdeal.S4x64x4x64 ![0, 1, 2, 3] bcast_S4x64x1x64_S4x64x4x64_0_1_2_3 (broadcastInDim Cert.PoolRefIdeal.S4x64x1x64 ![0, 1, 3] bcast_S4x64x64_S4x64x1x64_0_1_3 (transpose Cert.PoolRefIdeal.S4x64x64 [0, 2, 1] (Host.dotGeneral Cert.PoolRefIdeal.dot_S4x64x4x2048_S4x2048x4x64_S4x64x64_23_01_1_3_0_2 none (transpose Cert.PoolRefIdeal.S4x64x4x2048 [2, 3, 0, 1] E transposes_S4x2048x4x64_S4x64x4x2048_2_3_0_1) P) transposes_S4x64x64_S4x64x64_0_2_1))) shapeCasts_S4x64x4x64_S256x256

theorem refDw_at (E P : FVec Ideal Cert.PoolRefIdeal.S4x2048x4x64 .f32) (k l : Fin 256) :
    refDw E P (ix2 k l) = ∑ b : Fin 4, ∑ i : Fin 2048, E (ix4 b i (grp k) (plc l)) * P (ix4 b i (grp k) (plc k)) := by
  unfold refDw
  pointwise

open Cert.PoolRefIdeal.Gen in
/-- The gradient by the scale. -/
def refDs (P : FVec Ideal Cert.PoolRefIdeal.S4x2048x4x64 .f32) (D : FVec Ideal Cert.PoolRefIdeal.S4x2048x256 .f32) (a2 : FVec Ideal Cert.PoolRefIdeal.S4x64x64 .f32) : FVec Ideal Cert.PoolRefIdeal.S1x256 .f32 :=
  broadcastInDim Cert.PoolRefIdeal.S1x256 ![1] Cert.PoolRefIdeal.Gen.bcast_S256_S1x256_1 (Host.reduceAdd (shapeCast _ (Host.reduceAdd (mulf (shapeCast _ (transpose Cert.PoolRefIdeal.S4x2048x4x64 [2, 3, 0, 1] (Host.dotGeneral Cert.PoolRefIdeal.dot_S4x64x64_S4x2048x4x64_S4x64x4x2048_1_3_2_01_0_2 none a2 P) transposes_S4x64x4x2048_S4x2048x4x64_2_3_0_1) shapeCasts_S4x2048x4x64_S4x2048x256) D) (constant Cert.PoolRefIdeal.S_ .f32 0x00000000#32) reducesTo_S4x2048x256_S256_d0_1 Cert.PoolRefIdeal.Gen.h_S_) shapeCasts_S256_S1x1x256) (constant Cert.PoolRefIdeal.S_ .f32 0x00000000#32) reducesTo_S1x1x256_S256_d0_1 Cert.PoolRefIdeal.Gen.h_S_)

theorem refDs_at (P : FVec Ideal Cert.PoolRefIdeal.S4x2048x4x64 .f32) (D : FVec Ideal Cert.PoolRefIdeal.S4x2048x256 .f32) (a2 : FVec Ideal Cert.PoolRefIdeal.S4x64x64 .f32) (l : Fin 256) :
    refDs P D a2 (ix2 0 l) = ∑ b : Fin 4, ∑ i : Fin 2048, (∑ x : Fin 64, a2 (ix3 (grp l) x (plc l)) * P (ix4 b i (grp l) x)) * D (ix3 b i l) := by
  unfold refDs
  pointwise
  rw [sum_front]
  simp only [Finset.univ_unique, Finset.sum_singleton]
  pointwise
  rw [sum_front]
  pointwise

theorem ref_dp (d : FVec Ideal S8192x1024 .f32) (w : FVec Ideal S4x64x64 .f32) (sc : FVec Ideal S256 .f32) (b : Fin 4) (i : Fin 2048) (l : Fin 256) :
    refG (refE (refD d) sc) w (ix4 b i (grp l) (plc l)) = dpOf d w sc b.val b.isLt i l := by
  rw [refG_at]
  unfold dpOf dpool
  exact Finset.sum_congr rfl fun x _ => by rw [refE_at, refD_at]

theorem ref_du (d : FVec Ideal S8192x1024 .f32) (w : FVec Ideal S4x64x64 .f32) (sc : FVec Ideal S256 .f32) :
    refDu (refG (refE (refD d) sc) w) (refQ (refG (refE (refD d) sc) w) refCnt) refMask = DU d w sc := by
  funext y
  idx_vars y
  rw [refDu_at, ref_dp]
  show _ = DUAT d w sc (y0.val / 2048) _ ⟨y0.val % 2048, _⟩ y1
  unfold DUAT
  rw [sub_eq_add_neg, add_comm]
  refine congrArg (· + _) ?_
  unfold fsum
  refine Finset.sum_congr rfl fun s _ => ?_
  rw [refMask_at, mul_ite, mul_one, mul_zero, refQ_at, refCnt_at, ref_dp]

theorem ref_dw (h : FVec Ideal S8192x2816 .f32) (d : FVec Ideal S8192x1024 .f32) (sc : FVec Ideal S256 .f32) (k l : Fin 256) (hg : k.val / 64 = l.val / 64) :
    refDw (refE (refD d) sc) (refPool (refU h) refMask refCnt) (ix2 k l) = DW h d sc (ix2 k l) := by
  rw [refDw_at]
  refine Finset.sum_congr rfl fun b _ => Finset.sum_congr rfl fun i _ => ?_
  have e1 : colAt (grp k) (plc k) = k := Fin.ext (by show k.val / 64 * 64 + k.val % 64 = k.val; omega)
  have e2 : colAt (grp k) (plc l) = l := Fin.ext (by show k.val / 64 * 64 + l.val % 64 = l.val; omega)
  rw [refE_at, refD_at, ref_pool, e1, e2, mul_comm]
  rfl

theorem ref_ds (h : FVec Ideal S8192x2816 .f32) (d : FVec Ideal S8192x1024 .f32) (w : FVec Ideal S4x64x64 .f32) :
    refDs (refPool (refU h) refMask refCnt) (refD d) w = DS h d w := by
  funext y
  idx_vars y
  obtain rfl : y0 = 0 := Subsingleton.elim _ _
  rw [refDs_at]
  refine Finset.sum_congr rfl fun b _ => Finset.sum_congr rfl fun i _ => ?_
  rw [refD_at, mul_comm]
  refine congrArg (ctOf d b.val b.isLt i y1 * ·) (Finset.sum_congr rfl fun x _ => ?_)
  rw [ref_pool, mul_comm]
  rfl

theorem div_64 : ∀ k : Fin 256, IntOp.divsi .host (BitVec.ofNat 32 k.val) 64#32 = BitVec.ofNat 32 (k.val / 64) := by decide +kernel

theorem on_blocks (a : FVec Ideal S8192x2816 .f32) (b : FVec Ideal S8192x1024 .f32) (w : FVec Ideal S4x64x64 .f32) (s : FVec Ideal S256 .f32) (k l : Fin 256)
    (h : (Cert.On_diagonal_blocks.fn (F := Ideal) a b w s).2.1 (ix2 k l) = 1#1) : k.val / 64 = l.val / 64 := by
  have e : (Cert.On_diagonal_blocks.fn (F := Ideal) a b w s).2.1 (ix2 k l) = IntOp.cmpi .eq (BitVec.ofNat 32 (k.val / 64)) (BitVec.ofNat 32 (l.val / 64)) := by
    rw [← div_64, ← div_64]
    rfl
  rw [e] at h
  exact (WordCmp.cmpi_eq_ofNat_eq_one_iff (by omega) (by omega)).mp h

theorem value : Cert.algebraic_PoolIdeal_PoolRefIdeal_on_diagonal_blocks := by
  intro m g m' g' _ hag
  refine ⟨fun c => DU (m ((c.tc : Thread nD τ).loc main_arg1)) (m ((c.tc : Thread nD τ).loc main_arg2)) (m ((c.tc : Thread nD τ).loc main_arg3)), fun c => DW (m ((c.tc : Thread nD τ).loc main_arg0)) (m ((c.tc : Thread nD τ).loc main_arg1)) (m ((c.tc : Thread nD τ).loc main_arg3)), fun c => DS (m ((c.tc : Thread nD τ).loc main_arg0)) (m ((c.tc : Thread nD τ).loc main_arg1)) (m ((c.tc : Thread nD τ).loc main_arg2)),
    (θ_run _ _ _).mono (fun r h c => ⟨fun i _ => congrFun ((h c).1.trans (final_4 m c)) i, fun i _ => congrFun ((h c).2.1.trans (final_5 m c)) i,
      fun i _ => congrFun ((h c).2.2.1.trans (final_6 m c)) i, (h c).2.2.2⟩) (Value.run_blocks m g),
    (θ_run _ _ _).mono (fun r h c => ⟨fun i _ => congrFun ((h c).1.trans (Eq.trans (b := refDu (refG (refE (refD (m' ((c.tc : Thread nD τ).loc Cert.PoolRefIdeal.main_arg1))) (m' ((c.tc : Thread nD τ).loc Cert.PoolRefIdeal.main_arg3))) (m' ((c.tc : Thread nD τ).loc Cert.PoolRefIdeal.main_arg2))) (refQ (refG (refE (refD (m' ((c.tc : Thread nD τ).loc Cert.PoolRefIdeal.main_arg1))) (m' ((c.tc : Thread nD τ).loc Cert.PoolRefIdeal.main_arg3))) (m' ((c.tc : Thread nD τ).loc Cert.PoolRefIdeal.main_arg2))) refCnt) refMask) rfl
        (by rw [(hag c).2.1, (hag c).2.2.1, (hag c).2.2.2]; exact ref_du _ _ _))) i,
      fun i hi => (congrFun ((h c).2.1.trans (Eq.trans (b := refDw (refE (refD (m' ((c.tc : Thread nD τ).loc Cert.PoolRefIdeal.main_arg1))) (m' ((c.tc : Thread nD τ).loc Cert.PoolRefIdeal.main_arg3))) (refPool (refU (m' ((c.tc : Thread nD τ).loc Cert.PoolRefIdeal.main_arg0))) refMask refCnt)) rfl
        (by rw [(hag c).1, (hag c).2.1, (hag c).2.2.2]))) i).trans (by idx_vars i; exact ref_dw _ _ _ i0 i1 (on_blocks _ _ _ _ i0 i1 hi)),
      fun i _ => congrFun ((h c).2.2.1.trans (Eq.trans (b := refDs (refPool (refU (m' ((c.tc : Thread nD τ).loc Cert.PoolRefIdeal.main_arg0))) refMask refCnt) (refD (m' ((c.tc : Thread nD τ).loc Cert.PoolRefIdeal.main_arg1))) (m' ((c.tc : Thread nD τ).loc Cert.PoolRefIdeal.main_arg2))) rfl
        (by rw [(hag c).1, (hag c).2.1, (hag c).2.2.1]; exact ref_ds _ _ _))) i, (h c).2.2.2⟩)
      (Cert.PoolRefIdeal.Value.run m' g')⟩

end Cert.PoolIdeal.Tie

end
-- ==== Proof.PoolFwd.lean ====
/- The pooling over trailing windows: the tiled kernel equals the reference. -/
module

public import proofs.«01_k».proof.Defs
public import proofs.«01_k».proof.Proof.PoolRow
public import proofs.«01_k».proof.Proof.Gen.PoolFwdIdeal.Value
public import proofs.«01_k».proof.Proof.Gen.PoolFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PoolFwdIdeal.Tie

open Cert.PoolFwdIdeal Cert.PoolFwdIdeal.Gen Cert.GluRow Cert.PoolRow

variable (m : (ℓ : Loc nD τ sig) → Buf (Elt Ideal) ℓ)

theorem pay_2 (x : Vec Ideal S2048x256 .f32) (r : Fin 2048) (l : Fin 256) : k0_pay2 x (ix2 r l) = tsum 2 (fun i => x (ix2 i l)) r := by
  rw [show (2 : ℕ) = 1 + 1 from rfl, tsum_add, tsum_one]
  pointwise [k0_pay2]
  exact congrArg (x (ix2 r l) + ·) (sel_back 1 (by omega) (fun i => x (ix2 i l)) r _)

theorem pay_3 (x : Vec Ideal S2048x256 .f32) (r : Fin 2048) (l : Fin 256) : k0_pay3 x (ix2 r l) = tsum 4 (fun i => x (ix2 i l)) r := by
  have e : tsum 2 (fun i => x (ix2 i l)) = fun i => k0_pay2 x (ix2 i l) := funext fun i => (pay_2 x i l).symm
  rw [show (4 : ℕ) = 2 + 2 from rfl, tsum_add, e]
  clear e
  unfold k0_pay3
  generalize k0_pay2 x = y
  pointwise
  exact congrArg (y (ix2 r l) + ·) (sel_back 2 (by omega) (fun i => y (ix2 i l)) r _)

theorem pay_4 (x : Vec Ideal S2048x256 .f32) (r : Fin 2048) (l : Fin 256) : k0_pay4 x (ix2 r l) = tsum 8 (fun i => x (ix2 i l)) r := by
  have e : tsum 4 (fun i => x (ix2 i l)) = fun i => k0_pay3 x (ix2 i l) := funext fun i => (pay_3 x i l).symm
  rw [show (8 : ℕ) = 4 + 4 from rfl, tsum_add, e]
  clear e
  unfold k0_pay4
  generalize k0_pay3 x = y
  pointwise
  exact congrArg (y (ix2 r l) + ·) (sel_back 4 (by omega) (fun i => y (ix2 i l)) r _)

theorem pay_5 (x : Vec Ideal S2048x256 .f32) (r : Fin 2048) (l : Fin 256) : k0_pay5 x (ix2 r l) = tsum 16 (fun i => x (ix2 i l)) r := by
  have e : tsum 8 (fun i => x (ix2 i l)) = fun i => k0_pay4 x (ix2 i l) := funext fun i => (pay_4 x i l).symm
  rw [show (16 : ℕ) = 8 + 8 from rfl, tsum_add, e]
  clear e
  unfold k0_pay5
  generalize k0_pay4 x = y
  pointwise
  exact congrArg (y (ix2 r l) + ·) (sel_back 8 (by omega) (fun i => y (ix2 i l)) r _)

theorem pay_9 (r : Fin 2048) (l : Fin 256) (v : IVec S2048x256 32) (hv : v (ix2 r l) = BitVec.ofNat 32 l.val) :
    k0_pay9 (F := Ideal) v k0_pay6 64#32 k0_pay7 k0_pay8 (Scalar.extui (Scalar.cmpi .sgt 64#32 0#32)) (ix2 r l) = cnt r (grp l) := by
  pointwise [k0_pay9, k0_pay6, k0_pay7, k0_pay8]
  unfold cnt
  rw [← grpW_eq l, hv]
  rfl

theorem pay_1 (v0 : Vec Ideal S2048x256 .f32) (v2 : IVec S2048x256 32) (s2 s4 s8 s16 v67 : FVec Ideal S2048x256 .f32) (wb : Vec Ideal S256x256 .bf16) (sc : Vec Ideal S1x256 .f32) (r : Fin 2048) (l : Fin 256)
    (hv : ∀ x, v2 (ix2 r x) = BitVec.ofNat 32 x.val) :
    k0_pay1 v0 v2 s2 s4 s8 s16 v67 (k0_pay10 v2) (k0_pay11 v2) k0_pay12 wb sc (ix2 r l)
      = (∑ x : Fin 256, (Ideal.div (Scalar.select (IntOp.cmpi .eq (BitVec.ofNat 32 (grp x).val) 0#32) (s2 (ix2 r x)) (Scalar.select (IntOp.cmpi .eq (BitVec.ofNat 32 (grp x).val) 1#32) (s4 (ix2 r x))
      (Scalar.select (IntOp.cmpi .eq (BitVec.ofNat 32 (grp x).val) 2#32) (s8 (ix2 r x)) (s16 (ix2 r x))))) (v67 (ix2 r x)) - v0 (ix2 r x)) * wb (ix2 x l)) * sc (ix2 0 l) := by
  pointwise [k0_pay1, k0_pay10, k0_pay11, k0_pay12]
  refine congrArg (· * sc (ix2 0 l)) (Finset.sum_congr rfl fun x _ => ?_)
  rw [← grpW_eq x, hv x]
  rfl

theorem idx_val : ∀ t : Fin cfg0.N, win0_0.index t = ![t.val, 2]
    ∧ win0_1.index t = ![0, 0]
    ∧ win0_2.index t = ![0, 0]
    ∧ win0_3.index t = ![t.val, 0] :=
  (by decide +kernel : ∀ t : Fin grid0.N, _)

theorem t_lt (t : Fin cfg0.N) : t.val < 4 := lt_of_lt_of_eq t.isLt N_0

theorem read_x (c : Dev nD) (t : Fin cfg0.N) (i : Fin 2048) (l : Fin 256) :
    iblk m c 0 t (ix2 i l) = m ((c : Thread nD τ).loc main_arg0) (ix2 (rowOf t.val (t_lt t) i) ⟨512 + l.val, by omega⟩) := by
  blk_point [iblk, V, idx_val t]

theorem upd_congr (f g : Fin 2 → ℤ) (x y : FVec Ideal S256x256 .f32) (u v : FVec Ideal S64x64 .f32) (hx : x = y) (hu : u = v) (h0 : f 0 = g 0) (h1 : f 1 = g 1) :
    Host.dynamicUpdateSlice x u f updateFits_S256x256_S64x64 = Host.dynamicUpdateSlice y v g updateFits_S256x256_S64x64 := by
  have : f = g := funext fun k => by
    match k with
    | ⟨0, _⟩ => exact h0
    | ⟨1, _⟩ => exact h1
  rw [this, hx, hu]

/-- A block, as the host takes it from the weights. -/
def b0 (w : FVec Ideal S4x64x64 .f32) : FVec Ideal S64x64 .f32 := shapeCast S64x64 (extractStridedSlice S1x64x64 ![0, 0, 0] w slices_S4x64x64_S1x64x64_0_0_0) shapeCasts_S1x64x64_S64x64
/-- The second block. -/
def b1 (w : FVec Ideal S4x64x64 .f32) : FVec Ideal S64x64 .f32 := shapeCast S64x64 (extractStridedSlice S1x64x64 ![1, 0, 0] w slices_S4x64x64_S1x64x64_1_0_0) shapeCasts_S1x64x64_S64x64
/-- The third block. -/
def b2 (w : FVec Ideal S4x64x64 .f32) : FVec Ideal S64x64 .f32 := shapeCast S64x64 (extractStridedSlice S1x64x64 ![2, 0, 0] w slices_S4x64x64_S1x64x64_2_0_0) shapeCasts_S1x64x64_S64x64
/-- The fourth block. -/
def b3 (w : FVec Ideal S4x64x64 .f32) : FVec Ideal S64x64 .f32 := shapeCast S64x64 (extractStridedSlice S1x64x64 ![3, 0, 0] w slices_S4x64x64_S1x64x64_3_0_0) shapeCasts_S1x64x64_S64x64

theorem b0_at (w : FVec Ideal S4x64x64 .f32) (a b : Fin 64) : b0 w (ix2 a b) = w (ix3 0 a b) := by unfold b0; pointwise
theorem b1_at (w : FVec Ideal S4x64x64 .f32) (a b : Fin 64) : b1 w (ix2 a b) = w (ix3 1 a b) := by unfold b1; pointwise
theorem b2_at (w : FVec Ideal S4x64x64 .f32) (a b : Fin 64) : b2 w (ix2 a b) = w (ix3 2 a b) := by unfold b2; pointwise
theorem b3_at (w : FVec Ideal S4x64x64 .f32) (a b : Fin 64) : b3 w (ix2 a b) = w (ix3 3 a b) := by unfold b3; pointwise

/-- The block diagonal, as the host writes it. -/
def wbd (w : FVec Ideal S4x64x64 .f32) : FVec Ideal S256x256 .bf16 :=
  truncf .bf16 (Host.dynamicUpdateSlice (Host.dynamicUpdateSlice (Host.dynamicUpdateSlice (Host.dynamicUpdateSlice (broadcastInDim S256x256 ![] bcast_S_S256x256 (constant S_ .f32 0x00000000#32))
    (b0 w) (fun _ => (0#32 : BitVec 32).toInt) updateFits_S256x256_S64x64) (b1 w) (fun _ => (64#32 : BitVec 32).toInt) updateFits_S256x256_S64x64)
    (b2 w) (fun _ => (128#32 : BitVec 32).toInt) updateFits_S256x256_S64x64) (b3 w) (fun _ => (192#32 : BitVec 32).toInt) updateFits_S256x256_S64x64) bitsLt_bf16_f32

theorem wbd_at (w : FVec Ideal S4x64x64 .f32) (a l : Fin 256) : wbd w (ix2 a l) = diag (fun g x y => w (ix3 g x y)) a l :=
  four_blocks (fun g x y => w (ix3 g x y)) _ _ _ _ (b0 w) (b1 w) (b2 w) (b3 w) (broadcastInDim S256x256 ![] bcast_S_S256x256 (constant (F := Ideal) S_ .f32 0x00000000#32)) updateFits_S256x256_S64x64
    (b0_at w) (b1_at w) (b2_at w) (b3_at w) (fun a l => by pointwise) rfl rfl rfl rfl a l

theorem V_13 (c : Dev nD) : (V m c main_v13 : FVec Ideal S256x256 .bf16) = wbd (m ((c : Thread nD τ).loc main_arg1)) := by
  entry_read
  unfold wbd b0 b1 b2 b3
  refine congrArg (truncf .bf16 · bitsLt_bf16_f32) (upd_congr _ _ _ _ _ _ ?_ rfl rfl rfl)
  refine (upd_congr _ _ _ _ _ _ ?_ rfl rfl rfl)
  refine (upd_congr _ _ _ _ _ _ ?_ rfl rfl rfl)
  refine (upd_congr _ _ _ _ _ _ ?_ rfl rfl rfl)
  rfl

theorem read_w (c : Dev nD) (t : Fin cfg0.N) (a l : Fin 256) :
    iblk m c 1 t (ix2 a l) = diag (fun g x y => m ((c : Thread nD τ).loc main_arg1) (ix3 g x y)) a l := by
  blk_simp [iblk, idx_val t]
  have h : (win0_1.blk t).view.emb (ix2 a l) = ix2 a l := by blk_ext [idx_val t]
  refine (congrArg (V m c main_v13) h).trans ?_
  rw [V_13, wbd_at]

theorem read_s (c : Dev nD) (t : Fin cfg0.N) (l : Fin 256) :
    iblk m c 2 t (ix2 0 l) = m ((c : Thread nD τ).loc main_arg2) (ix1 l) := by
  blk_simp [iblk, idx_val t]
  entry_read
  have h : (win0_2.blk t).view.emb (ix2 0 l) = ix2 0 l := by blk_ext [idx_val t]
  rw [show ((View.whole main_v14).slice (win0_2.rect t)).emb (ix2 0 l) = _ from h]
  pointwise

/-- One sequence of the pooled columns. -/
def seqOf (h : FVec Ideal S8192x2816 .f32) (b : ℕ) (hb : b < 4) (i : Fin 2048) (l : Fin 256) : EReal := h (ix2 (rowOf b hb i) ⟨512 + l.val, by omega⟩)

/-- The block at one row. -/
def AT (h : FVec Ideal S8192x2816 .f32) (w : FVec Ideal S4x64x64 .f32) (sc : FVec Ideal S256 .f32) (b : ℕ) (hb : b < 4) (i : Fin 2048) (l : Fin 256) : EReal :=
  mix (pooled (seqOf h b hb) i) (fun g x y => w (ix3 g x y)) l * sc (ix1 l)

/-- All of them. -/
def OUT (h : FVec Ideal S8192x2816 .f32) (w : FVec Ideal S4x64x64 .f32) (sc : FVec Ideal S256 .f32) : FVec Ideal S8192x256 .bf16 := fun y =>
  AT h w sc ((y 0).val / 2048) (by have := (y 0).isLt; simp only [Matrix.cons_val_zero] at this; omega) ⟨(y 0).val % 2048, by omega⟩ (y 1)

theorem point (c : Dev nD) (t : Fin cfg0.N) (i : Fin 2048) (l : Fin 256) :
    k0_pay1 (iblk m c 0 t) (k0_pay13 (iblk m c 0 t) (iblk m c 1 t) (iblk m c 2 t)) (k0_pay2 (iblk m c 0 t)) (k0_pay3
      (iblk m c 0 t)) (k0_pay4 (iblk m c 0 t)) (k0_pay5 (iblk m c 0 t)) (k0_pay9 (F := Ideal) (k0_pay13 (iblk m c 0 t) (iblk
      m c 1 t) (iblk m c 2 t)) k0_pay6 64#32 k0_pay7 k0_pay8 (Scalar.extui (Scalar.cmpi .sgt 64#32 0#32))) (k0_pay10
      (k0_pay13 (iblk m c 0 t) (iblk m c 1 t) (iblk m c 2 t))) (k0_pay11 (k0_pay13 (iblk m c 0 t) (iblk m c 1 t) (iblk m
      c 2 t))) k0_pay12 (iblk m c 1 t) (iblk m c 2 t) (ix2 i l)
      = AT (m ((c : Thread nD τ).loc main_arg0)) (m ((c : Thread nD τ).loc main_arg1)) (m ((c : Thread nD τ).loc main_arg2)) t.val (t_lt t) i l := by
  have hv : ∀ x : Fin 256, k0_pay13 (iblk m c 0 t) (iblk m c 1 t) (iblk m c 2 t) (ix2 i x) = BitVec.ofNat 32 x.val := fun x => by pointwise [k0_pay13]
  have hs : ∀ x : Fin 256, (fun n => iblk m c 0 t (ix2 n x)) = fun n => seqOf (m ((c : Thread nD τ).loc main_arg0)) t.val (t_lt t) n x := fun x => funext fun n => read_x m c t n x
  rw [pay_1 _ _ _ _ _ _ _ _ _ i l hv, read_s]
  unfold AT
  refine congrArg (· * m ((c : Thread nD τ).loc main_arg2) (ix1 l)) ?_
  refine Eq.trans (Finset.sum_congr rfl fun x _ => ?_) (sum_diag _ _ l)
  rw [pay_2, pay_3, pay_4, pay_5, pay_9 i x _ (hv x), read_w, read_x, hs x]
  unfold pooled
  rw [← pick (grp x) (fun n => tsum n (fun n => seqOf (m ((c : Thread nD τ).loc main_arg0)) t.val (t_lt t) n x) i)]
  rfl

theorem final (c : Dev nD) : (dats m 0 c).arrAt 3 (cfgs 0).N = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  idx_vars y
  have h : ((cfg0.win 3).blk t).view.emb (ix2 y0 y1) = ix2 (rowOf t.val (t_lt t) y0) y1 := by blk_ext [idx_val t]
  refine Eq.trans ?_ (congrArg (OUT _ _ _) h).symm
  refine (point m c t y0 y1).trans ?_
  have e1 : (t.val * 2048 + y0.val) / 2048 = t.val := by omega
  have e2 : (t.val * 2048 + y0.val) % 2048 = y0.val := by omega
  show AT _ _ _ t.val _ y0 y1 = AT _ _ _ ((t.val * 2048 + y0.val) / 2048) _ ⟨(t.val * 2048 + y0.val) % 2048, _⟩ y1
  simp only [e1, e2]

open Cert.PoolFwdRefIdeal.Gen in
/-- The pooled columns, by groups. -/
def refU (h : FVec Ideal Cert.PoolFwdRefIdeal.S8192x2816 .f32) : FVec Ideal Cert.PoolFwdRefIdeal.S4x2048x4x64 .f32 :=
  shapeCast _ (shapeCast _ (extractStridedSlice Cert.PoolFwdRefIdeal.S8192x256 ![0, 512] h slices_S8192x2816_S8192x256_0_512) shapeCasts_S8192x256_S4x2048x256) shapeCasts_S4x2048x256_S4x2048x4x64

theorem refU_at (h : FVec Ideal Cert.PoolFwdRefIdeal.S8192x2816 .f32) (b : Fin 4) (i : Fin 2048) (g : Fin 4) (x : Fin 64) :
    refU h (ix4 b i g x) = seqOf h b.val b.isLt i (colAt g x) := by
  unfold refU seqOf
  pointwise

open Cert.PoolFwdRefIdeal.Gen in
/-- Which entries are in the window of a row. -/
def refMask : FVec Ideal Cert.PoolFwdRefIdeal.S4x2048x2048 .f32 :=
  select (andi (cmpi .sle (iotaInDim Cert.PoolFwdRefIdeal.S4x2048x2048 32 2) (iotaInDim Cert.PoolFwdRefIdeal.S4x2048x2048 32 1)) (cmpi .slt (iotaInDim Cert.PoolFwdRefIdeal.S4x2048x2048 32 1) (addi (iotaInDim Cert.PoolFwdRefIdeal.S4x2048x2048 32 2) (id (select (cmpi .eq (iotaInDim Cert.PoolFwdRefIdeal.S4x2048x2048 32 0) (broadcastInDim Cert.PoolFwdRefIdeal.S4x2048x2048 ![] Cert.PoolFwdRefIdeal.Gen.bcast_S_S4x2048x2048 (constantI Cert.PoolFwdRefIdeal.S_ 32 0#32))) (broadcastInDim Cert.PoolFwdRefIdeal.S4x2048x2048 ![] Cert.PoolFwdRefIdeal.Gen.bcast_S_S4x2048x2048 (constantI Cert.PoolFwdRefIdeal.S_ 32 2#32)) (select (cmpi .eq (iotaInDim Cert.PoolFwdRefIdeal.S4x2048x2048 32 0) (broadcastInDim Cert.PoolFwdRefIdeal.S4x2048x2048 ![] Cert.PoolFwdRefIdeal.Gen.bcast_S_S4x2048x2048 (constantI Cert.PoolFwdRefIdeal.S_ 32 1#32))) (broadcastInDim Cert.PoolFwdRefIdeal.S4x2048x2048 ![] Cert.PoolFwdRefIdeal.Gen.bcast_S_S4x2048x2048 (constantI Cert.PoolFwdRefIdeal.S_ 32 4#32)) (select (cmpi .eq (iotaInDim Cert.PoolFwdRefIdeal.S4x2048x2048 32 0) (broadcastInDim Cert.PoolFwdRefIdeal.S4x2048x2048 ![] Cert.PoolFwdRefIdeal.Gen.bcast_S_S4x2048x2048 (constantI Cert.PoolFwdRefIdeal.S_ 32 2#32))) (broadcastInDim Cert.PoolFwdRefIdeal.S4x2048x2048 ![] Cert.PoolFwdRefIdeal.Gen.bcast_S_S4x2048x2048 (constantI Cert.PoolFwdRefIdeal.S_ 32 8#32)) (broadcastInDim Cert.PoolFwdRefIdeal.S4x2048x2048 ![] Cert.PoolFwdRefIdeal.Gen.bcast_S_S4x2048x2048 (constantI Cert.PoolFwdRefIdeal.S_ 32 16#32))))))))) (broadcastInDim Cert.PoolFwdRefIdeal.S4x2048x2048 ![] Cert.PoolFwdRefIdeal.Gen.bcast_S_S4x2048x2048 (constant Cert.PoolFwdRefIdeal.S_ .f32 0x3F800000#32)) (broadcastInDim Cert.PoolFwdRefIdeal.S4x2048x2048 ![] Cert.PoolFwdRefIdeal.Gen.bcast_S_S4x2048x2048 (constant Cert.PoolFwdRefIdeal.S_ .f32 0x00000000#32))

theorem refMask_at (g : Fin 4) (t s : Fin 2048) : refMask (ix3 g t s) = if s.val ≤ t.val ∧ t.val < s.val + win g then 1 else 0 := by
  rw [← inside_eq]
  unfold refMask winW
  pointwise
  rfl

open Cert.PoolFwdRefIdeal.Gen in
/-- How many they are. -/
def refCnt : FVec Ideal Cert.PoolFwdRefIdeal.S2048x4 .f32 :=
  sitofp .f32 (minsi (addi (iotaInDim Cert.PoolFwdRefIdeal.S2048x4 32 0) (broadcastInDim Cert.PoolFwdRefIdeal.S2048x4 ![] Cert.PoolFwdRefIdeal.Gen.bcast_S_S2048x4 (constantI Cert.PoolFwdRefIdeal.S_ 32 1#32))) (id (select (cmpi .eq (iotaInDim Cert.PoolFwdRefIdeal.S2048x4 32 1) (broadcastInDim Cert.PoolFwdRefIdeal.S2048x4 ![] Cert.PoolFwdRefIdeal.Gen.bcast_S_S2048x4 (constantI Cert.PoolFwdRefIdeal.S_ 32 0#32))) (broadcastInDim Cert.PoolFwdRefIdeal.S2048x4 ![] Cert.PoolFwdRefIdeal.Gen.bcast_S_S2048x4 (constantI Cert.PoolFwdRefIdeal.S_ 32 2#32)) (select (cmpi .eq (iotaInDim Cert.PoolFwdRefIdeal.S2048x4 32 1) (broadcastInDim Cert.PoolFwdRefIdeal.S2048x4 ![] Cert.PoolFwdRefIdeal.Gen.bcast_S_S2048x4 (constantI Cert.PoolFwdRefIdeal.S_ 32 1#32))) (broadcastInDim Cert.PoolFwdRefIdeal.S2048x4 ![] Cert.PoolFwdRefIdeal.Gen.bcast_S_S2048x4 (constantI Cert.PoolFwdRefIdeal.S_ 32 4#32)) (select (cmpi .eq (iotaInDim Cert.PoolFwdRefIdeal.S2048x4 32 1) (broadcastInDim Cert.PoolFwdRefIdeal.S2048x4 ![] Cert.PoolFwdRefIdeal.Gen.bcast_S_S2048x4 (constantI Cert.PoolFwdRefIdeal.S_ 32 2#32))) (broadcastInDim Cert.PoolFwdRefIdeal.S2048x4 ![] Cert.PoolFwdRefIdeal.Gen.bcast_S_S2048x4 (constantI Cert.PoolFwdRefIdeal.S_ 32 8#32)) (broadcastInDim Cert.PoolFwdRefIdeal.S2048x4 ![] Cert.PoolFwdRefIdeal.Gen.bcast_S_S2048x4 (constantI Cert.PoolFwdRefIdeal.S_ 32 16#32)))))))

theorem refCnt_at (t : Fin 2048) (g : Fin 4) : refCnt (ix2 t g) = cnt t g := by
  unfold refCnt cnt winW
  pointwise
  rfl

open Cert.PoolFwdRefIdeal.Gen in
/-- Their mean less the entry. -/
def refPool (U : FVec Ideal Cert.PoolFwdRefIdeal.S4x2048x4x64 .f32) (M : FVec Ideal Cert.PoolFwdRefIdeal.S4x2048x2048 .f32) (C : FVec Ideal Cert.PoolFwdRefIdeal.S2048x4 .f32) : FVec Ideal Cert.PoolFwdRefIdeal.S4x2048x4x64 .f32 :=
  subf (Host.divf (transpose Cert.PoolFwdRefIdeal.S4x2048x4x64 [1, 3, 0, 2] (Host.dotGeneral Cert.PoolFwdRefIdeal.dot_S4x2048x4x64_S4x2048x2048_S4x4x64x2048_1_2_03_1_2_0 none U M) transposes_S4x4x64x2048_S4x2048x4x64_1_3_0_2) (broadcastInDim Cert.PoolFwdRefIdeal.S4x2048x4x64 ![0, 1, 2, 3] bcast_S1x2048x4x1_S4x2048x4x64_0_1_2_3 (broadcastInDim Cert.PoolFwdRefIdeal.S1x2048x4x1 ![1, 2] bcast_S2048x4_S1x2048x4x1_1_2 C))) U

theorem refPool_at (U : FVec Ideal Cert.PoolFwdRefIdeal.S4x2048x4x64 .f32) (M : FVec Ideal Cert.PoolFwdRefIdeal.S4x2048x2048 .f32) (C : FVec Ideal Cert.PoolFwdRefIdeal.S2048x4 .f32) (b : Fin 4) (i : Fin 2048) (g : Fin 4) (x : Fin 64) :
    refPool U M C (ix4 b i g x) = Ideal.div (∑ s : Fin 2048, U (ix4 b s g x) * M (ix3 g i s)) (C (ix2 i g)) - U (ix4 b i g x) := by
  unfold refPool
  pointwise

open Cert.PoolFwdRefIdeal.Gen in
/-- The pooled columns mixed and scaled. -/
def refOut (P : FVec Ideal Cert.PoolFwdRefIdeal.S4x2048x4x64 .f32) (w : FVec Ideal Cert.PoolFwdRefIdeal.S4x64x64 .f32) (sc : FVec Ideal Cert.PoolFwdRefIdeal.S256 .f32) : FVec Ideal Cert.PoolFwdRefIdeal.S8192x256 .bf16 :=
  truncf .bf16 (shapeCast _ (mulf (shapeCast _ (transpose Cert.PoolFwdRefIdeal.S4x2048x4x64 [2, 3, 0, 1] (Host.dotGeneral Cert.PoolFwdRefIdeal.dot_S4x64x64_S4x2048x4x64_S4x64x4x2048_1_3_2_01_0_2 none w P) transposes_S4x64x4x2048_S4x2048x4x64_2_3_0_1) shapeCasts_S4x2048x4x64_S4x2048x256) (broadcastInDim Cert.PoolFwdRefIdeal.S4x2048x256 ![0, 1, 2] bcast_S1x1x256_S4x2048x256_0_1_2 (broadcastInDim Cert.PoolFwdRefIdeal.S1x1x256 ![2] bcast_S256_S1x1x256_2 sc))) shapeCasts_S4x2048x256_S8192x256) Cert.PoolFwdRefIdeal.Gen.bitsLt_bf16_f32

theorem refOut_at (P : FVec Ideal Cert.PoolFwdRefIdeal.S4x2048x4x64 .f32) (w : FVec Ideal Cert.PoolFwdRefIdeal.S4x64x64 .f32) (sc : FVec Ideal Cert.PoolFwdRefIdeal.S256 .f32) (r : Fin 8192) (l : Fin 256) :
    refOut P w sc (ix2 r l) = (∑ x : Fin 64, w (ix3 (grp l) x (plc l)) * P (ix4 ⟨r.val / 2048, by omega⟩ ⟨r.val % 2048, by omega⟩ (grp l) x)) * sc (ix1 l) := by
  unfold refOut
  pointwise

theorem ref_pool (h : FVec Ideal S8192x2816 .f32) (b : Fin 4) (i : Fin 2048) (g : Fin 4) (x : Fin 64) :
    refPool (refU h) refMask refCnt (ix4 b i g x) = pooled (seqOf h b.val b.isLt) i (colAt g x) := by
  rw [refPool_at, refCnt_at, refU_at]
  have e1 : grp (colAt g x) = g := Fin.ext (by show (g.val * 64 + x.val) / 64 = g.val; omega)
  unfold pooled
  rw [e1]
  refine congrArg (fun v => Ideal.div v (cnt i g) - seqOf h b.val b.isLt i (colAt g x)) ?_
  unfold Cert.PoolRow.tsum
  refine Finset.sum_congr rfl fun s _ => ?_
  rw [refU_at, refMask_at, mul_ite, mul_one, mul_zero]

theorem ref_out (h : FVec Ideal S8192x2816 .f32) (w : FVec Ideal S4x64x64 .f32) (sc : FVec Ideal S256 .f32) :
    refOut (refPool (refU h) refMask refCnt) w sc = OUT h w sc := by
  funext y
  idx_vars y
  rw [refOut_at]
  show _ = AT h w sc (y0.val / 2048) _ ⟨y0.val % 2048, _⟩ y1
  unfold AT mix
  refine congrArg (· * sc (ix1 y1)) (Finset.sum_congr rfl fun x _ => ?_)
  rw [ref_pool, mul_comm]

theorem value : Cert.algebraic_PoolFwdIdeal_PoolFwdRefIdeal := by
  intro m g m' g' _ hag
  refine ⟨fun c => OUT (m ((c.tc : Thread nD τ).loc main_arg0)) (m ((c.tc : Thread nD τ).loc main_arg1)) (m ((c.tc : Thread nD τ).loc main_arg2)),
    (θ_run _ _ _).mono (fun r h c => ⟨(h c).1.trans (final m c), (h c).2⟩) (Value.run_blocks m g),
    (θ_run _ _ _).mono (fun r h c => ⟨(h c).1.trans (Eq.trans (b := refOut (refPool (refU (m' ((c.tc : Thread nD τ).loc Cert.PoolFwdRefIdeal.main_arg0))) refMask refCnt) (m' ((c.tc : Thread nD τ).loc Cert.PoolFwdRefIdeal.main_arg1)) (m' ((c.tc : Thread nD τ).loc Cert.PoolFwdRefIdeal.main_arg2))) rfl
      (by rw [(hag c).1, (hag c).2.1, (hag c).2.2]; exact ref_out _ _ _)), (h c).2⟩)
      (Cert.PoolFwdRefIdeal.Value.run m' g')⟩

end Cert.PoolFwdIdeal.Tie

end
-- ==== Proof.AdamW.lean ====
/- The optimiser step: the tiled kernel equals the reference. -/
module

public import proofs.«01_k».proof.Defs
public import proofs.«01_k».proof.Proof.Gen.AdamWIdeal.Value
public import proofs.«01_k».proof.Proof.Gen.AdamWRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamWIdeal.Tie

open Cert.AdamWIdeal Cert.AdamWIdeal.Gen

variable (m : (ℓ : Loc nD τ sig) → Buf (Elt Ideal) ℓ)

/-- The first moment. -/
def M1 (g mo : FVec Ideal S512x1024 .f32) : FVec Ideal S512x1024 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S512x1024 .f32) : FVec Ideal S512x1024 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S512x1024 .f32) : FVec Ideal S512x1024 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamWIdeal_AdamWRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamWRefIdeal.Value.run m' g')⟩

end Cert.AdamWIdeal.Tie

end
-- ==== Proof.AdamWIn.lean ====
/- The optimiser step of the input weights: the tiled kernel equals the reference. -/
module

public import proofs.«01_k».proof.Defs
public import proofs.«01_k».proof.Proof.Gen.AdamWInIdeal.Value
public import proofs.«01_k».proof.Proof.Gen.AdamWInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamWInIdeal.Tie

open Cert.AdamWInIdeal Cert.AdamWInIdeal.Gen

variable (m : (ℓ : Loc nD τ sig) → Buf (Elt Ideal) ℓ)

/-- The first moment. -/
def M1 (g mo : FVec Ideal S512x2694 .f32) : FVec Ideal S512x2694 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S512x2694 .f32) : FVec Ideal S512x2694 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S512x2694 .f32) : FVec Ideal S512x2694 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamWInIdeal_AdamWInRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamWInRefIdeal.Value.run m' g')⟩

end Cert.AdamWInIdeal.Tie

end
-- ==== Proof.AdamUp.lean ====
/- The optimiser step of the up weights: the tiled kernel equals the reference. -/
module

public import proofs.«01_k».proof.Defs
public import proofs.«01_k».proof.Proof.Gen.AdamUpIdeal.Value
public import proofs.«01_k».proof.Proof.Gen.AdamUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamUpIdeal.Tie

open Cert.AdamUpIdeal Cert.AdamUpIdeal.Gen

variable (m : (ℓ : Loc nD τ sig) → Buf (Elt Ideal) ℓ)

/-- The first moment. -/
def M1 (g mo : FVec Ideal S4096x704 .f32) : FVec Ideal S4096x704 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S4096x704 .f32) : FVec Ideal S4096x704 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S4096x704 .f32) : FVec Ideal S4096x704 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamUpIdeal_AdamUpRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamUpRefIdeal.Value.run m' g')⟩

end Cert.AdamUpIdeal.Tie

end
-- ==== Proof.AdamDown.lean ====
/- The optimiser step of the down weights: the tiled kernel equals the reference. -/
module

public import proofs.«01_k».proof.Defs
public import proofs.«01_k».proof.Proof.Gen.AdamDownIdeal.Value
public import proofs.«01_k».proof.Proof.Gen.AdamDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamDownIdeal.Tie

open Cert.AdamDownIdeal Cert.AdamDownIdeal.Gen

variable (m : (ℓ : Loc nD τ sig) → Buf (Elt Ideal) ℓ)

/-- The first moment. -/
def M1 (g mo : FVec Ideal S1408x1024 .f32) : FVec Ideal S1408x1024 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S1408x1024 .f32) : FVec Ideal S1408x1024 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S1408x1024 .f32) : FVec Ideal S1408x1024 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamDownIdeal_AdamDownRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamDownRefIdeal.Value.run m' g')⟩

end Cert.AdamDownIdeal.Tie

end
-- ==== Proof.AdamProj.lean ====
/- The optimiser step of the projection weights: the tiled kernel equals the reference. -/
module

public import proofs.«01_k».proof.Defs
public import proofs.«01_k».proof.Proof.Gen.AdamProjIdeal.Value
public import proofs.«01_k».proof.Proof.Gen.AdamProjRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamProjIdeal.Tie

open Cert.AdamProjIdeal Cert.AdamProjIdeal.Gen

variable (m : (ℓ : Loc nD τ sig) → Buf (Elt Ideal) ℓ)

/-- The first moment. -/
def M1 (g mo : FVec Ideal S1024x128 .f32) : FVec Ideal S1024x128 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S1024x128 .f32) : FVec Ideal S1024x128 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S1024x128 .f32) : FVec Ideal S1024x128 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamProjIdeal_AdamProjRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamProjRefIdeal.Value.run m' g')⟩

end Cert.AdamProjIdeal.Tie

end
-- ==== Proof.AdamSmall.lean ====
/- The optimiser step of the packed small weights: the tiled kernel equals the reference. -/
module

public import proofs.«01_k».proof.Defs
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdamSmallIdeal.Tie

open Cert.AdamSmallIdeal Cert.AdamSmallIdeal.Gen

variable (m : (ℓ : Loc nD τ sig) → Buf (Elt Ideal) ℓ)

/-- The first moment. -/
def M1 (g mo : FVec Ideal S952x128 .f32) : FVec Ideal S952x128 .f32 := fun y =>
  (Scalar.ofBits (F := Ideal) .f32 0x3F666666#32 : EReal) * mo y + (Scalar.ofBits (F := Ideal) .f32 0x3DCCCCCD#32 : EReal) * g y

/-- The second moment. -/
def M2 (g vo : FVec Ideal S952x128 .f32) : FVec Ideal S952x128 .f32 := fun y =>
  (Scalar.ofBits (F := Ideal) .f32 0x3F7FBE77#32 : EReal) * vo y + (Scalar.ofBits (F := Ideal) .f32 0x3A83126F#32 : EReal) * (g y * g y)

/-- The change of the weights. -/
def DELTA (w g mo vo : FVec Ideal S952x128 .f32) : FVec Ideal S952x128 .f32 := fun y =>
  (Scalar.ofBits (F := Ideal) .f32 0xBA83126F#32 : EReal) * (Ideal.div (Ideal.div (M1 g mo y) (Scalar.ofBits (F := Ideal) .f32 0x3F26BD02#32))
    (Ideal.sqrt (Ideal.div (M2 g vo y) (Scalar.ofBits (F := Ideal) .f32 0x3C231ACC#32)) + (Scalar.ofBits (F := Ideal) .f32 0x322BCC77#32 : EReal))
    + (Scalar.ofBits (F := Ideal) .f32 0x3C23D70A#32 : EReal) * w y)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

theorem final_5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t hf y => ?_
  blk_simp; rw [after0_5]; frame_out
  unfold M1
  pointwise [k0_pay1]
  blk_point [iblk, V, idx_val t]

theorem final_6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t hf y => ?_
  blk_simp; rw [after0_6]; frame_out
  unfold M2
  pointwise [k0_pay2]
  blk_point [iblk, V, idx_val t]

theorem final_4 (c : Dev nD) : (dats m 0 c).arrAt 4 (cfgs 0).N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  unfold DELTA M1 M2
  pointwise [k0_pay3, k0_pay1, k0_pay2]
  blk_point [iblk, V, idx_val t]

theorem value : Cert.algebraic_AdamSmallIdeal_AdamSmallRefIdeal := by
  intro m g m' g' _ hag
  refine ⟨fun c => DELTA (m ((c.tc : Thread nD τ).loc main_arg0)) (m ((c.tc : Thread nD τ).loc main_arg1)) (m ((c.tc : Thread nD τ).loc main_arg2)) (m ((c.tc : Thread nD τ).loc main_arg3)), fun c => M1 (m ((c.tc : Thread nD τ).loc main_arg1)) (m ((c.tc : Thread nD τ).loc main_arg2)), fun c => M2 (m ((c.tc : Thread nD τ).loc main_arg1)) (m ((c.tc : Thread nD τ).loc main_arg3)),
    (θ_run _ _ _).mono (fun r h c => ⟨(h c).1.trans (final_4 m c), (h c).2.1.trans (final_5 m c), (h c).2.2.1.trans (final_6 m c), (h c).2.2.2⟩) (Value.run_blocks m g),
    (θ_run _ _ _).mono (fun r h c => ⟨(h c).1.trans (by rw [(hag c).1, (hag c).2.1, (hag c).2.2.1, (hag c).2.2.2]; funext y; unfold DELTA M1 M2; pointwise),
      (h c).2.1.trans (by rw [(hag c).2.1, (hag c).2.2.1]; funext y; unfold M1; pointwise),
      (h c).2.2.1.trans (by rw [(hag c).2.1, (hag c).2.2.2]; funext y; unfold M2; pointwise), (h c).2.2.2⟩)
      (Cert.AdamSmallRefIdeal.Value.run m' g')⟩

end Cert.AdamSmallIdeal.Tie

end
-- ==== Proof.SumOut.lean ====
/- The sum over the devices of the parts of a gradient: the tiled kernel equals the reference. -/
module

public import proofs.«01_k».proof.Defs
public import proofs.«01_k».proof.Proof.Gen.SumOutIdeal.Value
public import proofs.«01_k».proof.Proof.GluRow
public import proofs.«01_k».proof.Proof.Gen.SumOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumOutIdeal.Tie

open Cert.SumOutIdeal Cert.SumOutIdeal.Gen Cert.GluRow

variable (m : (ℓ : Loc nD τ sig) → Buf (Elt Ideal) ℓ)

/-- The sum over the eight parts, layer by layer. -/
def SUM (a0 a1 a2 a3 : FVec Ideal S8x128x1024 .f32) : FVec Ideal S4x128x1024 .f32 := fun y =>
  if (y 0).val = 0 then ∑ k : Fin 8, (a0 (ix3 k (y 1) (y 2)) : EReal)
  else if (y 0).val = 1 then ∑ k : Fin 8, (a1 (ix3 k (y 1) (y 2)) : EReal)
  else if (y 0).val = 2 then ∑ k : Fin 8, (a2 (ix3 k (y 1) (y 2)) : EReal)
  else ∑ k : Fin 8, (a3 (ix3 k (y 1) (y 2)) : EReal)

theorem idx_val : ∀ t : Fin cfg0.N, win0_4.index t = ![t.val / 2, t.val % 2, 0] :=
  (by decide +kernel : ∀ t : Fin grid0.N, _)

theorem idx_0 : ∀ t : Fin cfg0.N, t.val / 2 = 0 → win0_0.index t = ![0, t.val % 2, 0] :=
  (by decide +kernel : ∀ t : Fin grid0.N, _)

theorem idx_1 : ∀ t : Fin cfg0.N, t.val / 2 = 1 → win0_1.index t = ![0, t.val % 2, 0] :=
  (by decide +kernel : ∀ t : Fin grid0.N, _)

theorem idx_2 : ∀ t : Fin cfg0.N, t.val / 2 = 2 → win0_2.index t = ![0, t.val % 2, 0] :=
  (by decide +kernel : ∀ t : Fin grid0.N, _)

theorem idx_3 : ∀ t : Fin cfg0.N, t.val / 2 = 3 → win0_3.index t = ![0, t.val % 2, 0] :=
  (by decide +kernel : ∀ t : Fin grid0.N, _)

theorem final (c : Dev nD) : (dats m 0 c).arrAt 4 (cfgs 0).N = SUM (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 4 * 2 := t.isLt
  have hq : t.val / 2 = 0 ∨ t.val / 2 = 1 ∨ t.val / 2 = 2 ∨ t.val / 2 = 3 := by omega
  have e0 : ((((cfg0.win 4).blk t).view.emb y) 0).val = t.val / 2 := by
    have hb0 : (y 0).val < 1 := (y 0).isLt
    blk_simp [idx_val t]
  blk_simp; rw [after0_4]
  rcases hq with q | q | q | q
  · rw [outsAt0_A m c t (by omega) (by omega) (by omega) (by omega)]; frame_out
    show _ = SUM _ _ _ _ _
    unfold SUM
    rw [if_pos (e0.trans q)]
    rw [Fin.sum_univ_eight]
    pointwise [k0_pay1]
    blk_point [iblk, V, idx_val t, idx_0 t q]
  · rw [outsAt0_B m c t (by omega) (by omega) (by omega) (by omega)]; frame_out
    show _ = SUM _ _ _ _ _
    unfold SUM
    rw [if_neg (by rw [e0]; omega), if_pos (e0.trans q)]
    rw [Fin.sum_univ_eight]
    pointwise [k0_pay2]
    blk_point [iblk, V, idx_val t, idx_1 t q]
  · rw [outsAt0_C m c t (by omega) (by omega) (by omega) (by omega)]; frame_out
    show _ = SUM _ _ _ _ _
    unfold SUM
    rw [if_neg (by rw [e0]; omega), if_neg (by rw [e0]; omega), if_pos (e0.trans q)]
    rw [Fin.sum_univ_eight]
    pointwise [k0_pay3]
    blk_point [iblk, V, idx_val t, idx_2 t q]
  · rw [outsAt0_D m c t (by omega) (by omega) (by omega) (by omega)]; frame_out
    show _ = SUM _ _ _ _ _
    unfold SUM
    rw [if_neg (by rw [e0]; omega), if_neg (by rw [e0]; omega), if_neg (by rw [e0]; omega)]
    rw [Fin.sum_univ_eight]
    pointwise [k0_pay4]
    blk_point [iblk, V, idx_val t, idx_3 t q]

theorem value : Cert.algebraic_SumOutIdeal_SumOutRefIdeal := by
  intro m g m' g' _ hag
  refine ⟨fun c => SUM (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final m c), (h c).2⟩) (Value.run_blocks m g),
    (θ_run _ _ _).mono (fun r h c => ⟨(h c).1.trans (by
      rw [(hag c).1, (hag c).2.1, (hag c).2.2.1, (hag c).2.2.2]; funext y; unfold SUM; pointwise; split_ifs <;> first | rfl | omega), (h c).2⟩)
      (Cert.SumOutRefIdeal.Value.run m' g')⟩

end Cert.SumOutIdeal.Tie

end
-- ==== Proof.SumIn.lean ====
/- The sum over the devices of the parts of a gradient: the tiled kernel equals the reference. -/
module

public import proofs.«01_k».proof.Defs
public import proofs.«01_k».proof.Proof.Gen.SumInIdeal.Value
public import proofs.«01_k».proof.Proof.GluRow
public import proofs.«01_k».proof.Proof.Gen.SumInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumInIdeal.Tie

open Cert.SumInIdeal Cert.SumInIdeal.Gen Cert.GluRow

variable (m : (ℓ : Loc nD τ sig) → Buf (Elt Ideal) ℓ)

/-- The sum over the eight parts, layer by layer. -/
def SUM (a0 a1 a2 a3 : FVec Ideal S8x128x2816 .f32) : FVec Ideal S4x128x2816 .f32 := fun y =>
  if (y 0).val = 0 then ∑ k : Fin 8, (a0 (ix3 k (y 1) (y 2)) : EReal)
  else if (y 0).val = 1 then ∑ k : Fin 8, (a1 (ix3 k (y 1) (y 2)) : EReal)
  else if (y 0).val = 2 then ∑ k : Fin 8, (a2 (ix3 k (y 1) (y 2)) : EReal)
  else ∑ k : Fin 8, (a3 (ix3 k (y 1) (y 2)) : EReal)

theorem idx_val : ∀ t : Fin cfg0.N, win0_4.index t = ![t.val / 4, t.val % 4, 0] :=
  (by decide +kernel : ∀ t : Fin grid0.N, _)

theorem idx_0 : ∀ t : Fin cfg0.N, t.val / 4 = 0 → win0_0.index t = ![0, t.val % 4, 0] :=
  (by decide +kernel : ∀ t : Fin grid0.N, _)

theorem idx_1 : ∀ t : Fin cfg0.N, t.val / 4 = 1 → win0_1.index t = ![0, t.val % 4, 0] :=
  (by decide +kernel : ∀ t : Fin grid0.N, _)

theorem idx_2 : ∀ t : Fin cfg0.N, t.val / 4 = 2 → win0_2.index t = ![0, t.val % 4, 0] :=
  (by decide +kernel : ∀ t : Fin grid0.N, _)

theorem idx_3 : ∀ t : Fin cfg0.N, t.val / 4 = 3 → win0_3.index t = ![0, t.val % 4, 0] :=
  (by decide +kernel : ∀ t : Fin grid0.N, _)

theorem final (c : Dev nD) : (dats m 0 c).arrAt 4 (cfgs 0).N = SUM (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 4 * 4 := t.isLt
  have hq : t.val / 4 = 0 ∨ t.val / 4 = 1 ∨ t.val / 4 = 2 ∨ t.val / 4 = 3 := by omega
  have e0 : ((((cfg0.win 4).blk t).view.emb y) 0).val = t.val / 4 := by
    have hb0 : (y 0).val < 1 := (y 0).isLt
    blk_simp [idx_val t]
  blk_simp; rw [after0_4]
  rcases hq with q | q | q | q
  · rw [outsAt0_A m c t (by omega) (by omega) (by omega) (by omega)]; frame_out
    show _ = SUM _ _ _ _ _
    unfold SUM
    rw [if_pos (e0.trans q)]
    rw [Fin.sum_univ_eight]
    pointwise [k0_pay1]
    blk_point [iblk, V, idx_val t, idx_0 t q]
  · rw [outsAt0_B m c t (by omega) (by omega) (by omega) (by omega)]; frame_out
    show _ = SUM _ _ _ _ _
    unfold SUM
    rw [if_neg (by rw [e0]; omega), if_pos (e0.trans q)]
    rw [Fin.sum_univ_eight]
    pointwise [k0_pay2]
    blk_point [iblk, V, idx_val t, idx_1 t q]
  · rw [outsAt0_C m c t (by omega) (by omega) (by omega) (by omega)]; frame_out
    show _ = SUM _ _ _ _ _
    unfold SUM
    rw [if_neg (by rw [e0]; omega), if_neg (by rw [e0]; omega), if_pos (e0.trans q)]
    rw [Fin.sum_univ_eight]
    pointwise [k0_pay3]
    blk_point [iblk, V, idx_val t, idx_2 t q]
  · rw [outsAt0_D m c t (by omega) (by omega) (by omega) (by omega)]; frame_out
    show _ = SUM _ _ _ _ _
    unfold SUM
    rw [if_neg (by rw [e0]; omega), if_neg (by rw [e0]; omega), if_neg (by rw [e0]; omega)]
    rw [Fin.sum_univ_eight]
    pointwise [k0_pay4]
    blk_point [iblk, V, idx_val t, idx_3 t q]

theorem value : Cert.algebraic_SumInIdeal_SumInRefIdeal := by
  intro m g m' g' _ hag
  refine ⟨fun c => SUM (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final m c), (h c).2⟩) (Value.run_blocks m g),
    (θ_run _ _ _).mono (fun r h c => ⟨(h c).1.trans (by
      rw [(hag c).1, (hag c).2.1, (hag c).2.2.1, (hag c).2.2.2]; funext y; unfold SUM; pointwise; split_ifs <;> first | rfl | omega), (h c).2⟩)
      (Cert.SumInRefIdeal.Value.run m' g')⟩

end Cert.SumInIdeal.Tie

end
-- ==== Proof.SumUp.lean ====
/- The sum over the devices of the parts of a gradient: the tiled kernel equals the reference. -/
module

public import proofs.«01_k».proof.Defs
public import proofs.«01_k».proof.Proof.Gen.SumUpIdeal.Value
public import proofs.«01_k».proof.Proof.GluRow
public import proofs.«01_k».proof.Proof.Gen.SumUpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumUpIdeal.Tie

open Cert.SumUpIdeal Cert.SumUpIdeal.Gen Cert.GluRow

variable (m : (ℓ : Loc nD τ sig) → Buf (Elt Ideal) ℓ)

/-- The sum over the eight parts, layer by layer. -/
def SUM (a0 a1 a2 a3 : FVec Ideal S8x1024x704 .f32) : FVec Ideal S4x1024x704 .f32 := fun y =>
  if (y 0).val = 0 then ∑ k : Fin 8, (a0 (ix3 k (y 1) (y 2)) : EReal)
  else if (y 0).val = 1 then ∑ k : Fin 8, (a1 (ix3 k (y 1) (y 2)) : EReal)
  else if (y 0).val = 2 then ∑ k : Fin 8, (a2 (ix3 k (y 1) (y 2)) : EReal)
  else ∑ k : Fin 8, (a3 (ix3 k (y 1) (y 2)) : EReal)

theorem idx_val : ∀ t : Fin cfg0.N, win0_4.index t = ![t.val / 8, t.val % 8, 0] :=
  (by decide +kernel : ∀ t : Fin grid0.N, _)

theorem idx_0 : ∀ t : Fin cfg0.N, t.val / 8 = 0 → win0_0.index t = ![0, t.val % 8, 0] :=
  (by decide +kernel : ∀ t : Fin grid0.N, _)

theorem idx_1 : ∀ t : Fin cfg0.N, t.val / 8 = 1 → win0_1.index t = ![0, t.val % 8, 0] :=
  (by decide +kernel : ∀ t : Fin grid0.N, _)

theorem idx_2 : ∀ t : Fin cfg0.N, t.val / 8 = 2 → win0_2.index t = ![0, t.val % 8, 0] :=
  (by decide +kernel : ∀ t : Fin grid0.N, _)

theorem idx_3 : ∀ t : Fin cfg0.N, t.val / 8 = 3 → win0_3.index t = ![0, t.val % 8, 0] :=
  (by decide +kernel : ∀ t : Fin grid0.N, _)

theorem final (c : Dev nD) : (dats m 0 c).arrAt 4 (cfgs 0).N = SUM (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 4 * 8 := t.isLt
  have hq : t.val / 8 = 0 ∨ t.val / 8 = 1 ∨ t.val / 8 = 2 ∨ t.val / 8 = 3 := by omega
  have e0 : ((((cfg0.win 4).blk t).view.emb y) 0).val = t.val / 8 := by
    have hb0 : (y 0).val < 1 := (y 0).isLt
    blk_simp [idx_val t]
  blk_simp; rw [after0_4]
  rcases hq with q | q | q | q
  · rw [outsAt0_A m c t (by omega) (by omega) (by omega) (by omega)]; frame_out
    show _ = SUM _ _ _ _ _
    unfold SUM
    rw [if_pos (e0.trans q)]
    rw [Fin.sum_univ_eight]
    pointwise [k0_pay1]
    blk_point [iblk, V, idx_val t, idx_0 t q]
  · rw [outsAt0_B m c t (by omega) (by omega) (by omega) (by omega)]; frame_out
    show _ = SUM _ _ _ _ _
    unfold SUM
    rw [if_neg (by rw [e0]; omega), if_pos (e0.trans q)]
    rw [Fin.sum_univ_eight]
    pointwise [k0_pay2]
    blk_point [iblk, V, idx_val t, idx_1 t q]
  · rw [outsAt0_C m c t (by omega) (by omega) (by omega) (by omega)]; frame_out
    show _ = SUM _ _ _ _ _
    unfold SUM
    rw [if_neg (by rw [e0]; omega), if_neg (by rw [e0]; omega), if_pos (e0.trans q)]
    rw [Fin.sum_univ_eight]
    pointwise [k0_pay3]
    blk_point [iblk, V, idx_val t, idx_2 t q]
  · rw [outsAt0_D m c t (by omega) (by omega) (by omega) (by omega)]; frame_out
    show _ = SUM _ _ _ _ _
    unfold SUM
    rw [if_neg (by rw [e0]; omega), if_neg (by rw [e0]; omega), if_neg (by rw [e0]; omega)]
    rw [Fin.sum_univ_eight]
    pointwise [k0_pay4]
    blk_point [iblk, V, idx_val t, idx_3 t q]

theorem value : Cert.algebraic_SumUpIdeal_SumUpRefIdeal := by
  intro m g m' g' _ hag
  refine ⟨fun c => SUM (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final m c), (h c).2⟩) (Value.run_blocks m g),
    (θ_run _ _ _).mono (fun r h c => ⟨(h c).1.trans (by
      rw [(hag c).1, (hag c).2.1, (hag c).2.2.1, (hag c).2.2.2]; funext y; unfold SUM; pointwise; split_ifs <;> first | rfl | omega), (h c).2⟩)
      (Cert.SumUpRefIdeal.Value.run m' g')⟩

end Cert.SumUpIdeal.Tie

end
-- ==== Proof.SumDown.lean ====
/- The sum over the devices of the parts of a gradient: the tiled kernel equals the reference. -/
module

public import proofs.«01_k».proof.Defs
public import proofs.«01_k».proof.Proof.Gen.SumDownIdeal.Value
public import proofs.«01_k».proof.Proof.GluRow
public import proofs.«01_k».proof.Proof.Gen.SumDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumDownIdeal.Tie

open Cert.SumDownIdeal Cert.SumDownIdeal.Gen Cert.GluRow

variable (m : (ℓ : Loc nD τ sig) → Buf (Elt Ideal) ℓ)

/-- The sum over the eight parts, layer by layer. -/
def SUM (a0 a1 a2 a3 : FVec Ideal S8x352x1024 .f32) : FVec Ideal S4x352x1024 .f32 := fun y =>
  if (y 0).val = 0 then ∑ k : Fin 8, (a0 (ix3 k (y 1) (y 2)) : EReal)
  else if (y 0).val = 1 then ∑ k : Fin 8, (a1 (ix3 k (y 1) (y 2)) : EReal)
  else if (y 0).val = 2 then ∑ k : Fin 8, (a2 (ix3 k (y 1) (y 2)) : EReal)
  else ∑ k : Fin 8, (a3 (ix3 k (y 1) (y 2)) : EReal)

theorem idx_val : ∀ t : Fin cfg0.N, win0_4.index t = ![t.val / 11, t.val % 11, 0] :=
  (by decide +kernel : ∀ t : Fin grid0.N, _)

theorem idx_0 : ∀ t : Fin cfg0.N, t.val / 11 = 0 → win0_0.index t = ![0, t.val % 11, 0] :=
  (by decide +kernel : ∀ t : Fin grid0.N, _)

theorem idx_1 : ∀ t : Fin cfg0.N, t.val / 11 = 1 → win0_1.index t = ![0, t.val % 11, 0] :=
  (by decide +kernel : ∀ t : Fin grid0.N, _)

theorem idx_2 : ∀ t : Fin cfg0.N, t.val / 11 = 2 → win0_2.index t = ![0, t.val % 11, 0] :=
  (by decide +kernel : ∀ t : Fin grid0.N, _)

theorem idx_3 : ∀ t : Fin cfg0.N, t.val / 11 = 3 → win0_3.index t = ![0, t.val % 11, 0] :=
  (by decide +kernel : ∀ t : Fin grid0.N, _)

theorem final (c : Dev nD) : (dats m 0 c).arrAt 4 (cfgs 0).N = SUM (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 4 * 11 := t.isLt
  have hq : t.val / 11 = 0 ∨ t.val / 11 = 1 ∨ t.val / 11 = 2 ∨ t.val / 11 = 3 := by omega
  have e0 : ((((cfg0.win 4).blk t).view.emb y) 0).val = t.val / 11 := by
    have hb0 : (y 0).val < 1 := (y 0).isLt
    blk_simp [idx_val t]
  blk_simp; rw [after0_4]
  rcases hq with q | q | q | q
  · rw [outsAt0_A m c t (by omega) (by omega) (by omega) (by omega)]; frame_out
    show _ = SUM _ _ _ _ _
    unfold SUM
    rw [if_pos (e0.trans q)]
    rw [Fin.sum_univ_eight]
    pointwise [k0_pay1]
    blk_point [iblk, V, idx_val t, idx_0 t q]
  · rw [outsAt0_B m c t (by omega) (by omega) (by omega) (by omega)]; frame_out
    show _ = SUM _ _ _ _ _
    unfold SUM
    rw [if_neg (by rw [e0]; omega), if_pos (e0.trans q)]
    rw [Fin.sum_univ_eight]
    pointwise [k0_pay2]
    blk_point [iblk, V, idx_val t, idx_1 t q]
  · rw [outsAt0_C m c t (by omega) (by omega) (by omega) (by omega)]; frame_out
    show _ = SUM _ _ _ _ _
    unfold SUM
    rw [if_neg (by rw [e0]; omega), if_neg (by rw [e0]; omega), if_pos (e0.trans q)]
    rw [Fin.sum_univ_eight]
    pointwise [k0_pay3]
    blk_point [iblk, V, idx_val t, idx_2 t q]
  · rw [outsAt0_D m c t (by omega) (by omega) (by omega) (by omega)]; frame_out
    show _ = SUM _ _ _ _ _
    unfold SUM
    rw [if_neg (by rw [e0]; omega), if_neg (by rw [e0]; omega), if_neg (by rw [e0]; omega)]
    rw [Fin.sum_univ_eight]
    pointwise [k0_pay4]
    blk_point [iblk, V, idx_val t, idx_3 t q]

theorem value : Cert.algebraic_SumDownIdeal_SumDownRefIdeal := by
  intro m g m' g' _ hag
  refine ⟨fun c => SUM (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final m c), (h c).2⟩) (Value.run_blocks m g),
    (θ_run _ _ _).mono (fun r h c => ⟨(h c).1.trans (by
      rw [(hag c).1, (hag c).2.1, (hag c).2.2.1, (hag c).2.2.2]; funext y; unfold SUM; pointwise; split_ifs <;> first | rfl | omega), (h c).2⟩)
      (Cert.SumDownRefIdeal.Value.run m' g')⟩

end Cert.SumDownIdeal.Tie

end
-- ==== Proof.SumProj.lean ====
/- The sum over the devices of the parts of a gradient: the tiled kernel equals the reference. -/
module

public import proofs.«01_k».proof.Defs
public import proofs.«01_k».proof.Proof.Gen.SumProjIdeal.Value
public import proofs.«01_k».proof.Proof.GluRow
public import proofs.«01_k».proof.Proof.Gen.SumProjRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.SumProjIdeal.Tie

open Cert.SumProjIdeal Cert.SumProjIdeal.Gen Cert.GluRow

variable (m : (ℓ : Loc nD τ sig) → Buf (Elt Ideal) ℓ)

/-- The sum over the eight parts, layer by layer. -/
def SUM (a0 a1 a2 a3 : FVec Ideal S8x256x128 .f32) : FVec Ideal S4x256x128 .f32 := fun y =>
  if (y 0).val = 0 then ∑ k : Fin 8, (a0 (ix3 k (y 1) (y 2)) : EReal)
  else if (y 0).val = 1 then ∑ k : Fin 8, (a1 (ix3 k (y 1) (y 2)) : EReal)
  else if (y 0).val = 2 then ∑ k : Fin 8, (a2 (ix3 k (y 1) (y 2)) : EReal)
  else ∑ k : Fin 8, (a3 (ix3 k (y 1) (y 2)) : EReal)

theorem idx_val : ∀ t : Fin cfg0.N, win0_4.index t = ![t.val / 1, t.val % 1, 0] :=
  (by decide +kernel : ∀ t : Fin grid0.N, _)

theorem idx_0 : ∀ t : Fin cfg0.N, t.val / 1 = 0 → win0_0.index t = ![0, t.val % 1, 0] :=
  (by decide +kernel : ∀ t : Fin grid0.N, _)

theorem idx_1 : ∀ t : Fin cfg0.N, t.val / 1 = 1 → win0_1.index t = ![0, t.val % 1, 0] :=
  (by decide +kernel : ∀ t : Fin grid0.N, _)

theorem idx_2 : ∀ t : Fin cfg0.N, t.val / 1 = 2 → win0_2.index t = ![0, t.val % 1, 0] :=
  (by decide +kernel : ∀ t : Fin grid0.N, _)

theorem idx_3 : ∀ t : Fin cfg0.N, t.val / 1 = 3 → win0_3.index t = ![0, t.val % 1, 0] :=
  (by decide +kernel : ∀ t : Fin grid0.N, _)

theorem final (c : Dev nD) : (dats m 0 c).arrAt 4 (cfgs 0).N = SUM (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 4 * 1 := t.isLt
  have hq : t.val / 1 = 0 ∨ t.val / 1 = 1 ∨ t.val / 1 = 2 ∨ t.val / 1 = 3 := by omega
  have e0 : ((((cfg0.win 4).blk t).view.emb y) 0).val = t.val / 1 := by
    have hb0 : (y 0).val < 1 := (y 0).isLt
    blk_simp [idx_val t]
  blk_simp; rw [after0_4]
  rcases hq with q | q | q | q
  · rw [outsAt0_A m c t (by omega) (by omega) (by omega) (by omega)]; frame_out
    show _ = SUM _ _ _ _ _
    unfold SUM
    rw [if_pos (e0.trans q)]
    rw [Fin.sum_univ_eight]
    pointwise [k0_pay1]
    blk_point [iblk, V, idx_val t, idx_0 t q]
  · rw [outsAt0_B m c t (by omega) (by omega) (by omega) (by omega)]; frame_out
    show _ = SUM _ _ _ _ _
    unfold SUM
    rw [if_neg (by rw [e0]; omega), if_pos (e0.trans q)]
    rw [Fin.sum_univ_eight]
    pointwise [k0_pay2]
    blk_point [iblk, V, idx_val t, idx_1 t q]
  · rw [outsAt0_C m c t (by omega) (by omega) (by omega) (by omega)]; frame_out
    show _ = SUM _ _ _ _ _
    unfold SUM
    rw [if_neg (by rw [e0]; omega), if_neg (by rw [e0]; omega), if_pos (e0.trans q)]
    rw [Fin.sum_univ_eight]
    pointwise [k0_pay3]
    blk_point [iblk, V, idx_val t, idx_2 t q]
  · rw [outsAt0_D m c t (by omega) (by omega) (by omega) (by omega)]; frame_out
    show _ = SUM _ _ _ _ _
    unfold SUM
    rw [if_neg (by rw [e0]; omega), if_neg (by rw [e0]; omega), if_neg (by rw [e0]; omega)]
    rw [Fin.sum_univ_eight]
    pointwise [k0_pay4]
    blk_point [iblk, V, idx_val t, idx_3 t q]

theorem value : Cert.algebraic_SumProjIdeal_SumProjRefIdeal := by
  intro m g m' g' _ hag
  refine ⟨fun c => SUM (m ((c.tc : Thread nD τ).loc main_arg0)) (m ((c.tc : Thread nD τ).loc main_arg1)) (m ((c.tc : Thread nD τ).loc main_arg2)) (m ((c.tc : Thread nD τ).loc main_arg3)),
    (θ_run _ _ _).mono (fun r h c => ⟨(h c).1.trans (final m c), (h c).2⟩) (Value.run_blocks m g),
    (θ_run _ _ _).mono (fun r h c => ⟨(h c).1.trans (by
      rw [(hag c).1, (hag c).2.1, (hag c).2.2.1, (hag c).2.2.2]; funext y; unfold SUM; pointwise; split_ifs <;> first | rfl | omega), (h c).2⟩)
      (Cert.SumProjRefIdeal.Value.run m' g')⟩

end Cert.SumProjIdeal.Tie

end
-- ==== Proof.lean ====
module

public import proofs.«01_k».proof.Defs
public import proofs.«01_k».proof.Proof.Gen.WgUp
public import proofs.«01_k».proof.Proof.Gen.WgUp.Frame
public import proofs.«01_k».proof.Proof.Gen.WgUpIdeal
public import proofs.«01_k».proof.Proof.Gen.WgUpIdeal.Frame
public import proofs.«01_k».proof.Proof.Gen.WgUpIdeal.Value
public import proofs.«01_k».proof.Proof.Gen.WgUpRefIdeal
public import proofs.«01_k».proof.Proof.Gen.WgUpRefIdeal.Run
public import proofs.«01_k».proof.Proof.Gen.DgUp
public import proofs.«01_k».proof.Proof.Gen.DgUp.Frame
public import proofs.«01_k».proof.Proof.Gen.DgUpIdeal
public import proofs.«01_k».proof.Proof.Gen.DgUpIdeal.Frame
public import proofs.«01_k».proof.Proof.Gen.DgUpIdeal.Value
public import proofs.«01_k».proof.Proof.Gen.DgUpRefIdeal
public import proofs.«01_k».proof.Proof.Gen.DgUpRefIdeal.Run
public import proofs.«01_k».proof.Proof.Gen.WgDown
public import proofs.«01_k».proof.Proof.Gen.WgDown.Frame
public import proofs.«01_k».proof.Proof.Gen.WgDownIdeal
public import proofs.«01_k».proof.Proof.Gen.WgDownIdeal.Frame
public import proofs.«01_k».proof.Proof.Gen.WgDownIdeal.Value
public import proofs.«01_k».proof.Proof.Gen.WgDownRefIdeal
public import proofs.«01_k».proof.Proof.Gen.WgDownRefIdeal.Run
public import proofs.«01_k».proof.Proof.Gen.DgDown
public import proofs.«01_k».proof.Proof.Gen.DgDown.Frame
public import proofs.«01_k».proof.Proof.Gen.DgDownIdeal
public import proofs.«01_k».proof.Proof.Gen.DgDownIdeal.Frame
public import proofs.«01_k».proof.Proof.Gen.DgDownIdeal.Value
public import proofs.«01_k».proof.Proof.Gen.DgDownRefIdeal
public import proofs.«01_k».proof.Proof.Gen.DgDownRefIdeal.Run
public import proofs.«01_k».proof.Proof.Gen.WgIn
public import proofs.«01_k».proof.Proof.Gen.WgIn.Frame
public import proofs.«01_k».proof.Proof.Gen.WgInIdeal
public import proofs.«01_k».proof.Proof.Gen.WgInIdeal.Frame
public import proofs.«01_k».proof.Proof.Gen.WgInIdeal.Value
public import proofs.«01_k».proof.Proof.Gen.WgInRefIdeal
public import proofs.«01_k».proof.Proof.Gen.WgInRefIdeal.Run
public import proofs.«01_k».proof.Proof.Gen.DgIn
public import proofs.«01_k».proof.Proof.Gen.DgIn.Frame
public import proofs.«01_k».proof.Proof.Gen.DgInIdeal
public import proofs.«01_k».proof.Proof.Gen.DgInIdeal.Frame
public import proofs.«01_k».proof.Proof.Gen.DgInIdeal.Value
public import proofs.«01_k».proof.Proof.Gen.DgInRefIdeal
public import proofs.«01_k».proof.Proof.Gen.DgInRefIdeal.Run
public import proofs.«01_k».proof.Proof.Gen.WgOut
public import proofs.«01_k».proof.Proof.Gen.WgOut.Frame
public import proofs.«01_k».proof.Proof.Gen.WgOutIdeal
public import proofs.«01_k».proof.Proof.Gen.WgOutIdeal.Frame
public import proofs.«01_k».proof.Proof.Gen.WgOutIdeal.Value
public import proofs.«01_k».proof.Proof.Gen.WgOutRefIdeal
public import proofs.«01_k».proof.Proof.Gen.WgOutRefIdeal.Run
public import proofs.«01_k».proof.Proof.Gen.DgOut
public import proofs.«01_k».proof.Proof.Gen.DgOut.Frame
public import proofs.«01_k».proof.Proof.Gen.DgOutIdeal
public import proofs.«01_k».proof.Proof.Gen.DgOutIdeal.Frame
public import proofs.«01_k».proof.Proof.Gen.DgOutIdeal.Value
public import proofs.«01_k».proof.Proof.Gen.DgOutRefIdeal
public import proofs.«01_k».proof.Proof.Gen.DgOutRefIdeal.Run
public import proofs.«01_k».proof.Proof.Gen.WgGate
public import proofs.«01_k».proof.Proof.Gen.WgGate.Frame
public import proofs.«01_k».proof.Proof.Gen.WgGateIdeal
public import proofs.«01_k».proof.Proof.Gen.WgGateIdeal.Frame
public import proofs.«01_k».proof.Proof.Gen.WgGateIdeal.Value
public import proofs.«01_k».proof.Proof.Gen.WgGateRefIdeal
public import proofs.«01_k».proof.Proof.Gen.WgGateRefIdeal.Run
public import proofs.«01_k».proof.Proof.Gen.DgGate
public import proofs.«01_k».proof.Proof.Gen.DgGate.Frame
public import proofs.«01_k».proof.Proof.Gen.DgGateIdeal
public import proofs.«01_k».proof.Proof.Gen.DgGateIdeal.Frame
public import proofs.«01_k».proof.Proof.Gen.DgGateIdeal.Value
public import proofs.«01_k».proof.Proof.Gen.DgGateRefIdeal
public import proofs.«01_k».proof.Proof.Gen.DgGateRefIdeal.Run
public import proofs.«01_k».proof.Proof.Gen.WgProj
public import proofs.«01_k».proof.Proof.Gen.WgProj.Frame
public import proofs.«01_k».proof.Proof.Gen.WgProjIdeal
public import proofs.«01_k».proof.Proof.Gen.WgProjIdeal.Frame
public import proofs.«01_k».proof.Proof.Gen.WgProjIdeal.Value
public import proofs.«01_k».proof.Proof.Gen.WgProjRefIdeal
public import proofs.«01_k».proof.Proof.Gen.WgProjRefIdeal.Run
public import proofs.«01_k».proof.Proof.Gen.MmIn
public import proofs.«01_k».proof.Proof.Gen.MmIn.Frame
public import proofs.«01_k».proof.Proof.Gen.MmInIdeal
public import proofs.«01_k».proof.Proof.Gen.MmInIdeal.Frame
public import proofs.«01_k».proof.Proof.Gen.MmInIdeal.Value
public import proofs.«01_k».proof.Proof.Gen.MmInRefIdeal
public import proofs.«01_k».proof.Proof.Gen.MmInRefIdeal.Run
public import proofs.«01_k».proof.Proof.Gen.MmUp
public import proofs.«01_k».proof.Proof.Gen.MmUp.Frame
public import proofs.«01_k».proof.Proof.Gen.MmUpIdeal
public import proofs.«01_k».proof.Proof.Gen.MmUpIdeal.Frame
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmGate
public import proofs.«01_k».proof.Proof.Gen.MmGate.Frame
public import proofs.«01_k».proof.Proof.Gen.MmGateIdeal
public import proofs.«01_k».proof.Proof.Gen.MmGateIdeal.Frame
public import proofs.«01_k».proof.Proof.Gen.MmGateIdeal.Value
public import proofs.«01_k».proof.Proof.Gen.MmGateRefIdeal
public import proofs.«01_k».proof.Proof.Gen.MmGateRefIdeal.Run
public import proofs.«01_k».proof.Proof.Gen.MmProj
public import proofs.«01_k».proof.Proof.Gen.MmProj.Frame
public import proofs.«01_k».proof.Proof.Gen.MmProjIdeal
public import proofs.«01_k».proof.Proof.Gen.MmProjIdeal.Frame
public import proofs.«01_k».proof.Proof.Gen.MmProjIdeal.Value
public import proofs.«01_k».proof.Proof.Gen.MmProjRefIdeal
public import proofs.«01_k».proof.Proof.Gen.MmProjRefIdeal.Run
public import proofs.«01_k».proof.Proof.Gen.Ln2
public import proofs.«01_k».proof.Proof.Gen.Ln2.Frame
public import proofs.«01_k».proof.Proof.Gen.Ln2Ideal
public import proofs.«01_k».proof.Proof.Gen.Ln2Ideal.Frame
public import proofs.«01_k».proof.Proof.Gen.Ln2Ideal.Value
public import proofs.«01_k».proof.Proof.Gen.Ln2RefIdeal
public import proofs.«01_k».proof.Proof.Gen.Ln2RefIdeal.Run
public import proofs.«01_k».proof.Proof.Gen.Ln1
public import proofs.«01_k».proof.Proof.Gen.Ln1.Frame
public import proofs.«01_k».proof.Proof.Gen.Ln1Ideal
public import proofs.«01_k».proof.Proof.Gen.Ln1Ideal.Frame
public import proofs.«01_k».proof.Proof.Gen.Ln1Ideal.Value
public import proofs.«01_k».proof.Proof.Gen.Ln1RefIdeal
public import proofs.«01_k».proof.Proof.Gen.Ln1RefIdeal.Run
public import proofs.«01_k».proof.Proof.Gen.OutLn1
public import proofs.«01_k».proof.Proof.Gen.OutLn1.Frame
public import proofs.«01_k».proof.Proof.Gen.OutLn1Ideal
public import proofs.«01_k».proof.Proof.Gen.OutLn1Ideal.Frame
public import proofs.«01_k».proof.Proof.Gen.OutLn1Ideal.Value
public import proofs.«01_k».proof.Proof.Gen.OutLn1RefIdeal
public import proofs.«01_k».proof.Proof.Gen.OutLn1RefIdeal.Run
public import proofs.«01_k».proof.Proof.Gen.DownLn2
public import proofs.«01_k».proof.Proof.Gen.DownLn2.Frame
public import proofs.«01_k».proof.Proof.Gen.DownLn2Ideal
public import proofs.«01_k».proof.Proof.Gen.DownLn2Ideal.Frame
public import proofs.«01_k».proof.Proof.Gen.DownLn2Ideal.Value
public import proofs.«01_k».proof.Proof.Gen.DownLn2RefIdeal
public import proofs.«01_k».proof.Proof.Gen.DownLn2RefIdeal.Run
public import proofs.«01_k».proof.Proof.Gen.DownLoss
public import proofs.«01_k».proof.Proof.Gen.DownLoss.Frame
public import proofs.«01_k».proof.Proof.Gen.DownLossIdeal
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolFwd
public import proofs.«01_k».proof.Proof.Gen.PoolFwd.Frame
public import proofs.«01_k».proof.Proof.Gen.PoolFwdIdeal
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamProj
public import proofs.«01_k».proof.Proof.Gen.AdamProj.Frame
public import proofs.«01_k».proof.Proof.Gen.AdamProjIdeal
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutIdeal.Value
public import proofs.«01_k».proof.Proof.Gen.SumOutRefIdeal
public import proofs.«01_k».proof.Proof.Gen.SumOutRefIdeal.Run
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInIdeal.Value
public import proofs.«01_k».proof.Proof.Gen.SumInRefIdeal
public import proofs.«01_k».proof.Proof.Gen.SumInRefIdeal.Run
public import proofs.«01_k».proof.Proof.Gen.SumUp
public import proofs.«01_k».proof.Proof.Gen.SumUp.Frame
public import proofs.«01_k».proof.Proof.Gen.SumUpIdeal
public import proofs.«01_k».proof.Proof.Gen.SumUpIdeal.Frame
public import proofs.«01_k».proof.Proof.Gen.SumUpIdeal.Value
public import proofs.«01_k».proof.Proof.Gen.SumUpRefIdeal
public import proofs.«01_k».proof.Proof.Gen.SumUpRefIdeal.Run
public import proofs.«01_k».proof.Proof.Gen.SumDown
public import proofs.«01_k».proof.Proof.Gen.SumDown.Frame
public import proofs.«01_k».proof.Proof.Gen.SumDownIdeal
public import proofs.«01_k».proof.Proof.Gen.SumDownIdeal.Frame
public import proofs.«01_k».proof.Proof.Gen.SumDownIdeal.Value
public import proofs.«01_k».proof.Proof.Gen.SumDownRefIdeal
public import proofs.«01_k».proof.Proof.Gen.SumDownRefIdeal.Run
public import proofs.«01_k».proof.Proof.Gen.SumProj
public import proofs.«01_k».proof.Proof.Gen.SumProj.Frame
public import proofs.«01_k».proof.Proof.Gen.SumProjIdeal
public import proofs.«01_k».proof.Proof.Gen.SumProjIdeal.Frame
public import proofs.«01_k».proof.Proof.Gen.SumProjIdeal.Value
public import proofs.«01_k».proof.Proof.Gen.SumProjRefIdeal
public import proofs.«01_k».proof.Proof.Gen.SumProjRefIdeal.Run
public import proofs.«01_k».proof.Proof.Gen.SsdFwd
public import proofs.«01_k».proof.Proof.Gen.SsdFwd.Frame
public import proofs.«01_k».proof.Proof.Gen.SsdFwdIdeal
public import proofs.«01_k».proof.Proof.Gen.SsdFwdIdeal.Frame
public import proofs.«01_k».proof.Proof.Gen.SsdFwdIdeal.Value
public import proofs.«01_k».proof.Proof.Gen.Pre_ln2_cotangent_finite
public import proofs.«01_k».proof.Proof.Gen.Pre_ln1_cotangent_finite
public import proofs.«01_k».proof.Proof.Gen.Pre_glu_cotangent_finite
public import proofs.«01_k».proof.Proof.Gen.On_diagonal_blocks
public import Idealize.ShloMosaic.Adequacy
public import Idealize.ShloMosaic.Init
public import proofs.«01_k».proof.Proof.WgUp
public import proofs.«01_k».proof.Proof.DgUp
public import proofs.«01_k».proof.Proof.WgDown
public import proofs.«01_k».proof.Proof.DgDown
public import proofs.«01_k».proof.Proof.WgIn
public import proofs.«01_k».proof.Proof.DgIn
public import proofs.«01_k».proof.Proof.WgOut
public import proofs.«01_k».proof.Proof.DgOut
public import proofs.«01_k».proof.Proof.WgGate
public import proofs.«01_k».proof.Proof.DgGate
public import proofs.«01_k».proof.Proof.WgProj
public import proofs.«01_k».proof.Proof.MmIn
public import proofs.«01_k».proof.Proof.MmUp
public import proofs.«01_k».proof.Proof.MmGate
public import proofs.«01_k».proof.Proof.MmProj
public import proofs.«01_k».proof.Proof.Ln2
public import proofs.«01_k».proof.Proof.Ln1
public import proofs.«01_k».proof.Proof.OutLn1
public import proofs.«01_k».proof.Proof.DownLn2
public import proofs.«01_k».proof.Proof.DownLoss
public import proofs.«01_k».proof.Proof.GluGrad
public import proofs.«01_k».proof.Proof.GluFwd
public import proofs.«01_k».proof.Proof.Pool
public import proofs.«01_k».proof.Proof.PoolFwd
public import proofs.«01_k».proof.Proof.AdamW
public import proofs.«01_k».proof.Proof.AdamWIn
public import proofs.«01_k».proof.Proof.AdamUp
public import proofs.«01_k».proof.Proof.AdamDown
public import proofs.«01_k».proof.Proof.AdamProj
public import proofs.«01_k».proof.Proof.AdamSmall
public import proofs.«01_k».proof.Proof.SumOut
public import proofs.«01_k».proof.Proof.SumIn
public import proofs.«01_k».proof.Proof.SumUp
public import proofs.«01_k».proof.Proof.SumDown
public import proofs.«01_k».proof.Proof.SumProj
public import Idealize.ShloMosaic.Lib.Quiescent

@[expose] public section

noncomputable section

namespace Cert.Proof

open Idealize.ShloMosaic Idealize.SL.Sem

theorem claim : Cert.Claim := ⟨Cert.WgUp.Gen.facts,
  Cert.WgUpIdeal.Gen.facts,
  Cert.WgUpRefIdeal.Gen.facts,
  Cert.DgUp.Gen.facts,
  Cert.DgUpIdeal.Gen.facts,
  Cert.DgUpRefIdeal.Gen.facts,
  Cert.WgDown.Gen.facts,
  Cert.WgDownIdeal.Gen.facts,
  Cert.WgDownRefIdeal.Gen.facts,
  Cert.DgDown.Gen.facts,
  Cert.DgDownIdeal.Gen.facts,
  Cert.DgDownRefIdeal.Gen.facts,
  Cert.WgIn.Gen.facts,
  Cert.WgInIdeal.Gen.facts,
  Cert.WgInRefIdeal.Gen.facts,
  Cert.DgIn.Gen.facts,
  Cert.DgInIdeal.Gen.facts,
  Cert.DgInRefIdeal.Gen.facts,
  Cert.WgOut.Gen.facts,
  Cert.WgOutIdeal.Gen.facts,
  Cert.WgOutRefIdeal.Gen.facts,
  Cert.DgOut.Gen.facts,
  Cert.DgOutIdeal.Gen.facts,
  Cert.DgOutRefIdeal.Gen.facts,
  Cert.WgGate.Gen.facts,
  Cert.WgGateIdeal.Gen.facts,
  Cert.WgGateRefIdeal.Gen.facts,
  Cert.DgGate.Gen.facts,
  Cert.DgGateIdeal.Gen.facts,
  Cert.DgGateRefIdeal.Gen.facts,
  Cert.WgProj.Gen.facts,
  Cert.WgProjIdeal.Gen.facts,
  Cert.WgProjRefIdeal.Gen.facts,
  Cert.MmIn.Gen.facts,
  Cert.MmInIdeal.Gen.facts,
  Cert.MmInRefIdeal.Gen.facts,
  Cert.MmUp.Gen.facts,
  Cert.MmUpIdeal.Gen.facts,
  Cert.MmUpRefIdeal.Gen.facts,
  Cert.MmGate.Gen.facts,
  Cert.MmGateIdeal.Gen.facts,
  Cert.MmGateRefIdeal.Gen.facts,
  Cert.MmProj.Gen.facts,
  Cert.MmProjIdeal.Gen.facts,
  Cert.MmProjRefIdeal.Gen.facts,
  Cert.Ln2.Gen.facts,
  Cert.Ln2Ideal.Gen.facts,
  Cert.Ln2RefIdeal.Gen.facts,
  Cert.Ln1.Gen.facts,
  Cert.Ln1Ideal.Gen.facts,
  Cert.Ln1RefIdeal.Gen.facts,
  Cert.OutLn1.Gen.facts,
  Cert.OutLn1Ideal.Gen.facts,
  Cert.OutLn1RefIdeal.Gen.facts,
  Cert.DownLn2.Gen.facts,
  Cert.DownLn2Ideal.Gen.facts,
  Cert.DownLn2RefIdeal.Gen.facts,
  Cert.DownLoss.Gen.facts,
  Cert.DownLossIdeal.Gen.facts,
  Cert.DownLossRefIdeal.Gen.facts,
  Cert.Glu.Gen.facts,
  Cert.GluIdeal.Gen.facts,
  Cert.GluRefIdeal.Gen.facts,
  Cert.GluFwd.Gen.facts,
  Cert.GluFwdIdeal.Gen.facts,
  Cert.GluFwdRefIdeal.Gen.facts,
  Cert.Pool.Gen.facts,
  Cert.PoolIdeal.Gen.facts,
  Cert.PoolRefIdeal.Gen.facts,
  Cert.PoolFwd.Gen.facts,
  Cert.PoolFwdIdeal.Gen.facts,
  Cert.PoolFwdRefIdeal.Gen.facts,
  Cert.AdamW.Gen.facts,
  Cert.AdamWIdeal.Gen.facts,
  Cert.AdamWRefIdeal.Gen.facts,
  Cert.AdamWIn.Gen.facts,
  Cert.AdamWInIdeal.Gen.facts,
  Cert.AdamWInRefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamProj.Gen.facts,
  Cert.AdamProjIdeal.Gen.facts,
  Cert.AdamProjRefIdeal.Gen.facts,
  Cert.AdamSmall.Gen.facts,
  Cert.AdamSmallIdeal.Gen.facts,
  Cert.AdamSmallRefIdeal.Gen.facts,
  Cert.SumOut.Gen.facts,
  Cert.SumOutIdeal.Gen.facts,
  Cert.SumOutRefIdeal.Gen.facts,
  Cert.SumIn.Gen.facts,
  Cert.SumInIdeal.Gen.facts,
  Cert.SumInRefIdeal.Gen.facts,
  Cert.SumUp.Gen.facts,
  Cert.SumUpIdeal.Gen.facts,
  Cert.SumUpRefIdeal.Gen.facts,
  Cert.SumDown.Gen.facts,
  Cert.SumDownIdeal.Gen.facts,
  Cert.SumDownRefIdeal.Gen.facts,
  Cert.SumProj.Gen.facts,
  Cert.SumProjIdeal.Gen.facts,
  Cert.SumProjRefIdeal.Gen.facts,
  Cert.SsdFwd.Gen.facts,
  Cert.SsdFwdIdeal.Gen.facts,
  Cert.Pre_ln2_cotangent_finite.Gen.facts,
  Cert.Pre_ln1_cotangent_finite.Gen.facts,
  Cert.Pre_glu_cotangent_finite.Gen.facts,
  Cert.On_diagonal_blocks.Gen.facts,
  fun m ρ _ => Cert.WgUp.Gen.frame m ρ,
  fun m ρ _ => Cert.WgUpIdeal.Gen.frame m ρ,
  fun m ρ _ => (θ_run _ _ _).mono (fun r h => ⟨fun c => (h c).2, sem_eq_zero_of_no_sems (by decide) _⟩) (Cert.WgUpRefIdeal.Value.run m ρ),
  fun m ρ _ => Cert.DgUp.Gen.frame m ρ,
  fun m ρ _ => Cert.DgUpIdeal.Gen.frame m ρ,
  fun m ρ _ => (θ_run _ _ _).mono (fun r h => ⟨fun c => (h c).2, sem_eq_zero_of_no_sems (by decide) _⟩) (Cert.DgUpRefIdeal.Value.run m ρ),
  fun m ρ _ => Cert.WgDown.Gen.frame m ρ,
  fun m ρ _ => Cert.WgDownIdeal.Gen.frame m ρ,
  fun m ρ _ => (θ_run _ _ _).mono (fun r h => ⟨fun c => (h c).2, sem_eq_zero_of_no_sems (by decide) _⟩) (Cert.WgDownRefIdeal.Value.run m ρ),
  fun m ρ _ => Cert.DgDown.Gen.frame m ρ,
  fun m ρ _ => Cert.DgDownIdeal.Gen.frame m ρ,
  fun m ρ _ => (θ_run _ _ _).mono (fun r h => ⟨fun c => (h c).2, sem_eq_zero_of_no_sems (by decide) _⟩) (Cert.DgDownRefIdeal.Value.run m ρ),
  fun m ρ _ => Cert.WgIn.Gen.frame m ρ,
  fun m ρ _ => Cert.WgInIdeal.Gen.frame m ρ,
  fun m ρ _ => (θ_run _ _ _).mono (fun r h => ⟨fun c => (h c).2, sem_eq_zero_of_no_sems (by decide) _⟩) (Cert.WgInRefIdeal.Value.run m ρ),
  fun m ρ _ => Cert.DgIn.Gen.frame m ρ,
  fun m ρ _ => Cert.DgInIdeal.Gen.frame m ρ,
  fun m ρ _ => (θ_run _ _ _).mono (fun r h => ⟨fun c => (h c).2, sem_eq_zero_of_no_sems (by decide) _⟩) (Cert.DgInRefIdeal.Value.run m ρ),
  fun m ρ _ => Cert.WgOut.Gen.frame m ρ,
  fun m ρ _ => Cert.WgOutIdeal.Gen.frame m ρ,
  fun m ρ _ => (θ_run _ _ _).mono (fun r h => ⟨fun c => (h c).2, sem_eq_zero_of_no_sems (by decide) _⟩) (Cert.WgOutRefIdeal.Value.run m ρ),
  fun m ρ _ => Cert.DgOut.Gen.frame m ρ,
  fun m ρ _ => Cert.DgOutIdeal.Gen.frame m ρ,
  fun m ρ _ => (θ_run _ _ _).mono (fun r h => ⟨fun c => (h c).2, sem_eq_zero_of_no_sems (by decide) _⟩) (Cert.DgOutRefIdeal.Value.run m ρ),
  fun m ρ _ => Cert.WgGate.Gen.frame m ρ,
  fun m ρ _ => Cert.WgGateIdeal.Gen.frame m ρ,
  fun m ρ _ => (θ_run _ _ _).mono (fun r h => ⟨fun c => (h c).2, sem_eq_zero_of_no_sems (by decide) _⟩) (Cert.WgGateRefIdeal.Value.run m ρ),
  fun m ρ _ => Cert.DgGate.Gen.frame m ρ,
  fun m ρ _ => Cert.DgGateIdeal.Gen.frame m ρ,
  fun m ρ _ => (θ_run _ _ _).mono (fun r h => ⟨fun c => (h c).2, sem_eq_zero_of_no_sems (by decide) _⟩) (Cert.DgGateRefIdeal.Value.run m ρ),
  fun m ρ _ => Cert.WgProj.Gen.frame m ρ,
  fun m ρ _ => Cert.WgProjIdeal.Gen.frame m ρ,
  fun m ρ _ => (θ_run _ _ _).mono (fun r h => ⟨fun c => (h c).2, sem_eq_zero_of_no_sems (by decide) _⟩) (Cert.WgProjRefIdeal.Value.run m ρ),
  fun m ρ _ => Cert.MmIn.Gen.frame m ρ,
  fun m ρ _ => Cert.MmInIdeal.Gen.frame m ρ,
  fun m ρ _ => (θ_run _ _ _).mono (fun r h => ⟨fun c => (h c).2, sem_eq_zero_of_no_sems (by decide) _⟩) (Cert.MmInRefIdeal.Value.run m ρ),
  fun m ρ _ => Cert.MmUp.Gen.frame m ρ,
  fun m ρ _ => Cert.MmUpIdeal.Gen.frame m ρ,
  fun m ρ _ => (θ_run _ _ _).mono (fun r h => ⟨fun c => (h c).2, sem_eq_zero_of_no_sems (by decide) _⟩) (Cert.MmUpRefIdeal.Value.run m ρ),
  fun m ρ _ => Cert.MmGate.Gen.frame m ρ,
  fun m ρ _ => Cert.MmGateIdeal.Gen.frame m ρ,
  fun m ρ _ => (θ_run _ _ _).mono (fun r h => ⟨fun c => (h c).2, sem_eq_zero_of_no_sems (by decide) _⟩) (Cert.MmGateRefIdeal.Value.run m ρ),
  fun m ρ _ => Cert.MmProj.Gen.frame m ρ,
  fun m ρ _ => Cert.MmProjIdeal.Gen.frame m ρ,
  fun m ρ _ => (θ_run _ _ _).mono (fun r h => ⟨fun c => (h c).2, sem_eq_zero_of_no_sems (by decide) _⟩) (Cert.MmProjRefIdeal.Value.run m ρ),
  fun m ρ _ => Cert.Ln2.Gen.frame m ρ,
  fun m ρ _ => Cert.Ln2Ideal.Gen.frame m ρ,
  fun m ρ _ => Cert.Ln2Ideal.Gen.frame m ρ,
  fun m ρ _ => (θ_run _ _ _).mono (fun r h => ⟨fun c => (h c).2.2.2.2, sem_eq_zero_of_no_sems (by decide) _⟩) (Cert.Ln2RefIdeal.Value.run m ρ),
  fun m ρ _ => (θ_run _ _ _).mono (fun r h => ⟨fun c => (h c).2.2.2.2, sem_eq_zero_of_no_sems (by decide) _⟩) (Cert.Ln2RefIdeal.Value.run m ρ),
  fun m ρ _ => Cert.Ln1.Gen.frame m ρ,
  fun m ρ _ => Cert.Ln1Ideal.Gen.frame m ρ,
  fun m ρ _ => Cert.Ln1Ideal.Gen.frame m ρ,
  fun m ρ _ => (θ_run _ _ _).mono (fun r h => ⟨fun c => (h c).2.2, sem_eq_zero_of_no_sems (by decide) _⟩) (Cert.Ln1RefIdeal.Value.run m ρ),
  fun m ρ _ => (θ_run _ _ _).mono (fun r h => ⟨fun c => (h c).2.2, sem_eq_zero_of_no_sems (by decide) _⟩) (Cert.Ln1RefIdeal.Value.run m ρ),
  fun m ρ _ => Cert.OutLn1.Gen.frame m ρ,
  fun m ρ _ => Cert.OutLn1Ideal.Gen.frame m ρ,
  fun m ρ _ => (θ_run _ _ _).mono (fun r h => ⟨fun c => (h c).2.2, sem_eq_zero_of_no_sems (by decide) _⟩) (Cert.OutLn1RefIdeal.Value.run m ρ),
  fun m ρ _ => Cert.DownLn2.Gen.frame m ρ,
  fun m ρ _ => Cert.DownLn2Ideal.Gen.frame m ρ,
  fun m ρ _ => (θ_run _ _ _).mono (fun r h => ⟨fun c => (h c).2.2, sem_eq_zero_of_no_sems (by decide) _⟩) (Cert.DownLn2RefIdeal.Value.run m ρ),
  fun m ρ _ => Cert.DownLoss.Gen.frame m ρ,
  fun m ρ _ => Cert.DownLossIdeal.Gen.frame m ρ,
  fun m ρ _ => (θ_run _ _ _).mono (fun r h => ⟨fun c => (h c).2.2.2, sem_eq_zero_of_no_sems (by decide) _⟩) (Cert.DownLossRefIdeal.Value.run m ρ),
  fun m ρ _ => Cert.Glu.Gen.frame m ρ,
  fun m ρ _ => Cert.GluIdeal.Gen.frame m ρ,
  fun m ρ _ => Cert.GluIdeal.Gen.frame m ρ,
  fun m ρ _ => (θ_run _ _ _).mono (fun r h => ⟨fun c => (h c).2.2, sem_eq_zero_of_no_sems (by decide) _⟩) (Cert.GluRefIdeal.Value.run m ρ),
  fun m ρ _ => (θ_run _ _ _).mono (fun r h => ⟨fun c => (h c).2.2, sem_eq_zero_of_no_sems (by decide) _⟩) (Cert.GluRefIdeal.Value.run m ρ),
  fun m ρ _ => Cert.GluFwd.Gen.frame m ρ,
  fun m ρ _ => Cert.GluFwdIdeal.Gen.frame m ρ,
  fun m ρ _ => (θ_run _ _ _).mono (fun r h => ⟨fun c => (h c).2, sem_eq_zero_of_no_sems (by decide) _⟩) (Cert.GluFwdRefIdeal.Value.run m ρ),
  fun m ρ _ => Cert.Pool.Gen.frame m ρ,
  fun m ρ _ => Cert.PoolIdeal.Gen.frame m ρ,
  fun m ρ _ => (θ_run _ _ _).mono (fun r h => ⟨fun c => (h c).2.2.2, sem_eq_zero_of_no_sems (by decide) _⟩) (Cert.PoolRefIdeal.Value.run m ρ),
  fun m ρ _ => Cert.PoolFwd.Gen.frame m ρ,
  fun m ρ _ => Cert.PoolFwdIdeal.Gen.frame m ρ,
  fun m ρ _ => (θ_run _ _ _).mono (fun r h => ⟨fun c => (h c).2, sem_eq_zero_of_no_sems (by decide) _⟩) (Cert.PoolFwdRefIdeal.Value.run m ρ),
  fun m ρ _ => Cert.AdamW.Gen.frame m ρ,
  fun m ρ _ => Cert.AdamWIdeal.Gen.frame m ρ,
  fun m ρ _ => (θ_run _ _ _).mono (fun r h => ⟨fun c => (h c).2.2.2, sem_eq_zero_of_no_sems (by decide) _⟩) (Cert.AdamWRefIdeal.Value.run m ρ),
  fun m ρ _ => Cert.AdamWIn.Gen.frame m ρ,
  fun m ρ _ => Cert.AdamWInIdeal.Gen.frame m ρ,
  fun m ρ _ => (θ_run _ _ _).mono (fun r h => ⟨fun c => (h c).2.2.2, sem_eq_zero_of_no_sems (by decide) _⟩) (Cert.AdamWInRefIdeal.Value.run m ρ),
  fun m ρ _ => Cert.AdamUp.Gen.frame m ρ,
  fun m ρ _ => Cert.AdamUpIdeal.Gen.frame m ρ,
  fun m ρ _ => (θ_run _ _ _).mono (fun r h => ⟨fun c => (h c).2.2.2, sem_eq_zero_of_no_sems (by decide) _⟩) (Cert.AdamUpRefIdeal.Value.run m ρ),
  fun m ρ _ => Cert.AdamDown.Gen.frame m ρ,
  fun m ρ _ => Cert.AdamDownIdeal.Gen.frame m ρ,
  fun m ρ _ => (θ_run _ _ _).mono (fun r h => ⟨fun c => (h c).2.2.2, sem_eq_zero_of_no_sems (by decide) _⟩) (Cert.AdamDownRefIdeal.Value.run m ρ),
  fun m ρ _ => Cert.AdamProj.Gen.frame m ρ,
  fun m ρ _ => Cert.AdamProjIdeal.Gen.frame m ρ,
  fun m ρ _ => (θ_run _ _ _).mono (fun r h => ⟨fun c => (h c).2.2.2, sem_eq_zero_of_no_sems (by decide) _⟩) (Cert.AdamProjRefIdeal.Value.run m ρ),
  fun m ρ _ => Cert.AdamSmall.Gen.frame m ρ,
  fun m ρ _ => Cert.AdamSmallIdeal.Gen.frame m ρ,
  fun m ρ _ => (θ_run _ _ _).mono (fun r h => ⟨fun c => (h c).2.2.2, sem_eq_zero_of_no_sems (by decide) _⟩) (Cert.AdamSmallRefIdeal.Value.run m ρ),
  fun m ρ _ => Cert.SumOut.Gen.frame m ρ,
  fun m ρ _ => Cert.SumOutIdeal.Gen.frame m ρ,
  fun m ρ _ => (θ_run _ _ _).mono (fun r h => ⟨fun c => (h c).2, sem_eq_zero_of_no_sems (by decide) _⟩) (Cert.SumOutRefIdeal.Value.run m ρ),
  fun m ρ _ => Cert.SumIn.Gen.frame m ρ,
  fun m ρ _ => Cert.SumInIdeal.Gen.frame m ρ,
  fun m ρ _ => (θ_run _ _ _).mono (fun r h => ⟨fun c => (h c).2, sem_eq_zero_of_no_sems (by decide) _⟩) (Cert.SumInRefIdeal.Value.run m ρ),
  fun m ρ _ => Cert.SumUp.Gen.frame m ρ,
  fun m ρ _ => Cert.SumUpIdeal.Gen.frame m ρ,
  fun m ρ _ => (θ_run _ _ _).mono (fun r h => ⟨fun c => (h c).2, sem_eq_zero_of_no_sems (by decide) _⟩) (Cert.SumUpRefIdeal.Value.run m ρ),
  fun m ρ _ => Cert.SumDown.Gen.frame m ρ,
  fun m ρ _ => Cert.SumDownIdeal.Gen.frame m ρ,
  fun m ρ _ => (θ_run _ _ _).mono (fun r h => ⟨fun c => (h c).2, sem_eq_zero_of_no_sems (by decide) _⟩) (Cert.SumDownRefIdeal.Value.run m ρ),
  fun m ρ _ => Cert.SumProj.Gen.frame m ρ,
  fun m ρ _ => Cert.SumProjIdeal.Gen.frame m ρ,
  fun m ρ _ => (θ_run _ _ _).mono (fun r h => ⟨fun c => (h c).2, sem_eq_zero_of_no_sems (by decide) _⟩) (Cert.SumProjRefIdeal.Value.run m ρ),
  fun m ρ _ => Cert.SsdFwd.Gen.frame m ρ,
  fun m ρ _ => Cert.SsdFwdIdeal.Gen.frame m ρ,
  trivial,
  Cert.WgUpIdeal.Tie.value,
  trivial,
  Cert.DgUpIdeal.Tie.value,
  trivial,
  Cert.WgDownIdeal.Tie.value,
  trivial,
  Cert.DgDownIdeal.Tie.value,
  trivial,
  Cert.WgInIdeal.Tie.value,
  trivial,
  Cert.DgInIdeal.Tie.value,
  trivial,
  Cert.WgOutIdeal.Tie.value,
  trivial,
  Cert.DgOutIdeal.Tie.value,
  trivial,
  Cert.WgGateIdeal.Tie.value,
  trivial,
  Cert.DgGateIdeal.Tie.value,
  trivial,
  Cert.WgProjIdeal.Tie.value,
  trivial,
  Cert.MmInIdeal.Tie.value,
  trivial,
  Cert.MmUpIdeal.Tie.value,
  trivial,
  Cert.MmGateIdeal.Tie.value,
  trivial,
  Cert.MmProjIdeal.Tie.value,
  trivial,
  Cert.Ln2Ideal.Tie.value,
  trivial,
  Cert.Ln1Ideal.Tie.value,
  trivial,
  Cert.OutLn1Ideal.Tie.value,
  trivial,
  Cert.DownLn2Ideal.Tie.value,
  trivial,
  Cert.DownLossIdeal.Tie.value,
  trivial,
  Cert.GluIdeal.Tie.value,
  trivial,
  Cert.GluFwdIdeal.Tie.value,
  trivial,
  Cert.PoolIdeal.Tie.value,
  trivial,
  Cert.PoolFwdIdeal.Tie.value,
  trivial,
  Cert.AdamWIdeal.Tie.value,
  trivial,
  Cert.AdamWInIdeal.Tie.value,
  trivial,
  Cert.AdamUpIdeal.Tie.value,
  trivial,
  Cert.AdamDownIdeal.Tie.value,
  trivial,
  Cert.AdamProjIdeal.Tie.value,
  trivial,
  Cert.AdamSmallIdeal.Tie.value,
  trivial,
  Cert.SumOutIdeal.Tie.value,
  trivial,
  Cert.SumInIdeal.Tie.value,
  trivial,
  Cert.SumUpIdeal.Tie.value,
  trivial,
  Cert.SumDownIdeal.Tie.value,
  trivial,
  Cert.SumProjIdeal.Tie.value,
  trivial⟩

end Cert.Proof

end
